-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_ReferenceQkvIdeal (m : (ℓ : Loc Cert.ReferenceQkvIdeal.nD Cert.ReferenceQkvIdeal.τ Cert.ReferenceQkvIdeal.sig) → Buf (Elt Ideal) ℓ) : Prop :=
  True

def Pre_KernelLast (m : (ℓ : Loc Cert.KernelLast.nD Cert.KernelLast.τ Cert.KernelLast.sig) → Buf (Elt Bits) ℓ) : Prop :=
  True

def Pre_KernelLastIdeal (m : (ℓ : Loc Cert.KernelLastIdeal.nD Cert.KernelLastIdeal.τ Cert.KernelLastIdeal.sig) → Buf (Elt Ideal) ℓ) : Prop :=
  True

def Pre_ReferenceLastIdeal (m : (ℓ : Loc Cert.ReferenceLastIdeal.nD Cert.ReferenceLastIdeal.τ Cert.ReferenceLastIdeal.sig) → Buf (Elt Ideal) ℓ) : Prop :=
  True

def Pre_KernelPos (m : (ℓ : Loc Cert.KernelPos.nD Cert.KernelPos.τ Cert.KernelPos.sig) → Buf (Elt Bits) ℓ) : Prop :=
  True

def Pre_KernelPosIdeal (m : (ℓ : Loc Cert.KernelPosIdeal.nD Cert.KernelPosIdeal.τ Cert.KernelPosIdeal.sig) → Buf (Elt Ideal) ℓ) : Prop :=
  True

def Pre_ReferencePosIdeal (m : (ℓ : Loc Cert.ReferencePosIdeal.nD Cert.ReferencePosIdeal.τ Cert.ReferencePosIdeal.sig) → Buf (Elt Ideal) ℓ) : Prop :=
  True

def Pre_KernelChan (m : (ℓ : Loc Cert.KernelChan.nD Cert.KernelChan.τ Cert.KernelChan.sig) → Buf (Elt Bits) ℓ) : Prop :=
  True

def Pre_KernelChanIdeal (m : (ℓ : Loc Cert.KernelChanIdeal.nD Cert.KernelChanIdeal.τ Cert.KernelChanIdeal.sig) → Buf (Elt Ideal) ℓ) : Prop :=
  True

def Pre_KernelChanIdeal_finite_tables [hPre_finite_tables : Cert.Pre_finite_tables.Facts] (m : (ℓ : Loc Cert.KernelChanIdeal.nD Cert.KernelChanIdeal.τ Cert.KernelChanIdeal.sig) → Buf (Elt Ideal) ℓ) : Prop :=
  ∀ c : Dev Cert.KernelChanIdeal.nD,
    (Cert.Pre_finite_tables.fn (F := Ideal) (m ((c.tc : Thread Cert.KernelChanIdeal.nD Cert.KernelChanIdeal.τ).loc Cert.KernelChanIdeal.main_arg0)) (m ((c.tc : Thread Cert.KernelChanIdeal.nD Cert.KernelChanIdeal.τ).loc Cert.KernelChanIdeal.main_arg1)) (m ((c.tc : Thread Cert.KernelChanIdeal.nD Cert.KernelChanIdeal.τ).loc Cert.KernelChanIdeal.main_arg2)) (m ((c.tc : Thread Cert.KernelChanIdeal.nD Cert.KernelChanIdeal.τ).loc Cert.KernelChanIdeal.main_arg3))).1 = (fun _ => 1#1)
    ∧ (Cert.Pre_finite_tables.fn (F := Ideal) (m ((c.tc : Thread Cert.KernelChanIdeal.nD Cert.KernelChanIdeal.τ).loc Cert.KernelChanIdeal.main_arg0)) (m ((c.tc : Thread Cert.KernelChanIdeal.nD Cert.KernelChanIdeal.τ).loc Cert.KernelChanIdeal.main_arg1)) (m ((c.tc : Thread Cert.KernelChanIdeal.nD Cert.KernelChanIdeal.τ).loc Cert.KernelChanIdeal.main_arg2)) (m ((c.tc : Thread Cert.KernelChanIdeal.nD Cert.KernelChanIdeal.τ).loc Cert.KernelChanIdeal.main_arg3))).2 = (fun _ => 1#1)

def Pre_ReferenceChanIdeal (m : (ℓ : Loc Cert.ReferenceChanIdeal.nD Cert.ReferenceChanIdeal.τ Cert.ReferenceChanIdeal.sig) → Buf (Elt Ideal) ℓ) : Prop :=
  True

def Pre_ReferenceChanIdeal_finite_tables [hPre_finite_tables : Cert.Pre_finite_tables.Facts] (m : (ℓ : Loc Cert.ReferenceChanIdeal.nD Cert.ReferenceChanIdeal.τ Cert.ReferenceChanIdeal.sig) → Buf (Elt Ideal) ℓ) : Prop :=
  ∀ c : Dev Cert.ReferenceChanIdeal.nD,
    (Cert.Pre_finite_tables.fn (F := Ideal) (m ((c.tc : Thread Cert.ReferenceChanIdeal.nD Cert.ReferenceChanIdeal.τ).loc Cert.ReferenceChanIdeal.main_arg0)) (m ((c.tc : Thread Cert.ReferenceChanIdeal.nD Cert.ReferenceChanIdeal.τ).loc Cert.ReferenceChanIdeal.main_arg1)) (m ((c.tc : Thread Cert.ReferenceChanIdeal.nD Cert.ReferenceChanIdeal.τ).loc Cert.ReferenceChanIdeal.main_arg2)) (m ((c.tc : Thread Cert.ReferenceChanIdeal.nD Cert.ReferenceChanIdeal.τ).loc Cert.ReferenceChanIdeal.main_arg3))).1 = (fun _ => 1#1)
    ∧ (Cert.Pre_finite_tables.fn (F := Ideal) (m ((c.tc : Thread Cert.ReferenceChanIdeal.nD Cert.ReferenceChanIdeal.τ).loc Cert.ReferenceChanIdeal.main_arg0)) (m ((c.tc : Thread Cert.ReferenceChanIdeal.nD Cert.ReferenceChanIdeal.τ).loc Cert.ReferenceChanIdeal.main_arg1)) (m ((c.tc : Thread Cert.ReferenceChanIdeal.nD Cert.ReferenceChanIdeal.τ).loc Cert.ReferenceChanIdeal.main_arg2)) (m ((c.tc : Thread Cert.ReferenceChanIdeal.nD Cert.ReferenceChanIdeal.τ).loc Cert.ReferenceChanIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1)
      ∧ r.2.mem ((c.tc : Thread Cert.KernelQkv.nD Cert.KernelQkv.τ).loc Cert.KernelQkv.main_arg2) = m ((c.tc : Thread Cert.KernelQkv.nD Cert.KernelQkv.τ).loc Cert.KernelQkv.main_arg2))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
      ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1)
      ∧ r.2.mem ((c.tc : Thread Cert.ReferenceQkvIdeal.nD Cert.ReferenceQkvIdeal.τ).loc Cert.ReferenceQkvIdeal.main_arg2) = m ((c.tc : Thread Cert.ReferenceQkvIdeal.nD Cert.ReferenceQkvIdeal.τ).loc Cert.ReferenceQkvIdeal.main_arg2))
      ∧ r.2.sem = fun _ => 0)

def quiescent_KernelLast [hKernelLast : Cert.KernelLast.Facts] : Prop :=
  ∀ (m : (ℓ : Loc Cert.KernelLast.nD Cert.KernelLast.τ Cert.KernelLast.sig) → Buf (Elt Bits) ℓ) (g : Dev Cert.KernelLast.nD → PrngReg), Pre_KernelLast m →
    θ_run (Cert.KernelLast.defs (F := Bits)) (onTc (τ := Cert.KernelLast.τ) (Cert.KernelLast.main (F := Bits))) ⟨m, fun _ => 0, g⟩ (fun r => (∀ c : Dev Cert.KernelLast.nD,
      r.2.mem ((c.tc : Thread Cert.KernelLast.nD Cert.KernelLast.τ).loc Cert.KernelLast.main_arg0) = m ((c.tc : Thread Cert.KernelLast.nD Cert.KernelLast.τ).loc Cert.KernelLast.main_arg0)
      ∧ r.2.mem ((c.tc : Thread Cert.KernelLast.nD Cert.KernelLast.τ).loc Cert.KernelLast.main_arg1) = m ((c.tc : Thread Cert.KernelLast.nD Cert.KernelLast.τ).loc Cert.KernelLast.main_arg1)
      ∧ r.2.mem ((c.tc : Thread Cert.KernelLast.nD Cert.KernelLast.τ).loc Cert.KernelLast.main_arg2) = m ((c.tc : Thread Cert.KernelLast.nD Cert.KernelLast.τ).loc Cert.KernelLast.main_arg2)
      ∧ r.2.mem ((c.tc : Thread Cert.KernelLast.nD Cert.KernelLast.τ).loc Cert.KernelLast.main_arg3) = m ((c.tc : Thread Cert.KernelLast.nD Cert.KernelLast.τ).loc Cert.KernelLast.main_arg3)
      ∧ r.2.mem ((c.tc : Thread Cert.KernelLast.nD Cert.KernelLast.τ).loc Cert.KernelLast.main_arg4) = m ((c.tc : Thread Cert.KernelLast.nD Cert.KernelLast.τ).loc Cert.KernelLast.main_arg4))
      ∧ r.2.sem = fun _ => 0)

def quiescent_KernelLastIdeal [hKernelLastIdeal : Cert.KernelLastIdeal.Facts] : Prop :=
  ∀ (m : (ℓ : Loc Cert.KernelLastIdeal.nD Cert.KernelLastIdeal.τ Cert.KernelLastIdeal.sig) → Buf (Elt Ideal) ℓ) (g : Dev Cert.KernelLastIdeal.nD → PrngReg), Pre_KernelLastIdeal m →
    θ_run (Cert.KernelLastIdeal.defs (F := Ideal)) (onTc (τ := Cert.KernelLastIdeal.τ) (Cert.KernelLastIdeal.main (F := Ideal))) ⟨m, fun _ => 0, g⟩ (fun r => (∀ c : Dev Cert.KernelLastIdeal.nD,
      r.2.mem ((c.tc : Thread Cert.KernelLastIdeal.nD Cert.KernelLastIdeal.τ).loc Cert.KernelLastIdeal.main_arg0) = m ((c.tc : Thread Cert.KernelLastIdeal.nD Cert.KernelLastIdeal.τ).loc Cert.KernelLastIdeal.main_arg0)
      ∧ r.2.mem ((c.tc : Thread Cert.KernelLastIdeal.nD Cert.KernelLastIdeal.τ).loc Cert.KernelLastIdeal.main_arg1) = m ((c.tc : Thread Cert.KernelLastIdeal.nD Cert.KernelLastIdeal.τ).loc Cert.KernelLastIdeal.main_arg1)
      ∧ r.2.mem ((c.tc : Thread Cert.KernelLastIdeal.nD Cert.KernelLastIdeal.τ).loc Cert.KernelLastIdeal.main_arg2) = m ((c.tc : Thread Cert.KernelLastIdeal.nD Cert.KernelLastIdeal.τ).loc Cert.KernelLastIdeal.main_arg2)
      ∧ r.2.mem ((c.tc : Thread Cert.KernelLastIdeal.nD Cert.KernelLastIdeal.τ).loc Cert.KernelLastIdeal.main_arg3) = m ((c.tc : Thread Cert.KernelLastIdeal.nD Cert.KernelLastIdeal.τ).loc Cert.KernelLastIdeal.main_arg3)
      ∧ r.2.mem ((c.tc : Thread Cert.KernelLastIdeal.nD Cert.KernelLastIdeal.τ).loc Cert.KernelLastIdeal.main_arg4) = m ((c.tc : Thread Cert.KernelLastIdeal.nD Cert.KernelLastIdeal.τ).loc Cert.KernelLastIdeal.main_arg4))
      ∧ r.2.sem = fun _ => 0)

def quiescent_ReferenceLastIdeal [hReferenceLastIdeal : Cert.ReferenceLastIdeal.Facts] : Prop :=
  ∀ (m : (ℓ : Loc Cert.ReferenceLastIdeal.nD Cert.ReferenceLastIdeal.τ Cert.ReferenceLastIdeal.sig) → Buf (Elt Ideal) ℓ) (g : Dev Cert.ReferenceLastIdeal.nD → PrngReg), Pre_ReferenceLastIdeal m →
    θ_run (Cert.ReferenceLastIdeal.defs (F := Ideal)) (onTc (τ := Cert.ReferenceLastIdeal.τ) (Cert.ReferenceLastIdeal.main (F := Ideal))) ⟨m, fun _ => 0, g⟩ (fun r => (∀ c : Dev Cert.ReferenceLastIdeal.nD,
      r.2.mem ((c.tc : Thread Cert.ReferenceLastIdeal.nD Cert.ReferenceLastIdeal.τ).loc Cert.ReferenceLastIdeal.main_arg0) = m ((c.tc : Thread Cert.ReferenceLastIdeal.nD Cert.ReferenceLastIdeal.τ).loc Cert.ReferenceLastIdeal.main_arg0)
      ∧ r.2.mem ((c.tc : Thread Cert.ReferenceLastIdeal.nD Cert.ReferenceLastIdeal.τ).loc Cert.ReferenceLastIdeal.main_arg1) = m ((c.tc : Thread Cert.ReferenceLastIdeal.nD Cert.ReferenceLastIdeal.τ).loc Cert.ReferenceLastIdeal.main_arg1)
      ∧ r.2.mem ((c.tc : Thread Cert.ReferenceLastIdeal.nD Cert.ReferenceLastIdeal.τ).loc Cert.ReferenceLastIdeal.main_arg2) = m ((c.tc : Thread Cert.ReferenceLastIdeal.nD Cert.ReferenceLastIdeal.τ).loc Cert.ReferenceLastIdeal.main_arg2)
      ∧ r.2.mem ((c.tc : Thread Cert.ReferenceLastIdeal.nD Cert.ReferenceLastIdeal.τ).loc Cert.ReferenceLastIdeal.main_arg3) = m ((c.tc : Thread Cert.ReferenceLastIdeal.nD Cert.ReferenceLastIdeal.τ).loc Cert.ReferenceLastIdeal.main_arg3)
      ∧ r.2.mem ((c.tc : Thread Cert.ReferenceLastIdeal.nD Cert.ReferenceLastIdeal.τ).loc Cert.ReferenceLastIdeal.main_arg4) = m ((c.tc : Thread Cert.ReferenceLastIdeal.nD Cert.ReferenceLastIdeal.τ).loc Cert.ReferenceLastIdeal.main_arg4))
      ∧ r.2.sem = fun _ => 0)

def quiescent_KernelPos [hKernelPos : Cert.KernelPos.Facts] : Prop :=
  ∀ (m : (ℓ : Loc Cert.KernelPos.nD Cert.KernelPos.τ Cert.KernelPos.sig) → Buf (Elt Bits) ℓ) (g : Dev Cert.KernelPos.nD → PrngReg), Pre_KernelPos m →
    θ_run (Cert.KernelPos.defs (F := Bits)) (onTc (τ := Cert.KernelPos.τ) (Cert.KernelPos.main (F := Bits))) ⟨m, fun _ => 0, g⟩ (fun r => (∀ c : Dev Cert.KernelPos.nD,
      r.2.mem ((c.tc : Thread Cert.KernelPos.nD Cert.KernelPos.τ).loc Cert.KernelPos.main_arg0) = m ((c.tc : Thread Cert.KernelPos.nD Cert.KernelPos.τ).loc Cert.KernelPos.main_arg0)
      ∧ r.2.mem ((c.tc : Thread Cert.KernelPos.nD Cert.KernelPos.τ).loc Cert.KernelPos.main_arg1) = m ((c.tc : Thread Cert.KernelPos.nD Cert.KernelPos.τ).loc Cert.KernelPos.main_arg1)
      ∧ r.2.mem ((c.tc : Thread Cert.KernelPos.nD Cert.KernelPos.τ).loc Cert.KernelPos.main_arg2) = m ((c.tc : Thread Cert.KernelPos.nD Cert.KernelPos.τ).loc Cert.KernelPos.main_arg2)
      ∧ r.2.mem ((c.tc : Thread Cert.KernelPos.nD Cert.KernelPos.τ).loc Cert.KernelPos.main_arg3) = m ((c.tc : Thread Cert.KernelPos.nD Cert.KernelPos.τ).loc Cert.KernelPos.main_arg3))
      ∧ r.2.sem = fun _ => 0)

def quiescent_KernelPosIdeal [hKernelPosIdeal : Cert.KernelPosIdeal.Facts] : Prop :=
  ∀ (m : (ℓ : Loc Cert.KernelPosIdeal.nD Cert.KernelPosIdeal.τ Cert.KernelPosIdeal.sig) → Buf (Elt Ideal) ℓ) (g : Dev Cert.KernelPosIdeal.nD → PrngReg), Pre_KernelPosIdeal m →
    θ_run (Cert.KernelPosIdeal.defs (F := Ideal)) (onTc (τ := Cert.KernelPosIdeal.τ) (Cert.KernelPosIdeal.main (F := Ideal))) ⟨m, fun _ => 0, g⟩ (fun r => (∀ c : Dev Cert.KernelPosIdeal.nD,
      r.2.mem ((c.tc : Thread Cert.KernelPosIdeal.nD Cert.KernelPosIdeal.τ).loc Cert.KernelPosIdeal.main_arg0) = m ((c.tc : Thread Cert.KernelPosIdeal.nD Cert.KernelPosIdeal.τ).loc Cert.KernelPosIdeal.main_arg0)
      ∧ r.2.mem ((c.tc : Thread Cert.KernelPosIdeal.nD Cert.KernelPosIdeal.τ).loc Cert.KernelPosIdeal.main_arg1) = m ((c.tc : Thread Cert.KernelPosIdeal.nD Cert.KernelPosIdeal.τ).loc Cert.KernelPosIdeal.main_arg1)
      ∧ r.2.mem ((c.tc : Thread Cert.KernelPosIdeal.nD Cert.KernelPosIdeal.τ).loc Cert.KernelPosIdeal.main_arg2) = m ((c.tc : Thread Cert.KernelPosIdeal.nD Cert.KernelPosIdeal.τ).loc Cert.KernelPosIdeal.main_arg2)
      ∧ r.2.mem ((c.tc : Thread Cert.KernelPosIdeal.nD Cert.KernelPosIdeal.τ).loc Cert.KernelPosIdeal.main_arg3) = m ((c.tc : Thread Cert.KernelPosIdeal.nD Cert.KernelPosIdeal.τ).loc Cert.KernelPosIdeal.main_arg3))
      ∧ r.2.sem = fun _ => 0)

def quiescent_ReferencePosIdeal [hReferencePosIdeal : Cert.ReferencePosIdeal.Facts] : Prop :=
  ∀ (m : (ℓ : Loc Cert.ReferencePosIdeal.nD Cert.ReferencePosIdeal.τ Cert.ReferencePosIdeal.sig) → Buf (Elt Ideal) ℓ) (g : Dev Cert.ReferencePosIdeal.nD → PrngReg), Pre_ReferencePosIdeal m →
    θ_run (Cert.ReferencePosIdeal.defs (F := Ideal)) (onTc (τ := Cert.ReferencePosIdeal.τ) (Cert.ReferencePosIdeal.main (F := Ideal))) ⟨m, fun _ => 0, g⟩ (fun r => (∀ c : Dev Cert.ReferencePosIdeal.nD,
      r.2.mem ((c.tc : Thread Cert.ReferencePosIdeal.nD Cert.ReferencePosIdeal.τ).loc Cert.ReferencePosIdeal.main_arg0) = m ((c.tc : Thread Cert.ReferencePosIdeal.nD Cert.ReferencePosIdeal.τ).loc Cert.ReferencePosIdeal.main_arg0)
      ∧ r.2.mem ((c.tc : Thread Cert.ReferencePosIdeal.nD Cert.ReferencePosIdeal.τ).loc Cert.ReferencePosIdeal.main_arg1) = m ((c.tc : Thread Cert.ReferencePosIdeal.nD Cert.ReferencePosIdeal.τ).loc Cert.ReferencePosIdeal.main_arg1)
      ∧ r.2.mem ((c.tc : Thread Cert.ReferencePosIdeal.nD Cert.ReferencePosIdeal.τ).loc Cert.ReferencePosIdeal.main_arg2) = m ((c.tc : Thread Cert.ReferencePosIdeal.nD Cert.ReferencePosIdeal.τ).loc Cert.ReferencePosIdeal.main_arg2)
      ∧ r.2.mem ((c.tc : Thread Cert.ReferencePosIdeal.nD Cert.ReferencePosIdeal.τ).loc Cert.ReferencePosIdeal.main_arg3) = m ((c.tc : Thread Cert.ReferencePosIdeal.nD Cert.ReferencePosIdeal.τ).loc Cert.ReferencePosIdeal.main_arg3))
      ∧ r.2.sem = fun _ => 0)

def quiescent_KernelChan [hKernelChan : Cert.KernelChan.Facts] : Prop :=
  ∀ (m : (ℓ : Loc Cert.KernelChan.nD Cert.KernelChan.τ Cert.KernelChan.sig) → Buf (Elt Bits) ℓ) (g : Dev Cert.KernelChan.nD → PrngReg), Pre_KernelChan m →
    θ_run (Cert.KernelChan.defs (F := Bits)) (onTc (τ := Cert.KernelChan.τ) (Cert.KernelChan.main (F := Bits))) ⟨m, fun _ => 0, g⟩ (fun r => (∀ c : Dev Cert.KernelChan.nD,
      r.2.mem ((c.tc : Thread Cert.KernelChan.nD Cert.KernelChan.τ).loc Cert.KernelChan.main_arg0) = m ((c.tc : Thread Cert.KernelChan.nD Cert.KernelChan.τ).loc Cert.KernelChan.main_arg0)
      ∧ r.2.mem ((c.tc : Thread Cert.KernelChan.nD Cert.KernelChan.τ).loc Cert.KernelChan.main_arg1) = m ((c.tc : Thread Cert.KernelChan.nD Cert.KernelChan.τ).loc Cert.KernelChan.main_arg1)
      ∧ r.2.mem ((c.tc : Thread Cert.KernelChan.nD Cert.KernelChan.τ).loc Cert.KernelChan.main_arg2) = m ((c.tc : Thread Cert.KernelChan.nD Cert.KernelChan.τ).loc Cert.KernelChan.main_arg2)
      ∧ r.2.mem ((c.tc : Thread Cert.KernelChan.nD Cert.KernelChan.τ).loc Cert.KernelChan.main_arg3) = m ((c.tc : Thread Cert.KernelChan.nD Cert.KernelChan.τ).loc Cert.KernelChan.main_arg3))
      ∧ r.2.sem = fun _ => 0)

def quiescent_KernelChanIdeal [hKernelChanIdeal : Cert.KernelChanIdeal.Facts] : Prop :=
  ∀ (m : (ℓ : Loc Cert.KernelChanIdeal.nD Cert.KernelChanIdeal.τ Cert.KernelChanIdeal.sig) → Buf (Elt Ideal) ℓ) (g : Dev Cert.KernelChanIdeal.nD → PrngReg), Pre_KernelChanIdeal m →
    θ_run (Cert.KernelChanIdeal.defs (F := Ideal)) (onTc (τ := Cert.KernelChanIdeal.τ) (Cert.KernelChanIdeal.main (F := Ideal))) ⟨m, fun _ => 0, g⟩ (fun r => (∀ c : Dev Cert.KernelChanIdeal.nD,
      r.2.mem ((c.tc : Thread Cert.KernelChanIdeal.nD Cert.KernelChanIdeal.τ).loc Cert.KernelChanIdeal.main_arg0) = m ((c.tc : Thread Cert.KernelChanIdeal.nD Cert.KernelChanIdeal.τ).loc Cert.KernelChanIdeal.main_arg0)
      ∧ r.2.mem ((c.tc : Thread Cert.KernelChanIdeal.nD Cert.KernelChanIdeal.τ).loc Cert.KernelChanIdeal.main_arg1) = m ((c.tc : Thread Cert.KernelChanIdeal.nD Cert.KernelChanIdeal.τ).loc Cert.KernelChanIdeal.main_arg1)
      ∧ r.2.mem ((c.tc : Thread Cert.KernelChanIdeal.nD Cert.KernelChanIdeal.τ).loc Cert.KernelChanIdeal.main_arg2) = m ((c.tc : Thread Cert.KernelChanIdeal.nD Cert.KernelChanIdeal.τ).loc Cert.KernelChanIdeal.main_arg2)
      ∧ r.2.mem ((c.tc : Thread Cert.KernelChanIdeal.nD Cert.KernelChanIdeal.τ).loc Cert.KernelChanIdeal.main_arg3) = m ((c.tc : Thread Cert.KernelChanIdeal.nD Cert.KernelChanIdeal.τ).loc Cert.KernelChanIdeal.main_arg3))
      ∧ r.2.sem = fun _ => 0)

def quiescent_KernelChanIdeal_pre_finite_tables [hKernelChanIdeal : Cert.KernelChanIdeal.Facts] [hPre_finite_tables : Cert.Pre_finite_tables.Facts] : Prop :=
  ∀ (m : (ℓ : Loc Cert.KernelChanIdeal.nD Cert.KernelChanIdeal.τ Cert.KernelChanIdeal.sig) → Buf (Elt Ideal) ℓ) (g : Dev Cert.KernelChanIdeal.nD → PrngReg), Pre_KernelChanIdeal_finite_tables m →
    θ_run (Cert.KernelChanIdeal.defs (F := Ideal)) (onTc (τ := Cert.KernelChanIdeal.τ) (Cert.KernelChanIdeal.main (F := Ideal))) ⟨m, fun _ => 0, g⟩ (fun r => (∀ c : Dev Cert.KernelChanIdeal.nD,
      r.2.mem ((c.tc : Thread Cert.KernelChanIdeal.nD Cert.KernelChanIdeal.τ).loc Cert.KernelChanIdeal.main_arg0) = m ((c.tc : Thread Cert.KernelChanIdeal.nD Cert.KernelChanIdeal.τ).loc Cert.KernelChanIdeal.main_arg0)
      ∧ r.2.mem ((c.tc : Thread Cert.KernelChanIdeal.nD Cert.KernelChanIdeal.τ).loc Cert.KernelChanIdeal.main_arg1) = m ((c.tc : Thread Cert.KernelChanIdeal.nD Cert.KernelChanIdeal.τ).loc Cert.KernelChanIdeal.main_arg1)
      ∧ r.2.mem ((c.tc : Thread Cert.KernelChanIdeal.nD Cert.KernelChanIdeal.τ).loc Cert.KernelChanIdeal.main_arg2) = m ((c.tc : Thread Cert.KernelChanIdeal.nD Cert.KernelChanIdeal.τ).loc Cert.KernelChanIdeal.main_arg2)
      ∧ r.2.mem ((c.tc : Thread Cert.KernelChanIdeal.nD Cert.KernelChanIdeal.τ).loc Cert.KernelChanIdeal.main_arg3) = m ((c.tc : Thread Cert.KernelChanIdeal.nD Cert.KernelChanIdeal.τ).loc Cert.KernelChanIdeal.main_arg3))
      ∧ r.2.sem = fun _ => 0)

def quiescent_ReferenceChanIdeal [hReferenceChanIdeal : Cert.ReferenceChanIdeal.Facts] : Prop :=
  ∀ (m : (ℓ : Loc Cert.ReferenceChanIdeal.nD Cert.ReferenceChanIdeal.τ Cert.ReferenceChanIdeal.sig) → Buf (Elt Ideal) ℓ) (g : Dev Cert.ReferenceChanIdeal.nD → PrngReg), Pre_ReferenceChanIdeal m →
    θ_run (Cert.ReferenceChanIdeal.defs (F := Ideal)) (onTc (τ := Cert.ReferenceChanIdeal.τ) (Cert.ReferenceChanIdeal.main (F := Ideal))) ⟨m, fun _ => 0, g⟩ (fun r => (∀ c : Dev Cert.ReferenceChanIdeal.nD,
      r.2.mem ((c.tc : Thread Cert.ReferenceChanIdeal.nD Cert.ReferenceChanIdeal.τ).loc Cert.ReferenceChanIdeal.main_arg0) = m ((c.tc : Thread Cert.ReferenceChanIdeal.nD Cert.ReferenceChanIdeal.τ).loc Cert.ReferenceChanIdeal.main_arg0)
      ∧ r.2.mem ((c.tc : Thread Cert.ReferenceChanIdeal.nD Cert.ReferenceChanIdeal.τ).loc Cert.ReferenceChanIdeal.main_arg1) = m ((c.tc : Thread Cert.ReferenceChanIdeal.nD Cert.ReferenceChanIdeal.τ).loc Cert.ReferenceChanIdeal.main_arg1)
      ∧ r.2.mem ((c.tc : Thread Cert.ReferenceChanIdeal.nD Cert.ReferenceChanIdeal.τ).loc Cert.ReferenceChanIdeal.main_arg2) = m ((c.tc : Thread Cert.ReferenceChanIdeal.nD Cert.ReferenceChanIdeal.τ).loc Cert.ReferenceChanIdeal.main_arg2)
      ∧ r.2.mem ((c.tc : Thread Cert.ReferenceChanIdeal.nD Cert.ReferenceChanIdeal.τ).loc Cert.ReferenceChanIdeal.main_arg3) = m ((c.tc : Thread Cert.ReferenceChanIdeal.nD Cert.ReferenceChanIdeal.τ).loc Cert.ReferenceChanIdeal.main_arg3))
      ∧ r.2.sem = fun _ => 0)

def quiescent_ReferenceChanIdeal_pre_finite_tables [hReferenceChanIdeal : Cert.ReferenceChanIdeal.Facts] [hPre_finite_tables : Cert.Pre_finite_tables.Facts] : Prop :=
  ∀ (m : (ℓ : Loc Cert.ReferenceChanIdeal.nD Cert.ReferenceChanIdeal.τ Cert.ReferenceChanIdeal.sig) → Buf (Elt Ideal) ℓ) (g : Dev Cert.ReferenceChanIdeal.nD → PrngReg), Pre_ReferenceChanIdeal_finite_tables m →
    θ_run (Cert.ReferenceChanIdeal.defs (F := Ideal)) (onTc (τ := Cert.ReferenceChanIdeal.τ) (Cert.ReferenceChanIdeal.main (F := Ideal))) ⟨m, fun _ => 0, g⟩ (fun r => (∀ c : Dev Cert.ReferenceChanIdeal.nD,
      r.2.mem ((c.tc : Thread Cert.ReferenceChanIdeal.nD Cert.ReferenceChanIdeal.τ).loc Cert.ReferenceChanIdeal.main_arg0) = m ((c.tc : Thread Cert.ReferenceChanIdeal.nD Cert.ReferenceChanIdeal.τ).loc Cert.ReferenceChanIdeal.main_arg0)
      ∧ r.2.mem ((c.tc : Thread Cert.ReferenceChanIdeal.nD Cert.ReferenceChanIdeal.τ).loc Cert.ReferenceChanIdeal.main_arg1) = m ((c.tc : Thread Cert.ReferenceChanIdeal.nD Cert.ReferenceChanIdeal.τ).loc Cert.ReferenceChanIdeal.main_arg1)
      ∧ r.2.mem ((c.tc : Thread Cert.ReferenceChanIdeal.nD Cert.ReferenceChanIdeal.τ).loc Cert.ReferenceChanIdeal.main_arg2) = m ((c.tc : Thread Cert.ReferenceChanIdeal.nD Cert.ReferenceChanIdeal.τ).loc Cert.ReferenceChanIdeal.main_arg2)
      ∧ r.2.mem ((c.tc : Thread Cert.ReferenceChanIdeal.nD Cert.ReferenceChanIdeal.τ).loc Cert.ReferenceChanIdeal.main_arg3) = m ((c.tc : Thread Cert.ReferenceChanIdeal.nD Cert.ReferenceChanIdeal.τ).loc Cert.ReferenceChanIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)) →
    ∃ (v0 : (c : Dev Cert.KernelFfnIdeal.nD) → Buf (Elt Ideal) ((c.tc : Thread Cert.KernelFfnIdeal.nD Cert.KernelFfnIdeal.τ).loc Cert.KernelFfnIdeal.main_v6)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v6) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v25) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)) →
    ∃ (v0 : (c : Dev Cert.KernelProjIdeal.nD) → Buf (Elt Ideal) ((c.tc : Thread Cert.KernelProjIdeal.nD Cert.KernelProjIdeal.τ).loc Cert.KernelProjIdeal.main_v1)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v1) = v0 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v2) = v0 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2))

def preserves_KernelQkv_KernelQkvIdeal : Prop :=
  True

def algebraic_KernelQkvIdeal_ReferenceQkvIdeal [hKernelQkvIdeal : Cert.KernelQkvIdeal.Facts] [hReferenceQkvIdeal : Cert.ReferenceQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)
      ∧ m' ((c.tc : Thread Cert.ReferenceQkvIdeal.nD Cert.ReferenceQkvIdeal.τ).loc Cert.ReferenceQkvIdeal.main_arg2) = m ((c.tc : Thread Cert.KernelQkvIdeal.nD Cert.KernelQkvIdeal.τ).loc Cert.KernelQkvIdeal.main_arg2)) →
    ∃ (v0 : (c : Dev Cert.KernelQkvIdeal.nD) → Buf (Elt Ideal) ((c.tc : Thread Cert.KernelQkvIdeal.nD Cert.KernelQkvIdeal.τ).loc Cert.KernelQkvIdeal.main_v30)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v30) = v0 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
          ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v82) = v0 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1)
          ∧ r.2.mem ((c.tc : Thread Cert.ReferenceQkvIdeal.nD Cert.ReferenceQkvIdeal.τ).loc Cert.ReferenceQkvIdeal.main_arg2) = m' ((c.tc : Thread Cert.ReferenceQkvIdeal.nD Cert.ReferenceQkvIdeal.τ).loc Cert.ReferenceQkvIdeal.main_arg2))

def preserves_KernelLast_KernelLastIdeal : Prop :=
  True

def algebraic_KernelLastIdeal_ReferenceLastIdeal [hKernelLastIdeal : Cert.KernelLastIdeal.Facts] [hReferenceLastIdeal : Cert.ReferenceLastIdeal.Facts] : Prop :=
  ∀ (m : (ℓ : Loc Cert.KernelLastIdeal.nD Cert.KernelLastIdeal.τ Cert.KernelLastIdeal.sig) → Buf (Elt Ideal) ℓ) (g : Dev Cert.KernelLastIdeal.nD → PrngReg)
    (m' : (ℓ : Loc Cert.ReferenceLastIdeal.nD Cert.ReferenceLastIdeal.τ Cert.ReferenceLastIdeal.sig) → Buf (Elt Ideal) ℓ) (g' : Dev Cert.ReferenceLastIdeal.nD → PrngReg), Pre_KernelLastIdeal m →
    (∀ c : Dev Cert.KernelLastIdeal.nD,
      m' ((c.tc : Thread Cert.ReferenceLastIdeal.nD Cert.ReferenceLastIdeal.τ).loc Cert.ReferenceLastIdeal.main_arg0) = m ((c.tc : Thread Cert.KernelLastIdeal.nD Cert.KernelLastIdeal.τ).loc Cert.KernelLastIdeal.main_arg0)
      ∧ m' ((c.tc : Thread Cert.ReferenceLastIdeal.nD Cert.ReferenceLastIdeal.τ).loc Cert.ReferenceLastIdeal.main_arg1) = m ((c.tc : Thread Cert.KernelLastIdeal.nD Cert.KernelLastIdeal.τ).loc Cert.KernelLastIdeal.main_arg1)
      ∧ m' ((c.tc : Thread Cert.ReferenceLastIdeal.nD Cert.ReferenceLastIdeal.τ).loc Cert.ReferenceLastIdeal.main_arg2) = m ((c.tc : Thread Cert.KernelLastIdeal.nD Cert.KernelLastIdeal.τ).loc Cert.KernelLastIdeal.main_arg2)
      ∧ m' ((c.tc : Thread Cert.ReferenceLastIdeal.nD Cert.ReferenceLastIdeal.τ).loc Cert.ReferenceLastIdeal.main_arg3) = m ((c.tc : Thread Cert.KernelLastIdeal.nD Cert.KernelLastIdeal.τ).loc Cert.KernelLastIdeal.main_arg3)
      ∧ m' ((c.tc : Thread Cert.ReferenceLastIdeal.nD Cert.ReferenceLastIdeal.τ).loc Cert.ReferenceLastIdeal.main_arg4) = m ((c.tc : Thread Cert.KernelLastIdeal.nD Cert.KernelLastIdeal.τ).loc Cert.KernelLastIdeal.main_arg4)) →
    ∃ (v0 : (c : Dev Cert.KernelLastIdeal.nD) → Buf (Elt Ideal) ((c.tc : Thread Cert.KernelLastIdeal.nD Cert.KernelLastIdeal.τ).loc Cert.KernelLastIdeal.main_v6)),
      θ_run (Cert.KernelLastIdeal.defs (F := Ideal)) (onTc (τ := Cert.KernelLastIdeal.τ) (Cert.KernelLastIdeal.main (F := Ideal))) ⟨m, fun _ => 0, g⟩ (fun r => ∀ c : Dev Cert.KernelLastIdeal.nD,
          r.2.mem ((c.tc : Thread Cert.KernelLastIdeal.nD Cert.KernelLastIdeal.τ).loc Cert.KernelLastIdeal.main_v6) = v0 c
          ∧ r.2.mem ((c.tc : Thread Cert.KernelLastIdeal.nD Cert.KernelLastIdeal.τ).loc Cert.KernelLastIdeal.main_arg0) = m ((c.tc : Thread Cert.KernelLastIdeal.nD Cert.KernelLastIdeal.τ).loc Cert.KernelLastIdeal.main_arg0)
          ∧ r.2.mem ((c.tc : Thread Cert.KernelLastIdeal.nD Cert.KernelLastIdeal.τ).loc Cert.KernelLastIdeal.main_arg1) = m ((c.tc : Thread Cert.KernelLastIdeal.nD Cert.KernelLastIdeal.τ).loc Cert.KernelLastIdeal.main_arg1)
          ∧ r.2.mem ((c.tc : Thread Cert.KernelLastIdeal.nD Cert.KernelLastIdeal.τ).loc Cert.KernelLastIdeal.main_arg2) = m ((c.tc : Thread Cert.KernelLastIdeal.nD Cert.KernelLastIdeal.τ).loc Cert.KernelLastIdeal.main_arg2)
          ∧ r.2.mem ((c.tc : Thread Cert.KernelLastIdeal.nD Cert.KernelLastIdeal.τ).loc Cert.KernelLastIdeal.main_arg3) = m ((c.tc : Thread Cert.KernelLastIdeal.nD Cert.KernelLastIdeal.τ).loc Cert.KernelLastIdeal.main_arg3)
          ∧ r.2.mem ((c.tc : Thread Cert.KernelLastIdeal.nD Cert.KernelLastIdeal.τ).loc Cert.KernelLastIdeal.main_arg4) = m ((c.tc : Thread Cert.KernelLastIdeal.nD Cert.KernelLastIdeal.τ).loc Cert.KernelLastIdeal.main_arg4))
      ∧ θ_run (Cert.ReferenceLastIdeal.defs (F := Ideal)) (onTc (τ := Cert.ReferenceLastIdeal.τ) (Cert.ReferenceLastIdeal.main (F := Ideal))) ⟨m', fun _ => 0, g'⟩ (fun r => ∀ c : Dev Cert.ReferenceLastIdeal.nD,
          r.2.mem ((c.tc : Thread Cert.ReferenceLastIdeal.nD Cert.ReferenceLastIdeal.τ).loc Cert.ReferenceLastIdeal.main_v38) = v0 c
          ∧ r.2.mem ((c.tc : Thread Cert.ReferenceLastIdeal.nD Cert.ReferenceLastIdeal.τ).loc Cert.ReferenceLastIdeal.main_arg0) = m' ((c.tc : Thread Cert.ReferenceLastIdeal.nD Cert.ReferenceLastIdeal.τ).loc Cert.ReferenceLastIdeal.main_arg0)
          ∧ r.2.mem ((c.tc : Thread Cert.ReferenceLastIdeal.nD Cert.ReferenceLastIdeal.τ).loc Cert.ReferenceLastIdeal.main_arg1) = m' ((c.tc : Thread Cert.ReferenceLastIdeal.nD Cert.ReferenceLastIdeal.τ).loc Cert.ReferenceLastIdeal.main_arg1)
          ∧ r.2.mem ((c.tc : Thread Cert.ReferenceLastIdeal.nD Cert.ReferenceLastIdeal.τ).loc Cert.ReferenceLastIdeal.main_arg2) = m' ((c.tc : Thread Cert.ReferenceLastIdeal.nD Cert.ReferenceLastIdeal.τ).loc Cert.ReferenceLastIdeal.main_arg2)
          ∧ r.2.mem ((c.tc : Thread Cert.ReferenceLastIdeal.nD Cert.ReferenceLastIdeal.τ).loc Cert.ReferenceLastIdeal.main_arg3) = m' ((c.tc : Thread Cert.ReferenceLastIdeal.nD Cert.ReferenceLastIdeal.τ).loc Cert.ReferenceLastIdeal.main_arg3)
          ∧ r.2.mem ((c.tc : Thread Cert.ReferenceLastIdeal.nD Cert.ReferenceLastIdeal.τ).loc Cert.ReferenceLastIdeal.main_arg4) = m' ((c.tc : Thread Cert.ReferenceLastIdeal.nD Cert.ReferenceLastIdeal.τ).loc Cert.ReferenceLastIdeal.main_arg4))

def preserves_KernelPos_KernelPosIdeal : Prop :=
  True

def algebraic_KernelPosIdeal_ReferencePosIdeal [hKernelPosIdeal : Cert.KernelPosIdeal.Facts] [hReferencePosIdeal : Cert.ReferencePosIdeal.Facts] : Prop :=
  ∀ (m : (ℓ : Loc Cert.KernelPosIdeal.nD Cert.KernelPosIdeal.τ Cert.KernelPosIdeal.sig) → Buf (Elt Ideal) ℓ) (g : Dev Cert.KernelPosIdeal.nD → PrngReg)
    (m' : (ℓ : Loc Cert.ReferencePosIdeal.nD Cert.ReferencePosIdeal.τ Cert.ReferencePosIdeal.sig) → Buf (Elt Ideal) ℓ) (g' : Dev Cert.ReferencePosIdeal.nD → PrngReg), Pre_KernelPosIdeal m →
    (∀ c : Dev Cert.KernelPosIdeal.nD,
      m' ((c.tc : Thread Cert.ReferencePosIdeal.nD Cert.ReferencePosIdeal.τ).loc Cert.ReferencePosIdeal.main_arg0) = m ((c.tc : Thread Cert.KernelPosIdeal.nD Cert.KernelPosIdeal.τ).loc Cert.KernelPosIdeal.main_arg0)
      ∧ m' ((c.tc : Thread Cert.ReferencePosIdeal.nD Cert.ReferencePosIdeal.τ).loc Cert.ReferencePosIdeal.main_arg1) = m ((c.tc : Thread Cert.KernelPosIdeal.nD Cert.KernelPosIdeal.τ).loc Cert.KernelPosIdeal.main_arg1)
      ∧ m' ((c.tc : Thread Cert.ReferencePosIdeal.nD Cert.ReferencePosIdeal.τ).loc Cert.ReferencePosIdeal.main_arg2) = m ((c.tc : Thread Cert.KernelPosIdeal.nD Cert.KernelPosIdeal.τ).loc Cert.KernelPosIdeal.main_arg2)
      ∧ m' ((c.tc : Thread Cert.ReferencePosIdeal.nD Cert.ReferencePosIdeal.τ).loc Cert.ReferencePosIdeal.main_arg3) = m ((c.tc : Thread Cert.KernelPosIdeal.nD Cert.KernelPosIdeal.τ).loc Cert.KernelPosIdeal.main_arg3)) →
    ∃ (v0 : (c : Dev Cert.KernelPosIdeal.nD) → Buf (Elt Ideal) ((c.tc : Thread Cert.KernelPosIdeal.nD Cert.KernelPosIdeal.τ).loc Cert.KernelPosIdeal.main_v0)),
      θ_run (Cert.KernelPosIdeal.defs (F := Ideal)) (onTc (τ := Cert.KernelPosIdeal.τ) (Cert.KernelPosIdeal.main (F := Ideal))) ⟨m, fun _ => 0, g⟩ (fun r => ∀ c : Dev Cert.KernelPosIdeal.nD,
          r.2.mem ((c.tc : Thread Cert.KernelPosIdeal.nD Cert.KernelPosIdeal.τ).loc Cert.KernelPosIdeal.main_v0) = v0 c
          ∧ r.2.mem ((c.tc : Thread Cert.KernelPosIdeal.nD Cert.KernelPosIdeal.τ).loc Cert.KernelPosIdeal.main_arg0) = m ((c.tc : Thread Cert.KernelPosIdeal.nD Cert.KernelPosIdeal.τ).loc Cert.KernelPosIdeal.main_arg0)
          ∧ r.2.mem ((c.tc : Thread Cert.KernelPosIdeal.nD Cert.KernelPosIdeal.τ).loc Cert.KernelPosIdeal.main_arg1) = m ((c.tc : Thread Cert.KernelPosIdeal.nD Cert.KernelPosIdeal.τ).loc Cert.KernelPosIdeal.main_arg1)
          ∧ r.2.mem ((c.tc : Thread Cert.KernelPosIdeal.nD Cert.KernelPosIdeal.τ).loc Cert.KernelPosIdeal.main_arg2) = m ((c.tc : Thread Cert.KernelPosIdeal.nD Cert.KernelPosIdeal.τ).loc Cert.KernelPosIdeal.main_arg2)
          ∧ r.2.mem ((c.tc : Thread Cert.KernelPosIdeal.nD Cert.KernelPosIdeal.τ).loc Cert.KernelPosIdeal.main_arg3) = m ((c.tc : Thread Cert.KernelPosIdeal.nD Cert.KernelPosIdeal.τ).loc Cert.KernelPosIdeal.main_arg3))
      ∧ θ_run (Cert.ReferencePosIdeal.defs (F := Ideal)) (onTc (τ := Cert.ReferencePosIdeal.τ) (Cert.ReferencePosIdeal.main (F := Ideal))) ⟨m', fun _ => 0, g'⟩ (fun r => ∀ c : Dev Cert.ReferencePosIdeal.nD,
          r.2.mem ((c.tc : Thread Cert.ReferencePosIdeal.nD Cert.ReferencePosIdeal.τ).loc Cert.ReferencePosIdeal.main_v12) = v0 c
          ∧ r.2.mem ((c.tc : Thread Cert.ReferencePosIdeal.nD Cert.ReferencePosIdeal.τ).loc Cert.ReferencePosIdeal.main_arg0) = m' ((c.tc : Thread Cert.ReferencePosIdeal.nD Cert.ReferencePosIdeal.τ).loc Cert.ReferencePosIdeal.main_arg0)
          ∧ r.2.mem ((c.tc : Thread Cert.ReferencePosIdeal.nD Cert.ReferencePosIdeal.τ).loc Cert.ReferencePosIdeal.main_arg1) = m' ((c.tc : Thread Cert.ReferencePosIdeal.nD Cert.ReferencePosIdeal.τ).loc Cert.ReferencePosIdeal.main_arg1)
          ∧ r.2.mem ((c.tc : Thread Cert.ReferencePosIdeal.nD Cert.ReferencePosIdeal.τ).loc Cert.ReferencePosIdeal.main_arg2) = m' ((c.tc : Thread Cert.ReferencePosIdeal.nD Cert.ReferencePosIdeal.τ).loc Cert.ReferencePosIdeal.main_arg2)
          ∧ r.2.mem ((c.tc : Thread Cert.ReferencePosIdeal.nD Cert.ReferencePosIdeal.τ).loc Cert.ReferencePosIdeal.main_arg3) = m' ((c.tc : Thread Cert.ReferencePosIdeal.nD Cert.ReferencePosIdeal.τ).loc Cert.ReferencePosIdeal.main_arg3))

def preserves_KernelChan_KernelChanIdeal : Prop :=
  True

def algebraic_KernelChanIdeal_ReferenceChanIdeal_pre_finite_tables [hKernelChanIdeal : Cert.KernelChanIdeal.Facts] [hReferenceChanIdeal : Cert.ReferenceChanIdeal.Facts] [hPre_finite_tables : Cert.Pre_finite_tables.Facts] : Prop :=
  ∀ (m : (ℓ : Loc Cert.KernelChanIdeal.nD Cert.KernelChanIdeal.τ Cert.KernelChanIdeal.sig) → Buf (Elt Ideal) ℓ) (g : Dev Cert.KernelChanIdeal.nD → PrngReg)
    (m' : (ℓ : Loc Cert.ReferenceChanIdeal.nD Cert.ReferenceChanIdeal.τ Cert.ReferenceChanIdeal.sig) → Buf (Elt Ideal) ℓ) (g' : Dev Cert.ReferenceChanIdeal.nD → PrngReg), Pre_KernelChanIdeal_finite_tables m →
    (∀ c : Dev Cert.KernelChanIdeal.nD,
      m' ((c.tc : Thread Cert.ReferenceChanIdeal.nD Cert.ReferenceChanIdeal.τ).loc Cert.ReferenceChanIdeal.main_arg0) = m ((c.tc : Thread Cert.KernelChanIdeal.nD Cert.KernelChanIdeal.τ).loc Cert.KernelChanIdeal.main_arg0)
      ∧ m' ((c.tc : Thread Cert.ReferenceChanIdeal.nD Cert.ReferenceChanIdeal.τ).loc Cert.ReferenceChanIdeal.main_arg1) = m ((c.tc : Thread Cert.KernelChanIdeal.nD Cert.KernelChanIdeal.τ).loc Cert.KernelChanIdeal.main_arg1)
      ∧ m' ((c.tc : Thread Cert.ReferenceChanIdeal.nD Cert.ReferenceChanIdeal.τ).loc Cert.ReferenceChanIdeal.main_arg2) = m ((c.tc : Thread Cert.KernelChanIdeal.nD Cert.KernelChanIdeal.τ).loc Cert.KernelChanIdeal.main_arg2)
      ∧ m' ((c.tc : Thread Cert.ReferenceChanIdeal.nD Cert.ReferenceChanIdeal.τ).loc Cert.ReferenceChanIdeal.main_arg3) = m ((c.tc : Thread Cert.KernelChanIdeal.nD Cert.KernelChanIdeal.τ).loc Cert.KernelChanIdeal.main_arg3)) →
    ∃ (v0 : (c : Dev Cert.KernelChanIdeal.nD) → Buf (Elt Ideal) ((c.tc : Thread Cert.KernelChanIdeal.nD Cert.KernelChanIdeal.τ).loc Cert.KernelChanIdeal.main_v0_0)) (v1 : (c : Dev Cert.KernelChanIdeal.nD) → Buf (Elt Ideal) ((c.tc : Thread Cert.KernelChanIdeal.nD Cert.KernelChanIdeal.τ).loc Cert.KernelChanIdeal.main_v0_1)),
      θ_run (Cert.KernelChanIdeal.defs (F := Ideal)) (onTc (τ := Cert.KernelChanIdeal.τ) (Cert.KernelChanIdeal.main (F := Ideal))) ⟨m, fun _ => 0, g⟩ (fun r => ∀ c : Dev Cert.KernelChanIdeal.nD,
          r.2.mem ((c.tc : Thread Cert.KernelChanIdeal.nD Cert.KernelChanIdeal.τ).loc Cert.KernelChanIdeal.main_v0_0) = v0 c
          ∧ r.2.mem ((c.tc : Thread Cert.KernelChanIdeal.nD Cert.KernelChanIdeal.τ).loc Cert.KernelChanIdeal.main_v0_1) = v1 c
          ∧ r.2.mem ((c.tc : Thread Cert.KernelChanIdeal.nD Cert.KernelChanIdeal.τ).loc Cert.KernelChanIdeal.main_arg0) = m ((c.tc : Thread Cert.KernelChanIdeal.nD Cert.KernelChanIdeal.τ).loc Cert.KernelChanIdeal.main_arg0)
          ∧ r.2.mem ((c.tc : Thread Cert.KernelChanIdeal.nD Cert.KernelChanIdeal.τ).loc Cert.KernelChanIdeal.main_arg1) = m ((c.tc : Thread Cert.KernelChanIdeal.nD Cert.KernelChanIdeal.τ).loc Cert.KernelChanIdeal.main_arg1)
          ∧ r.2.mem ((c.tc : Thread Cert.KernelChanIdeal.nD Cert.KernelChanIdeal.τ).loc Cert.KernelChanIdeal.main_arg2) = m ((c.tc : Thread Cert.KernelChanIdeal.nD Cert.KernelChanIdeal.τ).loc Cert.KernelChanIdeal.main_arg2)
          ∧ r.2.mem ((c.tc : Thread Cert.KernelChanIdeal.nD Cert.KernelChanIdeal.τ).loc Cert.KernelChanIdeal.main_arg3) = m ((c.tc : Thread Cert.KernelChanIdeal.nD Cert.KernelChanIdeal.τ).loc Cert.KernelChanIdeal.main_arg3))
      ∧ θ_run (Cert.ReferenceChanIdeal.defs (F := Ideal)) (onTc (τ := Cert.ReferenceChanIdeal.τ) (Cert.ReferenceChanIdeal.main (F := Ideal))) ⟨m', fun _ => 0, g'⟩ (fun r => ∀ c : Dev Cert.ReferenceChanIdeal.nD,
          r.2.mem ((c.tc : Thread Cert.ReferenceChanIdeal.nD Cert.ReferenceChanIdeal.τ).loc Cert.ReferenceChanIdeal.main_v113) = v0 c
          ∧ r.2.mem ((c.tc : Thread Cert.ReferenceChanIdeal.nD Cert.ReferenceChanIdeal.τ).loc Cert.ReferenceChanIdeal.main_v120) = v1 c
          ∧ r.2.mem ((c.tc : Thread Cert.ReferenceChanIdeal.nD Cert.ReferenceChanIdeal.τ).loc Cert.ReferenceChanIdeal.main_arg0) = m' ((c.tc : Thread Cert.ReferenceChanIdeal.nD Cert.ReferenceChanIdeal.τ).loc Cert.ReferenceChanIdeal.main_arg0)
          ∧ r.2.mem ((c.tc : Thread Cert.ReferenceChanIdeal.nD Cert.ReferenceChanIdeal.τ).loc Cert.ReferenceChanIdeal.main_arg1) = m' ((c.tc : Thread Cert.ReferenceChanIdeal.nD Cert.ReferenceChanIdeal.τ).loc Cert.ReferenceChanIdeal.main_arg1)
          ∧ r.2.mem ((c.tc : Thread Cert.ReferenceChanIdeal.nD Cert.ReferenceChanIdeal.τ).loc Cert.ReferenceChanIdeal.main_arg2) = m' ((c.tc : Thread Cert.ReferenceChanIdeal.nD Cert.ReferenceChanIdeal.τ).loc Cert.ReferenceChanIdeal.main_arg2)
          ∧ r.2.mem ((c.tc : Thread Cert.ReferenceChanIdeal.nD Cert.ReferenceChanIdeal.τ).loc Cert.ReferenceChanIdeal.main_arg3) = m' ((c.tc : Thread Cert.ReferenceChanIdeal.nD Cert.ReferenceChanIdeal.τ).loc Cert.ReferenceChanIdeal.main_arg3))

def Claim : Prop :=
  ∃ (hKernel : Cert.Kernel.Facts) (hKernelIdeal : Cert.KernelIdeal.Facts) (hReferenceIdeal : Cert.ReferenceIdeal.Facts) (hKernelFfn : Cert.KernelFfn.Facts) (hKernelFfnIdeal : Cert.KernelFfnIdeal.Facts) (hReferenceFfnIdeal : Cert.ReferenceFfnIdeal.Facts) (hKernelProj : Cert.KernelProj.Facts) (hKernelProjIdeal : Cert.KernelProjIdeal.Facts) (hReferenceProjIdeal : Cert.ReferenceProjIdeal.Facts) (hKernelQkv : Cert.KernelQkv.Facts) (hKernelQkvIdeal : Cert.KernelQkvIdeal.Facts) (hReferenceQkvIdeal : Cert.ReferenceQkvIdeal.Facts) (hKernelLast : Cert.KernelLast.Facts) (hKernelLastIdeal : Cert.KernelLastIdeal.Facts) (hReferenceLastIdeal : Cert.ReferenceLastIdeal.Facts) (hKernelPos : Cert.KernelPos.Facts) (hKernelPosIdeal : Cert.KernelPosIdeal.Facts) (hReferencePosIdeal : Cert.ReferencePosIdeal.Facts) (hKernelChan : Cert.KernelChan.Facts) (hKernelChanIdeal : Cert.KernelChanIdeal.Facts) (hReferenceChanIdeal : Cert.ReferenceChanIdeal.Facts) (hPre_finite : Cert.Pre_finite.Facts) (hPre_finite_tables : Cert.Pre_finite_tables.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelQkv (hKernelQkv := hKernelQkv)
    ∧ quiescent_KernelQkvIdeal (hKernelQkvIdeal := hKernelQkvIdeal)
    ∧ quiescent_ReferenceQkvIdeal (hReferenceQkvIdeal := hReferenceQkvIdeal)
    ∧ quiescent_KernelLast (hKernelLast := hKernelLast)
    ∧ quiescent_KernelLastIdeal (hKernelLastIdeal := hKernelLastIdeal)
    ∧ quiescent_ReferenceLastIdeal (hReferenceLastIdeal := hReferenceLastIdeal)
    ∧ quiescent_KernelPos (hKernelPos := hKernelPos)
    ∧ quiescent_KernelPosIdeal (hKernelPosIdeal := hKernelPosIdeal)
    ∧ quiescent_ReferencePosIdeal (hReferencePosIdeal := hReferencePosIdeal)
    ∧ quiescent_KernelChan (hKernelChan := hKernelChan)
    ∧ quiescent_KernelChanIdeal (hKernelChanIdeal := hKernelChanIdeal)
    ∧ quiescent_KernelChanIdeal_pre_finite_tables (hKernelChanIdeal := hKernelChanIdeal) (hPre_finite_tables := hPre_finite_tables)
    ∧ quiescent_ReferenceChanIdeal (hReferenceChanIdeal := hReferenceChanIdeal)
    ∧ quiescent_ReferenceChanIdeal_pre_finite_tables (hReferenceChanIdeal := hReferenceChanIdeal) (hPre_finite_tables := hPre_finite_tables)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelProj_KernelProjIdeal
    ∧ algebraic_KernelProjIdeal_ReferenceProjIdeal (hKernelProjIdeal := hKernelProjIdeal) (hReferenceProjIdeal := hReferenceProjIdeal)
    ∧ preserves_KernelQkv_KernelQkvIdeal
    ∧ algebraic_KernelQkvIdeal_ReferenceQkvIdeal (hKernelQkvIdeal := hKernelQkvIdeal) (hReferenceQkvIdeal := hReferenceQkvIdeal)
    ∧ preserves_KernelLast_KernelLastIdeal
    ∧ algebraic_KernelLastIdeal_ReferenceLastIdeal (hKernelLastIdeal := hKernelLastIdeal) (hReferenceLastIdeal := hReferenceLastIdeal)
    ∧ preserves_KernelPos_KernelPosIdeal
    ∧ algebraic_KernelPosIdeal_ReferencePosIdeal (hKernelPosIdeal := hKernelPosIdeal) (hReferencePosIdeal := hReferencePosIdeal)
    ∧ preserves_KernelChan_KernelChanIdeal
    ∧ algebraic_KernelChanIdeal_ReferenceChanIdeal_pre_finite_tables (hKernelChanIdeal := hKernelChanIdeal) (hReferenceChanIdeal := hReferenceChanIdeal) (hPre_finite_tables := hPre_finite_tables)
-- ==== Pre_finite.lean ====
abbrev S16384x12288 : Shape := ⟨2, ![16384, 12288]⟩
abbrev S1x128 : Shape := ⟨2, ![1, 128]⟩
abbrev S1x256 : Shape := ⟨2, ![1, 256]⟩
abbrev S_ : Shape := ⟨0, ![]⟩

class Facts : Prop where
  bitsLt_bf16_f32 : FTy.bits .bf16 < FTy.bits .f32
  bcast_S_S16384x12288 : S_.BroadcastsInDim S16384x12288 (![] : Fin 0 → Fin S16384x12288.rank)
  bcast_S_S1x128 : S_.BroadcastsInDim S1x128 (![] : Fin 0 → Fin S1x128.rank)

variable [Facts]

def fn {F : FTy → Type} [FloatOps F] (main_arg0 : FVec F S16384x12288 .bf16) (main_arg1 : FVec F S1x128 .f32) (main_arg2 : FVec F S1x128 .f32) (main_arg3 : FVec F S1x128 .f32) (main_arg4 : FVec F S1x128 .f32) (main_arg5 : FVec F S1x256 .f32) : IVec S16384x12288 1 × IVec S1x128 1 × IVec S1x128 1 × IVec S1x128 1 × IVec S1x128 1 :=
  let main_v0 : FVec F S16384x12288 .f32 := (extf .f32 · bitsLt_bf16_f32) main_arg0
  let main_v1 : FVec F S16384x12288 .f32 := Host.absf main_v0
  let main_cst : FVec F S_ .f32 := constant S_ .f32 0x7F800000#32
  let main_v2 : FVec F S16384x12288 .f32 := broadcastInDim S16384x12288 ![] bcast_S_S16384x12288 main_cst
  let main_v3 : IVec S16384x12288 1 := cmpf .olt main_v1 main_v2
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_v7 : FVec F S1x128 .f32 := Host.absf main_arg2
  let main_cst_1 : FVec F S_ .f32 := constant S_ .f32 0x7F800000#32
  let main_v8 : FVec F S1x128 .f32 := broadcastInDim S1x128 ![] bcast_S_S1x128 main_cst_1
  let main_v9 : IVec S1x128 1 := cmpf .olt main_v7 main_v8
  let main_v10 : FVec F S1x128 .f32 := Host.absf main_arg3
  let main_cst_2 : FVec F S_ .f32 := constant S_ .f32 0x7F800000#32
  let main_v11 : FVec F S1x128 .f32 := broadcastInDim S1x128 ![] bcast_S_S1x128 main_cst_2
  let main_v12 : IVec S1x128 1 := cmpf .olt main_v10 main_v11
  let main_v13 : FVec F S1x128 .f32 := Host.absf main_arg4
  let main_cst_3 : FVec F S_ .f32 := constant S_ .f32 0x7F800000#32
  let main_v14 : FVec F S1x128 .f32 := broadcastInDim S1x128 ![] bcast_S_S1x128 main_cst_3
  let main_v15 : IVec S1x128 1 := cmpf .olt main_v13 main_v14
  (main_v3, main_v6, main_v9, main_v12, main_v15)
-- ==== Pre_finite_tables.lean ====
abbrev S16384x4096 : Shape := ⟨2, ![16384, 4096]⟩
abbrev S1x4096 : Shape := ⟨2, ![1, 4096]⟩
abbrev S512x1024 : Shape := ⟨2, ![512, 1024]⟩
abbrev S1024x8 : Shape := ⟨2, ![1024, 8]⟩
abbrev S_ : Shape := ⟨0, ![]⟩

class Facts : Prop where
  bcast_S_S1x4096 : S_.BroadcastsInDim S1x4096 (![] : Fin 0 → Fin S1x4096.rank)
  bitsLt_bf16_f32 : FTy.bits .bf16 < FTy.bits .f32
  bcast_S_S512x1024 : S_.BroadcastsInDim S512x1024 (![] : Fin 0 → Fin S512x1024.rank)

variable [Facts]

def fn {F : FTy → Type} [FloatOps F] (main_arg0 : FVec F S16384x4096 .f32) (main_arg1 : FVec F S1x4096 .f32) (main_arg2 : FVec F S512x1024 .bf16) (main_arg3 : FVec F S1024x8 .f32) : IVec S1x4096 1 × IVec S512x1024 1 :=
  let main_v0 : FVec F S1x4096 .f32 := Host.absf main_arg1
  let main_cst : FVec F S_ .f32 := constant S_ .f32 0x7F800000#32
  let main_v1 : FVec F S1x4096 .f32 := broadcastInDim S1x4096 ![] bcast_S_S1x4096 main_cst
  let main_v2 : IVec S1x4096 1 := cmpf .olt main_v0 main_v1
  let main_v3 : FVec F S512x1024 .f32 := (extf .f32 · bitsLt_bf16_f32) main_arg2
  let main_v4 : FVec F S512x1024 .f32 := Host.absf main_v3
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  (main_v2, main_v6)
-- ==== Kernel.lean ====
abbrev S16384x12288 : Shape := ⟨2, ![16384, 12288]⟩
abbrev S1x128 : Shape := ⟨2, ![1, 128]⟩
abbrev S1x256 : Shape := ⟨2, ![1, 256]⟩
abbrev S16384x4096 : Shape := ⟨2, ![16384, 4096]⟩
abbrev S1024x256 : Shape := ⟨2, ![1024, 256]⟩
abbrev S4096x256 : Shape := ⟨2, ![4096, 256]⟩
abbrev S1 : Shape := ⟨1, ![1]⟩
abbrev S1x1 : Shape := ⟨2, ![1, 1]⟩
abbrev S128x128 : Shape := ⟨2, ![128, 128]⟩
abbrev S4096x128 : Shape := ⟨2, ![4096, 128]⟩
abbrev S128x4096 : Shape := ⟨2, ![128, 4096]⟩
abbrev S128 : Shape := ⟨1, ![128]⟩
abbrev S128x1 : Shape := ⟨2, ![128, 1]⟩
abbrev S128x256 : Shape := ⟨2, ![128, 256]⟩

abbrev nBuf : Space → Nat
  | .hbm => 7
  | .vmem => 13
  | .smem => 0
  | _ => 0

abbrev bufTy : (tb : Table) → Fin (tcTables nBuf tb) → BufTy
  | .hbm, ⟨0, _⟩ => ⟨S16384x12288, .bf16⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x256, .f32⟩
  | .hbm, ⟨6, _⟩ => ⟨S16384x4096, .bf16⟩
  | .local _ .vmem, ⟨0, _⟩ => ⟨S1024x256, .bf16⟩
  | .local _ .vmem, ⟨1, _⟩ => ⟨S1024x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x256, .f32⟩
  | .local _ .vmem, ⟨11, _⟩ => ⟨S1024x256, .bf16⟩
  | .local _ .vmem, ⟨12, _⟩ => ⟨S1024x256, .bf16⟩
  | _, _ => ⟨S16384x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![4, 16, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S16384x12288 : Shape := ⟨2, ![16384, 12288]⟩
abbrev S1x128 : Shape := ⟨2, ![1, 128]⟩
abbrev S1x256 : Shape := ⟨2, ![1, 256]⟩
abbrev S4x4096x12288 : Shape := ⟨3, ![4, 4096, 12288]⟩
abbrev S4x4096x4096 : Shape := ⟨3, ![4, 4096, 4096]⟩
abbrev S4x4096x16x2x128 : Shape := ⟨5, ![4, 4096, 16, 2, 128]⟩
abbrev S4x4096x16x256 : Shape := ⟨4, ![4, 4096, 16, 256]⟩
abbrev S_ : Shape := ⟨0, ![]⟩
abbrev S4x16x2x4096x4096 : Shape := ⟨5, ![4, 16, 2, 4096, 4096]⟩
abbrev S4x16x2x4096 : Shape := ⟨4, ![4, 16, 2, 4096]⟩
abbrev S4x16x2x4096x1 : Shape := ⟨5, ![4, 16, 2, 4096, 1]⟩
abbrev S4x16x1x4096x4096 : Shape := ⟨5, ![4, 16, 1, 4096, 4096]⟩
abbrev S4x16x4096x4096 : Shape := ⟨4, ![4, 16, 4096, 4096]⟩
abbrev S4x16x256x4096 : Shape := ⟨4, ![4, 16, 256, 4096]⟩
abbrev S4x4096x16 : Shape := ⟨3, ![4, 4096, 16]⟩
abbrev S4x4096x16x1 : Shape := ⟨4, ![4, 4096, 16, 1]⟩
abbrev S256 : Shape := ⟨1, ![256]⟩
abbrev S1x1x1x256 : Shape := ⟨4, ![1, 1, 1, 256]⟩
abbrev S16384x4096 : Shape := ⟨2, ![16384, 4096]⟩

abbrev nBuf : Space → Nat
  | .hbm => 75
  | .vmem => 0
  | .smem => 0
  | _ => 0

abbrev bufTy : (tb : Table) → Fin (tcTables nBuf tb) → BufTy
  | .hbm, ⟨0, _⟩ => ⟨S16384x12288, .bf16⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x256, .f32⟩
  | .hbm, ⟨6, _⟩ => ⟨S16384x12288, .f32⟩
  | .hbm, ⟨7, _⟩ => ⟨S4x4096x12288, .f32⟩
  | .hbm, ⟨8, _⟩ => ⟨S4x4096x4096, .f32⟩
  | .hbm, ⟨9, _⟩ => ⟨S4x4096x4096, .f32⟩
  | .hbm, ⟨10, _⟩ => ⟨S4x4096x4096, .f32⟩
  | .hbm, ⟨11, _⟩ => ⟨S4x4096x16x2x128, .f32⟩
  | .hbm, ⟨12, _⟩ => ⟨S4x4096x16x2x128, .f32⟩
  | .hbm, ⟨13, _⟩ => ⟨S4x4096x16x256, .f32⟩
  | .hbm, ⟨14, _⟩ => ⟨S1x128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x128, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4x16x2x4096x4096, .f32⟩
  | .hbm, ⟨26, _⟩ => ⟨S_, .f32⟩
  | .hbm, ⟨27, _⟩ => ⟨S_, .f32⟩
  | .hbm, ⟨28, _⟩ => ⟨S4x16x2x4096x4096, .f32⟩
  | .hbm, ⟨29, _⟩ => ⟨S4x16x2x4096x4096, .f32⟩
  | .hbm, ⟨30, _⟩ => ⟨S_, .f32⟩
  | .hbm, ⟨31, _⟩ => ⟨S4x16x2x4096, .f32⟩
  | .hbm, ⟨32, _⟩ => ⟨S_, .f32⟩
  | .hbm, ⟨33, _⟩ => ⟨S4x16x2x4096, .f32⟩
  | .hbm, ⟨34, _⟩ => ⟨S4x16x2x4096, .f32⟩
  | .hbm, ⟨35, _⟩ => ⟨S4x16x2x4096x1, .f32⟩
  | .hbm, ⟨36, _⟩ => ⟨S4x16x2x4096x4096, .f32⟩
  | .hbm, ⟨37, _⟩ => ⟨S4x16x2x4096x4096, .f32⟩
  | .hbm, ⟨38, _⟩ => ⟨S4x16x2x4096x4096, .f32⟩
  | .hbm, ⟨39, _⟩ => ⟨S_, .f32⟩
  | .hbm, ⟨40, _⟩ => ⟨S4x16x2x4096, .f32⟩
  | .hbm, ⟨41, _⟩ => ⟨S4x16x2x4096x1, .f32⟩
  | .hbm, ⟨42, _⟩ => ⟨S4x16x2x4096x4096, .f32⟩
  | .hbm, ⟨43, _⟩ => ⟨S4x16x2x4096x4096, .f32⟩
  | .hbm, ⟨44, _⟩ => ⟨S4x16x1x4096x4096, .f32⟩
  | .hbm, ⟨45, _⟩ => ⟨S4x16x4096x4096, .f32⟩
  | .hbm, ⟨46, _⟩ => ⟨S4x16x1x4096x4096, .f32⟩
  | .hbm, ⟨47, _⟩ => ⟨S4x16x4096x4096, .f32⟩
  | .hbm, ⟨48, _⟩ => ⟨S4x16x4096x4096, .f32⟩
  | .hbm, ⟨49, _⟩ => ⟨S4x16x4096x4096, .f32⟩
  | .hbm, ⟨50, _⟩ => ⟨S4x16x4096x4096, .f32⟩
  | .hbm, ⟨51, _⟩ => ⟨S4x16x256x4096, .f32⟩
  | .hbm, ⟨52, _⟩ => ⟨S4x4096x16x256, .f32⟩
  | .hbm, ⟨53, _⟩ => ⟨S4x4096x16x256, .f32⟩
  | .hbm, ⟨54, _⟩ => ⟨S_, .f32⟩
  | .hbm, ⟨55, _⟩ => ⟨S4x4096x16, .f32⟩
  | .hbm, ⟨56, _⟩ => ⟨S4x4096x16x1, .f32⟩
  | .hbm, ⟨57, _⟩ => ⟨S_, .f32⟩
  | .hbm, ⟨58, _⟩ => ⟨S4x4096x16x1, .f32⟩
  | .hbm, ⟨59, _⟩ => ⟨S4x4096x16x1, .f32⟩
  | .hbm, ⟨60, _⟩ => ⟨S_, .f32⟩
  | .hbm, ⟨61, _⟩ => ⟨S4x4096x16x1, .f32⟩
  | .hbm, ⟨62, _⟩ => ⟨S4x4096x16x1, .f32⟩
  | .hbm, ⟨63, _⟩ => ⟨S4x4096x16x1, .f32⟩
  | .hbm, ⟨64, _⟩ => ⟨S4x4096x16x256, .f32⟩
  | .hbm, ⟨65, _⟩ => ⟨S4x4096x16x256, .f32⟩
  | .hbm, ⟨66, _⟩ => ⟨S256, .f32⟩
  | .hbm, ⟨67, _⟩ => ⟨S1x1x1x256, .f32⟩
  | .hbm, ⟨68, _⟩ => ⟨S4x4096x16x256, .f32⟩
  | .hbm, ⟨69, _⟩ => ⟨S4x4096x16x256, .f32⟩
  | .hbm, ⟨70, _⟩ => ⟨S_, .f32⟩
  | .hbm, ⟨71, _⟩ => ⟨S4x4096x16x256, .f32⟩
  | .hbm, ⟨72, _⟩ => ⟨S4x4096x16x256, .f32⟩
  | .hbm, ⟨73, _⟩ => ⟨S16384x4096, .f32⟩
  | .hbm, ⟨74, _⟩ => ⟨S16384x4096, .bf16⟩
  | _, _ => ⟨S16384x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_9 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩

abbrev nD : Nat := 1
abbrev τ : Topo := Topo.v7x

variable {F : FTy → Type} [FloatOps F]
-- ==== KernelFfn.lean ====
abbrev S16384x4096 : Shape := ⟨2, ![16384, 4096]⟩
abbrev S2x4096 : Shape := ⟨2, ![2, 4096]⟩
abbrev S4096 : Shape := ⟨1, ![4096]⟩
abbrev S2x4096x22016 : Shape := ⟨3, ![2, 4096, 22016]⟩
abbrev S2x11008x4096 : Shape := ⟨3, ![2, 11008, 4096]⟩
abbrev S1x4096 : Shape := ⟨2, ![1, 4096]⟩
abbrev S1024x4096 : Shape := ⟨2, ![1024, 4096]⟩
abbrev S2x4096x256 : Shape := ⟨3, ![2, 4096, 256]⟩
abbrev S2x256x4096 : Shape := ⟨3, ![2, 256, 4096]⟩
abbrev S2 : Shape := ⟨1, ![2]⟩
abbrev S2x3 : Shape := ⟨2, ![2, 3]⟩
abbrev S1x1 : Shape := ⟨2, ![1, 1]⟩
abbrev S_ : Shape := ⟨0, ![]⟩
abbrev S1x4096x256 : Shape := ⟨3, ![1, 4096, 256]⟩
abbrev S4096x256 : Shape := ⟨2, ![4096, 256]⟩
abbrev S1x256x4096 : Shape := ⟨3, ![1, 256, 4096]⟩
abbrev S256x4096 : Shape := ⟨2, ![256, 4096]⟩
abbrev S1 : Shape := ⟨1, ![1]⟩
abbrev S512x4096 : Shape := ⟨2, ![512, 4096]⟩
abbrev S16x4096 : Shape := ⟨2, ![16, 4096]⟩
abbrev S16 : Shape := ⟨1, ![16]⟩
abbrev S16x1 : Shape := ⟨2, ![16, 1]⟩
abbrev S1024x256 : Shape := ⟨2, ![1024, 256]⟩

abbrev nBuf : Space → Nat
  | .hbm => 12
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S2x4096, .f32⟩
  | .hbm, ⟨2, _⟩ => ⟨S4096, .f32⟩
  | .hbm, ⟨3, _⟩ => ⟨S2x4096x22016, .f32⟩
  | .hbm, ⟨4, _⟩ => ⟨S2x11008x4096, .f32⟩
  | .hbm, ⟨5, _⟩ => ⟨S1x4096, .f32⟩
  | .hbm, ⟨6, _⟩ => ⟨S4096, .f32⟩
  | .hbm, ⟨7, _⟩ => ⟨S1x4096, .f32⟩
  | .hbm, ⟨8, _⟩ => ⟨S2x4096x22016, .bf16⟩
  | .hbm, ⟨9, _⟩ => ⟨S2x11008x4096, .bf16⟩
  | .hbm, ⟨10, _⟩ => ⟨S1x4096, .f32⟩
  | .hbm, ⟨11, _⟩ => ⟨S16384x4096, .f32⟩
  | .local _ .vmem, ⟨0, _⟩ => ⟨S1x4096, .f32⟩
  | .local _ .vmem, ⟨1, _⟩ => ⟨S1x4096, .f32⟩
  | .local _ .vmem, ⟨2, _⟩ => ⟨S1024x4096, .f32⟩
  | .local _ .vmem, ⟨3, _⟩ => ⟨S1024x4096, .f32⟩
  | .local _ .vmem, ⟨4, _⟩ => ⟨S1024x4096, .bf16⟩
  | .local _ .vmem, ⟨5, _⟩ => ⟨S2x4096x256, .bf16⟩
  | .local _ .vmem, ⟨6, _⟩ => ⟨S2x4096x256, .bf16⟩
  | .local _ .vmem, ⟨7, _⟩ => ⟨S2x256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  c0_i32
def k0_mult2 : BitVec 32 :=
  let c11008_i32 : BitVec 32 := 11008#32
  let c0_i32 : BitVec 32 := 0#32
  let v0 : BitVec 32 := c0_i32
  let v1 : BitVec 32 := Scalar.addi c11008_i32 v0
  v1
def k0_off1 (c0_i32 : BitVec 32) : Fin 3 → Nat :=
  let c0_i32_7 : BitVec 32 := 0#32
  let c0_i32_12 : BitVec 32 := 0#32
  let c11008_i32 : BitVec 32 := 11008#32
  let v0 : BitVec 32 := c0_i32
  let v1 : BitVec 32 := Scalar.addi c11008_i32 v0
  let v2 : BitVec 32 := v1
  ![0, 0, v2.toNat]
def k0_mult3 (i : grid0.Coords) : BitVec 32 :=
  let arg0 : BitVec 32 := BitVec.ofNat 32 (i 0).val
  let c1024_i32 : BitVec 32 := 1024#32
  let v21 : BitVec 32 := Scalar.muli arg0 c1024_i32
  let c0_i32_19 : BitVec 32 := 0#32
  let v22 : BitVec 32 := Scalar.addi v21 c0_i32_19
  v22
def k0_off2 (i : grid0.Coords) (c0_i32_19 : BitVec 32) : Fin 2 → Nat :=
  let arg0 : BitVec 32 := BitVec.ofNat 32 (i 0).val
  let c1024_i32 : BitVec 32 := 1024#32
  let v21 : BitVec 32 := Scalar.muli arg0 c1024_i32
  let v22 : BitVec 32 := Scalar.addi v21 c0_i32_19
  let v23 : BitVec 32 := v22
  let c0_i32_23 : BitVec 32 := 0#32
  ![v23.toNat, 0]
def k0_mult4 (i : grid0.Coords) : BitVec 32 :=
  let arg0 : BitVec 32 := BitVec.ofNat 32 (i 0).val
  let c1024_i32_24 : BitVec 32 := 1024#32
  let v28 : BitVec 32 := Scalar.muli arg0 c1024_i32_24
  let c512_i32 : BitVec 32 := 512#32
  let v29 : BitVec 32 := Scalar.addi v28 c512_i32
  v29
@[reducible] def k0_t1_loop : Scf.Loop 32 :=
  let c0_i32_34 : BitVec 32 := 0#32
  let c8_i32 : BitVec 32 := 8#32
  let v41 : BitVec 32 := Scalar.addi c0_i32_34 c8_i32
  let c1_i32_35 : BitVec 32 := 1#32
  ⟨c0_i32_34, v41, c1_i32_35⟩
def k0_mult5 (k0_t1 : Fin k0_t1_loop.trips) : BitVec 32 :=
  let c0_i32_34 : BitVec 32 := 0#32
  let c1_i32_35 : BitVec 32 := 1#32
  let arg13 : BitVec 32 := Scf.iv c0_i32_34 c1_i32_35 k0_t1
  let c64_i32 : BitVec 32 := 64#32
  let v93 : BitVec 32 := Scalar.muli arg13 c64_i32
  let c0_i32_91 : BitVec 32 := 0#32
  let v94 : BitVec 32 := Scalar.addi v93 c0_i32_91
  v94
def k0_mult6 (k0_t1 : Fin k0_t1_loop.trips) : BitVec 32 :=
  let c0_i32_34 : BitVec 32 := 0#32
  let c1_i32_35 : BitVec 32 := 1#32
  let arg13 : BitVec 32 := Scf.iv c0_i32_34 c1_i32_35 k0_t1
  let c64_i32 : BitVec 32 := 64#32
  let v93 : BitVec 32 := Scalar.muli arg13 c64_i32
  let c16_i32 : BitVec 32 := 16#32
  let v96 : BitVec 32 := Scalar.addi v93 c16_i32
  v96
def k0_mult7 (k0_t1 : Fin k0_t1_loop.trips) : BitVec 32 :=
  let c0_i32_34 : BitVec 32 := 0#32
  let c1_i32_35 : BitVec 32 := 1#32
  let arg13 : BitVec 32 := Scf.iv c0_i32_34 c1_i32_35 k0_t1
  let c64_i32 : BitVec 32 := 64#32
  let v93 : BitVec 32 := Scalar.muli arg13 c64_i32
  let c32_i32 : BitVec 32 := 32#32
  let v98 : BitVec 32 := Scalar.addi v93 c32_i32
  v98
def k0_mult8 (k0_t1 : Fin k0_t1_loop.trips) : BitVec 32 :=
  let c0_i32_34 : BitVec 32 := 0#32
  let c1_i32_35 : BitVec 32 := 1#32
  let arg13 : BitVec 32 := Scf.iv c0_i32_34 c1_i32_35 k0_t1
  let c64_i32 : BitVec 32 := 64#32
  let v93 : BitVec 32 := Scalar.muli arg13 c64_i32
  let c48_i32 : BitVec 32 := 48#32
  let v100 : BitVec 32 := Scalar.addi v93 c48_i32
  v100
def k0_off3 (k0_t1 : Fin k0_t1_loop.trips) (c0_i32_91 : BitVec 32) : Fin 2 → Nat :=
  let c0_i32_34 : BitVec 32 := 0#32
  let c1_i32_35 : BitVec 32 := 1#32
  let arg13 : BitVec 32 := Scf.iv c0_i32_34 c1_i32_35 k0_t1
  let c64_i32 : BitVec 32 := 64#32
  let v93 : BitVec 32 := Scalar.muli arg13 c64_i32
  let v94 : BitVec 32 := Scalar.addi v93 c0_i32_91
  let v95 : BitVec 32 := v94
  let v103 : Index := Scalar.indexCast v95
  let c0_94 : Index := 0#32
  ![v103.toNat, 0]
def k0_off4 (k0_t1 : Fin k0_t1_loop.trips) (c0_i32_91 : BitVec 32) : Fin 2 → Nat :=
  let c0_i32_34 : BitVec 32 := 0#32
  let c1_i32_35 : BitVec 32 := 1#32
  let arg13 : BitVec 32 := Scf.iv c0_i32_34 c1_i32_35 k0_t1
  let c64_i32 : BitVec 32 := 64#32
  let v93 : BitVec 32 := Scalar.muli arg13 c64_i32
  let v94 : BitVec 32 := Scalar.addi v93 c0_i32_91
  let v95 : BitVec 32 := v94
  let v132 : Index := Scalar.indexCast v95
  let c0_i32_108 : BitVec 32 := 0#32
  ![v132.toNat, 0]
@[reducible] def k0_t2_loop : Scf.Loop 32 :=
  let c0_i32_43 : BitVec 32 := 0#32
  let c8_i32_44 : BitVec 32 := 8#32
  let v48 : BitVec 32 := Scalar.addi c0_i32_43 c8_i32_44
  let c1_i32_45 : BitVec 32 := 1#32
  ⟨c0_i32_43, v48, c1_i32_45⟩
def k0_mult9 (k0_t2 : Fin k0_t2_loop.trips) : BitVec 32 :=
  let c0_i32_43 : BitVec 32 := 0#32
  let c1_i32_45 : BitVec 32 := 1#32
  let arg13 : BitVec 32 := Scf.iv c0_i32_43 c1_i32_45 k0_t2
  let c64_i32 : BitVec 32 := 64#32
  let v93 : BitVec 32 := Scalar.muli arg13 c64_i32
  let c0_i32_91 : BitVec 32 := 0#32
  let v94 : BitVec 32 := Scalar.addi v93 c0_i32_91
  v94
def k0_mult10 (k0_t2 : Fin k0_t2_loop.trips) : BitVec 32 :=
  let c0_i32_43 : BitVec 32 := 0#32
  let c1_i32_45 : BitVec 32 := 1#32
  let arg13 : BitVec 32 := Scf.iv c0_i32_43 c1_i32_45 k0_t2
  let c64_i32 : BitVec 32 := 64#32
  let v93 : BitVec 32 := Scalar.muli arg13 c64_i32
  let c16_i32 : BitVec 32 := 16#32
  let v96 : BitVec 32 := Scalar.addi v93 c16_i32
  v96
def k0_mult11 (k0_t2 : Fin k0_t2_loop.trips) : BitVec 32 :=
  let c0_i32_43 : BitVec 32 := 0#32
  let c1_i32_45 : BitVec 32 := 1#32
  let arg13 : BitVec 32 := Scf.iv c0_i32_43 c1_i32_45 k0_t2
  let c64_i32 : BitVec 32 := 64#32
  let v93 : BitVec 32 := Scalar.muli arg13 c64_i32
  let c32_i32 : BitVec 32 := 32#32
  let v98 : BitVec 32 := Scalar.addi v93 c32_i32
  v98
def k0_mult12 (k0_t2 : Fin k0_t2_loop.trips) : BitVec 32 :=
  let c0_i32_43 : BitVec 32 := 0#32
  let c1_i32_45 : BitVec 32 := 1#32
  let arg13 : BitVec 32 := Scf.iv c0_i32_43 c1_i32_45 k0_t2
  let c64_i32 : BitVec 32 := 64#32
  let v93 : BitVec 32 := Scalar.muli arg13 c64_i32
  let c48_i32 : BitVec 32 := 48#32
  let v100 : BitVec 32 := Scalar.addi v93 c48_i32
  v100
def k0_off5 (k0_t2 : Fin k0_t2_loop.trips) (c0_i32_91 : BitVec 32) : Fin 2 → Nat :=
  let c0_i32_43 : BitVec 32 := 0#32
  let c1_i32_45 : BitVec 32 := 1#32
  let arg13 : BitVec 32 := Scf.iv c0_i32_43 c1_i32_45 k0_t2
  let c64_i32 : BitVec 32 := 64#32
  let v93 : BitVec 32 := Scalar.muli arg13 c64_i32
  let v94 : BitVec 32 := Scalar.addi v93 c0_i32_91
  let v95 : BitVec 32 := v94
  let v103 : Index := Scalar.indexCast v95
  let c0_94 : Index := 0#32
  ![v103.toNat, 0]
def k0_off6 (k0_t2 : Fin k0_t2_loop.trips) (c0_i32_91 : BitVec 32) : Fin 2 → Nat :=
  let c0_i32_43 : BitVec 32 := 0#32
  let c1_i32_45 : BitVec 32 := 1#32
  let arg13 : BitVec 32 := Scf.iv c0_i32_43 c1_i32_45 k0_t2
  let c64_i32 : BitVec 32 := 64#32
  let v93 : BitVec 32 := Scalar.muli arg13 c64_i32
  let v94 : BitVec 32 := Scalar.addi v93 c0_i32_91
  let v95 : BitVec 32 := v94
  let v132 : Index := Scalar.indexCast v95
  let c0_i32_108 : BitVec 32 := 0#32
  ![Nat.add v132.toNat 512, 0]
@[reducible] def k0_t3_loop : Scf.Loop 32 :=
  let c0_i32_47 : BitVec 32 := 0#32
  let c21_i32 : BitVec 32 := 21#32
  let v49 : BitVec 32 := Scalar.addi c0_i32_47 c21_i32
  let c1_i32_48 : BitVec 32 := 1#32
  ⟨c0_i32_47, v49, c1_i32_48⟩
def k0_mult13 (k0_t3 : Fin k0_t3_loop.trips) : BitVec 32 :=
  let c2_i32_91 : BitVec 32 := 2#32
  let c0_i32_47 : BitVec 32 := 0#32
  let c1_i32_48 : BitVec 32 := 1#32
  let arg13 : BitVec 32 := Scf.iv c0_i32_47 c1_i32_48 k0_t3
  let v93 : BitVec 32 := Scalar.muli c2_i32_91 arg13
  let c256_i32 : BitVec 32 := 256#32
  let v94 : BitVec 32 := Scalar.muli v93 c256_i32
  v94
def k0_mult14 (k0_t3 : Fin k0_t3_loop.trips) : BitVec 32 :=
  let c11008_i32_92 : BitVec 32 := 11008#32
  let c2_i32_91 : BitVec 32 := 2#32
  let c0_i32_47 : BitVec 32 := 0#32
  let c1_i32_48 : BitVec 32 := 1#32
  let arg13 : BitVec 32 := Scf.iv c0_i32_47 c1_i32_48 k0_t3
  let v93 : BitVec 32 := Scalar.muli c2_i32_91 arg13
  let c256_i32 : BitVec 32 := 256#32
  let v94 : BitVec 32 := Scalar.muli v93 c256_i32
  let v95 : BitVec 32 := v94
  let v96 : BitVec 32 := Scalar.addi c11008_i32_92 v95
  v96
def k0_off7 (k0_t3 : Fin k0_t3_loop.trips) : Fin 3 → Nat :=
  let c0_i32_93 : BitVec 32 := 0#32
  let c0_i32_99 : BitVec 32 := 0#32
  let c2_i32_91 : BitVec 32 := 2#32
  let c0_i32_47 : BitVec 32 := 0#32
  let c1_i32_48 : BitVec 32 := 1#32
  let arg13 : BitVec 32 := Scf.iv c0_i32_47 c1_i32_48 k0_t3
  let v93 : BitVec 32 := Scalar.muli c2_i32_91 arg13
  let c256_i32 : BitVec 32 := 256#32
  let v94 : BitVec 32 := Scalar.muli v93 c256_i32
  let v95 : BitVec 32 := v94
  ![0, 0, v95.toNat]
def k0_off8 (k0_t3 : Fin k0_t3_loop.trips) : Fin 3 → Nat :=
  let c0_i32_100 : BitVec 32 := 0#32
  let c0_i32_106 : BitVec 32 := 0#32
  let c11008_i32_92 : BitVec 32 := 11008#32
  let c2_i32_91 : BitVec 32 := 2#32
  let c0_i32_47 : BitVec 32 := 0#32
  let c1_i32_48 : BitVec 32 := 1#32
  let arg13 : BitVec 32 := Scf.iv c0_i32_47 c1_i32_48 k0_t3
  let v93 : BitVec 32 := Scalar.muli c2_i32_91 arg13
  let c256_i32 : BitVec 32 := 256#32
  let v94 : BitVec 32 := Scalar.muli v93 c256_i32
  let v95 : BitVec 32 := v94
  let v96 : BitVec 32 := Scalar.addi c11008_i32_92 v95
  let v97 : BitVec 32 := v96
  ![0, 0, v97.toNat]
def k0_off9 (k0_t3 : Fin k0_t3_loop.trips) : Fin 3 → Nat :=
  let c0_i32_107 : BitVec 32 := 0#32
  let c2_i32_91 : BitVec 32 := 2#32
  let c0_i32_47 : BitVec 32 := 0#32
  let c1_i32_48 : BitVec 32 := 1#32
  let arg13 : BitVec 32 := Scf.iv c0_i32_47 c1_i32_48 k0_t3
  let v93 : BitVec 32 := Scalar.muli c2_i32_91 arg13
  let c256_i32 : BitVec 32 := 256#32
  let v94 : BitVec 32 := Scalar.muli v93 c256_i32
  let v95 : BitVec 32 := v94
  let c0_i32_113 : BitVec 32 := 0#32
  ![0, v95.toNat, 0]
def k0_mult15 (k0_t3 : Fin k0_t3_loop.trips) : BitVec 32 :=
  let c2_i32_91 : BitVec 32 := 2#32
  let c0_i32_47 : BitVec 32 := 0#32
  let c1_i32_48 : BitVec 32 := 1#32
  let arg13 : BitVec 32 := Scf.iv c0_i32_47 c1_i32_48 k0_t3
  let v93 : BitVec 32 := Scalar.muli c2_i32_91 arg13
  let c1_i32_114 : BitVec 32 := 1#32
  let v116 : BitVec 32 := Scalar.addi v93 c1_i32_114
  let c256_i32_115 : BitVec 32 := 256#32
  let v117 : BitVec 32 := Scalar.muli v116 c256_i32_115
  v117
def k0_mult16 (k0_t3 : Fin k0_t3_loop.trips) : BitVec 32 :=
  let c11008_i32_116 : BitVec 32 := 11008#32
  let c2_i32_91 : BitVec 32 := 2#32
  let c0_i32_47 : BitVec 32 := 0#32
  let c1_i32_48 : BitVec 32 := 1#32
  let arg13 : BitVec 32 := Scf.iv c0_i32_47 c1_i32_48 k0_t3
  let v93 : BitVec 32 := Scalar.muli c2_i32_91 arg13
  let c1_i32_114 : BitVec 32 := 1#32
  let v116 : BitVec 32 := Scalar.addi v93 c1_i32_114
  let c256_i32_115 : BitVec 32 := 256#32
  let v117 : BitVec 32 := Scalar.muli v116 c256_i32_115
  let v118 : BitVec 32 := v117
  let v119 : BitVec 32 := Scalar.addi c11008_i32_116 v118
  v119
def k0_off10 (k0_t3 : Fin k0_t3_loop.trips) : Fin 3 → Nat :=
  let c0_i32_117 : BitVec 32 := 0#32
  let c0_i32_123 : BitVec 32 := 0#32
  let c2_i32_91 : BitVec 32 := 2#32
  let c0_i32_47 : BitVec 32 := 0#32
  let c1_i32_48 : BitVec 32 := 1#32
  let arg13 : BitVec 32 := Scf.iv c0_i32_47 c1_i32_48 k0_t3
  let v93 : BitVec 32 := Scalar.muli c2_i32_91 arg13
  let c1_i32_114 : BitVec 32 := 1#32
  let v116 : BitVec 32 := Scalar.addi v93 c1_i32_114
  let c256_i32_115 : BitVec 32 := 256#32
  let v117 : BitVec 32 := Scalar.muli v116 c256_i32_115
  let v118 : BitVec 32 := v117
  ![0, 0, v118.toNat]
def k0_off11 (k0_t3 : Fin k0_t3_loop.trips) : Fin 3 → Nat :=
  let c0_i32_124 : BitVec 32 := 0#32
  let c0_i32_130 : BitVec 32 := 0#32
  let c11008_i32_116 : BitVec 32 := 11008#32
  let c2_i32_91 : BitVec 32 := 2#32
  let c0_i32_47 : BitVec 32 := 0#32
  let c1_i32_48 : BitVec 32 := 1#32
  let arg13 : BitVec 32 := Scf.iv c0_i32_47 c1_i32_48 k0_t3
  let v93 : BitVec 32 := Scalar.muli c2_i32_91 arg13
  let c1_i32_114 : BitVec 32 := 1#32
  let v116 : BitVec 32 := Scalar.addi v93 c1_i32_114
  let c256_i32_115 : BitVec 32 := 256#32
  let v117 : BitVec 32 := Scalar.muli v116 c256_i32_115
  let v118 : BitVec 32 := v117
  let v119 : BitVec 32 := Scalar.addi c11008_i32_116 v118
  let v120 : BitVec 32 := v119
  ![0, 0, v120.toNat]
def k0_off12 (k0_t3 : Fin k0_t3_loop.trips) : Fin 3 → Nat :=
  let c0_i32_131 : BitVec 32 := 0#32
  let c2_i32_91 : BitVec 32 := 2#32
  let c0_i32_47 : BitVec 32 := 0#32
  let c1_i32_48 : BitVec 32 := 1#32
  let arg13 : BitVec 32 := Scf.iv c0_i32_47 c1_i32_48 k0_t3
  let v93 : BitVec 32 := Scalar.muli c2_i32_91 arg13
  let c1_i32_114 : BitVec 32 := 1#32
  let v116 : BitVec 32 := Scalar.addi v93 c1_i32_114
  let c256_i32_115 : BitVec 32 := 256#32
  let v117 : BitVec 32 := Scalar.muli v116 c256_i32_115
  let v118 : BitVec 32 := v117
  let c0_i32_137 : BitVec 32 := 0#32
  ![0, v118.toNat, 0]
def k0_mult17 (k0_t3 : Fin k0_t3_loop.trips) : BitVec 32 :=
  let c2_i32_158 : BitVec 32 := 2#32
  let c0_i32_47 : BitVec 32 := 0#32
  let c1_i32_48 : BitVec 32 := 1#32
  let arg13 : BitVec 32 := Scf.iv c0_i32_47 c1_i32_48 k0_t3
  let v161 : BitVec 32 := Scalar.muli c2_i32_158 arg13
  let c1_i32_159 : BitVec 32 := 1#32
  let v162 : BitVec 32 := Scalar.addi v161 c1_i32_159
  let c256_i32_160 : BitVec 32 := 256#32
  let v163 : BitVec 32 := Scalar.muli v162 c256_i32_160
  v163
def k0_mult18 (k0_t3 : Fin k0_t3_loop.trips) : BitVec 32 :=
  let c11008_i32_161 : BitVec 32 := 11008#32
  let c2_i32_158 : BitVec 32 := 2#32
  let c0_i32_47 : BitVec 32 := 0#32
  let c1_i32_48 : BitVec 32 := 1#32
  let arg13 : BitVec 32 := Scf.iv c0_i32_47 c1_i32_48 k0_t3
  let v161 : BitVec 32 := Scalar.muli c2_i32_158 arg13
  let c1_i32_159 : BitVec 32 := 1#32
  let v162 : BitVec 32 := Scalar.addi v161 c1_i32_159
  let c256_i32_160 : BitVec 32 := 256#32
  let v163 : BitVec 32 := Scalar.muli v162 c256_i32_160
  let v164 : BitVec 32 := v163
  let v165 : BitVec 32 := Scalar.addi c11008_i32_161 v164
  v165
def k0_mult19 (k0_t3 : Fin k0_t3_loop.trips) : BitVec 32 :=
  let c2_i32_158 : BitVec 32 := 2#32
  let c0_i32_47 : BitVec 32 := 0#32
  let c1_i32_48 : BitVec 32 := 1#32
  let arg13 : BitVec 32 := Scf.iv c0_i32_47 c1_i32_48 k0_t3
  let v161 : BitVec 32 := Scalar.muli c2_i32_158 arg13
  let c1_i32_159 : BitVec 32 := 1#32
  let v162 : BitVec 32 := Scalar.addi v161 c1_i32_159
  let c1_i32_183 : BitVec 32 := 1#32
  let v185 : BitVec 32 := Scalar.addi v162 c1_i32_183
  let c256_i32_184 : BitVec 32 := 256#32
  let v186 : BitVec 32 := Scalar.muli v185 c256_i32_184
  v186
def k0_mult20 (k0_t3 : Fin k0_t3_loop.trips) : BitVec 32 :=
  let c11008_i32_185 : BitVec 32 := 11008#32
  let c2_i32_158 : BitVec 32 := 2#32
  let c0_i32_47 : BitVec 32 := 0#32
  let c1_i32_48 : BitVec 32 := 1#32
  let arg13 : BitVec 32 := Scf.iv c0_i32_47 c1_i32_48 k0_t3
  let v161 : BitVec 32 := Scalar.muli c2_i32_158 arg13
  let c1_i32_159 : BitVec 32 := 1#32
  let v162 : BitVec 32 := Scalar.addi v161 c1_i32_159
  let c1_i32_183 : BitVec 32 := 1#32
  let v185 : BitVec 32 := Scalar.addi v162 c1_i32_183
  let c256_i32_184 : BitVec 32 := 256#32
  let v186 : BitVec 32 := Scalar.muli v185 c256_i32_184
  let v187 : BitVec 32 := v186
  let v188 : BitVec 32 := Scalar.addi c11008_i32_185 v187
  v188
def k0_off13 (k0_t3 : Fin k0_t3_loop.trips) : Fin 3 → Nat :=
  let c0_i32_186 : BitVec 32 := 0#32
  let c0_i32_192 : BitVec 32 := 0#32
  let c2_i32_158 : BitVec 32 := 2#32
  let c0_i32_47 : BitVec 32 := 0#32
  let c1_i32_48 : BitVec 32 := 1#32
  let arg13 : BitVec 32 := Scf.iv c0_i32_47 c1_i32_48 k0_t3
  let v161 : BitVec 32 := Scalar.muli c2_i32_158 arg13
  let c1_i32_159 : BitVec 32 := 1#32
  let v162 : BitVec 32 := Scalar.addi v161 c1_i32_159
  let c1_i32_183 : BitVec 32 := 1#32
  let v185 : BitVec 32 := Scalar.addi v162 c1_i32_183
  let c256_i32_184 : BitVec 32 := 256#32
  let v186 : BitVec 32 := Scalar.muli v185 c256_i32_184
  let v187 : BitVec 32 := v186
  ![0, 0, v187.toNat]
def k0_off14 (k0_t3 : Fin k0_t3_loop.trips) : Fin 3 → Nat :=
  let c0_i32_193 : BitVec 32 := 0#32
  let c0_i32_199 : BitVec 32 := 0#32
  let c11008_i32_185 : BitVec 32 := 11008#32
  let c2_i32_158 : BitVec 32 := 2#32
  let c0_i32_47 : BitVec 32 := 0#32
  let c1_i32_48 : BitVec 32 := 1#32
  let arg13 : BitVec 32 := Scf.iv c0_i32_47 c1_i32_48 k0_t3
  let v161 : BitVec 32 := Scalar.muli c2_i32_158 arg13
  let c1_i32_159 : BitVec 32 := 1#32
  let v162 : BitVec 32 := Scalar.addi v161 c1_i32_159
  let c1_i32_183 : BitVec 32 := 1#32
  let v185 : BitVec 32 := Scalar.addi v162 c1_i32_183
  let c256_i32_184 : BitVec 32 := 256#32
  let v186 : BitVec 32 := Scalar.muli v185 c256_i32_184
  let v187 : BitVec 32 := v186
  let v188 : BitVec 32 := Scalar.addi c11008_i32_185 v187
  let v189 : BitVec 32 := v188
  ![0, 0, v189.toNat]
def k0_off15 (k0_t3 : Fin k0_t3_loop.trips) : Fin 3 → Nat :=
  let c0_i32_200 : BitVec 32 := 0#32
  let c2_i32_158 : BitVec 32 := 2#32
  let c0_i32_47 : BitVec 32 := 0#32
  let c1_i32_48 : BitVec 32 := 1#32
  let arg13 : BitVec 32 := Scf.iv c0_i32_47 c1_i32_48 k0_t3
  let v161 : BitVec 32 := Scalar.muli c2_i32_158 arg13
  let c1_i32_159 : BitVec 32 := 1#32
  let v162 : BitVec 32 := Scalar.addi v161 c1_i32_159
  let c1_i32_183 : BitVec 32 := 1#32
  let v185 : BitVec 32 := Scalar.addi v162 c1_i32_183
  let c256_i32_184 : BitVec 32 := 256#32
  let v186 : BitVec 32 := Scalar.muli v185 c256_i32_184
  let v187 : BitVec 32 := v186
  let c0_i32_206 : BitVec 32 := 0#32
  ![0, v187.toNat, 0]
def k0_mult21 : BitVec 32 :=
  let c10752_i32 : BitVec 32 := 10752#32
  c10752_i32
def k0_mult22 : BitVec 32 :=
  let c11008_i32_50 : BitVec 32 := 11008#32
  let c10752_i32 : BitVec 32 := 10752#32
  let v50 : BitVec 32 := c10752_i32
  let v51 : BitVec 32 := Scalar.addi c11008_i32_50 v50
  v51
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceFfnIdeal.lean ====
abbrev S16384x4096 : Shape := ⟨2, ![16384, 4096]⟩
abbrev S2x4096 : Shape := ⟨2, ![2, 4096]⟩
abbrev S4096 : Shape := ⟨1, ![4096]⟩
abbrev S2x4096x22016 : Shape := ⟨3, ![2, 4096, 22016]⟩
abbrev S2x11008x4096 : Shape := ⟨3, ![2, 11008, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S1x4096x22016 : Shape := ⟨3, ![1, 4096, 22016]⟩
abbrev S4096x22016 : Shape := ⟨2, ![4096, 22016]⟩
abbrev S16384x22016 : Shape := ⟨2, ![16384, 22016]⟩
abbrev S16384x11008 : Shape := ⟨2, ![16384, 11008]⟩
abbrev S1x11008x4096 : Shape := ⟨3, ![1, 11008, 4096]⟩
abbrev S11008x4096 : Shape := ⟨2, ![11008, 4096]⟩

abbrev nBuf : Space → Nat
  | .hbm => 42
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S2x4096, .f32⟩
  | .hbm, ⟨2, _⟩ => ⟨S4096, .f32⟩
  | .hbm, ⟨3, _⟩ => ⟨S2x4096x22016, .f32⟩
  | .hbm, ⟨4, _⟩ => ⟨S2x11008x4096, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S1x4096, .f32⟩
  | .hbm, ⟨19, _⟩ => ⟨S4096, .f32⟩
  | .hbm, ⟨20, _⟩ => ⟨S1x4096, .f32⟩
  | .hbm, ⟨21, _⟩ => ⟨S16384x4096, .f32⟩
  | .hbm, ⟨22, _⟩ => ⟨S16384x4096, .f32⟩
  | .hbm, ⟨23, _⟩ => ⟨S1x4096x22016, .f32⟩
  | .hbm, ⟨24, _⟩ => ⟨S4096x22016, .f32⟩
  | .hbm, ⟨25, _⟩ => ⟨S16384x22016, .f32⟩
  | .hbm, ⟨26, _⟩ => ⟨S16384x11008, .f32⟩
  | .hbm, ⟨27, _⟩ => ⟨S16384x11008, .f32⟩
  | .hbm, ⟨28, _⟩ => ⟨S16384x11008, .f32⟩
  | .hbm, ⟨29, _⟩ => ⟨S16384x11008, .f32⟩
  | .hbm, ⟨30, _⟩ => ⟨S_, .f32⟩
  | .hbm, ⟨31, _⟩ => ⟨S16384x11008, .f32⟩
  | .hbm, ⟨32, _⟩ => ⟨S16384x11008, .f32⟩
  | .hbm, ⟨33, _⟩ => ⟨S_, .f32⟩
  | .hbm, ⟨34, _⟩ => ⟨S16384x11008, .f32⟩
  | .hbm, ⟨35, _⟩ => ⟨S16384x11008, .f32⟩
  | .hbm, ⟨36, _⟩ => ⟨S16384x11008, .f32⟩
  | .hbm, ⟨37, _⟩ => ⟨S16384x11008, .f32⟩
  | .hbm, ⟨38, _⟩ => ⟨S1x11008x4096, .f32⟩
  | .hbm, ⟨39, _⟩ => ⟨S11008x4096, .f32⟩
  | .hbm, ⟨40, _⟩ => ⟨S16384x4096, .f32⟩
  | .hbm, ⟨41, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== KernelProj.lean ====
abbrev S16384x4096 : Shape := ⟨2, ![16384, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S4096x4096, .bf16⟩
  | .hbm, ⟨4, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceProjIdeal.lean ====
abbrev S16384x4096 : Shape := ⟨2, ![16384, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S16384x4096, .f32⟩
  | .hbm, ⟨4, _⟩ => ⟨S16384x4096, .f32⟩
  | .hbm, ⟨5, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelQkv.lean ====
abbrev S16384x4096 : Shape := ⟨2, ![16384, 4096]⟩
abbrev S2x4096 : Shape := ⟨2, ![2, 4096]⟩
abbrev S4096x12288 : Shape := ⟨2, ![4096, 12288]⟩
abbrev S1x4096 : Shape := ⟨2, ![1, 4096]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S4096x112 : Shape := ⟨2, ![4096, 112]⟩
abbrev S16384x12288 : Shape := ⟨2, ![16384, 12288]⟩
abbrev S512x4096 : Shape := ⟨2, ![512, 4096]⟩
abbrev S4096x1024 : Shape := ⟨2, ![4096, 1024]⟩
abbrev S512x128 : Shape := ⟨2, ![512, 128]⟩
abbrev S512x1024 : Shape := ⟨2, ![512, 1024]⟩
abbrev S16x4096 : Shape := ⟨2, ![16, 4096]⟩
abbrev S16x1 : Shape := ⟨2, ![16, 1]⟩
abbrev S4096x512 : Shape := ⟨2, ![4096, 512]⟩
abbrev S512x512 : Shape := ⟨2, ![512, 512]⟩

abbrev nBuf : Space → Nat
  | .hbm => 42
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S2x4096, .f32⟩
  | .hbm, ⟨2, _⟩ => ⟨S4096x12288, .f32⟩
  | .hbm, ⟨3, _⟩ => ⟨S1x4096, .f32⟩
  | .hbm, ⟨4, _⟩ => ⟨S4096, .f32⟩
  | .hbm, ⟨5, _⟩ => ⟨S1x4096, .f32⟩
  | .hbm, ⟨6, _⟩ => ⟨S4096x12288, .bf16⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S4096, .f32⟩
  | .hbm, ⟨22, _⟩ => ⟨S4096x1, .f32⟩
  | .hbm, ⟨23, _⟩ => ⟨S1x16, .f32⟩
  | .hbm, ⟨24, _⟩ => ⟨S4096x16, .f32⟩
  | .hbm, ⟨25, _⟩ => ⟨S4096x16, .f32⟩
  | .hbm, ⟨26, _⟩ => ⟨S4096x16, .f32⟩
  | .hbm, ⟨27, _⟩ => ⟨S4096x16, .f32⟩
  | .hbm, ⟨28, _⟩ => ⟨S4096x16, .f32⟩
  | .hbm, ⟨29, _⟩ => ⟨S_, .f32⟩
  | .hbm, ⟨30, _⟩ => ⟨S4096x96, .f32⟩
  | .hbm, ⟨31, _⟩ => ⟨S4096x128, .f32⟩
  | .hbm, ⟨32, _⟩ => ⟨S4096x16, .f32⟩
  | .hbm, ⟨33, _⟩ => ⟨S_, .f32⟩
  | .hbm, ⟨34, _⟩ => ⟨S4096x112, .f32⟩
  | .hbm, ⟨35, _⟩ => ⟨S4096x128, .f32⟩
  | .hbm, ⟨36, _⟩ => ⟨S_, .f32⟩
  | .hbm, ⟨37, _⟩ => ⟨S4096x16, .f32⟩
  | .hbm, ⟨38, _⟩ => ⟨S_, .f32⟩
  | .hbm, ⟨39, _⟩ => ⟨S4096x96, .f32⟩
  | .hbm, ⟨40, _⟩ => ⟨S4096x128, .f32⟩
  | .hbm, ⟨41, _⟩ => ⟨S16384x12288, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x1024, .bf16⟩
  | .local _ .vmem, ⟨4, _⟩ => ⟨S4096x1024, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x1024, .bf16⟩
  | .local _ .vmem, ⟨12, _⟩ => ⟨S512x1024, .bf16⟩
  | .local _ .vmem, ⟨13, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_7 : BitVec 32 := 0#32
  let c8_i32_8 : BitVec 32 := 8#32
  let v16 : BitVec 32 := Scalar.addi c0_i32_7 c8_i32_8
  let c1_i32 : BitVec 32 := 1#32
  ⟨c0_i32_7, v16, c1_i32⟩
def k0_mult1 (k0_t1 : Fin k0_t1_loop.trips) : BitVec 32 :=
  let c0_i32_7 : BitVec 32 := 0#32
  let c1_i32 : BitVec 32 := 1#32
  let arg10 : BitVec 32 := Scf.iv c0_i32_7 c1_i32 k0_t1
  let c64_i32 : BitVec 32 := 64#32
  let v17 : BitVec 32 := Scalar.muli arg10 c64_i32
  let c0_i32_10 : BitVec 32 := 0#32
  let v18 : BitVec 32 := Scalar.addi v17 c0_i32_10
  v18
def k0_mult2 (k0_t1 : Fin k0_t1_loop.trips) : BitVec 32 :=
  let c0_i32_7 : BitVec 32 := 0#32
  let c1_i32 : BitVec 32 := 1#32
  let arg10 : BitVec 32 := Scf.iv c0_i32_7 c1_i32 k0_t1
  let c64_i32 : BitVec 32 := 64#32
  let v17 : BitVec 32 := Scalar.muli arg10 c64_i32
  let c16_i32 : BitVec 32 := 16#32
  let v20 : BitVec 32 := Scalar.addi v17 c16_i32
  v20
def k0_mult3 (k0_t1 : Fin k0_t1_loop.trips) : BitVec 32 :=
  let c0_i32_7 : BitVec 32 := 0#32
  let c1_i32 : BitVec 32 := 1#32
  let arg10 : BitVec 32 := Scf.iv c0_i32_7 c1_i32 k0_t1
  let c64_i32 : BitVec 32 := 64#32
  let v17 : BitVec 32 := Scalar.muli arg10 c64_i32
  let c32_i32 : BitVec 32 := 32#32
  let v22 : BitVec 32 := Scalar.addi v17 c32_i32
  v22
def k0_mult4 (k0_t1 : Fin k0_t1_loop.trips) : BitVec 32 :=
  let c0_i32_7 : BitVec 32 := 0#32
  let c1_i32 : BitVec 32 := 1#32
  let arg10 : BitVec 32 := Scf.iv c0_i32_7 c1_i32 k0_t1
  let c64_i32 : BitVec 32 := 64#32
  let v17 : BitVec 32 := Scalar.muli arg10 c64_i32
  let c48_i32 : BitVec 32 := 48#32
  let v24 : BitVec 32 := Scalar.addi v17 c48_i32
  v24
def k0_off1 (k0_t1 : Fin k0_t1_loop.trips) (c0_i32_10 : BitVec 32) : Fin 2 → Nat :=
  let c0_i32_7 : BitVec 32 := 0#32
  let c1_i32 : BitVec 32 := 1#32
  let arg10 : BitVec 32 := Scf.iv c0_i32_7 c1_i32 k0_t1
  let c64_i32 : BitVec 32 := 64#32
  let v17 : BitVec 32 := Scalar.muli arg10 c64_i32
  let v18 : BitVec 32 := Scalar.addi v17 c0_i32_10
  let v19 : BitVec 32 := v18
  let v26 : Index := Scalar.indexCast v19
  let c0_11 : Index := 0#32
  ![v26.toNat, 0]
def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c4_i32_2 : BitVec 32 := 4#32
  let v6 : BitVec 1 := Scalar.cmpi .sge arg1 c4_i32_2
  let c8_i32 : BitVec 32 := 8#32
  let v7 : BitVec 1 := Scalar.cmpi .slt arg1 c8_i32
  let v8 : BitVec 1 := Scalar.andi v6 v7
  let v9 : BitVec 32 := Scalar.extui v8
  let c0_i32_3 : BitVec 32 := 0#32
  let v10 : BitVec 1 := Scalar.cmpi .ne v9 c0_i32_3
  v10

def k0_cond4 (i : grid0.Coords) : BitVec 1 :=
  let arg1 : BitVec 32 := BitVec.ofNat 32 (i 1).val
  let c8_i32_4 : BitVec 32 := 8#32
  let v11 : BitVec 1 := Scalar.cmpi .sge arg1 c8_i32_4
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceQkvIdeal.lean ====
abbrev S16384x4096 : Shape := ⟨2, ![16384, 4096]⟩
abbrev S2x4096 : Shape := ⟨2, ![2, 4096]⟩
abbrev S4096x12288 : Shape := ⟨2, ![4096, 12288]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S4096 : Shape := ⟨1, ![4096]⟩
abbrev S16384x12288 : Shape := ⟨2, ![16384, 12288]⟩
abbrev S4x4096x32x128 : Shape := ⟨4, ![4, 4096, 32, 128]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S4x4096x32x16 : Shape := ⟨4, ![4, 4096, 32, 16]⟩
abbrev S1x4096x1x16 : Shape := ⟨4, ![1, 4096, 1, 16]⟩
abbrev S4x4096x32x96 : Shape := ⟨4, ![4, 4096, 32, 96]⟩

abbrev nBuf : Space → Nat
  | .hbm => 94
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S2x4096, .f32⟩
  | .hbm, ⟨2, _⟩ => ⟨S4096x12288, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S4096, .f32⟩
  | .hbm, ⟨18, _⟩ => ⟨S1x4096, .f32⟩
  | .hbm, ⟨19, _⟩ => ⟨S16384x4096, .f32⟩
  | .hbm, ⟨20, _⟩ => ⟨S16384x4096, .f32⟩
  | .hbm, ⟨21, _⟩ => ⟨S16384x12288, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S4x4096x32x128, .f32⟩
  | .hbm, ⟨26, _⟩ => ⟨S4x4096x32x128, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S4096, .f32⟩
  | .hbm, ⟨42, _⟩ => ⟨S4096x1, .f32⟩
  | .hbm, ⟨43, _⟩ => ⟨S1x16, .f32⟩
  | .hbm, ⟨44, _⟩ => ⟨S4096x16, .f32⟩
  | .hbm, ⟨45, _⟩ => ⟨S4096x16, .f32⟩
  | .hbm, ⟨46, _⟩ => ⟨S4096x16, .f32⟩
  | .hbm, ⟨47, _⟩ => ⟨S4096x16, .f32⟩
  | .hbm, ⟨48, _⟩ => ⟨S4096x1x16, .f32⟩
  | .hbm, ⟨49, _⟩ => ⟨S4096x16, .f32⟩
  | .hbm, ⟨50, _⟩ => ⟨S4096x1x16, .f32⟩
  | .hbm, ⟨51, _⟩ => ⟨S4x4096x32x16, .f32⟩
  | .hbm, ⟨52, _⟩ => ⟨S4x4096x32x16, .f32⟩
  | .hbm, ⟨53, _⟩ => ⟨S1x4096x1x16, .f32⟩
  | .hbm, ⟨54, _⟩ => ⟨S4x4096x32x16, .f32⟩
  | .hbm, ⟨55, _⟩ => ⟨S4x4096x32x16, .f32⟩
  | .hbm, ⟨56, _⟩ => ⟨S1x4096x1x16, .f32⟩
  | .hbm, ⟨57, _⟩ => ⟨S4x4096x32x16, .f32⟩
  | .hbm, ⟨58, _⟩ => ⟨S4x4096x32x16, .f32⟩
  | .hbm, ⟨59, _⟩ => ⟨S4x4096x32x16, .f32⟩
  | .hbm, ⟨60, _⟩ => ⟨S1x4096x1x16, .f32⟩
  | .hbm, ⟨61, _⟩ => ⟨S4x4096x32x16, .f32⟩
  | .hbm, ⟨62, _⟩ => ⟨S4x4096x32x16, .f32⟩
  | .hbm, ⟨63, _⟩ => ⟨S1x4096x1x16, .f32⟩
  | .hbm, ⟨64, _⟩ => ⟨S4x4096x32x16, .f32⟩
  | .hbm, ⟨65, _⟩ => ⟨S4x4096x32x16, .f32⟩
  | .hbm, ⟨66, _⟩ => ⟨S4x4096x32x16, .f32⟩
  | .hbm, ⟨67, _⟩ => ⟨S4x4096x32x96, .f32⟩
  | .hbm, ⟨68, _⟩ => ⟨S4x4096x32x128, .f32⟩
  | .hbm, ⟨69, _⟩ => ⟨S_, .f32⟩
  | .hbm, ⟨70, _⟩ => ⟨S4x4096x32x128, .f32⟩
  | .hbm, ⟨71, _⟩ => ⟨S4x4096x32x128, .f32⟩
  | .hbm, ⟨72, _⟩ => ⟨S4x4096x32x16, .f32⟩
  | .hbm, ⟨73, _⟩ => ⟨S4x4096x32x16, .f32⟩
  | .hbm, ⟨74, _⟩ => ⟨S1x4096x1x16, .f32⟩
  | .hbm, ⟨75, _⟩ => ⟨S4x4096x32x16, .f32⟩
  | .hbm, ⟨76, _⟩ => ⟨S4x4096x32x16, .f32⟩
  | .hbm, ⟨77, _⟩ => ⟨S1x4096x1x16, .f32⟩
  | .hbm, ⟨78, _⟩ => ⟨S4x4096x32x16, .f32⟩
  | .hbm, ⟨79, _⟩ => ⟨S4x4096x32x16, .f32⟩
  | .hbm, ⟨80, _⟩ => ⟨S4x4096x32x16, .f32⟩
  | .hbm, ⟨81, _⟩ => ⟨S1x4096x1x16, .f32⟩
  | .hbm, ⟨82, _⟩ => ⟨S4x4096x32x16, .f32⟩
  | .hbm, ⟨83, _⟩ => ⟨S4x4096x32x16, .f32⟩
  | .hbm, ⟨84, _⟩ => ⟨S1x4096x1x16, .f32⟩
  | .hbm, ⟨85, _⟩ => ⟨S4x4096x32x16, .f32⟩
  | .hbm, ⟨86, _⟩ => ⟨S4x4096x32x16, .f32⟩
  | .hbm, ⟨87, _⟩ => ⟨S4x4096x32x16, .f32⟩
  | .hbm, ⟨88, _⟩ => ⟨S4x4096x32x96, .f32⟩
  | .hbm, ⟨89, _⟩ => ⟨S4x4096x32x128, .f32⟩
  | .hbm, ⟨90, _⟩ => ⟨S16384x4096, .f32⟩
  | .hbm, ⟨91, _⟩ => ⟨S16384x4096, .f32⟩
  | .hbm, ⟨92, _⟩ => ⟨S16384x12288, .f32⟩
  | .hbm, ⟨93, _⟩ => ⟨S16384x12288, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_cst_6 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩

abbrev nD : Nat := 1
abbrev τ : Topo := Topo.v7x

variable {F : FTy → Type} [FloatOps F]
-- ==== KernelLast.lean ====
abbrev S16384x4096 : Shape := ⟨2, ![16384, 4096]⟩
abbrev S2x4096 : Shape := ⟨2, ![2, 4096]⟩
abbrev S4096 : Shape := ⟨1, ![4096]⟩
abbrev S2x4096x22016 : Shape := ⟨3, ![2, 4096, 22016]⟩
abbrev S2x11008x4096 : Shape := ⟨3, ![2, 11008, 4096]⟩
abbrev S1x4096 : Shape := ⟨2, ![1, 4096]⟩
abbrev S1024x4096 : Shape := ⟨2, ![1024, 4096]⟩
abbrev S2x4096x256 : Shape := ⟨3, ![2, 4096, 256]⟩
abbrev S2x256x4096 : Shape := ⟨3, ![2, 256, 4096]⟩
abbrev S2 : Shape := ⟨1, ![2]⟩
abbrev S2x3 : Shape := ⟨2, ![2, 3]⟩
abbrev S1x1 : Shape := ⟨2, ![1, 1]⟩
abbrev S_ : Shape := ⟨0, ![]⟩
abbrev S1x4096x256 : Shape := ⟨3, ![1, 4096, 256]⟩
abbrev S4096x256 : Shape := ⟨2, ![4096, 256]⟩
abbrev S1x256x4096 : Shape := ⟨3, ![1, 256, 4096]⟩
abbrev S256x4096 : Shape := ⟨2, ![256, 4096]⟩
abbrev S1 : Shape := ⟨1, ![1]⟩
abbrev S512x4096 : Shape := ⟨2, ![512, 4096]⟩
abbrev S16x4096 : Shape := ⟨2, ![16, 4096]⟩
abbrev S16 : Shape := ⟨1, ![16]⟩
abbrev S16x1 : Shape := ⟨2, ![16, 1]⟩
abbrev S1024x256 : Shape := ⟨2, ![1024, 256]⟩

abbrev nBuf : Space → Nat
  | .hbm => 12
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S2x4096, .f32⟩
  | .hbm, ⟨2, _⟩ => ⟨S4096, .f32⟩
  | .hbm, ⟨3, _⟩ => ⟨S2x4096x22016, .f32⟩
  | .hbm, ⟨4, _⟩ => ⟨S2x11008x4096, .f32⟩
  | .hbm, ⟨5, _⟩ => ⟨S1x4096, .f32⟩
  | .hbm, ⟨6, _⟩ => ⟨S4096, .f32⟩
  | .hbm, ⟨7, _⟩ => ⟨S1x4096, .f32⟩
  | .hbm, ⟨8, _⟩ => ⟨S2x4096x22016, .bf16⟩
  | .hbm, ⟨9, _⟩ => ⟨S2x11008x4096, .bf16⟩
  | .hbm, ⟨10, _⟩ => ⟨S1x4096, .f32⟩
  | .hbm, ⟨11, _⟩ => ⟨S16384x4096, .f32⟩
  | .local _ .vmem, ⟨0, _⟩ => ⟨S1x4096, .f32⟩
  | .local _ .vmem, ⟨1, _⟩ => ⟨S1x4096, .f32⟩
  | .local _ .vmem, ⟨2, _⟩ => ⟨S1024x4096, .f32⟩
  | .local _ .vmem, ⟨3, _⟩ => ⟨S1024x4096, .f32⟩
  | .local _ .vmem, ⟨4, _⟩ => ⟨S1024x4096, .bf16⟩
  | .local _ .vmem, ⟨5, _⟩ => ⟨S2x4096x256, .bf16⟩
  | .local _ .vmem, ⟨6, _⟩ => ⟨S2x4096x256, .bf16⟩
  | .local _ .vmem, ⟨7, _⟩ => ⟨S2x256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  c0_i32
def k0_mult2 : BitVec 32 :=
  let c11008_i32 : BitVec 32 := 11008#32
  let c0_i32 : BitVec 32 := 0#32
  let v0 : BitVec 32 := c0_i32
  let v1 : BitVec 32 := Scalar.addi c11008_i32 v0
  v1
def k0_off1 (c0_i32 : BitVec 32) : Fin 3 → Nat :=
  let c1_i32_6 : BitVec 32 := 1#32
  let c0_i32_12 : BitVec 32 := 0#32
  let c11008_i32 : BitVec 32 := 11008#32
  let v0 : BitVec 32 := c0_i32
  let v1 : BitVec 32 := Scalar.addi c11008_i32 v0
  let v2 : BitVec 32 := v1
  ![1, 0, v2.toNat]
def k0_mult3 (i : grid0.Coords) : BitVec 32 :=
  let arg0 : BitVec 32 := BitVec.ofNat 32 (i 0).val
  let c1024_i32 : BitVec 32 := 1024#32
  let v21 : BitVec 32 := Scalar.muli arg0 c1024_i32
  let c0_i32_19 : BitVec 32 := 0#32
  let v22 : BitVec 32 := Scalar.addi v21 c0_i32_19
  v22
def k0_off2 (i : grid0.Coords) (c0_i32_19 : BitVec 32) : Fin 2 → Nat :=
  let arg0 : BitVec 32 := BitVec.ofNat 32 (i 0).val
  let c1024_i32 : BitVec 32 := 1024#32
  let v21 : BitVec 32 := Scalar.muli arg0 c1024_i32
  let v22 : BitVec 32 := Scalar.addi v21 c0_i32_19
  let v23 : BitVec 32 := v22
  let c0_i32_23 : BitVec 32 := 0#32
  ![v23.toNat, 0]
def k0_mult4 (i : grid0.Coords) : BitVec 32 :=
  let arg0 : BitVec 32 := BitVec.ofNat 32 (i 0).val
  let c1024_i32_24 : BitVec 32 := 1024#32
  let v28 : BitVec 32 := Scalar.muli arg0 c1024_i32_24
  let c512_i32 : BitVec 32 := 512#32
  let v29 : BitVec 32 := Scalar.addi v28 c512_i32
  v29
@[reducible] def k0_t1_loop : Scf.Loop 32 :=
  let c0_i32_34 : BitVec 32 := 0#32
  let c8_i32 : BitVec 32 := 8#32
  let v41 : BitVec 32 := Scalar.addi c0_i32_34 c8_i32
  let c1_i32_35 : BitVec 32 := 1#32
  ⟨c0_i32_34, v41, c1_i32_35⟩
def k0_mult5 (k0_t1 : Fin k0_t1_loop.trips) : BitVec 32 :=
  let c0_i32_34 : BitVec 32 := 0#32
  let c1_i32_35 : BitVec 32 := 1#32
  let arg13 : BitVec 32 := Scf.iv c0_i32_34 c1_i32_35 k0_t1
  let c64_i32 : BitVec 32 := 64#32
  let v96 : BitVec 32 := Scalar.muli arg13 c64_i32
  let c0_i32_96 : BitVec 32 := 0#32
  let v97 : BitVec 32 := Scalar.addi v96 c0_i32_96
  v97
def k0_mult6 (k0_t1 : Fin k0_t1_loop.trips) : BitVec 32 :=
  let c0_i32_34 : BitVec 32 := 0#32
  let c1_i32_35 : BitVec 32 := 1#32
  let arg13 : BitVec 32 := Scf.iv c0_i32_34 c1_i32_35 k0_t1
  let c64_i32 : BitVec 32 := 64#32
  let v96 : BitVec 32 := Scalar.muli arg13 c64_i32
  let c16_i32_97 : BitVec 32 := 16#32
  let v99 : BitVec 32 := Scalar.addi v96 c16_i32_97
  v99
def k0_mult7 (k0_t1 : Fin k0_t1_loop.trips) : BitVec 32 :=
  let c0_i32_34 : BitVec 32 := 0#32
  let c1_i32_35 : BitVec 32 := 1#32
  let arg13 : BitVec 32 := Scf.iv c0_i32_34 c1_i32_35 k0_t1
  let c64_i32 : BitVec 32 := 64#32
  let v96 : BitVec 32 := Scalar.muli arg13 c64_i32
  let c32_i32 : BitVec 32 := 32#32
  let v101 : BitVec 32 := Scalar.addi v96 c32_i32
  v101
def k0_mult8 (k0_t1 : Fin k0_t1_loop.trips) : BitVec 32 :=
  let c0_i32_34 : BitVec 32 := 0#32
  let c1_i32_35 : BitVec 32 := 1#32
  let arg13 : BitVec 32 := Scf.iv c0_i32_34 c1_i32_35 k0_t1
  let c64_i32 : BitVec 32 := 64#32
  let v96 : BitVec 32 := Scalar.muli arg13 c64_i32
  let c48_i32 : BitVec 32 := 48#32
  let v103 : BitVec 32 := Scalar.addi v96 c48_i32
  v103
def k0_off3 (k0_t1 : Fin k0_t1_loop.trips) (c0_i32_96 : BitVec 32) : Fin 2 → Nat :=
  let c0_i32_34 : BitVec 32 := 0#32
  let c1_i32_35 : BitVec 32 := 1#32
  let arg13 : BitVec 32 := Scf.iv c0_i32_34 c1_i32_35 k0_t1
  let c64_i32 : BitVec 32 := 64#32
  let v96 : BitVec 32 := Scalar.muli arg13 c64_i32
  let v97 : BitVec 32 := Scalar.addi v96 c0_i32_96
  let v98 : BitVec 32 := v97
  let v106 : Index := Scalar.indexCast v98
  let c0_100 : Index := 0#32
  ![v106.toNat, 0]
def k0_off4 (k0_t1 : Fin k0_t1_loop.trips) (c0_i32_96 : BitVec 32) : Fin 2 → Nat :=
  let c0_i32_34 : BitVec 32 := 0#32
  let c1_i32_35 : BitVec 32 := 1#32
  let arg13 : BitVec 32 := Scf.iv c0_i32_34 c1_i32_35 k0_t1
  let c64_i32 : BitVec 32 := 64#32
  let v96 : BitVec 32 := Scalar.muli arg13 c64_i32
  let v97 : BitVec 32 := Scalar.addi v96 c0_i32_96
  let v98 : BitVec 32 := v97
  let v135 : Index := Scalar.indexCast v98
  let c0_i32_114 : BitVec 32 := 0#32
  ![v135.toNat, 0]
@[reducible] def k0_t2_loop : Scf.Loop 32 :=
  let c0_i32_43 : BitVec 32 := 0#32
  let c8_i32_44 : BitVec 32 := 8#32
  let v48 : BitVec 32 := Scalar.addi c0_i32_43 c8_i32_44
  let c1_i32_45 : BitVec 32 := 1#32
  ⟨c0_i32_43, v48, c1_i32_45⟩
def k0_mult9 (k0_t2 : Fin k0_t2_loop.trips) : BitVec 32 :=
  let c0_i32_43 : BitVec 32 := 0#32
  let c1_i32_45 : BitVec 32 := 1#32
  let arg13 : BitVec 32 := Scf.iv c0_i32_43 c1_i32_45 k0_t2
  let c64_i32 : BitVec 32 := 64#32
  let v96 : BitVec 32 := Scalar.muli arg13 c64_i32
  let c0_i32_96 : BitVec 32 := 0#32
  let v97 : BitVec 32 := Scalar.addi v96 c0_i32_96
  v97
def k0_mult10 (k0_t2 : Fin k0_t2_loop.trips) : BitVec 32 :=
  let c0_i32_43 : BitVec 32 := 0#32
  let c1_i32_45 : BitVec 32 := 1#32
  let arg13 : BitVec 32 := Scf.iv c0_i32_43 c1_i32_45 k0_t2
  let c64_i32 : BitVec 32 := 64#32
  let v96 : BitVec 32 := Scalar.muli arg13 c64_i32
  let c16_i32_97 : BitVec 32 := 16#32
  let v99 : BitVec 32 := Scalar.addi v96 c16_i32_97
  v99
def k0_mult11 (k0_t2 : Fin k0_t2_loop.trips) : BitVec 32 :=
  let c0_i32_43 : BitVec 32 := 0#32
  let c1_i32_45 : BitVec 32 := 1#32
  let arg13 : BitVec 32 := Scf.iv c0_i32_43 c1_i32_45 k0_t2
  let c64_i32 : BitVec 32 := 64#32
  let v96 : BitVec 32 := Scalar.muli arg13 c64_i32
  let c32_i32 : BitVec 32 := 32#32
  let v101 : BitVec 32 := Scalar.addi v96 c32_i32
  v101
def k0_mult12 (k0_t2 : Fin k0_t2_loop.trips) : BitVec 32 :=
  let c0_i32_43 : BitVec 32 := 0#32
  let c1_i32_45 : BitVec 32 := 1#32
  let arg13 : BitVec 32 := Scf.iv c0_i32_43 c1_i32_45 k0_t2
  let c64_i32 : BitVec 32 := 64#32
  let v96 : BitVec 32 := Scalar.muli arg13 c64_i32
  let c48_i32 : BitVec 32 := 48#32
  let v103 : BitVec 32 := Scalar.addi v96 c48_i32
  v103
def k0_off5 (k0_t2 : Fin k0_t2_loop.trips) (c0_i32_96 : BitVec 32) : Fin 2 → Nat :=
  let c0_i32_43 : BitVec 32 := 0#32
  let c1_i32_45 : BitVec 32 := 1#32
  let arg13 : BitVec 32 := Scf.iv c0_i32_43 c1_i32_45 k0_t2
  let c64_i32 : BitVec 32 := 64#32
  let v96 : BitVec 32 := Scalar.muli arg13 c64_i32
  let v97 : BitVec 32 := Scalar.addi v96 c0_i32_96
  let v98 : BitVec 32 := v97
  let v106 : Index := Scalar.indexCast v98
  let c0_100 : Index := 0#32
  ![v106.toNat, 0]
def k0_off6 (k0_t2 : Fin k0_t2_loop.trips) (c0_i32_96 : BitVec 32) : Fin 2 → Nat :=
  let c0_i32_43 : BitVec 32 := 0#32
  let c1_i32_45 : BitVec 32 := 1#32
  let arg13 : BitVec 32 := Scf.iv c0_i32_43 c1_i32_45 k0_t2
  let c64_i32 : BitVec 32 := 64#32
  let v96 : BitVec 32 := Scalar.muli arg13 c64_i32
  let v97 : BitVec 32 := Scalar.addi v96 c0_i32_96
  let v98 : BitVec 32 := v97
  let v135 : Index := Scalar.indexCast v98
  let c0_i32_114 : BitVec 32 := 0#32
  ![Nat.add v135.toNat 512, 0]
@[reducible] def k0_t3_loop : Scf.Loop 32 :=
  let c0_i32_47 : BitVec 32 := 0#32
  let c21_i32 : BitVec 32 := 21#32
  let v49 : BitVec 32 := Scalar.addi c0_i32_47 c21_i32
  let c1_i32_48 : BitVec 32 := 1#32
  ⟨c0_i32_47, v49, c1_i32_48⟩
def k0_mult13 (k0_t3 : Fin k0_t3_loop.trips) : BitVec 32 :=
  let c2_i32_96 : BitVec 32 := 2#32
  let c0_i32_47 : BitVec 32 := 0#32
  let c1_i32_48 : BitVec 32 := 1#32
  let arg13 : BitVec 32 := Scf.iv c0_i32_47 c1_i32_48 k0_t3
  let v96 : BitVec 32 := Scalar.muli c2_i32_96 arg13
  let c256_i32 : BitVec 32 := 256#32
  let v97 : BitVec 32 := Scalar.muli v96 c256_i32
  v97
def k0_mult14 (k0_t3 : Fin k0_t3_loop.trips) : BitVec 32 :=
  let c11008_i32_97 : BitVec 32 := 11008#32
  let c2_i32_96 : BitVec 32 := 2#32
  let c0_i32_47 : BitVec 32 := 0#32
  let c1_i32_48 : BitVec 32 := 1#32
  let arg13 : BitVec 32 := Scf.iv c0_i32_47 c1_i32_48 k0_t3
  let v96 : BitVec 32 := Scalar.muli c2_i32_96 arg13
  let c256_i32 : BitVec 32 := 256#32
  let v97 : BitVec 32 := Scalar.muli v96 c256_i32
  let v98 : BitVec 32 := v97
  let v99 : BitVec 32 := Scalar.addi c11008_i32_97 v98
  v99
def k0_off7 (k0_t3 : Fin k0_t3_loop.trips) : Fin 3 → Nat :=
  let c1_i32_98 : BitVec 32 := 1#32
  let c0_i32_104 : BitVec 32 := 0#32
  let c2_i32_96 : BitVec 32 := 2#32
  let c0_i32_47 : BitVec 32 := 0#32
  let c1_i32_48 : BitVec 32 := 1#32
  let arg13 : BitVec 32 := Scf.iv c0_i32_47 c1_i32_48 k0_t3
  let v96 : BitVec 32 := Scalar.muli c2_i32_96 arg13
  let c256_i32 : BitVec 32 := 256#32
  let v97 : BitVec 32 := Scalar.muli v96 c256_i32
  let v98 : BitVec 32 := v97
  ![1, 0, v98.toNat]
def k0_off8 (k0_t3 : Fin k0_t3_loop.trips) : Fin 3 → Nat :=
  let c1_i32_105 : BitVec 32 := 1#32
  let c0_i32_111 : BitVec 32 := 0#32
  let c11008_i32_97 : BitVec 32 := 11008#32
  let c2_i32_96 : BitVec 32 := 2#32
  let c0_i32_47 : BitVec 32 := 0#32
  let c1_i32_48 : BitVec 32 := 1#32
  let arg13 : BitVec 32 := Scf.iv c0_i32_47 c1_i32_48 k0_t3
  let v96 : BitVec 32 := Scalar.muli c2_i32_96 arg13
  let c256_i32 : BitVec 32 := 256#32
  let v97 : BitVec 32 := Scalar.muli v96 c256_i32
  let v98 : BitVec 32 := v97
  let v99 : BitVec 32 := Scalar.addi c11008_i32_97 v98
  let v100 : BitVec 32 := v99
  ![1, 0, v100.toNat]
def k0_off9 (k0_t3 : Fin k0_t3_loop.trips) : Fin 3 → Nat :=
  let c1_i32_112 : BitVec 32 := 1#32
  let c2_i32_96 : BitVec 32 := 2#32
  let c0_i32_47 : BitVec 32 := 0#32
  let c1_i32_48 : BitVec 32 := 1#32
  let arg13 : BitVec 32 := Scf.iv c0_i32_47 c1_i32_48 k0_t3
  let v96 : BitVec 32 := Scalar.muli c2_i32_96 arg13
  let c256_i32 : BitVec 32 := 256#32
  let v97 : BitVec 32 := Scalar.muli v96 c256_i32
  let v98 : BitVec 32 := v97
  let c0_i32_118 : BitVec 32 := 0#32
  ![1, v98.toNat, 0]
def k0_mult15 (k0_t3 : Fin k0_t3_loop.trips) : BitVec 32 :=
  let c2_i32_96 : BitVec 32 := 2#32
  let c0_i32_47 : BitVec 32 := 0#32
  let c1_i32_48 : BitVec 32 := 1#32
  let arg13 : BitVec 32 := Scf.iv c0_i32_47 c1_i32_48 k0_t3
  let v96 : BitVec 32 := Scalar.muli c2_i32_96 arg13
  let c1_i32_119 : BitVec 32 := 1#32
  let v119 : BitVec 32 := Scalar.addi v96 c1_i32_119
  let c256_i32_120 : BitVec 32 := 256#32
  let v120 : BitVec 32 := Scalar.muli v119 c256_i32_120
  v120
def k0_mult16 (k0_t3 : Fin k0_t3_loop.trips) : BitVec 32 :=
  let c11008_i32_121 : BitVec 32 := 11008#32
  let c2_i32_96 : BitVec 32 := 2#32
  let c0_i32_47 : BitVec 32 := 0#32
  let c1_i32_48 : BitVec 32 := 1#32
  let arg13 : BitVec 32 := Scf.iv c0_i32_47 c1_i32_48 k0_t3
  let v96 : BitVec 32 := Scalar.muli c2_i32_96 arg13
  let c1_i32_119 : BitVec 32 := 1#32
  let v119 : BitVec 32 := Scalar.addi v96 c1_i32_119
  let c256_i32_120 : BitVec 32 := 256#32
  let v120 : BitVec 32 := Scalar.muli v119 c256_i32_120
  let v121 : BitVec 32 := v120
  let v122 : BitVec 32 := Scalar.addi c11008_i32_121 v121
  v122
def k0_off10 (k0_t3 : Fin k0_t3_loop.trips) : Fin 3 → Nat :=
  let c1_i32_122 : BitVec 32 := 1#32
  let c0_i32_128 : BitVec 32 := 0#32
  let c2_i32_96 : BitVec 32 := 2#32
  let c0_i32_47 : BitVec 32 := 0#32
  let c1_i32_48 : BitVec 32 := 1#32
  let arg13 : BitVec 32 := Scf.iv c0_i32_47 c1_i32_48 k0_t3
  let v96 : BitVec 32 := Scalar.muli c2_i32_96 arg13
  let c1_i32_119 : BitVec 32 := 1#32
  let v119 : BitVec 32 := Scalar.addi v96 c1_i32_119
  let c256_i32_120 : BitVec 32 := 256#32
  let v120 : BitVec 32 := Scalar.muli v119 c256_i32_120
  let v121 : BitVec 32 := v120
  ![1, 0, v121.toNat]
def k0_off11 (k0_t3 : Fin k0_t3_loop.trips) : Fin 3 → Nat :=
  let c1_i32_129 : BitVec 32 := 1#32
  let c0_i32_135 : BitVec 32 := 0#32
  let c11008_i32_121 : BitVec 32 := 11008#32
  let c2_i32_96 : BitVec 32 := 2#32
  let c0_i32_47 : BitVec 32 := 0#32
  let c1_i32_48 : BitVec 32 := 1#32
  let arg13 : BitVec 32 := Scf.iv c0_i32_47 c1_i32_48 k0_t3
  let v96 : BitVec 32 := Scalar.muli c2_i32_96 arg13
  let c1_i32_119 : BitVec 32 := 1#32
  let v119 : BitVec 32 := Scalar.addi v96 c1_i32_119
  let c256_i32_120 : BitVec 32 := 256#32
  let v120 : BitVec 32 := Scalar.muli v119 c256_i32_120
  let v121 : BitVec 32 := v120
  let v122 : BitVec 32 := Scalar.addi c11008_i32_121 v121
  let v123 : BitVec 32 := v122
  ![1, 0, v123.toNat]
def k0_off12 (k0_t3 : Fin k0_t3_loop.trips) : Fin 3 → Nat :=
  let c1_i32_136 : BitVec 32 := 1#32
  let c2_i32_96 : BitVec 32 := 2#32
  let c0_i32_47 : BitVec 32 := 0#32
  let c1_i32_48 : BitVec 32 := 1#32
  let arg13 : BitVec 32 := Scf.iv c0_i32_47 c1_i32_48 k0_t3
  let v96 : BitVec 32 := Scalar.muli c2_i32_96 arg13
  let c1_i32_119 : BitVec 32 := 1#32
  let v119 : BitVec 32 := Scalar.addi v96 c1_i32_119
  let c256_i32_120 : BitVec 32 := 256#32
  let v120 : BitVec 32 := Scalar.muli v119 c256_i32_120
  let v121 : BitVec 32 := v120
  let c0_i32_142 : BitVec 32 := 0#32
  ![1, v121.toNat, 0]
def k0_mult17 (k0_t3 : Fin k0_t3_loop.trips) : BitVec 32 :=
  let c2_i32_163 : BitVec 32 := 2#32
  let c0_i32_47 : BitVec 32 := 0#32
  let c1_i32_48 : BitVec 32 := 1#32
  let arg13 : BitVec 32 := Scf.iv c0_i32_47 c1_i32_48 k0_t3
  let v164 : BitVec 32 := Scalar.muli c2_i32_163 arg13
  let c1_i32_164 : BitVec 32 := 1#32
  let v165 : BitVec 32 := Scalar.addi v164 c1_i32_164
  let c256_i32_165 : BitVec 32 := 256#32
  let v166 : BitVec 32 := Scalar.muli v165 c256_i32_165
  v166
def k0_mult18 (k0_t3 : Fin k0_t3_loop.trips) : BitVec 32 :=
  let c11008_i32_166 : BitVec 32 := 11008#32
  let c2_i32_163 : BitVec 32 := 2#32
  let c0_i32_47 : BitVec 32 := 0#32
  let c1_i32_48 : BitVec 32 := 1#32
  let arg13 : BitVec 32 := Scf.iv c0_i32_47 c1_i32_48 k0_t3
  let v164 : BitVec 32 := Scalar.muli c2_i32_163 arg13
  let c1_i32_164 : BitVec 32 := 1#32
  let v165 : BitVec 32 := Scalar.addi v164 c1_i32_164
  let c256_i32_165 : BitVec 32 := 256#32
  let v166 : BitVec 32 := Scalar.muli v165 c256_i32_165
  let v167 : BitVec 32 := v166
  let v168 : BitVec 32 := Scalar.addi c11008_i32_166 v167
  v168
def k0_mult19 (k0_t3 : Fin k0_t3_loop.trips) : BitVec 32 :=
  let c2_i32_163 : BitVec 32 := 2#32
  let c0_i32_47 : BitVec 32 := 0#32
  let c1_i32_48 : BitVec 32 := 1#32
  let arg13 : BitVec 32 := Scf.iv c0_i32_47 c1_i32_48 k0_t3
  let v164 : BitVec 32 := Scalar.muli c2_i32_163 arg13
  let c1_i32_164 : BitVec 32 := 1#32
  let v165 : BitVec 32 := Scalar.addi v164 c1_i32_164
  let c1_i32_188 : BitVec 32 := 1#32
  let v188 : BitVec 32 := Scalar.addi v165 c1_i32_188
  let c256_i32_189 : BitVec 32 := 256#32
  let v189 : BitVec 32 := Scalar.muli v188 c256_i32_189
  v189
def k0_mult20 (k0_t3 : Fin k0_t3_loop.trips) : BitVec 32 :=
  let c11008_i32_190 : BitVec 32 := 11008#32
  let c2_i32_163 : BitVec 32 := 2#32
  let c0_i32_47 : BitVec 32 := 0#32
  let c1_i32_48 : BitVec 32 := 1#32
  let arg13 : BitVec 32 := Scf.iv c0_i32_47 c1_i32_48 k0_t3
  let v164 : BitVec 32 := Scalar.muli c2_i32_163 arg13
  let c1_i32_164 : BitVec 32 := 1#32
  let v165 : BitVec 32 := Scalar.addi v164 c1_i32_164
  let c1_i32_188 : BitVec 32 := 1#32
  let v188 : BitVec 32 := Scalar.addi v165 c1_i32_188
  let c256_i32_189 : BitVec 32 := 256#32
  let v189 : BitVec 32 := Scalar.muli v188 c256_i32_189
  let v190 : BitVec 32 := v189
  let v191 : BitVec 32 := Scalar.addi c11008_i32_190 v190
  v191
def k0_off13 (k0_t3 : Fin k0_t3_loop.trips) : Fin 3 → Nat :=
  let c1_i32_191 : BitVec 32 := 1#32
  let c0_i32_197 : BitVec 32 := 0#32
  let c2_i32_163 : BitVec 32 := 2#32
  let c0_i32_47 : BitVec 32 := 0#32
  let c1_i32_48 : BitVec 32 := 1#32
  let arg13 : BitVec 32 := Scf.iv c0_i32_47 c1_i32_48 k0_t3
  let v164 : BitVec 32 := Scalar.muli c2_i32_163 arg13
  let c1_i32_164 : BitVec 32 := 1#32
  let v165 : BitVec 32 := Scalar.addi v164 c1_i32_164
  let c1_i32_188 : BitVec 32 := 1#32
  let v188 : BitVec 32 := Scalar.addi v165 c1_i32_188
  let c256_i32_189 : BitVec 32 := 256#32
  let v189 : BitVec 32 := Scalar.muli v188 c256_i32_189
  let v190 : BitVec 32 := v189
  ![1, 0, v190.toNat]
def k0_off14 (k0_t3 : Fin k0_t3_loop.trips) : Fin 3 → Nat :=
  let c1_i32_198 : BitVec 32 := 1#32
  let c0_i32_204 : BitVec 32 := 0#32
  let c11008_i32_190 : BitVec 32 := 11008#32
  let c2_i32_163 : BitVec 32 := 2#32
  let c0_i32_47 : BitVec 32 := 0#32
  let c1_i32_48 : BitVec 32 := 1#32
  let arg13 : BitVec 32 := Scf.iv c0_i32_47 c1_i32_48 k0_t3
  let v164 : BitVec 32 := Scalar.muli c2_i32_163 arg13
  let c1_i32_164 : BitVec 32 := 1#32
  let v165 : BitVec 32 := Scalar.addi v164 c1_i32_164
  let c1_i32_188 : BitVec 32 := 1#32
  let v188 : BitVec 32 := Scalar.addi v165 c1_i32_188
  let c256_i32_189 : BitVec 32 := 256#32
  let v189 : BitVec 32 := Scalar.muli v188 c256_i32_189
  let v190 : BitVec 32 := v189
  let v191 : BitVec 32 := Scalar.addi c11008_i32_190 v190
  let v192 : BitVec 32 := v191
  ![1, 0, v192.toNat]
def k0_off15 (k0_t3 : Fin k0_t3_loop.trips) : Fin 3 → Nat :=
  let c1_i32_205 : BitVec 32 := 1#32
  let c2_i32_163 : BitVec 32 := 2#32
  let c0_i32_47 : BitVec 32 := 0#32
  let c1_i32_48 : BitVec 32 := 1#32
  let arg13 : BitVec 32 := Scf.iv c0_i32_47 c1_i32_48 k0_t3
  let v164 : BitVec 32 := Scalar.muli c2_i32_163 arg13
  let c1_i32_164 : BitVec 32 := 1#32
  let v165 : BitVec 32 := Scalar.addi v164 c1_i32_164
  let c1_i32_188 : BitVec 32 := 1#32
  let v188 : BitVec 32 := Scalar.addi v165 c1_i32_188
  let c256_i32_189 : BitVec 32 := 256#32
  let v189 : BitVec 32 := Scalar.muli v188 c256_i32_189
  let v190 : BitVec 32 := v189
  let c0_i32_211 : BitVec 32 := 0#32
  ![1, v190.toNat, 0]
def k0_mult21 : BitVec 32 :=
  let c10752_i32 : BitVec 32 := 10752#32
  c10752_i32
def k0_mult22 : BitVec 32 :=
  let c11008_i32_50 : BitVec 32 := 11008#32
  let c10752_i32 : BitVec 32 := 10752#32
  let v50 : BitVec 32 := c10752_i32
  let v51 : BitVec 32 := Scalar.addi c11008_i32_50 v50
  v51
@[reducible] def k0_t4_loop : Scf.Loop 32 :=
  let c0_i32_93 : BitVec 32 := 0#32
  let c16_i32 : BitVec 32 := 16#32
  let v95 : BitVec 32 := Scalar.addi c0_i32_93 c16_i32
  let c1_i32_94 : BitVec 32 := 1#32
  ⟨c0_i32_93, v95, c1_i32_94⟩
def k0_mult23 (k0_t4 : Fin k0_t4_loop.trips) : BitVec 32 :=
  let c0_i32_93 : BitVec 32 := 0#32
  let c1_i32_94 : BitVec 32 := 1#32
  let arg13 : BitVec 32 := Scf.iv c0_i32_93 c1_i32_94 k0_t4
  let c64_i32 : BitVec 32 := 64#32
  let v96 : BitVec 32 := Scalar.muli arg13 c64_i32
  let c0_i32_96 : BitVec 32 := 0#32
  let v97 : BitVec 32 := Scalar.addi v96 c0_i32_96
  v97
def k0_mult24 (k0_t4 : Fin k0_t4_loop.trips) : BitVec 32 :=
  let c0_i32_93 : BitVec 32 := 0#32
  let c1_i32_94 : BitVec 32 := 1#32
  let arg13 : BitVec 32 := Scf.iv c0_i32_93 c1_i32_94 k0_t4
  let c64_i32 : BitVec 32 := 64#32
  let v96 : BitVec 32 := Scalar.muli arg13 c64_i32
  let c16_i32_97 : BitVec 32 := 16#32
  let v99 : BitVec 32 := Scalar.addi v96 c16_i32_97
  v99
def k0_mult25 (k0_t4 : Fin k0_t4_loop.trips) : BitVec 32 :=
  let c0_i32_93 : BitVec 32 := 0#32
  let c1_i32_94 : BitVec 32 := 1#32
  let arg13 : BitVec 32 := Scf.iv c0_i32_93 c1_i32_94 k0_t4
  let c64_i32 : BitVec 32 := 64#32
  let v96 : BitVec 32 := Scalar.muli arg13 c64_i32
  let c32_i32 : BitVec 32 := 32#32
  let v101 : BitVec 32 := Scalar.addi v96 c32_i32
  v101
def k0_mult26 (k0_t4 : Fin k0_t4_loop.trips) : BitVec 32 :=
  let c0_i32_93 : BitVec 32 := 0#32
  let c1_i32_94 : BitVec 32 := 1#32
  let arg13 : BitVec 32 := Scf.iv c0_i32_93 c1_i32_94 k0_t4
  let c64_i32 : BitVec 32 := 64#32
  let v96 : BitVec 32 := Scalar.muli arg13 c64_i32
  let c48_i32 : BitVec 32 := 48#32
  let v103 : BitVec 32 := Scalar.addi v96 c48_i32
  v103
def k0_off16 (k0_t4 : Fin k0_t4_loop.trips) (c0_i32_96 : BitVec 32) : Fin 2 → Nat :=
  let c0_i32_93 : BitVec 32 := 0#32
  let c1_i32_94 : BitVec 32 := 1#32
  let arg13 : BitVec 32 := Scf.iv c0_i32_93 c1_i32_94 k0_t4
  let c64_i32 : BitVec 32 := 64#32
  let v96 : BitVec 32 := Scalar.muli arg13 c64_i32
  let v97 : BitVec 32 := Scalar.addi v96 c0_i32_96
  let v98 : BitVec 32 := v97
  let v105 : Index := Scalar.indexCast v98
  let c0_98 : Index := 0#32
  ![v105.toNat, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceLastIdeal.lean ====
abbrev S16384x4096 : Shape := ⟨2, ![16384, 4096]⟩
abbrev S2x4096 : Shape := ⟨2, ![2, 4096]⟩
abbrev S4096 : Shape := ⟨1, ![4096]⟩
abbrev S2x4096x22016 : Shape := ⟨3, ![2, 4096, 22016]⟩
abbrev S2x11008x4096 : Shape := ⟨3, ![2, 11008, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S1x4096x22016 : Shape := ⟨3, ![1, 4096, 22016]⟩
abbrev S4096x22016 : Shape := ⟨2, ![4096, 22016]⟩
abbrev S16384x22016 : Shape := ⟨2, ![16384, 22016]⟩
abbrev S16384x11008 : Shape := ⟨2, ![16384, 11008]⟩
abbrev S1x11008x4096 : Shape := ⟨3, ![1, 11008, 4096]⟩
abbrev S11008x4096 : Shape := ⟨2, ![11008, 4096]⟩

abbrev nBuf : Space → Nat
  | .hbm => 58
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S2x4096, .f32⟩
  | .hbm, ⟨2, _⟩ => ⟨S4096, .f32⟩
  | .hbm, ⟨3, _⟩ => ⟨S2x4096x22016, .f32⟩
  | .hbm, ⟨4, _⟩ => ⟨S2x11008x4096, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S1x4096, .f32⟩
  | .hbm, ⟨19, _⟩ => ⟨S4096, .f32⟩
  | .hbm, ⟨20, _⟩ => ⟨S1x4096, .f32⟩
  | .hbm, ⟨21, _⟩ => ⟨S16384x4096, .f32⟩
  | .hbm, ⟨22, _⟩ => ⟨S16384x4096, .f32⟩
  | .hbm, ⟨23, _⟩ => ⟨S1x4096x22016, .f32⟩
  | .hbm, ⟨24, _⟩ => ⟨S4096x22016, .f32⟩
  | .hbm, ⟨25, _⟩ => ⟨S16384x22016, .f32⟩
  | .hbm, ⟨26, _⟩ => ⟨S16384x11008, .f32⟩
  | .hbm, ⟨27, _⟩ => ⟨S16384x11008, .f32⟩
  | .hbm, ⟨28, _⟩ => ⟨S16384x11008, .f32⟩
  | .hbm, ⟨29, _⟩ => ⟨S16384x11008, .f32⟩
  | .hbm, ⟨30, _⟩ => ⟨S_, .f32⟩
  | .hbm, ⟨31, _⟩ => ⟨S16384x11008, .f32⟩
  | .hbm, ⟨32, _⟩ => ⟨S16384x11008, .f32⟩
  | .hbm, ⟨33, _⟩ => ⟨S_, .f32⟩
  | .hbm, ⟨34, _⟩ => ⟨S16384x11008, .f32⟩
  | .hbm, ⟨35, _⟩ => ⟨S16384x11008, .f32⟩
  | .hbm, ⟨36, _⟩ => ⟨S16384x11008, .f32⟩
  | .hbm, ⟨37, _⟩ => ⟨S16384x11008, .f32⟩
  | .hbm, ⟨38, _⟩ => ⟨S1x11008x4096, .f32⟩
  | .hbm, ⟨39, _⟩ => ⟨S11008x4096, .f32⟩
  | .hbm, ⟨40, _⟩ => ⟨S16384x4096, .f32⟩
  | .hbm, ⟨41, _⟩ => ⟨S16384x4096, .f32⟩
  | .hbm, ⟨42, _⟩ => ⟨S16384x4096, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x4096, .f32⟩
  | .hbm, ⟨54, _⟩ => ⟨S16384x4096, .f32⟩
  | .hbm, ⟨55, _⟩ => ⟨S1x4096, .f32⟩
  | .hbm, ⟨56, _⟩ => ⟨S16384x4096, .f32⟩
  | .hbm, ⟨57, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]
-- ==== KernelPos.lean ====
abbrev S1024x1024 : Shape := ⟨2, ![1024, 1024]⟩
abbrev S4x4096x4096 : Shape := ⟨3, ![4, 4096, 4096]⟩
abbrev S16384x4096 : Shape := ⟨2, ![16384, 4096]⟩
abbrev S4x1024x512 : Shape := ⟨3, ![4, 1024, 512]⟩
abbrev S4096x512 : Shape := ⟨2, ![4096, 512]⟩
abbrev S4x4096x128 : Shape := ⟨3, ![4, 4096, 128]⟩
abbrev S1x1024x512 : Shape := ⟨3, ![1, 1024, 512]⟩
abbrev S1024x512 : Shape := ⟨2, ![1024, 512]⟩
abbrev S1024x128 : Shape := ⟨2, ![1024, 128]⟩
abbrev S1x1024x128 : Shape := ⟨3, ![1, 1024, 128]⟩
abbrev S1x4096x128 : Shape := ⟨3, ![1, 4096, 128]⟩
abbrev S4096x128 : Shape := ⟨2, ![4096, 128]⟩

abbrev nBuf : Space → Nat
  | .hbm => 5
  | .vmem => 9
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S4x4096x4096, .bf16⟩
  | .hbm, ⟨3, _⟩ => ⟨S4x4096x4096, .bf16⟩
  | .hbm, ⟨4, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S4x1024x512, .bf16⟩
  | .local _ .vmem, ⟨3, _⟩ => ⟨S4x1024x512, .bf16⟩
  | .local _ .vmem, ⟨4, _⟩ => ⟨S4x1024x512, .bf16⟩
  | .local _ .vmem, ⟨5, _⟩ => ⟨S4x1024x512, .bf16⟩
  | .local _ .vmem, ⟨6, _⟩ => ⟨S4096x512, .bf16⟩
  | .local _ .vmem, ⟨7, _⟩ => ⟨S4096x512, .bf16⟩
  | .local _ .vmem, ⟨8, _⟩ => ⟨S4x4096x128, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferencePosIdeal.lean ====
abbrev S1024x1024 : Shape := ⟨2, ![1024, 1024]⟩
abbrev S4x4096x4096 : Shape := ⟨3, ![4, 4096, 4096]⟩
abbrev S4x4x1024x4096 : Shape := ⟨4, ![4, 4, 1024, 4096]⟩
abbrev S4x4x4096x1024 : Shape := ⟨4, ![4, 4, 4096, 1024]⟩
abbrev S4x1024x4x4096 : Shape := ⟨4, ![4, 1024, 4, 4096]⟩
abbrev S16384x4096 : Shape := ⟨2, ![16384, 4096]⟩

abbrev nBuf : Space → Nat
  | .hbm => 17
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S4x4096x4096, .bf16⟩
  | .hbm, ⟨3, _⟩ => ⟨S4x4096x4096, .bf16⟩
  | .hbm, ⟨4, _⟩ => ⟨S4x4096x4096, .f32⟩
  | .hbm, ⟨5, _⟩ => ⟨S4x4x1024x4096, .f32⟩
  | .hbm, ⟨6, _⟩ => ⟨S4x4096x4096, .f32⟩
  | .hbm, ⟨7, _⟩ => ⟨S4x4x1024x4096, .f32⟩
  | .hbm, ⟨8, _⟩ => ⟨S1024x1024, .f32⟩
  | .hbm, ⟨9, _⟩ => ⟨S4x4x4096x1024, .f32⟩
  | .hbm, ⟨10, _⟩ => ⟨S4x1024x4x4096, .f32⟩
  | .hbm, ⟨11, _⟩ => ⟨S1024x1024, .f32⟩
  | .hbm, ⟨12, _⟩ => ⟨S4x4x4096x1024, .f32⟩
  | .hbm, ⟨13, _⟩ => ⟨S4x1024x4x4096, .f32⟩
  | .hbm, ⟨14, _⟩ => ⟨S4x1024x4x4096, .f32⟩
  | .hbm, ⟨15, _⟩ => ⟨S16384x4096, .f32⟩
  | .hbm, ⟨16, _⟩ => ⟨S16384x4096, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== KernelChan.lean ====
abbrev S16384x4096 : Shape := ⟨2, ![16384, 4096]⟩
abbrev S1x4096 : Shape := ⟨2, ![1, 4096]⟩
abbrev S512x1024 : Shape := ⟨2, ![512, 1024]⟩
abbrev S1024x8 : Shape := ⟨2, ![1024, 8]⟩
abbrev S4x4096x4096 : Shape := ⟨3, ![4, 4096, 4096]⟩
abbrev S128x4096 : Shape := ⟨2, ![128, 4096]⟩
abbrev S128x8 : Shape := ⟨2, ![128, 8]⟩
abbrev S4x128x4096 : Shape := ⟨3, ![4, 128, 4096]⟩
abbrev S16x4096 : Shape := ⟨2, ![16, 4096]⟩
abbrev S16 : Shape := ⟨1, ![16]⟩
abbrev S16x1 : Shape := ⟨2, ![16, 1]⟩
abbrev S128x512 : Shape := ⟨2, ![128, 512]⟩
abbrev S128x1024 : Shape := ⟨2, ![128, 1024]⟩
abbrev S1x128x512 : Shape := ⟨3, ![1, 128, 512]⟩
abbrev S128x1 : Shape := ⟨2, ![128, 1]⟩

abbrev nBuf : Space → Nat
  | .hbm => 6
  | .vmem => 20
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S512x1024, .bf16⟩
  | .hbm, ⟨3, _⟩ => ⟨S1024x8, .f32⟩
  | .hbm, ⟨4, _⟩ => ⟨S4x4096x4096, .bf16⟩
  | .hbm, ⟨5, _⟩ => ⟨S4x4096x4096, .bf16⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S1x4096, .f32⟩
  | .local _ .vmem, ⟨9, _⟩ => ⟨S512x1024, .bf16⟩
  | .local _ .vmem, ⟨10, _⟩ => ⟨S128x8, .f32⟩
  | .local _ .vmem, ⟨11, _⟩ => ⟨S128x8, .f32⟩
  | .local _ .vmem, ⟨12, _⟩ => ⟨S4x128x4096, .bf16⟩
  | .local _ .vmem, ⟨13, _⟩ => ⟨S4x128x4096, .bf16⟩
  | .local _ .vmem, ⟨14, _⟩ => ⟨S4x128x4096, .bf16⟩
  | .local _ .vmem, ⟨15, _⟩ => ⟨S4x128x4096, .bf16⟩
  | .local _ .vmem, ⟨16, _⟩ => ⟨S128x4096, .bf16⟩
  | .local _ .vmem, ⟨17, _⟩ => ⟨S128x4096, .bf16⟩
  | .local _ .vmem, ⟨18, _⟩ => ⟨S128x4096, .bf16⟩
  | .local _ .vmem, ⟨19, _⟩ => ⟨S128x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c16_i32 : BitVec 32 := 16#32
  let v788 : BitVec 32 := Scalar.muli arg15 c16_i32
  v788
def k0_off1 (k0_t1 : Fin k0_t1_loop.trips) : Fin 2 → Nat :=
  let c0_i32 : BitVec 32 := 0#32
  let c1_i32 : BitVec 32 := 1#32
  let arg15 : BitVec 32 := Scf.iv c0_i32 c1_i32 k0_t1
  let c16_i32 : BitVec 32 := 16#32
  let v788 : BitVec 32 := Scalar.muli arg15 c16_i32
  let v789 : BitVec 32 := v788
  let v790 : Index := Scalar.indexCast v789
  let c0_307 : Index := 0#32
  ![v790.toNat, 0]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c8_i32 : BitVec 32 := 8#32
  let v1 : BitVec 32 := Scalar.muli v0 c8_i32
  let c0_i32 : BitVec 32 := 0#32
  let v2 : BitVec 32 := Scalar.addi v1 c0_i32
  let v3 : BitVec 32 := Scalar.addi v2 arg1
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c8_i32 : BitVec 32 := 8#32
  let v1 : BitVec 32 := Scalar.muli v0 c8_i32
  let c8_i32_0 : BitVec 32 := 8#32
  let v2 : BitVec 32 := Scalar.addi v1 c8_i32_0
  let v3 : BitVec 32 := Scalar.addi v2 arg1
  let c0_i32 : BitVec 32 := 0#32
  let c0_i32_1 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c8_i32 : BitVec 32 := 8#32
  let v1 : BitVec 32 := Scalar.muli v0 c8_i32
  let c16_i32 : BitVec 32 := 16#32
  let v2 : BitVec 32 := Scalar.addi v1 c16_i32
  let v3 : BitVec 32 := Scalar.addi v2 arg1
  let c0_i32 : BitVec 32 := 0#32
  let c0_i32_0 : BitVec 32 := 0#32
  ![v3.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c8_i32 : BitVec 32 := 8#32
  let v1 : BitVec 32 := Scalar.muli v0 c8_i32
  let c24_i32 : BitVec 32 := 24#32
  let v2 : BitVec 32 := Scalar.addi v1 c24_i32
  let v3 : BitVec 32 := Scalar.addi v2 arg1
  let c0_i32 : BitVec 32 := 0#32
  let c0_i32_0 : BitVec 32 := 0#32
  ![v3.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4x128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x128x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceChanIdeal.lean ====
abbrev S16384x4096 : Shape := ⟨2, ![16384, 4096]⟩
abbrev S1x4096 : Shape := ⟨2, ![1, 4096]⟩
abbrev S512x1024 : Shape := ⟨2, ![512, 1024]⟩
abbrev S1024x8 : Shape := ⟨2, ![1024, 8]⟩
abbrev S_ : Shape := ⟨0, ![]⟩
abbrev S16384 : Shape := ⟨1, ![16384]⟩
abbrev S16384x1 : Shape := ⟨2, ![16384, 1]⟩
abbrev S4x4x1024x8x512 : Shape := ⟨5, ![4, 4, 1024, 8, 512]⟩
abbrev S512x512 : Shape := ⟨2, ![512, 512]⟩
abbrev S4x1x1024x8x512 : Shape := ⟨5, ![4, 1, 1024, 8, 512]⟩
abbrev S4x1024x8x512 : Shape := ⟨4, ![4, 1024, 8, 512]⟩
abbrev S1024x1 : Shape := ⟨2, ![1024, 1]⟩
abbrev S1024 : Shape := ⟨1, ![1024]⟩
abbrev S1x1024x1x1 : Shape := ⟨4, ![1, 1024, 1, 1]⟩
abbrev S1x4x1024x8x512 : Shape := ⟨5, ![1, 4, 1024, 8, 512]⟩
abbrev S4x4096x4096 : Shape := ⟨3, ![4, 4096, 4096]⟩

abbrev nBuf : Space → Nat
  | .hbm => 128
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S512x1024, .bf16⟩
  | .hbm, ⟨3, _⟩ => ⟨S1024x8, .f32⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S4x4x1024x8x512, .f32⟩
  | .hbm, ⟨20, _⟩ => ⟨S512x1024, .f32⟩
  | .hbm, ⟨21, _⟩ => ⟨S512x512, .f32⟩
  | .hbm, ⟨22, _⟩ => ⟨S4x4x1024x8x512, .f32⟩
  | .hbm, ⟨23, _⟩ => ⟨S512x512, .f32⟩
  | .hbm, ⟨24, _⟩ => ⟨S4x4x1024x8x512, .f32⟩
  | .hbm, ⟨25, _⟩ => ⟨S4x4x1024x8x512, .f32⟩
  | .hbm, ⟨26, _⟩ => ⟨S4x1x1024x8x512, .f32⟩
  | .hbm, ⟨27, _⟩ => ⟨S4x1024x8x512, .f32⟩
  | .hbm, ⟨28, _⟩ => ⟨S4x1x1024x8x512, .f32⟩
  | .hbm, ⟨29, _⟩ => ⟨S4x1024x8x512, .f32⟩
  | .hbm, ⟨30, _⟩ => ⟨S4x1x1024x8x512, .f32⟩
  | .hbm, ⟨31, _⟩ => ⟨S4x1024x8x512, .f32⟩
  | .hbm, ⟨32, _⟩ => ⟨S4x1x1024x8x512, .f32⟩
  | .hbm, ⟨33, _⟩ => ⟨S4x1024x8x512, .f32⟩
  | .hbm, ⟨34, _⟩ => ⟨S4x1x1024x8x512, .f32⟩
  | .hbm, ⟨35, _⟩ => ⟨S4x1024x8x512, .f32⟩
  | .hbm, ⟨36, _⟩ => ⟨S4x1x1024x8x512, .f32⟩
  | .hbm, ⟨37, _⟩ => ⟨S4x1024x8x512, .f32⟩
  | .hbm, ⟨38, _⟩ => ⟨S4x1x1024x8x512, .f32⟩
  | .hbm, ⟨39, _⟩ => ⟨S4x1024x8x512, .f32⟩
  | .hbm, ⟨40, _⟩ => ⟨S4x1x1024x8x512, .f32⟩
  | .hbm, ⟨41, _⟩ => ⟨S4x1024x8x512, .f32⟩
  | .hbm, ⟨42, _⟩ => ⟨S4x1024x8x512, .f32⟩
  | .hbm, ⟨43, _⟩ => ⟨S4x1024x8x512, .f32⟩
  | .hbm, ⟨44, _⟩ => ⟨S4x1024x8x512, .f32⟩
  | .hbm, ⟨45, _⟩ => ⟨S4x1024x8x512, .f32⟩
  | .hbm, ⟨46, _⟩ => ⟨S4x1024x8x512, .f32⟩
  | .hbm, ⟨47, _⟩ => ⟨S4x1024x8x512, .f32⟩
  | .hbm, ⟨48, _⟩ => ⟨S4x1024x8x512, .f32⟩
  | .hbm, ⟨49, _⟩ => ⟨S4x1024x8x512, .f32⟩
  | .hbm, ⟨50, _⟩ => ⟨S4x1024x8x512, .f32⟩
  | .hbm, ⟨51, _⟩ => ⟨S4x1024x8x512, .f32⟩
  | .hbm, ⟨52, _⟩ => ⟨S4x1024x8x512, .f32⟩
  | .hbm, ⟨53, _⟩ => ⟨S4x1024x8x512, .f32⟩
  | .hbm, ⟨54, _⟩ => ⟨S4x1024x8x512, .f32⟩
  | .hbm, ⟨55, _⟩ => ⟨S4x1024x8x512, .f32⟩
  | .hbm, ⟨56, _⟩ => ⟨S4x1024x8x512, .f32⟩
  | .hbm, ⟨57, _⟩ => ⟨S4x1024x8x512, .f32⟩
  | .hbm, ⟨58, _⟩ => ⟨S4x1024x8x512, .f32⟩
  | .hbm, ⟨59, _⟩ => ⟨S4x1024x8x512, .f32⟩
  | .hbm, ⟨60, _⟩ => ⟨S4x1024x8x512, .f32⟩
  | .hbm, ⟨61, _⟩ => ⟨S4x1024x8x512, .f32⟩
  | .hbm, ⟨62, _⟩ => ⟨S4x1024x8x512, .f32⟩
  | .hbm, ⟨63, _⟩ => ⟨S4x1024x8x512, .f32⟩
  | .hbm, ⟨64, _⟩ => ⟨S4x1024x8x512, .f32⟩
  | .hbm, ⟨65, _⟩ => ⟨S4x1024x8x512, .f32⟩
  | .hbm, ⟨66, _⟩ => ⟨S1024x1, .f32⟩
  | .hbm, ⟨67, _⟩ => ⟨S1024, .f32⟩
  | .hbm, ⟨68, _⟩ => ⟨S1x1024x1x1, .f32⟩
  | .hbm, ⟨69, _⟩ => ⟨S1024x1, .f32⟩
  | .hbm, ⟨70, _⟩ => ⟨S1024, .f32⟩
  | .hbm, ⟨71, _⟩ => ⟨S1x1024x1x1, .f32⟩
  | .hbm, ⟨72, _⟩ => ⟨S4x1024x8x512, .f32⟩
  | .hbm, ⟨73, _⟩ => ⟨S4x1024x8x512, .f32⟩
  | .hbm, ⟨74, _⟩ => ⟨S4x1024x8x512, .f32⟩
  | .hbm, ⟨75, _⟩ => ⟨S4x1024x8x512, .f32⟩
  | .hbm, ⟨76, _⟩ => ⟨S4x1024x8x512, .f32⟩
  | .hbm, ⟨77, _⟩ => ⟨S4x1024x8x512, .f32⟩
  | .hbm, ⟨78, _⟩ => ⟨S4x1024x8x512, .f32⟩
  | .hbm, ⟨79, _⟩ => ⟨S4x1024x8x512, .f32⟩
  | .hbm, ⟨80, _⟩ => ⟨S4x1024x8x512, .f32⟩
  | .hbm, ⟨81, _⟩ => ⟨S4x1024x8x512, .f32⟩
  | .hbm, ⟨82, _⟩ => ⟨S1024x1, .f32⟩
  | .hbm, ⟨83, _⟩ => ⟨S1024, .f32⟩
  | .hbm, ⟨84, _⟩ => ⟨S1x1024x1x1, .f32⟩
  | .hbm, ⟨85, _⟩ => ⟨S1024x1, .f32⟩
  | .hbm, ⟨86, _⟩ => ⟨S1024, .f32⟩
  | .hbm, ⟨87, _⟩ => ⟨S1x1024x1x1, .f32⟩
  | .hbm, ⟨88, _⟩ => ⟨S4x1024x8x512, .f32⟩
  | .hbm, ⟨89, _⟩ => ⟨S4x1024x8x512, .f32⟩
  | .hbm, ⟨90, _⟩ => ⟨S4x1024x8x512, .f32⟩
  | .hbm, ⟨91, _⟩ => ⟨S4x1024x8x512, .f32⟩
  | .hbm, ⟨92, _⟩ => ⟨S4x1024x8x512, .f32⟩
  | .hbm, ⟨93, _⟩ => ⟨S4x1024x8x512, .f32⟩
  | .hbm, ⟨94, _⟩ => ⟨S4x1024x8x512, .f32⟩
  | .hbm, ⟨95, _⟩ => ⟨S4x1024x8x512, .f32⟩
  | .hbm, ⟨96, _⟩ => ⟨S4x1024x8x512, .f32⟩
  | .hbm, ⟨97, _⟩ => ⟨S4x1024x8x512, .f32⟩
  | .hbm, ⟨98, _⟩ => ⟨S1024x1, .f32⟩
  | .hbm, ⟨99, _⟩ => ⟨S1024, .f32⟩
  | .hbm, ⟨100, _⟩ => ⟨S1x1024x1x1, .f32⟩
  | .hbm, ⟨101, _⟩ => ⟨S1024x1, .f32⟩
  | .hbm, ⟨102, _⟩ => ⟨S1024, .f32⟩
  | .hbm, ⟨103, _⟩ => ⟨S1x1024x1x1, .f32⟩
  | .hbm, ⟨104, _⟩ => ⟨S4x1024x8x512, .f32⟩
  | .hbm, ⟨105, _⟩ => ⟨S4x1024x8x512, .f32⟩
  | .hbm, ⟨106, _⟩ => ⟨S4x1024x8x512, .f32⟩
  | .hbm, ⟨107, _⟩ => ⟨S4x1024x8x512, .f32⟩
  | .hbm, ⟨108, _⟩ => ⟨S4x1024x8x512, .f32⟩
  | .hbm, ⟨109, _⟩ => ⟨S4x1024x8x512, .f32⟩
  | .hbm, ⟨110, _⟩ => ⟨S4x1024x8x512, .f32⟩
  | .hbm, ⟨111, _⟩ => ⟨S4x1024x8x512, .f32⟩
  | .hbm, ⟨112, _⟩ => ⟨S4x1024x8x512, .f32⟩
  | .hbm, ⟨113, _⟩ => ⟨S4x1024x8x512, .f32⟩
  | .hbm, ⟨114, _⟩ => ⟨S1x4x1024x8x512, .f32⟩
  | .hbm, ⟨115, _⟩ => ⟨S1x4x1024x8x512, .f32⟩
  | .hbm, ⟨116, _⟩ => ⟨S1x4x1024x8x512, .f32⟩
  | .hbm, ⟨117, _⟩ => ⟨S1x4x1024x8x512, .f32⟩
  | .hbm, ⟨118, _⟩ => ⟨S4x4x1024x8x512, .f32⟩
  | .hbm, ⟨119, _⟩ => ⟨S4x4096x4096, .f32⟩
  | .hbm, ⟨120, _⟩ => ⟨S4x4096x4096, .bf16⟩
  | .hbm, ⟨121, _⟩ => ⟨S1x4x1024x8x512, .f32⟩
  | .hbm, ⟨122, _⟩ => ⟨S1x4x1024x8x512, .f32⟩
  | .hbm, ⟨123, _⟩ => ⟨S1x4x1024x8x512, .f32⟩
  | .hbm, ⟨124, _⟩ => ⟨S1x4x1024x8x512, .f32⟩
  | .hbm, ⟨125, _⟩ => ⟨S4x4x1024x8x512, .f32⟩
  | .hbm, ⟨126, _⟩ => ⟨S4x4096x4096, .f32⟩
  | .hbm, ⟨127, _⟩ => ⟨S4x4096x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩

abbrev nD : Nat := 1
abbrev τ : Topo := Topo.v7x

variable {F : FTy → Type} [FloatOps F]
-- ==== Proof.AttnMath.lean ====
/-
  The mathematics of one output row of differential attention, over the extended reals.

  `kernelDiff` is the difference of the two weighted means as the kernel computes it: powers of two of the scores, the values
  summed before the division by the sum of the powers. `refDiff` is the same difference as the reference computes it: a
  softmax of each map, the weights subtracted, then the sum over the values. For real scores, values and lambda both are the
  real number `headDiff`, whatever number is subtracted from the scores inside the exponentials.
-/
module

public import Idealize.ShloMosaic.Lib.Pointwise

@[expose] public section

noncomputable section

namespace Cert.Attn

open Idealize.ShloMosaic

/-- The word of minus infinity. -/
abbrev negInf : EReal := Ideal.ofBits .f32 0xFF800000#32

theorem negInf_eq : negInf = ⊥ := by
  simp [negInf, Ideal.ofBits, Ideal.ieee]

theorem two_eq : Ideal.ofBits .f32 0x40000000#32 = ((2 : ℝ) : EReal) := by
  simp [Ideal.ofBits, Ideal.ieee, -EReal.coe_mul, ← EReal.coe_mul]
  norm_num

/-- The word of 0.2 stands for a real number. -/
theorem fifth_real : ∃ r : ℝ, Ideal.ofBits .f32 0x3E4CCCCD#32 = (r : EReal) := by
  have hb : Ideal.ofBits .f32 0x3E4CCCCD#32 ≠ ⊥ := by
    simp [Ideal.ofBits, Ideal.ieee, -EReal.coe_mul, ← EReal.coe_mul]
  have ht : Ideal.ofBits .f32 0x3E4CCCCD#32 ≠ ⊤ := by
    simp [Ideal.ofBits, Ideal.ieee, -EReal.coe_mul, ← EReal.coe_mul]
  exact ⟨_, (EReal.coe_toReal ht hb).symm⟩

variable {n : Nat}

/-- The powers of two of the scores, each row's maximum subtracted first. -/
def pow2 (s : Fin n → EReal) (x : Fin n) : EReal := Ideal.exp2 (s x - Finset.univ.fold max negInf s)

/-- The difference of the two maps as the kernel computes it. -/
def kernelDiff (s0 s1 : Fin n → EReal) (lam : EReal) (v : Fin n → EReal) : EReal :=
  (∑ x, pow2 s0 x * v x) * Ideal.div 1 (∑ x, pow2 s0 x) - (∑ x, pow2 s1 x * v x) * Ideal.div lam (∑ x, pow2 s1 x)

/-- The exponential of a score, its row's maximum subtracted first. -/
def expo (t : Fin n → EReal) (x : Fin n) : EReal := Ideal.exp (t x - max negInf (Finset.univ.fold max negInf t))

/-- The softmax weight of a score among its row. -/
def softmaxAt (t : Fin n → EReal) (x : Fin n) : EReal := Ideal.div (expo t x) (∑ y, expo t y)

/-- The difference of the two maps as the reference computes it. -/
def refDiff (t0 t1 : Fin n → EReal) (lam : EReal) (v : Fin n → EReal) : EReal :=
  ∑ x, v x * (softmaxAt t0 x - lam * softmaxAt t1 x)

/-- The weight of a score in base two. -/
def weight (s : Fin n → ℝ) (x : Fin n) : ℝ := (2 : ℝ) ^ (s x) / ∑ y, (2 : ℝ) ^ (s y)

/-- The real number both sides compute. -/
def headDiff (s0 s1 : Fin n → ℝ) (lam : ℝ) (v : Fin n → ℝ) : ℝ := ∑ x, v x * (weight s0 x - lam * weight s1 x)

theorem coe_sum {ι : Type*} (t : Finset ι) (f : ι → ℝ) : ((∑ x ∈ t, f x : ℝ) : EReal) = ∑ x ∈ t, (f x : EReal) := by
  classical
  induction t using Finset.induction_on with
  | empty => simp
  | insert a t ha ih => rw [Finset.sum_insert ha, Finset.sum_insert ha, EReal.coe_add, ih]

/-- The maximum of finitely many real numbers, at least one, is a real number. -/
theorem fold_real [NeZero n] (s : Fin n → ℝ) :
    ∃ m : ℝ, Finset.univ.fold max negInf (fun x => (s x : EReal)) = (m : EReal) := by
  have hb : Finset.univ.fold max negInf (fun x => (s x : EReal)) ≠ ⊥ := by
    intro h
    have h1 : (s 0 : EReal) ≤ Finset.univ.fold max negInf (fun x => (s x : EReal)) :=
      Finset.le_fold_max _ |>.mpr (Or.inr ⟨0, Finset.mem_univ _, le_rfl⟩)
    rw [h] at h1
    exact EReal.coe_ne_bot _ (le_bot_iff.mp h1)
  have ht : Finset.univ.fold max negInf (fun x => (s x : EReal)) ≠ ⊤ := by
    refine ne_of_lt ?_
    rw [Finset.fold_max_lt]
    exact ⟨by rw [negInf_eq]; exact bot_lt_top, fun x _ => EReal.coe_lt_top _⟩
  exact ⟨_, (EReal.coe_toReal ht hb).symm⟩

theorem sum_pow_pos [NeZero n] (s : Fin n → ℝ) : 0 < ∑ y, (2 : ℝ) ^ (s y) :=
  Finset.sum_pos (fun y _ => Real.rpow_pos_of_pos (by norm_num) _) ⟨0, Finset.mem_univ _⟩

/-- Each power is the power of the score times one positive number, the same along the row. -/
theorem pow2_real [NeZero n] (s : Fin n → ℝ) :
    ∃ c : ℝ, 0 < c ∧ ∀ x, pow2 (fun x => (s x : EReal)) x = (((2 : ℝ) ^ (s x) * c : ℝ) : EReal) := by
  obtain ⟨m, hm⟩ := fold_real s
  refine ⟨(2 : ℝ) ^ (-m), Real.rpow_pos_of_pos (by norm_num) _, fun x => ?_⟩
  rw [pow2, hm, ← EReal.coe_sub, Ideal.exp2_coe, ← Real.rpow_add (by norm_num), ← sub_eq_add_neg]
  rfl

/-- Each exponential of the scores times `log 2` is the power of two of the score times one positive number. -/
theorem expo_real [NeZero n] (s : Fin n → ℝ) :
    ∃ c : ℝ, 0 < c ∧ ∀ x, expo (fun x => (s x : EReal) * Ideal.log (Ideal.ofBits .f32 0x40000000#32)) x
      = (((2 : ℝ) ^ (s x) * c : ℝ) : EReal) := by
  have hl : Ideal.log (Ideal.ofBits .f32 0x40000000#32) = ((Real.log 2 : ℝ) : EReal) := by
    rw [two_eq, Ideal.log_coe, if_neg (by norm_num)]
  have hs : (fun x => (s x : EReal) * Ideal.log (Ideal.ofBits .f32 0x40000000#32)) = fun x => ((s x * Real.log 2 : ℝ) : EReal) := by
    funext x; rw [hl, EReal.coe_mul]
  rw [hs]
  obtain ⟨m, hm⟩ := fold_real (fun x => s x * Real.log 2)
  refine ⟨Real.exp (-m), Real.exp_pos _, fun x => ?_⟩
  rw [expo, hm, negInf_eq, max_eq_right bot_le, ← EReal.coe_sub, Ideal.exp_coe, Real.rpow_def_of_pos (by norm_num), ← Real.exp_add]
  congr 2
  ring

theorem div_real (a : ℝ) {b : ℝ} (hb : b ≠ 0) : Ideal.div (a : EReal) (b : EReal) = ((a / b : ℝ) : EReal) := by
  rw [Ideal.div_coe hb, ← EReal.coe_mul, mul_one_div]

/-- The kernel's difference, for real scores, values and lambda. -/
theorem kernelDiff_real [NeZero n] (s0 s1 v : Fin n → ℝ) (lam : ℝ) :
    kernelDiff (fun x => (s0 x : EReal)) (fun x => (s1 x : EReal)) lam (fun x => (v x : EReal)) = (headDiff s0 s1 lam v : EReal) := by
  obtain ⟨c0, h0, e0⟩ := pow2_real s0
  obtain ⟨c1, h1, e1⟩ := pow2_real s1
  have p0 := sum_pow_pos s0
  have p1 := sum_pow_pos s1
  have hn0 : (∑ x, (2 : ℝ) ^ (s0 x) * c0) ≠ 0 := by rw [← Finset.sum_mul]; positivity
  have hn1 : (∑ x, (2 : ℝ) ^ (s1 x) * c1) ≠ 0 := by rw [← Finset.sum_mul]; positivity
  rw [kernelDiff]
  simp only [e0, e1, ← EReal.coe_mul, ← coe_sum]
  rw [← EReal.coe_one, div_real _ hn0, div_real _ hn1, ← EReal.coe_mul, ← EReal.coe_mul, ← EReal.coe_sub]
  congr 1
  rw [← Finset.sum_mul, ← Finset.sum_mul]
  simp only [headDiff, weight, mul_sub, Finset.sum_sub_distrib]
  congr 1
  · rw [Finset.sum_mul]
    refine Finset.sum_congr rfl fun x _ => ?_
    field_simp
  · rw [Finset.sum_mul]
    refine Finset.sum_congr rfl fun x _ => ?_
    field_simp

theorem softmaxAt_real [NeZero n] (s : Fin n → ℝ) (x : Fin n) :
    softmaxAt (fun x => (s x : EReal) * Ideal.log (Ideal.ofBits .f32 0x40000000#32)) x = (weight s x : EReal) := by
  obtain ⟨c, h, e⟩ := expo_real s
  have p := sum_pow_pos s
  have hn : (∑ x, (2 : ℝ) ^ (s x) * c) ≠ 0 := by rw [← Finset.sum_mul]; positivity
  rw [softmaxAt]
  simp only [e, ← coe_sum]
  rw [div_real _ hn, ← Finset.sum_mul, weight]
  congr 1
  field_simp

/-- The reference's difference, for real scores, values and lambda: the scores are in units of `log 2`. -/
theorem refDiff_real [NeZero n] (s0 s1 v : Fin n → ℝ) (lam : ℝ) :
    refDiff (fun x => (s0 x : EReal) * Ideal.log (Ideal.ofBits .f32 0x40000000#32))
      (fun x => (s1 x : EReal) * Ideal.log (Ideal.ofBits .f32 0x40000000#32)) lam (fun x => (v x : EReal))
      = (headDiff s0 s1 lam v : EReal) := by
  simp only [refDiff, softmaxAt_real, ← EReal.coe_mul, ← EReal.coe_sub, ← coe_sum, headDiff]

/-- The root-mean-square normalisation of a row, its scale and the constant. -/
def normAt {n : Nat} (o w : Fin n → EReal) (e : Fin n) : EReal :=
  o e * Ideal.rsqrt (Ideal.div (∑ x, o x * o x) (Ideal.ofBits .f32 0x43800000#32) + Ideal.ofBits .f32 0x3727C5AC#32) * w e
    * Ideal.ofBits .f32 0x3F4CCCCD#32

/-- Lambda from the sums of the products of its vectors. -/
def lamOf (a b : EReal) : EReal := Ideal.exp a - Ideal.exp b + Ideal.ofBits .f32 0x3E4CCCCD#32

theorem lamOf_real (a b : ℝ) : ∃ r : ℝ, lamOf a b = (r : EReal) := by
  obtain ⟨r, hr⟩ := fifth_real
  exact ⟨Real.exp a - Real.exp b + r, by rw [lamOf, hr, Ideal.exp_coe, Ideal.exp_coe, EReal.coe_add, EReal.coe_sub]⟩

end Cert.Attn

end
-- ==== Proof.AttnSpec.lean ====
/-
  Where the attention's numbers lie in its arguments, and the kernel's result in these terms.

  The argument `q` holds the queries, keys and values of all heads side by side, one row per position, the sequences one
  after another. `score` is a score in these terms, `lamAt` is lambda, `attnAt` an element of the result.
-/
module

public import proofs.«01_k».proof.Proof.AttnMath

@[expose] public section

noncomputable section

namespace Cert.Attn

open Idealize.ShloMosaic

/-- The three packed projections: queries, keys and values of all heads side by side. -/
abbrev Qkv := (⟨2, ![16384, 12288]⟩ : Shape).Idx → EReal

/-- One of lambda's four vectors. -/
abbrev LamVec := (⟨2, ![1, 128]⟩ : Shape).Idx → EReal

/-- The row of position `i` of sequence `b`. -/
abbrev row (b : Fin 4) (i : Fin 4096) : Fin 16384 := ⟨b * 4096 + i, by omega⟩

/-- The query channel `d` of map `c` in head `h`. -/
abbrev qCol (h : Fin 16) (c : Fin 2) (d : Fin 128) : Fin 12288 := ⟨h * 256 + c * 128 + d, by omega⟩

/-- The key channel `d` of map `c` in head `h`. -/
abbrev kCol (h : Fin 16) (c : Fin 2) (d : Fin 128) : Fin 12288 := ⟨4096 + (h * 256 + c * 128 + d), by omega⟩

/-- The value channel `e` of head `h`. -/
abbrev vCol (h : Fin 16) (e : Fin 256) : Fin 12288 := ⟨8192 + (h * 256 + e), by omega⟩

/-- The score of position `i` against position `j` in map `c` of head `h`. -/
def score (q : Qkv) (b : Fin 4) (h : Fin 16) (c : Fin 2) (i j : Fin 4096) : EReal :=
  ∑ d, q (ix2 (row b i) (qCol h c d)) * q (ix2 (row b j) (kCol h c d))

/-- Lambda from its four vectors. -/
def lamAt (a b c d : LamVec) : EReal :=
  lamOf (∑ x : Fin 128, a (ix2 0 x) * b (ix2 0 x)) (∑ x : Fin 128, c (ix2 0 x) * d (ix2 0 x))

/-- The result at row `r`, channel `e`, as the kernel computes it. -/
def attnAt (q : Qkv) (x1 x2 x3 x4 : LamVec) (x5 : (⟨2, ![1, 256]⟩ : Shape).Idx → EReal) (r : Fin 16384) (e : Fin 4096) : EReal :=
  normAt (fun d : Fin 256 =>
      kernelDiff (score q ⟨r / 4096, by omega⟩ ⟨e / 256, by omega⟩ 0 ⟨r % 4096, by omega⟩)
        (score q ⟨r / 4096, by omega⟩ ⟨e / 256, by omega⟩ 1 ⟨r % 4096, by omega⟩) (lamAt x1 x2 x3 x4)
        (fun x => q (ix2 (row ⟨r / 4096, by omega⟩ x) (vCol ⟨e / 256, by omega⟩ d))))
    (fun d => x5 (ix2 0 d)) ⟨e % 256, by omega⟩

end Cert.Attn

end
-- ==== Proof.AttnGroup.lean ====
/-
  One row group of the attention body: 128 query rows of one head, both maps, over all 4096 keys.

  The body computes eight such groups one after another, its steps interleaved. Here the computation of a group is written
  once (`groupOut`), and each of the eight stored pieces of the output block is shown to be that function of the group's
  query tiles.
-/
module

public import proofs.«01_k».proof.Proof.Gen.KernelIdeal.Value

@[expose] public section

noncomputable section

namespace Cert.Attn

open Cert.KernelIdeal Cert.KernelIdeal.Gen Idealize.ShloMosaic

variable {F : FTy → Type} [FloatOps F]

/-- The scores of a query tile against one half of the key block. -/
def scores (q : Vec F S128x128 .bf16) (k : FVec F S4096x128 .bf16) : FVec F S128x4096 .f32 :=
  matmul dot_S128x128_S4096x128_S128x4096_1_1_0_0_n_n none q k (constant S128x4096 .f32 0x00000000#32)

/-- The keys of map 0: the first 128 channels of the key block. -/
def keys0 (k : Vec F S4096x256 .bf16) : FVec F S4096x128 .bf16 :=
  extractStridedSlice S4096x128 ![0, 0] k slices_S4096x256_o0_0_S4096x128

/-- The keys of map 1: the last 128 channels of the key block. -/
def keys1 (k : Vec F S4096x256 .bf16) : FVec F S4096x128 .bf16 :=
  extractStridedSlice S4096x128 ![0, 128] k slices_S4096x256_o0_128_S4096x128

/-- Each score's power of two, after its row's maximum is subtracted. -/
def powers (s : FVec F S128x4096 .f32) : FVec F S128x4096 .f32 :=
  exp2 (subf s (broadcastTo S128x4096
    (shapeCast S128x1 (multiReduction .maximumf [1] S128 s 0xFF800000#32 reduces_S128x4096_S128 (.inl rfl) rfl)
      shapeCasts_S128_S128x1) broadcasts_S128x1_S128x4096))

/-- The sum of each row. -/
def rowSum (p : FVec F S128x4096 .f32) : FVec F S128x1 .f32 :=
  shapeCast S128x1 (multiReduction .add [1] S128 p 0x00000000#32 reduces_S128x4096_S128 (.inl rfl) rfl)
    shapeCasts_S128_S128x1

/-- The values weighted by the powers, not yet divided by the row sums. -/
def weighted (p : FVec F S128x4096 .f32) (v : Vec F S4096x256 .bf16) : FVec F S128x256 .f32 :=
  matmul dot_S128x4096_S4096x256_S128x256_1_0_0_1_n_n none (truncf .bf16 p bitsLt_bf16_f32) v
    (constant S128x256 .f32 0x00000000#32)

/-- The difference of the two maps' outputs, from their powers. -/
def differ (lam : FVec F S1x1 .f32) (p0 p1 : FVec F S128x4096 .f32) (v : Vec F S4096x256 .bf16) : FVec F S128x256 .f32 :=
  subf
    (mulf (weighted p0 v) (broadcastTo S128x256
      (divf (broadcast S128x1 (Scalar.ofBits .f32 0x3F800000#32)) (rowSum p0)) broadcasts_S128x1_S128x256))
    (mulf (weighted p1 v) (broadcastTo S128x256
      (divf (broadcastTo S128x1 lam broadcasts_S1x1_S128x1) (rowSum p1)) broadcasts_S128x1_S128x256))

/-- The root-mean-square normalisation of the rows, scaled by the weight vector and by the constant. -/
def normed (o : FVec F S128x256 .f32) (sub : Vec F S1x256 .f32) : FVec F S128x256 .bf16 :=
  truncf .bf16
    (mulf
      (mulf
        (mulf o (broadcastTo S128x256
          (rsqrt (addf
            (divf
              (shapeCast S128x1 (multiReduction .add [1] S128 (mulf o o) 0x00000000#32 reduces_S128x256_S128 (.inl rfl) rfl)
                shapeCasts_S128_S128x1)
              (broadcast S128x1 (Scalar.ofBits .f32 0x43800000#32)))
            (broadcast S128x1 (Scalar.ofBits .f32 0x3727C5AC#32))))
          broadcasts_S128x1_S128x256))
        (broadcastTo S128x256 sub broadcasts_S1x256_S128x256))
      (broadcast S128x256 (Scalar.ofBits .f32 0x3F4CCCCD#32)))
    bitsLt_bf16_f32

/-- What a row group stores, from its two query tiles, the head's keys and values, lambda and the weight vector. -/
def groupOut (lam : FVec F S1x1 .f32) (q0 q1 : Vec F S128x128 .bf16) (k v : Vec F S4096x256 .bf16) (sub : Vec F S1x256 .f32) :
    FVec F S128x256 .bf16 :=
  normed (differ lam (powers (scores q0 (keys0 k))) (powers (scores q1 (keys1 k))) v) sub

/-- The output block is eight row groups, each at its 128 rows, the last one written first in the list. -/
theorem out_eq_groups (x0 : Vec F S1024x256 .bf16) (x1 x2 : Vec F S4096x256 .bf16) (x3 x4 x5 x6 : Vec F S1x128 .f32)
    (x7 : Vec F S1x256 .f32) :
    out0_8 x0 x1 x2 x3 x4 x5 x6 x7 =
      let lam := k0_pay2 (View.ld x3 r0_0) (View.ld x4 r0_0) (View.ld x5 r0_0) (View.ld x6 r0_0)
      View.canon [
        ⟨r0_26, groupOut lam (View.ld x0 r0_23) (View.ld x0 r0_24) (View.ld x1 r0_1) (View.ld x2 r0_1) (View.ld x7 r0_6)⟩,
        ⟨r0_25, groupOut lam (View.ld x0 r0_20) (View.ld x0 r0_21) (View.ld x1 r0_1) (View.ld x2 r0_1) (View.ld x7 r0_6)⟩,
        ⟨r0_22, groupOut lam (View.ld x0 r0_17) (View.ld x0 r0_18) (View.ld x1 r0_1) (View.ld x2 r0_1) (View.ld x7 r0_6)⟩,
        ⟨r0_19, groupOut lam (View.ld x0 r0_14) (View.ld x0 r0_15) (View.ld x1 r0_1) (View.ld x2 r0_1) (View.ld x7 r0_6)⟩,
        ⟨r0_16, groupOut lam (View.ld x0 r0_11) (View.ld x0 r0_12) (View.ld x1 r0_1) (View.ld x2 r0_1) (View.ld x7 r0_6)⟩,
        ⟨r0_13, groupOut lam (View.ld x0 r0_8) (View.ld x0 r0_9) (View.ld x1 r0_1) (View.ld x2 r0_1) (View.ld x7 r0_6)⟩,
        ⟨r0_10, groupOut lam (View.ld x0 r0_4) (View.ld x0 r0_5) (View.ld x1 r0_1) (View.ld x2 r0_1) (View.ld x7 r0_6)⟩,
        ⟨r0_7, groupOut lam (View.ld x0 r0_2) (View.ld x0 r0_3) (View.ld x1 r0_1) (View.ld x2 r0_1) (View.ld x7 r0_6)⟩] := by
  unfold_out out0_8
  rfl

end Cert.Attn

end
-- ==== Proof.AttnBlock.lean ====
/-
  The output block of the attention body at one element.

  Element `(r, e)` of the block is the normalised difference of query row `r` over all keys of the head, whichever of the
  eight row groups computed it.
-/
module

public import proofs.«01_k».proof.Proof.AttnMath
public import proofs.«01_k».proof.Proof.AttnGroup
public import Idealize.ShloMosaic.Lib.Pipeline.ValueKit.Tiles

@[expose] public section

set_option maxRecDepth 16384

noncomputable section

namespace Cert.Attn

open Cert.KernelIdeal Cert.KernelIdeal.Gen Idealize.ShloMosaic

/-- Channel `d` of map `c` within a head. -/
abbrev mapCol (c : Fin 2) (d : Fin 128) : Fin 256 := ⟨c * 128 + d, by omega⟩

/-- The score of query row `r` against key `j`, in map `c`, within a head's blocks. -/
def blockScore (x0 : Vec Ideal S1024x256 .bf16) (x1 : Vec Ideal S4096x256 .bf16) (c : Fin 2) (r : Fin 1024) (j : Fin 4096) : EReal :=
  ∑ d, x0 (ix2 r (mapCol c d)) * x1 (ix2 j (mapCol c d))

/-- The output block at row `r`, channel `e`, from the staged blocks. -/
def blockAt (x0 : Vec Ideal S1024x256 .bf16) (x1 x2 : Vec Ideal S4096x256 .bf16) (x3 x4 x5 x6 : Vec Ideal S1x128 .f32)
    (x7 : Vec Ideal S1x256 .f32) (r : Fin 1024) (e : Fin 256) : EReal :=
  normAt (fun d => kernelDiff (blockScore x0 x1 0 r) (blockScore x0 x1 1 r)
      (lamOf (∑ x : Fin 128, x3 (ix2 0 x) * x4 (ix2 0 x)) (∑ x : Fin 128, x5 (ix2 0 x) * x6 (ix2 0 x)))
      (fun x => x2 (ix2 x d)))
    (fun d => x7 (ix2 0 d)) e

theorem lam_at (x3 x4 x5 x6 : Vec Ideal S1x128 .f32) :
    k0_pay2 (F := Ideal) x3 x4 x5 x6 (ix2 0 0)
      = lamOf (∑ x : Fin 128, x3 (ix2 0 x) * x4 (ix2 0 x)) (∑ x : Fin 128, x5 (ix2 0 x) * x6 (ix2 0 x)) := by
  unfold k0_pay2
  pointwise []
  rfl

theorem groupOut_at (lam : FVec Ideal S1x1 .f32) (q0 q1 : Vec Ideal S128x128 .bf16) (k v : Vec Ideal S4096x256 .bf16)
    (sub : Vec Ideal S1x256 .f32) (r : Fin 128) (e : Fin 256) :
    groupOut (F := Ideal) lam q0 q1 k v sub (ix2 r e)
      = normAt (fun d => kernelDiff (fun j => ∑ d, q0 (ix2 r d) * k (ix2 j ⟨d, by omega⟩))
          (fun j => ∑ d, q1 (ix2 r d) * k (ix2 j ⟨128 + d, by omega⟩)) (lam (ix2 0 0)) (fun x => v (ix2 x d)))
        (fun d => sub (ix2 0 d)) e := by
  pointwise [groupOut, normed, differ, weighted, powers, rowSum, scores, keys0, keys1]
  rfl

/-- A row group whose query tiles are rows `o …` of the query block stores the block's elements at these rows. -/
theorem group_eq (x0 : Vec Ideal S1024x256 .bf16) (x1 x2 : Vec Ideal S4096x256 .bf16) (x3 x4 x5 x6 : Vec Ideal S1x128 .f32)
    (x7 : Vec Ideal S1x256 .f32) (q0 q1 : Vec Ideal S128x128 .bf16) (o : Nat) (ho : o + 128 ≤ 1024)
    (h0 : ∀ (r d : Fin 128), q0 (ix2 r d) = x0 (ix2 ⟨o + r, by omega⟩ (mapCol 0 d)))
    (h1 : ∀ (r d : Fin 128), q1 (ix2 r d) = x0 (ix2 ⟨o + r, by omega⟩ (mapCol 1 d)))
    (x : S128x256.Idx) (r : Fin 1024) (e : Fin 256) (hr : (r : Nat) = o + x 0) (he : (e : Nat) = x 1) :
    groupOut (F := Ideal) (k0_pay2 x3 x4 x5 x6) q0 q1 x1 x2 x7 x = blockAt x0 x1 x2 x3 x4 x5 x6 x7 r e := by
  obtain ⟨a, b, rfl⟩ : ∃ (a : Fin 128) (b : Fin 256), x = ix2 a b := ⟨x 0, x 1, eq_ix2 x⟩
  have hr' : r = ⟨o + a, by omega⟩ := Fin.ext hr
  have he' : e = b := Fin.ext he
  rw [hr', he']
  have e0 : ∀ d : Fin 128, (⟨d, by omega⟩ : Fin 256) = mapCol 0 d := fun d => Fin.ext (by simp)
  have e1 : ∀ d : Fin 128, (⟨128 + d, by omega⟩ : Fin 256) = mapCol 1 d := fun d => Fin.ext (by simp)
  rw [groupOut_at, lam_at, blockAt]
  simp only [h0, h1, e0, e1]
  rfl

/-- A load of a whole rank-2 buffer from its corner is the buffer. -/
theorem ld_corner {a b : Nat} {t : EltTy} (z : (⟨2, ![a, b]⟩ : Shape).Idx → Elt Ideal t)
    (inb : ∀ i, (![0, 0] : Fin 2 → Nat) i + (⟨2, ![a, b]⟩ : Shape).size i ≤ (⟨2, ![a, b]⟩ : Shape).size i) :
    View.ld z (Rect.unit (s := ⟨2, ![a, b]⟩) ![0, 0] (⟨2, ![a, b]⟩ : Shape).size inb) = z := by
  funext x
  refine View.ld_unit_apply_of _ _ _ _ x x fun i => ?_
  fin_cases i <;> simp

/-- A query tile: 128 rows of the query block from row `o`, the channels of map `c`. -/
theorem ld_tile (x0 : Vec Ideal S1024x256 .bf16) (o : Nat) (ho : o + 128 ≤ 1024) (c : Fin 2) (k : Nat) (hk : k = c * 128)
    (inb : ∀ i, (![o, k] : Fin 2 → Nat) i + S128x128.size i ≤ S1024x256.size i) (r d : Fin 128) :
    View.ld x0 (Rect.unit (s := S1024x256) ![o, k] S128x128.size inb) (ix2 r d) = x0 (ix2 ⟨o + r, by omega⟩ (mapCol c d)) := by
  subst hk
  refine View.ld_unit_apply_of _ _ _ _ _ _ fun i => ?_
  fin_cases i <;> rfl

/-- THE OUTPUT BLOCK at an element. -/
theorem out_at (x0 : Vec Ideal S1024x256 .bf16) (x1 x2 : Vec Ideal S4096x256 .bf16) (x3 x4 x5 x6 : Vec Ideal S1x128 .f32)
    (x7 : Vec Ideal S1x256 .f32) (y : S1024x256.Idx) :
    out0_8 (F := Ideal) x0 x1 x2 x3 x4 x5 x6 x7 y = blockAt x0 x1 x2 x3 x4 x5 x6 x7 (y 0) (y 1) := by
  have l0 : ∀ z : Vec Ideal S1x128 .f32, View.ld z r0_0 = z := fun z => ld_corner z _
  have l1 : ∀ z : Vec Ideal S4096x256 .bf16, View.ld z r0_1 = z := fun z => ld_corner z _
  have l6 : ∀ z : Vec Ideal S1x256 .f32, View.ld z r0_6 = z := fun z => ld_corner z _
  rw [out_eq_groups]
  simp only [l0, l1, l6]
  canon_tiles x h using cover0_8 (F := Ideal) _ _ _ _ _ _ _ _ _
  all_goals
    exact group_eq _ _ _ _ _ _ _ _ _ _ _ (by decide) (ld_tile x0 _ (by decide) 0 _ rfl _) (ld_tile x0 _ (by decide) 1 _ rfl _)
      x _ _ (by omega) (by omega)

end Cert.Attn

end
-- ==== Proof.AttnArray.lean ====
/-
  The kernel's result array after the run, element by element.

  Grid point `(b, h, i)` writes the block of rows `1024 * (4 * b + i) …` and channels `256 * h …`; the blocks cover the array.
-/
module

public import proofs.«01_k».proof.Proof.AttnSpec
public import proofs.«01_k».proof.Proof.AttnBlock
public import Idealize.ShloMosaic.Lib.Pipeline.ValueKit

@[expose] public section

set_option maxRecDepth 16384

noncomputable section

namespace Cert.Attn

open Cert.KernelIdeal Cert.KernelIdeal.Gen Idealize.ShloMosaic Idealize.ShloMosaic.TcCoe

variable (m : (ℓ : Loc nD τ sig) → Buf (Elt Ideal) ℓ)

theorem index_q : ∀ t : Fin cfg0.N, win0_0.index t = ![(grid0.coords t 0).val * 4 + (grid0.coords t 2).val, (grid0.coords t 1).val] :=
  (by decide +kernel : ∀ t : Fin grid0.N, _)
theorem index_k : ∀ t : Fin cfg0.N, win0_1.index t = ![(grid0.coords t 0).val, 16 + (grid0.coords t 1).val] :=
  (by decide +kernel : ∀ t : Fin grid0.N, _)
theorem index_v : ∀ t : Fin cfg0.N, win0_2.index t = ![(grid0.coords t 0).val, 32 + (grid0.coords t 1).val] :=
  (by decide +kernel : ∀ t : Fin grid0.N, _)
theorem index_o : ∀ t : Fin cfg0.N, win0_8.index t = ![(grid0.coords t 0).val * 4 + (grid0.coords t 2).val, (grid0.coords t 1).val] :=
  (by decide +kernel : ∀ t : Fin grid0.N, _)

theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![0, 0] := (by decide +kernel : ∀ t : Fin grid0.N, _)

/-- The sequence, the head and the row tile of a grid point. -/
abbrev pB (t : Fin cfg0.N) : Fin 4 := grid0.coords t 0
abbrev pH (t : Fin cfg0.N) : Fin 16 := grid0.coords t 1
abbrev pI (t : Fin cfg0.N) : Fin 4 := grid0.coords t 2

theorem q_at (c : Dev nD) (t : Fin cfg0.N) (r : Fin 1024) (k : Fin 2) (d : Fin 128) :
    iblk m c 0 t (ix2 r (mapCol k d))
      = m ((c : Thread nD τ).loc main_arg0) (ix2 (row (pB t) ⟨(pI t) * 1024 + r, by omega⟩) (qCol (pH t) k d)) := by
  blk_simp [iblk]
  refine congrArg (m ((c : Thread nD τ).loc main_arg0)) ?_
  blk_ext [index_q] <;> simp only [pB, pH, pI] <;> omega

theorem k_at (c : Dev nD) (t : Fin cfg0.N) (j : Fin 4096) (k : Fin 2) (d : Fin 128) :
    iblk m c 1 t (ix2 j (mapCol k d)) = m ((c : Thread nD τ).loc main_arg0) (ix2 (row (pB t) j) (kCol (pH t) k d)) := by
  blk_simp [iblk]
  refine congrArg (m ((c : Thread nD τ).loc main_arg0)) ?_
  blk_ext [index_k] <;> simp only [pB, pH, pI] <;> omega

theorem v_at (c : Dev nD) (t : Fin cfg0.N) (j : Fin 4096) (e : Fin 256) :
    iblk m c 2 t (ix2 j e) = m ((c : Thread nD τ).loc main_arg0) (ix2 (row (pB t) j) (vCol (pH t) e)) := by
  blk_simp [iblk]
  refine congrArg (m ((c : Thread nD τ).loc main_arg0)) ?_
  blk_ext [index_v] <;> simp only [pB, pH, pI] <;> omega

theorem l3_at (c : Dev nD) (t : Fin cfg0.N) (x : Fin 128) :
    iblk m c 3 t (ix2 0 x) = m ((c : Thread nD τ).loc main_arg1) (ix2 0 x) := by
  blk_simp [iblk]
  refine congrArg (m ((c : Thread nD τ).loc main_arg1)) ?_
  blk_ext [index_3]

theorem l4_at (c : Dev nD) (t : Fin cfg0.N) (x : Fin 128) :
    iblk m c 4 t (ix2 0 x) = m ((c : Thread nD τ).loc main_arg2) (ix2 0 x) := by
  blk_simp [iblk]
  refine congrArg (m ((c : Thread nD τ).loc main_arg2)) ?_
  blk_ext [index_4]

theorem l5_at (c : Dev nD) (t : Fin cfg0.N) (x : Fin 128) :
    iblk m c 5 t (ix2 0 x) = m ((c : Thread nD τ).loc main_arg3) (ix2 0 x) := by
  blk_simp [iblk]
  refine congrArg (m ((c : Thread nD τ).loc main_arg3)) ?_
  blk_ext [index_5]

theorem l6_at (c : Dev nD) (t : Fin cfg0.N) (x : Fin 128) :
    iblk m c 6 t (ix2 0 x) = m ((c : Thread nD τ).loc main_arg4) (ix2 0 x) := by
  blk_simp [iblk]
  refine congrArg (m ((c : Thread nD τ).loc main_arg4)) ?_
  blk_ext [index_6]

theorem l7_at (c : Dev nD) (t : Fin cfg0.N) (x : Fin 256) :
    iblk m c 7 t (ix2 0 x) = m ((c : Thread nD τ).loc main_arg5) (ix2 0 x) := by
  blk_simp [iblk]
  refine congrArg (m ((c : Thread nD τ).loc main_arg5)) ?_
  blk_ext [index_7]

/-- The block of point `t` holds the result's elements at its place in the array. -/
theorem block_attn (c : Dev nD) (t : Fin cfg0.N) (y0 : Fin 1024) (y1 : Fin 256) (r : Fin 16384) (e : Fin 4096)
    (hr : (r : Nat) = ((pB t) * 4 + (pI t)) * 1024 + y0) (he : (e : Nat) = (pH t) * 256 + y1) :
    blockAt (iblk m c 0 t) (iblk m c 1 t) (iblk m c 2 t) (iblk m c 3 t) (iblk m c 4 t) (iblk m c 5 t) (iblk m c 6 t)
        (iblk m c 7 t) y0 y1
      = attnAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) r e := by
  have hB := (pB t).isLt
  have hH := (pH t).isLt
  have hI := (pI t).isLt
  have eb : (⟨r / 4096, by omega⟩ : Fin 4) = pB t := Fin.ext (by simp only []; omega)
  have ei : (⟨r % 4096, by omega⟩ : Fin 4096) = ⟨(pI t) * 1024 + y0, by omega⟩ := Fin.ext (by simp only []; omega)
  have eh : (⟨e / 256, by omega⟩ : Fin 16) = pH t := Fin.ext (by simp only []; omega)
  have ee : (⟨e % 256, by omega⟩ : Fin 256) = y1 := Fin.ext (by simp only []; omega)
  have hs : ∀ (k : Fin 2), blockScore (iblk m c 0 t) (iblk m c 1 t) k y0
      = score (m ((c : Thread nD τ).loc main_arg0)) (pB t) (pH t) k ⟨(pI t) * 1024 + y0, by omega⟩ := by
    intro k
    funext j
    exact Finset.sum_congr rfl fun d _ => congrArg₂ (· * ·) (q_at m c t y0 k d) (k_at m c t j k d)
  rw [attnAt, eb, ei, eh, ee, blockAt, hs, hs]
  simp only [v_at, l3_at, l4_at, l5_at, l6_at, l7_at]
  rfl

/-- THE RESULT ARRAY after the run. -/
theorem array_eq (c : Dev nD) :
    (dats m 0 c).arrAt 8 cfg0.N = fun i : S16384x4096.Idx =>
      attnAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (i 0) (i 1) := by
  refine (dats m 0 c).arrAt_eq_of_covers 8 _ (by decide +kernel) fun t hf y => ?_
  blk_simp
  rw [after0_8, out_at]
  exact block_attn m c t (y 0) (y 1) _ _ (by blk_simp [index_o]) (by blk_simp [index_o])

end Cert.Attn

end
-- ==== Proof.AttnRef.lean ====
/-
  The reference read at one element of its result.

  The element in row `r` and channel `e` of the result is the normalised difference (`normAt`, `refDiff`) of head `e / 256`
  at position `r % 4096` of sequence `r / 4096`.
-/
module

public import proofs.«01_k».proof.Proof.AttnSpec
public import proofs.«01_k».proof.Proof.Gen.ReferenceIdeal.Read

@[expose] public section

set_option maxRecDepth 16384

noncomputable section

namespace Cert.Attn

open Cert.ReferenceIdeal Cert.ReferenceIdeal.Gen Cert.ReferenceIdeal.Read Idealize.ShloMosaic

theorem ref_score (q : Qkv) (b : Fin 4) (h : Fin 16) (c : Fin 2) (i j : Fin 4096) :
    val_main_v19 (F := Ideal) q (ix5 b h c i j) = score q b h c i j * Ideal.log (Ideal.ofBits .f32 0x40000000#32) := by
  pointwise [val_main_v19, val_main_v16, val_main_v18, val_main_v17, val_main_cst_2, val_main_v5, val_main_v2, val_main_v1,
    val_main_v0, val_main_v6, val_main_v3]
  rfl

theorem ref_max (q : Qkv) (b : Fin 4) (h : Fin 16) (c : Fin 2) (i : Fin 4096) :
    val_main_v20 (F := Ideal) q (ix4 b h c i)
      = Finset.univ.fold max negInf fun x : Fin 4096 => val_main_v19 (F := Ideal) q (ix5 b h c i x) := by
  pointwise [val_main_v20, val_main_cst_3]

theorem ref_lam (x1 x2 x3 x4 : LamVec) (i : S_.Idx) : val_main_v15 (F := Ideal) x1 x2 x3 x4 i = lamAt x1 x2 x3 x4 := by
  rw [show i = ix0 from funext fun a => a.elim0]
  pointwise [val_main_v15, val_main_v14, val_main_v13, val_main_v12, val_main_v11, val_main_v10, val_main_v9, val_main_v8,
    val_main_cst, val_main_cst_0, val_main_cst_1]
  simp only [Fin.sum_univ_one, Fin.isValue]
  rfl

theorem ref_expo (q : Qkv) (b : Fin 4) (h : Fin 16) (c : Fin 2) (i j : Fin 4096) :
    val_main_v26 (F := Ideal) q (ix5 b h c i j)
      = expo (fun x => val_main_v19 (F := Ideal) q (ix5 b h c i x)) j := by
  have e4 : idx_main_v23 (idx_main_v24 (ix5 b h c i j)) = ix4 b h c i := by
    funext a; fin_cases a <;> rfl
  rw [val_main_v26_apply, val_main_v25_apply, val_main_v24_apply, val_main_v23_apply, val_main_v22_apply, val_main_v21_apply,
    val_main_cst_4_apply, e4, ref_max]
  rfl

theorem ref_softmax (q : Qkv) (b : Fin 4) (h : Fin 16) (c : Fin 2) (i j : Fin 4096) :
    val_main_v30 (F := Ideal) q (ix5 b h c i j)
      = softmaxAt (fun x => score q b h c i x * Ideal.log (Ideal.ofBits .f32 0x40000000#32)) j := by
  have e4 : idx_main_v28 (idx_main_v29 (ix5 b h c i j)) = ix4 b h c i := by
    funext a; fin_cases a <;> rfl
  have e5 : ∀ k : Fin 4096, idx_main_v27 (ix4 b h c i) k = ix5 b h c i k := by
    intro k; funext a; fin_cases a <;> rfl
  rw [val_main_v30_apply, val_main_v29_apply, val_main_v28_apply, e4, val_main_v27_apply, val_main_cst_5_apply]
  simp only [e5, ref_expo, ref_score]
  show Ideal.div _ (Ideal.ofBits .f32 0x00000000#32 + _) = _
  rw [show Ideal.ofBits .f32 0x00000000#32 = 0 by simp [Ideal.ofBits, Ideal.ieee], zero_add]
  rfl

theorem ref_value (q : Qkv) (b : Fin 4) (h : Fin 16) (j : Fin 4096) (e : Fin 256) :
    val_main_v7 (F := Ideal) q (ix4 b j h e) = q (ix2 (row b j) (vCol h e)) := by
  pointwise [val_main_v7, val_main_v4, val_main_v1, val_main_v0]

theorem ref_diff (q : Qkv) (x1 x2 x3 x4 : LamVec) (b : Fin 4) (h : Fin 16) (i : Fin 4096) (e : Fin 256) :
    val_main_v39 (F := Ideal) q x1 x2 x3 x4 (ix4 b i h e)
      = refDiff (fun x => score q b h 0 i x * Ideal.log (Ideal.ofBits .f32 0x40000000#32))
          (fun x => score q b h 1 i x * Ideal.log (Ideal.ofBits .f32 0x40000000#32)) (lamAt x1 x2 x3 x4)
          (fun x => q (ix2 (row b x) (vCol h e))) := by
  have ev : ∀ k : Fin 4096, lidx_main_v38 (idx_main_v39 (ix4 b i h e)) k = ix4 b k h e := by
    intro k; funext a; fin_cases a <;> rfl
  have ew : ∀ k : Fin 4096, ridx_main_v38 (idx_main_v39 (ix4 b i h e)) k = ix4 b h i k := by
    intro k; funext a; fin_cases a <;> rfl
  have hb := b.isLt
  have hh := h.isLt
  have hi := i.isLt
  have e0 : ∀ k : Fin 4096, idx_main_v31 (idx_main_v32 (ix4 b h i k)) = ix5 b h 0 i k := by
    intro k
    have hk := k.isLt
    funext a
    apply Fin.ext
    match a with
    | ⟨0, _⟩ => show (((b.val * 16 + h.val) * 4096 + i.val) * 4096 + k.val) / 268435456 = b.val; omega
    | ⟨1, _⟩ => show (((b.val * 16 + h.val) * 4096 + i.val) * 4096 + k.val) / 16777216 % 16 = h.val; omega
    | ⟨2, _⟩ => show (0 : Nat) = 0; rfl
    | ⟨3, _⟩ => show (((b.val * 16 + h.val) * 4096 + i.val) * 4096 + k.val) / 4096 % 4096 = i.val; omega
    | ⟨4, _⟩ => show (((b.val * 16 + h.val) * 4096 + i.val) * 4096 + k.val) % 4096 = k.val; omega
  have e1 : ∀ k : Fin 4096, idx_main_v33 (idx_main_v34 (ix4 b h i k)) = ix5 b h 1 i k := by
    intro k
    have hk := k.isLt
    funext a
    apply Fin.ext
    match a with
    | ⟨0, _⟩ => show (((b.val * 16 + h.val) * 4096 + i.val) * 4096 + k.val) / 268435456 = b.val; omega
    | ⟨1, _⟩ => show (((b.val * 16 + h.val) * 4096 + i.val) * 4096 + k.val) / 16777216 % 16 = h.val; omega
    | ⟨2, _⟩ => rfl
    | ⟨3, _⟩ => show (((b.val * 16 + h.val) * 4096 + i.val) * 4096 + k.val) / 4096 % 4096 = i.val; omega
    | ⟨4, _⟩ => show (((b.val * 16 + h.val) * 4096 + i.val) * 4096 + k.val) % 4096 = k.val; omega
  rw [val_main_v39_apply, val_main_v38_apply, refDiff]
  refine Finset.sum_congr rfl fun k _ => ?_
  rw [ev, ew, ref_value, val_main_v37_apply, val_main_v36_apply, val_main_v35_apply, val_main_v34_apply, val_main_v33_apply,
    val_main_v32_apply, val_main_v31_apply, ref_lam, e0, e1, ref_softmax, ref_softmax]
  rfl

/-- The reference's result at row `r`, channel `e`. -/
theorem ref_at (q : Qkv) (x1 x2 x3 x4 : LamVec) (x5 : (⟨S1x256, .f32⟩ : BufTy).Contents (Elt Ideal)) (r : Fin 16384) (e : Fin 4096) :
    val_main_v57 (F := Ideal) q x1 x2 x3 x4 x5 (ix2 r e)
      = normAt (fun d : Fin 256 => val_main_v39 (F := Ideal) q x1 x2 x3 x4
          (ix4 ⟨r / 4096, by omega⟩ ⟨r % 4096, by omega⟩ ⟨e / 256, by omega⟩ d)) (fun d => x5 (ix2 0 d)) ⟨e % 256, by omega⟩ := by
  pointwise [val_main_v57, val_main_v56, val_main_v55, val_main_v54, val_main_v53, val_main_v52, val_main_v51, val_main_v50,
    val_main_v49, val_main_v48, val_main_v47, val_main_v46, val_main_v45, val_main_v44, val_main_v43, val_main_v42,
    val_main_v41, val_main_v40, val_main_cst_6, val_main_cst_7, val_main_cst_8, val_main_cst_9]
  rfl

end Cert.Attn

end
-- ==== Proof.AttnEq.lean ====
/-
  The equation: on arguments that are real numbers, the kernel's element of the result is the reference's.
-/
module

public import proofs.«01_k».proof.Proof.AttnRef

@[expose] public section

noncomputable section

namespace Cert.Attn

open Idealize.ShloMosaic

/-- Contents none of whose elements is infinite are real numbers. -/
theorem reals {ι : Type} (x : ι → EReal) (h : ∀ i, x i ≠ ⊥ ∧ x i ≠ ⊤) : ∃ y : ι → ℝ, x = fun i => (y i : EReal) :=
  ⟨fun i => (x i).toReal, funext fun i => (EReal.coe_toReal (h i).2 (h i).1).symm⟩

/-- A comparison `|x| < inf` that came out true: `x` is not infinite. -/
theorem finite_of_cmp (x : EReal) (h : Ideal.cmp .olt (max x (-x)) (Ideal.ofBits .f32 0x7F800000#32) = 1#1) :
    x ≠ ⊥ ∧ x ≠ ⊤ := by
  have hi : Ideal.ofBits .f32 0x7F800000#32 = ⊤ := by simp [Ideal.ofBits, Ideal.ieee]
  rw [hi] at h
  constructor
  · rintro rfl
    simp [Ideal.cmp] at h
  · rintro rfl
    simp [Ideal.cmp] at h

theorem score_real (q : (⟨2, ![16384, 12288]⟩ : Shape).Idx → ℝ) (b : Fin 4) (h : Fin 16) (c : Fin 2) (i j : Fin 4096) :
    score (fun i => (q i : EReal)) b h c i j
      = ((∑ d, q (ix2 (row b i) (qCol h c d)) * q (ix2 (row b j) (kCol h c d)) : ℝ) : EReal) := by
  rw [coe_sum, score]
  exact Finset.sum_congr rfl fun d _ => (EReal.coe_mul _ _).symm

theorem lamAt_real (a b c d : (⟨2, ![1, 128]⟩ : Shape).Idx → ℝ) :
    ∃ r : ℝ, lamAt (fun i => (a i : EReal)) (fun i => (b i : EReal)) (fun i => (c i : EReal)) (fun i => (d i : EReal)) = (r : EReal) := by
  obtain ⟨r, hr⟩ := lamOf_real (∑ x : Fin 128, a (ix2 0 x) * b (ix2 0 x)) (∑ x : Fin 128, c (ix2 0 x) * d (ix2 0 x))
  refine ⟨r, hr ▸ ?_⟩
  rw [lamAt, coe_sum, coe_sum]
  simp only [EReal.coe_mul]

/-- For real scores, values and lambda the two ways of computing the difference agree. -/
theorem diff_eq (q : (⟨2, ![16384, 12288]⟩ : Shape).Idx → ℝ) (lam : ℝ) (b : Fin 4) (h : Fin 16) (i : Fin 4096) (e : Fin 256) :
    refDiff (fun x => score (fun i => (q i : EReal)) b h 0 i x * Ideal.log (Ideal.ofBits .f32 0x40000000#32))
        (fun x => score (fun i => (q i : EReal)) b h 1 i x * Ideal.log (Ideal.ofBits .f32 0x40000000#32)) (lam : EReal)
        (fun x => (q (ix2 (row b x) (vCol h e)) : EReal))
      = kernelDiff (score (fun i => (q i : EReal)) b h 0 i) (score (fun i => (q i : EReal)) b h 1 i) (lam : EReal)
          (fun x => (q (ix2 (row b x) (vCol h e)) : EReal)) := by
  have hs : ∀ c : Fin 2, score (fun i => (q i : EReal)) b h c i
      = fun j => ((∑ d, q (ix2 (row b i) (qCol h c d)) * q (ix2 (row b j) (kCol h c d)) : ℝ) : EReal) :=
    fun c => funext fun j => score_real q b h c i j
  simp only [hs]
  rw [refDiff_real, kernelDiff_real]

/-- THE EQUATION at an element. -/
theorem value_eq (q : Qkv) (x1 x2 x3 x4 : LamVec) (x5 : (⟨2, ![1, 256]⟩ : Shape).Idx → EReal)
    (hq : ∀ i, q i ≠ ⊥ ∧ q i ≠ ⊤) (h1 : ∀ i, x1 i ≠ ⊥ ∧ x1 i ≠ ⊤) (h2 : ∀ i, x2 i ≠ ⊥ ∧ x2 i ≠ ⊤)
    (h3 : ∀ i, x3 i ≠ ⊥ ∧ x3 i ≠ ⊤) (h4 : ∀ i, x4 i ≠ ⊥ ∧ x4 i ≠ ⊤) (r : Fin 16384) (e : Fin 4096) :
    Cert.ReferenceIdeal.Read.val_main_v57 (F := Ideal) q x1 x2 x3 x4 x5 (ix2 r e) = attnAt q x1 x2 x3 x4 x5 r e := by
  obtain ⟨q', rfl⟩ := reals q hq
  obtain ⟨a, rfl⟩ := reals x1 h1
  obtain ⟨b, rfl⟩ := reals x2 h2
  obtain ⟨c, rfl⟩ := reals x3 h3
  obtain ⟨d, rfl⟩ := reals x4 h4
  obtain ⟨lam, hl⟩ := lamAt_real a b c d
  rw [ref_at, attnAt]
  simp only [ref_diff, hl, diff_eq]

end Cert.Attn

end
-- ==== Proof.AttnClaim.lean ====
/-
  The claims about the attention: the frames, and the equality of the results.
-/
module

public import proofs.«01_k».proof.Defs
public import proofs.«01_k».proof.Proof.Gen.Kernel
public import proofs.«01_k».proof.Proof.Gen.Kernel.Frame
public import proofs.«01_k».proof.Proof.Gen.Pre_finite
public import proofs.«01_k».proof.Proof.Gen.ReferenceIdeal.Run
public import proofs.«01_k».proof.Proof.AttnArray
public import proofs.«01_k».proof.Proof.AttnEq
public import Idealize.ShloMosaic.Lib.Quiescent

@[expose] public section

noncomputable section

namespace Cert.Attn

open Idealize.ShloMosaic Idealize.ShloMosaic.TcCoe Idealize.SL.Sem

/-- The attention kernel, on machine words, runs and keeps its arguments. -/
theorem frame_word : Cert.quiescent_Kernel := fun m ρ _ => Cert.Kernel.Gen.frame m ρ

/-- The same over the extended reals. -/
theorem frame_ideal : Cert.quiescent_KernelIdeal := fun m ρ _ => Cert.KernelIdeal.Gen.frame m ρ

theorem frame_ideal_pre : Cert.quiescent_KernelIdeal_pre_finite := fun m ρ _ => Cert.KernelIdeal.Gen.frame m ρ

/-- The reference runs and keeps its arguments. -/
theorem frame_ref : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

theorem frame_ref_pre : Cert.quiescent_ReferenceIdeal_pre_finite := fun m ρ _ => frame_ref m ρ trivial

/-- The precondition says of each argument it names that no element is infinite. -/
theorem finite_args (m : (ℓ : Loc Cert.KernelIdeal.nD Cert.KernelIdeal.τ Cert.KernelIdeal.sig) → Buf (Elt Ideal) ℓ)
    (h : Cert.Pre_KernelIdeal_finite m) (c : Dev Cert.KernelIdeal.nD) :
    (∀ i, m ((c.tc : Thread Cert.KernelIdeal.nD Cert.KernelIdeal.τ).loc Cert.KernelIdeal.main_arg0) i ≠ (⊥ : EReal)
        ∧ m ((c.tc : Thread Cert.KernelIdeal.nD Cert.KernelIdeal.τ).loc Cert.KernelIdeal.main_arg0) i ≠ (⊤ : EReal))
    ∧ (∀ i, m ((c.tc : Thread Cert.KernelIdeal.nD Cert.KernelIdeal.τ).loc Cert.KernelIdeal.main_arg1) i ≠ (⊥ : EReal)
        ∧ m ((c.tc : Thread Cert.KernelIdeal.nD Cert.KernelIdeal.τ).loc Cert.KernelIdeal.main_arg1) i ≠ (⊤ : EReal))
    ∧ (∀ i, m ((c.tc : Thread Cert.KernelIdeal.nD Cert.KernelIdeal.τ).loc Cert.KernelIdeal.main_arg2) i ≠ (⊥ : EReal)
        ∧ m ((c.tc : Thread Cert.KernelIdeal.nD Cert.KernelIdeal.τ).loc Cert.KernelIdeal.main_arg2) i ≠ (⊤ : EReal))
    ∧ (∀ i, m ((c.tc : Thread Cert.KernelIdeal.nD Cert.KernelIdeal.τ).loc Cert.KernelIdeal.main_arg3) i ≠ (⊥ : EReal)
        ∧ m ((c.tc : Thread Cert.KernelIdeal.nD Cert.KernelIdeal.τ).loc Cert.KernelIdeal.main_arg3) i ≠ (⊤ : EReal))
    ∧ (∀ i, m ((c.tc : Thread Cert.KernelIdeal.nD Cert.KernelIdeal.τ).loc Cert.KernelIdeal.main_arg4) i ≠ (⊥ : EReal)
        ∧ m ((c.tc : Thread Cert.KernelIdeal.nD Cert.KernelIdeal.τ).loc Cert.KernelIdeal.main_arg4) i ≠ (⊤ : EReal)) := by
  obtain ⟨h0, h1, h2, h3, h4⟩ := h c
  exact ⟨fun i => finite_of_cmp _ (congrFun h0 i), fun i => finite_of_cmp _ (congrFun h1 i), fun i => finite_of_cmp _ (congrFun h2 i),
    fun i => finite_of_cmp _ (congrFun h3 i), fun i => finite_of_cmp _ (congrFun h4 i)⟩

/-- THE VALUES: over the extended reals the kernel and the reference end with the same result, on finite arguments. -/
theorem values : Cert.algebraic_KernelIdeal_ReferenceIdeal_pre_finite := fun m g m' g' hpre hagree => by
  refine ⟨_, Cert.KernelIdeal.Value.run_blocks m g, ?_⟩
  refine (θ_run Cert.ReferenceIdeal.defs _ _).mono (fun r h c => ⟨(h c).1.trans ?_, (h c).2⟩) (Cert.ReferenceIdeal.Value.run m' g')
  obtain ⟨a0, a1, a2, a3, a4, a5⟩ := hagree c
  obtain ⟨f0, f1, f2, f3, f4⟩ := finite_args m hpre c
  rw [Cert.ReferenceIdeal.Read.val_main_v57_eq, a0, a1, a2, a3, a4, a5, array_eq]
  funext i
  obtain ⟨p, e, rfl⟩ : ∃ (p : Fin 16384) (e : Fin 4096), i = ix2 p e := ⟨i 0, i 1, eq_ix2 i⟩
  exact value_eq _ _ _ _ _ _ f0 f1 f2 f3 f4 p e

end Cert.Attn

end
-- ==== Proof.FfnShared.lean ====
/-
  What the feed-forward kernels' proofs share: the two slots of a ring buffer, a buffer filled by a copy, and a block's rows read and
  stored sixteen at a time.
-/
module

public import Idealize.ShloMosaic.Lib.Pipeline.FrameBody
public import Idealize.ShloMosaic.Lib.Ring
import Idealize.ShloMosaic.Lib.VecWindow
import Idealize.ShloMosaic.Lib.WritesUnit
public import Idealize.ShloMosaic.Lib.Pointwise

@[expose] public section

noncomputable section

namespace Cert.FfnShared

open Idealize.ShloMosaic Idealize.ShloMosaic.TcCoe

variable {sig : RefSig} {F : FTy → Type}

/-- Slot `i` of a two-slot buffer, as a matrix. -/
abbrev slot {n k : ℕ} (M : Memref sig .tc .vmem ⟨3, ![2, n, k]⟩ .bf16) (i : ℕ)
    (h : ∀ a, (![i, 0, 0] : Fin 3 → ℕ) a + (⟨3, ![1, n, k]⟩ : Shape).size a ≤ (⟨3, ![2, n, k]⟩ : Shape).size a)
    (hs : (⟨3, ![1, n, k]⟩ : Shape).Squeezes ⟨2, ![n, k]⟩) :=
  (M.slice (Rect.unit (s := ⟨3, ![2, n, k]⟩) ![i, 0, 0] (⟨3, ![1, n, k]⟩ : Shape).size h) (fun _ => rfl)).squeeze ⟨2, ![n, k]⟩ hs

/-- A two-slot buffer's elements are its first slot's and its second's. -/
theorem slots_union {n k : ℕ} (M : Memref sig .tc .vmem ⟨3, ![2, n, k]⟩ .bf16) (h0 h1 hs) :
    (slot M 0 h0 hs).view.set ∪ (slot M 1 h1 hs).view.set = M.view.set := by
  refine (congrArg₂ (· ∪ ·) (View.set_reshape _ _) (View.set_reshape _ _)).trans ?_
  refine Finset.Subset.antisymm (Finset.union_subset (View.set_slice_subset _ _) (View.set_slice_subset _ _)) fun e he => ?_
  obtain ⟨y, -, rfl⟩ := Finset.mem_map.mp he
  rw [Finset.mem_union]
  have hy : (y 0).val < 2 := (y 0).isLt
  by_cases h : (y 0).val = 0
  · refine Or.inl (Finset.mem_map.mpr ⟨ix3 (n0 := 1) (n1 := n) (n2 := k) 0 (y 1) (y 2), Finset.mem_univ _, congrArg M.view.emb ?_⟩)
    funext a
    match a with
    | 0 => exact Fin.ext (show 0 + 1 * 0 = (y 0).val by omega)
    | 1 => exact Fin.ext (show 0 + 1 * (y 1).val = (y 1).val by omega)
    | 2 => exact Fin.ext (show 0 + 1 * (y 2).val = (y 2).val by omega)
  · refine Or.inr (Finset.mem_map.mpr ⟨ix3 (n0 := 1) (n1 := n) (n2 := k) 0 (y 1) (y 2), Finset.mem_univ _, congrArg M.view.emb ?_⟩)
    funext a
    match a with
    | 0 => exact Fin.ext (show 1 + 1 * 0 = (y 0).val by omega)
    | 1 => exact Fin.ext (show 0 + 1 * (y 1).val = (y 1).val by omega)
    | 2 => exact Fin.ext (show 0 + 1 * (y 2).val = (y 2).val by omega)

/-- The two slots have no element in common. -/
theorem slots_disjoint {n k : ℕ} (M : Memref sig .tc .vmem ⟨3, ![2, n, k]⟩ .bf16) (h0 h1 hs) :
    Disjoint (slot M 0 h0 hs).view.set (slot M 1 h1 hs).view.set := by
  rw [show (slot M 0 h0 hs).view.set = _ from View.set_reshape _ _, show (slot M 1 h1 hs).view.set = _ from View.set_reshape _ _]
  refine Finset.disjoint_left.mpr fun e h1 h2 => ?_
  obtain ⟨y, -, rfl⟩ := Finset.mem_map.mp h1
  obtain ⟨z, -, hz⟩ := Finset.mem_map.mp h2
  have h := congrArg (fun w : (⟨3, ![2, n, k]⟩ : Shape).Idx => (w 0).val) (M.view.emb.injective hz)
  have h' : 1 + 1 * (z 0).val = 0 + 1 * (y 0).val := h
  have hy : (y 0).val < 1 := (y 0).isLt
  omega

/-- A buffer filled through a re-indexing of a window by what the same re-indexing of another window reads, read through the
    window: what the other window reads. -/
theorem read_landed {Val : EltTy → Type} {κ κ' : Kind} {sp sp' : Space} {S S' : Shape} {e : EltTy} (v : View sig κ sp S e)
    (v' : View sig κ' sp' S e) (h : S'.numel = S.numel) (g : v.ty.Contents Val) (w : v'.ty.Contents Val) :
    v.read Val ((v.reshape S' h).writes Val g [⟨Rect.whole S', (v'.reshape S' h).read Val w⟩]) = v'.read Val w := by
  funext y
  obtain ⟨x, rfl⟩ := (Shape.reshapeEquiv h).surjective y
  exact congrFun (View.read_writes_whole (v.reshape S' h) g ((v'.reshape S' h).read Val w)) x

/-- A block of 1024 rows. -/
abbrev Block : Shape := ⟨2, ![1024, 4096]⟩
/-- Half a block. -/
abbrev Half : Shape := ⟨2, ![512, 4096]⟩
/-- Sixteen rows. -/
abbrev Rows : Shape := ⟨2, ![16, 4096]⟩

/-- Sixteen rows of a block, from row `r`. -/
def rowsAt (x : Vec F Block .f32) (r : ℕ) : Vec F Rows .f32 := fun z => x (ix2 ⟨(r + (z 0).val) % 1024, Nat.mod_lt _ (by decide)⟩ (z 1))

/-- Sixteen rows of a half of the block, read there: the block's rows. -/
theorem tile_read (v : View sig .tc .vmem Half .f32) (fx : v.ty.Contents (Elt F)) (x : Vec F Block .f32) {off : ℕ}
    (hx : ∀ z : Half.Idx, v.read (Elt F) fx z = x (ix2 ⟨((z 0).val + off) % 1024, Nat.mod_lt _ (by decide)⟩ (z 1)))
    (o : Fin 2 → ℕ) (inb) (Q : ℕ) (ho : o = ![Q, 0]) :
    v.readAt (Elt F) (Rect.unit (s := Half) o Rows.size inb).toLoadRect fx = rowsAt x (Q + off) := by
  subst ho
  funext z
  refine (hx ((Rect.unit (s := Half) ![Q, 0] Rows.size inb).emb z)).trans (congrArg x ?_)
  refine congrArg₂ ix2 (Fin.ext ?_) (Fin.ext ?_)
  · show (Q + 1 * (z 0).val + off) % 1024 = (Q + off + (z 0).val) % 1024
    congr 1; omega
  · show 0 + 1 * (z 1).val = (z 1).val
    omega

/-- Sixteen more rows stored: what was right below them, and them, is right below their end. -/
theorem rows_put {e : EltTy} (v : View sig .tc .vmem Block e) (f : v.ty.Contents (Elt F)) (G : Block.Idx → Elt F e) (R R' : ℕ) (o : Fin 2 → ℕ) (inb)
    (P : Rows.Idx → Elt F e) (L : List (View.Piece (Elt F) Block e)) (ho : o = ![R, 0]) (hR : R' = R + 16)
    (hP : ∀ (z : Rows.Idx) (y : Block.Idx), (y 0).val = R + (z 0).val → (y 1).val = (z 1).val → P z = G y)
    (hL : ∀ y : Block.Idx, (y 0).val < R → v.read (Elt F) (v.writes (Elt F) f L) y = G y) :
    ∀ y : Block.Idx, (y 0).val < R' → v.read (Elt F) (v.writes (Elt F) f (⟨Rect.unit (s := Block) o Rows.size inb, P⟩ :: L)) y = G y := by
  intro y hy
  by_cases h : (y 0).val < R
  · refine (View.read_writes_cons_rows_of_not_mem (W := 16) v f inb P L y ho rfl (Or.inl h)).trans (hL y h)
  · refine (View.read_writes_cons_rows_of_mem v f inb P L y (ix2 (n0 := 16) (n1 := 4096) ⟨(y 0).val - R, by omega⟩ (y 1)) ho ?_ rfl).trans (hP _ y ?_ rfl)
    · show (y 0).val = R + ((y 0).val - R); omega
    · show (y 0).val = R + ((y 0).val - R); omega

/-- Sixteen rows read where the buffer still holds the block `x`: the block's rows. -/
theorem later_read (v : View sig .tc .vmem Block .f32) (f : v.ty.Contents (Elt F)) (x : Vec F Block .f32) (R : ℕ)
    (hx : ∀ y : Block.Idx, R ≤ (y 0).val → v.read (Elt F) f y = x y) (o : Fin 2 → ℕ) (inb) (Q : ℕ) (ho : o = ![Q, 0]) (hQ : R ≤ Q) :
    v.readAt (Elt F) (Rect.unit (s := Block) o Rows.size inb).toLoadRect f = rowsAt x Q := by
  subst ho
  have h0 : Q + 16 ≤ 1024 := inb 0
  funext z
  have hz : (z 0).val < 16 := (z 0).isLt
  refine (hx ((Rect.unit (s := Block) ![Q, 0] Rows.size inb).emb z) (show R ≤ Q + 1 * (z 0).val by omega)).trans (congrArg x ?_)
  funext a
  match a with
  | 0 => exact Fin.ext (show Q + 1 * (z 0).val = (Q + (z 0).val) % 1024 by omega)
  | 1 => exact Fin.ext (show 0 + 1 * (z 1).val = (z 1).val by omega)

/-- Sixteen rows stored leave the rows from their end on as they were. -/
theorem rows_keep (v : View sig .tc .vmem Block .f32) (f : v.ty.Contents (Elt F)) (x : Vec F Block .f32) (R R' : ℕ) (o : Fin 2 → ℕ) (inb)
    (P : Vec F Rows .f32) (L : List (View.Piece (Elt F) Block .f32)) (ho : o = ![R, 0]) (hR : R + 16 ≤ R')
    (hL : ∀ y : Block.Idx, R' ≤ (y 0).val → v.read (Elt F) (v.writes (Elt F) f L) y = x y) :
    ∀ y : Block.Idx, R' ≤ (y 0).val → v.read (Elt F) (v.writes (Elt F) f (⟨Rect.unit (s := Block) o Rows.size inb, P⟩ :: L)) y = x y :=
  fun y hy => (View.read_writes_cons_rows_of_not_mem (W := 16) v f inb P L y ho rfl (Or.inr (by omega))).trans (hL y hy)

end Cert.FfnShared
-- ==== Proof.FfnLoop.lean ====
/-
  The feed-forward kernel's loop over pairs of weight chunks: the copies in flight, the slots they fill, the rows accumulated so far,
  and one trip of the loop.
-/
module

public import proofs.«01_k».proof.Proof.Gen.KernelFfnIdeal.Launch
public import proofs.«01_k».proof.Proof.Gen.KernelFfnIdeal.Skeleton
public import proofs.«01_k».proof.Proof.Gen.KernelFfnIdeal.Points
public import proofs.«01_k».proof.Proof.Gen.KernelFfnIdeal.Loops
public import proofs.«01_k».proof.Proof.Gen.KernelFfnIdeal.Frame
public import proofs.«01_k».proof.Proof.FfnShared
public import Idealize.ShloMosaic.Lib.Pipeline.FrameBody
public import Idealize.ShloMosaic.Lib.Ring
import Idealize.ShloMosaic.Lib.VecWindow
public import Idealize.ShloMosaic.Lib.Tactic
public import Idealize.ShloMosaic.Lib.WordCmp

@[expose] public section

set_option maxRecDepth 16384

noncomputable section

namespace Cert.KernelFfnIdeal.Hand

open Cert.KernelFfnIdeal Cert.KernelFfnIdeal.Gen Cert.FfnShared
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A buffer held whole at share `q` with contents `f`. -/
abbrev ptW (c : Dev nD) (b : Ref sig .tc) (q : PosShare TreeShare) (f : Buf (Elt F) ((c : Thread nD τ).loc b)) : sProp 𝕄 :=
  (Memref.whole b).view.loc (c : Thread nD τ) ↦{q} f

/-- The two slots of each ring buffer: the gate's, the up-projection's, the down-projection's. -/
abbrev gS0 : Memref sig .tc .vmem S4096x256 .bf16 := ((Memref.whole cc0_scratch1).slice (Rect.unit (s := S2x4096x256) ![0, 0, 0] S1x4096x256.size inb_S2x4096x256_S1x4096x256_0_0_0) (fun _ => rfl)).squeeze S4096x256 squeezes_S1x4096x256_S4096x256
abbrev gS1 : Memref sig .tc .vmem S4096x256 .bf16 := ((Memref.whole cc0_scratch1).slice (Rect.unit (s := S2x4096x256) ![1, 0, 0] S1x4096x256.size inb_S2x4096x256_S1x4096x256_1_0_0) (fun _ => rfl)).squeeze S4096x256 squeezes_S1x4096x256_S4096x256
abbrev uS0 : Memref sig .tc .vmem S4096x256 .bf16 := ((Memref.whole cc0_scratch2).slice (Rect.unit (s := S2x4096x256) ![0, 0, 0] S1x4096x256.size inb_S2x4096x256_S1x4096x256_0_0_0) (fun _ => rfl)).squeeze S4096x256 squeezes_S1x4096x256_S4096x256
abbrev uS1 : Memref sig .tc .vmem S4096x256 .bf16 := ((Memref.whole cc0_scratch2).slice (Rect.unit (s := S2x4096x256) ![1, 0, 0] S1x4096x256.size inb_S2x4096x256_S1x4096x256_1_0_0) (fun _ => rfl)).squeeze S4096x256 squeezes_S1x4096x256_S4096x256
abbrev dS0 : Memref sig .tc .vmem S256x4096 .bf16 := ((Memref.whole cc0_scratch3).slice (Rect.unit (s := S2x256x4096) ![0, 0, 0] S1x256x4096.size inb_S2x256x4096_S1x256x4096_0_0_0) (fun _ => rfl)).squeeze S256x4096 squeezes_S1x256x4096_S256x4096
abbrev dS1 : Memref sig .tc .vmem S256x4096 .bf16 := ((Memref.whole cc0_scratch3).slice (Rect.unit (s := S2x256x4096) ![1, 0, 0] S1x256x4096.size inb_S2x256x4096_S1x256x4096_1_0_0) (fun _ => rfl)).squeeze S256x4096 squeezes_S1x256x4096_S256x4096

/-- Chunk `n`'s windows of the weight arrays lie inside them: the gate's columns, the up-projection's columns, the down-projection's rows. -/
theorem inbG (n : ℕ) : ∀ a, (![0, 0, 256 * (n % 43)] : Fin 3 → ℕ) a + S1x4096x256.size a ≤ S2x4096x22016.size a := by
  have := Nat.mod_lt n (by decide : 0 < 43)
  intro a; fin_cases a <;> simp [S1x4096x256, S2x4096x22016] <;> omega
theorem inbU (n : ℕ) : ∀ a, (![0, 0, 256 * (n % 43) + 11008] : Fin 3 → ℕ) a + S1x4096x256.size a ≤ S2x4096x22016.size a := by
  have := Nat.mod_lt n (by decide : 0 < 43)
  intro a; fin_cases a <;> simp [S1x4096x256, S2x4096x22016] <;> omega
theorem inbD (n : ℕ) : ∀ a, (![0, 256 * (n % 43), 0] : Fin 3 → ℕ) a + S1x256x4096.size a ≤ S2x11008x4096.size a := by
  have := Nat.mod_lt n (by decide : 0 < 43)
  intro a; fin_cases a <;> simp [S1x256x4096, S2x11008x4096] <;> omega

/-- The windows the copies of chunk `n` read. -/
def gSrc (n : ℕ) : Memref sig .tc .hbm S4096x256 .bf16 := ((Memref.whole main_v3).slice (Rect.unit (s := S2x4096x22016) ![0, 0, 256 * (n % 43)] S1x4096x256.size (inbG n)) (fun _ => rfl)).squeeze S4096x256 squeezes_S1x4096x256_S4096x256
def uSrc (n : ℕ) : Memref sig .tc .hbm S4096x256 .bf16 := ((Memref.whole main_v3).slice (Rect.unit (s := S2x4096x22016) ![0, 0, 256 * (n % 43) + 11008] S1x4096x256.size (inbU n)) (fun _ => rfl)).squeeze S4096x256 squeezes_S1x4096x256_S4096x256
def dSrc (n : ℕ) : Memref sig .tc .hbm S256x4096 .bf16 := ((Memref.whole main_v4).slice (Rect.unit (s := S2x11008x4096) ![0, 256 * (n % 43), 0] S1x256x4096.size (inbD n)) (fun _ => rfl)).squeeze S256x4096 squeezes_S1x256x4096_S256x4096

section inv
variable (c : Dev nD) (w3 : Buf (Elt F) ((c : Thread nD τ).loc main_v3)) (w4 : Buf (Elt F) ((c : Thread nD τ).loc main_v4))

/-- The gate's columns of chunk `n`. -/
def gV (n : ℕ) : Vec F S1x4096x256 .bf16 :=
  (Memref.whole main_v3).view.readAt (Elt F) (Rect.unit (s := S2x4096x22016) ![0, 0, 256 * (n % 43)] S1x4096x256.size (inbG n)).toLoadRect w3
/-- The up-projection's columns of chunk `n`. -/
def uV (n : ℕ) : Vec F S1x4096x256 .bf16 :=
  (Memref.whole main_v3).view.readAt (Elt F) (Rect.unit (s := S2x4096x22016) ![0, 0, 256 * (n % 43) + 11008] S1x4096x256.size (inbU n)).toLoadRect w3
/-- The down-projection's rows of chunk `n`. -/
def dV (n : ℕ) : Vec F S1x256x4096 .bf16 :=
  (Memref.whole main_v4).view.readAt (Elt F) (Rect.unit (s := S2x11008x4096) ![0, 256 * (n % 43), 0] S1x256x4096.size (inbD n)).toLoadRect w4

/-- The output block after `n` chunks, from the block `x` and the normalised rows `h`. -/
def acc (x : Vec F S1024x4096 .f32) (h : Vec F S1024x4096 .bf16) : ℕ → Vec F S1024x4096 .f32
  | 0 => x
  | n + 1 => k0_pay24 h (gV c w3 n) (uV c w3 n) (acc x h n) (dV c w4 n)

/-- A slot after its copy has landed reads as the chunk copied there; one lemma for each slot. -/
theorem ld_gS0 (g) (n : ℕ) (p) (hp : p = (gSrc n).view.read (Elt F) w3) : (Memref.whole cc0_scratch1).view.readAt (Elt F) (Rect.unit (s := S2x4096x256) ![0, 0, 0] S1x4096x256.size inb_S2x4096x256_S1x4096x256_0_0_0).toLoadRect
    (gS0.view.writes (Elt F) g [⟨Rect.whole S4096x256, p⟩]) = gV c w3 n := by
  subst hp; exact read_landed (S := S1x4096x256) _ _ _ _ _
theorem ld_gS1 (g) (n : ℕ) (p) (hp : p = (gSrc n).view.read (Elt F) w3) : (Memref.whole cc0_scratch1).view.readAt (Elt F) (Rect.unit (s := S2x4096x256) ![1, 0, 0] S1x4096x256.size inb_S2x4096x256_S1x4096x256_1_0_0).toLoadRect
    (gS1.view.writes (Elt F) g [⟨Rect.whole S4096x256, p⟩]) = gV c w3 n := by
  subst hp; exact read_landed (S := S1x4096x256) _ _ _ _ _
theorem ld_uS0 (g) (n : ℕ) (p) (hp : p = (uSrc n).view.read (Elt F) w3) : (Memref.whole cc0_scratch2).view.readAt (Elt F) (Rect.unit (s := S2x4096x256) ![0, 0, 0] S1x4096x256.size inb_S2x4096x256_S1x4096x256_0_0_0).toLoadRect
    (uS0.view.writes (Elt F) g [⟨Rect.whole S4096x256, p⟩]) = uV c w3 n := by
  subst hp; exact read_landed (S := S1x4096x256) _ _ _ _ _
theorem ld_uS1 (g) (n : ℕ) (p) (hp : p = (uSrc n).view.read (Elt F) w3) : (Memref.whole cc0_scratch2).view.readAt (Elt F) (Rect.unit (s := S2x4096x256) ![1, 0, 0] S1x4096x256.size inb_S2x4096x256_S1x4096x256_1_0_0).toLoadRect
    (uS1.view.writes (Elt F) g [⟨Rect.whole S4096x256, p⟩]) = uV c w3 n := by
  subst hp; exact read_landed (S := S1x4096x256) _ _ _ _ _
theorem ld_dS0 (g) (n : ℕ) (p) (hp : p = (dSrc n).view.read (Elt F) w4) : (Memref.whole cc0_scratch3).view.readAt (Elt F) (Rect.unit (s := S2x256x4096) ![0, 0, 0] S1x256x4096.size inb_S2x256x4096_S1x256x4096_0_0_0).toLoadRect
    (dS0.view.writes (Elt F) g [⟨Rect.whole S256x4096, p⟩]) = dV c w4 n := by
  subst hp; exact read_landed (S := S1x256x4096) _ _ _ _ _
theorem ld_dS1 (g) (n : ℕ) (p) (hp : p = (dSrc n).view.read (Elt F) w4) : (Memref.whole cc0_scratch3).view.readAt (Elt F) (Rect.unit (s := S2x256x4096) ![1, 0, 0] S1x256x4096.size inb_S2x256x4096_S1x256x4096_1_0_0).toLoadRect
    (dS1.view.writes (Elt F) g [⟨Rect.whole S256x4096, p⟩]) = dV c w4 n := by
  subst hp; exact read_landed (S := S1x256x4096) _ _ _ _ _

/-- The offsets of the copies issued in one trip, in closed form. -/
theorem off10 (k : Fin k0_t3_loop.trips) : k0_off10 k = ![0, 0, 256 * ((2 * k.val + 1) % 43)] :=
  (by decide +kernel : ∀ k : Fin k0_t3_loop.trips, k0_off10 k = ![0, 0, 256 * ((2 * k.val + 1) % 43)]) k
theorem off11 (k : Fin k0_t3_loop.trips) : k0_off11 k = ![0, 0, 256 * ((2 * k.val + 1) % 43) + 11008] :=
  (by decide +kernel : ∀ k : Fin k0_t3_loop.trips, k0_off11 k = ![0, 0, 256 * ((2 * k.val + 1) % 43) + 11008]) k
theorem off12 (k : Fin k0_t3_loop.trips) : k0_off12 k = ![0, 256 * ((2 * k.val + 1) % 43), 0] :=
  (by decide +kernel : ∀ k : Fin k0_t3_loop.trips, k0_off12 k = ![0, 256 * ((2 * k.val + 1) % 43), 0]) k
theorem off13 (k : Fin k0_t3_loop.trips) : k0_off13 k = ![0, 0, 256 * ((2 * (k.val + 1)) % 43)] :=
  (by decide +kernel : ∀ k : Fin k0_t3_loop.trips, k0_off13 k = ![0, 0, 256 * ((2 * (k.val + 1)) % 43)]) k
theorem off14 (k : Fin k0_t3_loop.trips) : k0_off14 k = ![0, 0, 256 * ((2 * (k.val + 1)) % 43) + 11008] :=
  (by decide +kernel : ∀ k : Fin k0_t3_loop.trips, k0_off14 k = ![0, 0, 256 * ((2 * (k.val + 1)) % 43) + 11008]) k
theorem off15 (k : Fin k0_t3_loop.trips) : k0_off15 k = ![0, 256 * ((2 * (k.val + 1)) % 43), 0] :=
  (by decide +kernel : ∀ k : Fin k0_t3_loop.trips, k0_off15 k = ![0, 256 * ((2 * (k.val + 1)) % 43), 0]) k

/-- A slot held by its own elements. -/
abbrev slotP {S : Shape} (s : Memref sig .tc .vmem S .bf16) (f : Buf (Elt F) (s.view.loc (c : Thread nD τ))) : sProp 𝕄 :=
  s.view.loc (c : Thread nD τ) ↦[s.view.set]{fullShare} f

/-- The three copies of chunk `n` into the first slots, in flight: each pays its counter and gives back its slot, filled, and the window it read. -/
abbrev flG (n : ℕ) : sProp 𝕄 := iprop(∃ g, Transfers.Flight countersEmb (c : Thread nD τ) (SemLoc.dma 6) () 65536
    iprop(slotP c gS0 (gS0.view.writes (Elt F) g [⟨Rect.whole S4096x256, (gSrc n).view.read (Elt F) w3⟩])
      ∗ ((Memref.whole main_v3).view.loc (c : Thread nD τ) ↦[(gSrc n).view.set]{Transfers.shareTokN fullShare 6} w3))
  ∗ ((Memref.whole main_v3).view.loc (c : Thread nD τ) ↦[Finset.univ \ (gSrc n).view.set]{Transfers.shareTokN fullShare 6} w3))
abbrev flU (n : ℕ) : sProp 𝕄 := iprop(∃ g, Transfers.Flight countersEmb (c : Thread nD τ) (SemLoc.dma 7) () 65536
    iprop(slotP c uS0 (uS0.view.writes (Elt F) g [⟨Rect.whole S4096x256, (uSrc n).view.read (Elt F) w3⟩])
      ∗ ((Memref.whole main_v3).view.loc (c : Thread nD τ) ↦[(uSrc n).view.set]{Transfers.shareTokN fullShare 7} w3))
  ∗ ((Memref.whole main_v3).view.loc (c : Thread nD τ) ↦[Finset.univ \ (uSrc n).view.set]{Transfers.shareTokN fullShare 7} w3))
abbrev flD (n : ℕ) : sProp 𝕄 := iprop(∃ g, Transfers.Flight countersEmb (c : Thread nD τ) (SemLoc.dma 8) () 65536
    iprop(slotP c dS0 (dS0.view.writes (Elt F) g [⟨Rect.whole S256x4096, (dSrc n).view.read (Elt F) w4⟩])
      ∗ ((Memref.whole main_v4).view.loc (c : Thread nD τ) ↦[(dSrc n).view.set]{fullShare} w4))
  ∗ ((Memref.whole main_v4).view.loc (c : Thread nD τ) ↦[Finset.univ \ (dSrc n).view.set]{fullShare} w4))

/-- A copy just issued at an offset equal to chunk `n`'s is that chunk's copy in flight; one lemma for each of the three arrays. -/
theorem foldG (n : ℕ) (o : Fin 3 → ℕ) (ho) (h : o = ![0, 0, 256 * (n % 43)]) (g) (L) (p) (hp : p = (((Memref.whole main_v3).slice (Rect.unit (s := S2x4096x22016) o S1x4096x256.size ho) (fun _ => rfl)).squeeze S4096x256 squeezes_S1x4096x256_S4096x256).view.read (Elt F) w3) :
    iprop(Transfers.Flight countersEmb (c : Thread nD τ) (SemLoc.dma 6) () 65536
      iprop(slotP c gS0 (gS0.view.writes (Elt F) g (⟨Rect.whole S4096x256, p⟩ :: L))
        ∗ ((Memref.whole main_v3).view.loc (c : Thread nD τ) ↦[(((Memref.whole main_v3).slice (Rect.unit (s := S2x4096x22016) o S1x4096x256.size ho) (fun _ => rfl)).squeeze S4096x256 squeezes_S1x4096x256_S4096x256).view.set]{Transfers.shareTokN fullShare 6} w3))
    ∗ ((Memref.whole main_v3).view.loc (c : Thread nD τ) ↦[Finset.univ \ (((Memref.whole main_v3).slice (Rect.unit (s := S2x4096x22016) o S1x4096x256.size ho) (fun _ => rfl)).squeeze S4096x256 squeezes_S1x4096x256_S4096x256).view.set]{Transfers.shareTokN fullShare 6} w3)) ⊢ flG c w3 n := by
  subst h; subst hp; unfold flG
  iintro ⟨H1, H2⟩; iexists gS0.view.writes (Elt F) g L; isplitl [H1]; · iexact H1
  iexact H2
/-- The window at an offset equal to chunk `n`'s is that chunk's; one lemma for each of the three arrays. -/
theorem g_window (n : ℕ) (o : Fin 3 → ℕ) (ho) (h : o = ![0, 0, 256 * (n % 43)]) :
    (((Memref.whole main_v3).slice (Rect.unit (s := S2x4096x22016) o S1x4096x256.size ho) (fun _ => rfl)).squeeze S4096x256 squeezes_S1x4096x256_S4096x256).view.read (Elt F) w3 = (gSrc n).view.read (Elt F) w3 := by subst h; rfl
theorem foldU (n : ℕ) (o : Fin 3 → ℕ) (ho) (h : o = ![0, 0, 256 * (n % 43) + 11008]) (g) (L) (p) (hp : p = (((Memref.whole main_v3).slice (Rect.unit (s := S2x4096x22016) o S1x4096x256.size ho) (fun _ => rfl)).squeeze S4096x256 squeezes_S1x4096x256_S4096x256).view.read (Elt F) w3) :
    iprop(Transfers.Flight countersEmb (c : Thread nD τ) (SemLoc.dma 7) () 65536
      iprop(slotP c uS0 (uS0.view.writes (Elt F) g (⟨Rect.whole S4096x256, p⟩ :: L))
        ∗ ((Memref.whole main_v3).view.loc (c : Thread nD τ) ↦[(((Memref.whole main_v3).slice (Rect.unit (s := S2x4096x22016) o S1x4096x256.size ho) (fun _ => rfl)).squeeze S4096x256 squeezes_S1x4096x256_S4096x256).view.set]{Transfers.shareTokN fullShare 7} w3))
    ∗ ((Memref.whole main_v3).view.loc (c : Thread nD τ) ↦[Finset.univ \ (((Memref.whole main_v3).slice (Rect.unit (s := S2x4096x22016) o S1x4096x256.size ho) (fun _ => rfl)).squeeze S4096x256 squeezes_S1x4096x256_S4096x256).view.set]{Transfers.shareTokN fullShare 7} w3)) ⊢ flU c w3 n := by
  subst h; subst hp; unfold flU
  iintro ⟨H1, H2⟩; iexists uS0.view.writes (Elt F) g L; isplitl [H1]; · iexact H1
  iexact H2
theorem u_window (n : ℕ) (o : Fin 3 → ℕ) (ho) (h : o = ![0, 0, 256 * (n % 43) + 11008]) :
    (((Memref.whole main_v3).slice (Rect.unit (s := S2x4096x22016) o S1x4096x256.size ho) (fun _ => rfl)).squeeze S4096x256 squeezes_S1x4096x256_S4096x256).view.read (Elt F) w3 = (uSrc n).view.read (Elt F) w3 := by subst h; rfl
theorem foldD (n : ℕ) (o : Fin 3 → ℕ) (ho) (h : o = ![0, 256 * (n % 43), 0]) (g) (L) (p) (hp : p = (((Memref.whole main_v4).slice (Rect.unit (s := S2x11008x4096) o S1x256x4096.size ho) (fun _ => rfl)).squeeze S256x4096 squeezes_S1x256x4096_S256x4096).view.read (Elt F) w4) :
    iprop(Transfers.Flight countersEmb (c : Thread nD τ) (SemLoc.dma 8) () 65536
      iprop(slotP c dS0 (dS0.view.writes (Elt F) g (⟨Rect.whole S256x4096, p⟩ :: L))
        ∗ ((Memref.whole main_v4).view.loc (c : Thread nD τ) ↦[(((Memref.whole main_v4).slice (Rect.unit (s := S2x11008x4096) o S1x256x4096.size ho) (fun _ => rfl)).squeeze S256x4096 squeezes_S1x256x4096_S256x4096).view.set]{fullShare} w4))
    ∗ ((Memref.whole main_v4).view.loc (c : Thread nD τ) ↦[Finset.univ \ (((Memref.whole main_v4).slice (Rect.unit (s := S2x11008x4096) o S1x256x4096.size ho) (fun _ => rfl)).squeeze S256x4096 squeezes_S1x256x4096_S256x4096).view.set]{fullShare} w4)) ⊢ flD c w4 n := by
  subst h; subst hp; unfold flD
  iintro ⟨H1, H2⟩; iexists dS0.view.writes (Elt F) g L; isplitl [H1]; · iexact H1
  iexact H2
theorem d_window (n : ℕ) (o : Fin 3 → ℕ) (ho) (h : o = ![0, 256 * (n % 43), 0]) :
    (((Memref.whole main_v4).slice (Rect.unit (s := S2x11008x4096) o S1x256x4096.size ho) (fun _ => rfl)).squeeze S256x4096 squeezes_S1x256x4096_S256x4096).view.read (Elt F) w4 = (dSrc n).view.read (Elt F) w4 := by subst h; rfl

/-- Before chunk `n` (an even one): its transfers in flight into slot 0, slot 1 free, the block at what `n` chunks left. -/
def res3 (arg6 : Memref sig .tc .vmem S1024x4096 .f32) (x : Vec F S1024x4096 .f32) (fh : Buf (Elt F) ((c : Thread nD τ).loc cc0_scratch0)) (n : ℕ) : sProp 𝕄 :=
    iprop(flG c w3 n ∗ flU c w3 n ∗ flD c w4 n ∗ owns (c : Thread nD τ) arg6 fullShare (acc c w3 w4 x ((Memref.whole cc0_scratch0).view.read (Elt F) fh) n)
      ∗ ptW c cc0_scratch0 fullShare fh
      ∗ ptW c main_v3 (Transfers.shareTokN fullShare 9) w3 ∗ ptW c main_v3 (Transfers.shareTokN fullShare 10) w3
      ∗ (∃ g, slotP c gS1 g) ∗ (∃ g, slotP c uS1 g) ∗ (∃ g, slotP c dS1 g)
      ∗ semVal ((c : Thread nD τ), SemLoc.dma 9) 0 ∗ semVal ((c : Thread nD τ), SemLoc.dma 10) 0 ∗ semVal ((c : Thread nD τ), SemLoc.dma 11) 0
      ∗ (∃ W, owes (c : Thread nD τ) 0 W))

/-- The normalised rows, read whole, are the scratch buffer's contents. -/
theorem readAt_h (fh : Buf (Elt F) ((c : Thread nD τ).loc cc0_scratch0)) : (Memref.whole cc0_scratch0).view.readAt (Elt F) (Rect.unit (s := S1024x4096) ![0, 0] S1024x4096.size inb_S1024x4096_S1024x4096_0_0).toLoadRect fh = (Memref.whole cc0_scratch0).view.read (Elt F) fh :=
  View.readAt_full _ _ _

/-- One trip of the loop: two chunks are used, and the copies of the next even chunk are in flight. -/
theorem trip3 (i : grid0.Coords) (arg2 : Memref sig .tc .vmem S1x4096 .f32) (harg2 : arg2.IsWhole)
    (arg5 : Memref sig .tc .vmem S1x4096 .f32) (harg5 : arg5.IsWhole) (arg6 : Memref sig .tc .vmem S1024x4096 .f32) (harg6 : arg6.IsWhole)
    (x : Vec F S1024x4096 .f32) (fh : Buf (Elt F) ((c : Thread nD τ).loc cc0_scratch0)) (arg0 : BitVec 32)
    (k : Fin k0_t3_loop.trips) :
    res3 c w3 w4 arg6 x fh (2 * k.val)
    ⊢ wp frame (wpE (defs₀ (F := F)) Variants.none (c : Thread nD τ) none) Set.univ
      (k0_t3_body i (Memref.whole main_arg0) (Memref.isWhole_whole _) arg2 harg2 (Memref.whole main_v3) (Memref.isWhole_whole _)
        (Memref.whole main_v4) (Memref.isWhole_whole _) arg5 harg5 arg6 harg6 (Memref.whole cc0_scratch0) (Memref.isWhole_whole _)
        (Memref.whole cc0_scratch1) (Memref.isWhole_whole _) (Memref.whole cc0_scratch2) (Memref.isWhole_whole _)
        (Memref.whole cc0_scratch3) (Memref.isWhole_whole _) cc0_scratch4 cc0_scratch5 arg0 k ()) (fun _ => res3 c w3 w4 arg6 x fh (2 * (k.val + 1))) := by
  unfold res3 flG flU flD owns
  iintro ⟨⟨%g1, C6, A6⟩, ⟨%g2, C7, A7⟩, ⟨%g3, C8, B⟩, ⟨%f6, %hf6, H6⟩, H7, A9, A10, ⟨%e1, G1⟩, ⟨%e2, U1⟩, ⟨%e3, D1⟩, C9, C10, C11, ⟨%W, HO⟩⟩
  sl_unfold [k0_t3_body]
  sl_exec
  sl_step
  isplitl [C6 A6]
  · iapply (foldG c w3 (2 * (k.val + 1)) (k0_off13 k) _ (off13 k) gS0.view.junk [⟨Rect.whole S4096x256, (gSrc (2 * k.val)).view.read (Elt F) w3⟩] (trip3.sl.dma7 c w3 k) (by unfold trip3.sl.dma7; rfl)) $$ [C6 A6]
    isplitl [C6]; · iexact C6
    iexact A6
  isplitl [C7 A7]
  · iapply (foldU c w3 (2 * (k.val + 1)) (k0_off14 k) _ (off14 k) uS0.view.junk [⟨Rect.whole S4096x256, (uSrc (2 * k.val)).view.read (Elt F) w3⟩] (trip3.sl.dma7_1 c w3 k) (by unfold trip3.sl.dma7_1; rfl)) $$ [C7 A7]
    isplitl [C7]; · iexact C7
    iexact A7
  isplitl [C8 B]
  · iapply (foldD c w4 (2 * (k.val + 1)) (k0_off15 k) _ (off15 k) dS0.view.junk [⟨Rect.whole S256x4096, (dSrc (2 * k.val)).view.read (Elt F) w4⟩] (trip3.sl.dma7_2 c w4 k) (by unfold trip3.sl.dma7_2; rfl)) $$ [C8 B]
    isplitl [C8]; · iexact C8
    iexact B
  isplitl [H6]
  · iexists _; isplitr; swap; · iexact H6
    ipureintro
    refine (View.read_writes_full arg6.view f6 _ _ _).trans ?_
    rw [readAt_h]
    have e1 : trip3.sl.v209 c w3 k = gV c w3 (2 * k.val + 1) := by
      unfold trip3.sl.v209; exact ld_gS1 c w3 _ _ _ (by unfold trip3.sl.dma0; exact g_window c w3 _ _ _ (off10 k))
    have e2 : trip3.sl.v212 c w3 k = uV c w3 (2 * k.val + 1) := by
      unfold trip3.sl.v212; exact ld_uS1 c w3 _ _ _ (by unfold trip3.sl.dma0_1; exact u_window c w3 _ _ _ (off11 k))
    have e3 : trip3.sl.v225 c w4 k = dV c w4 (2 * k.val + 1) := by
      unfold trip3.sl.v225; exact ld_dS1 c w4 _ _ _ (by unfold trip3.sl.dma0_2; exact d_window c w4 _ _ _ (off12 k))
    have e4 : trip3.sl.v223 c w3 w4 arg6 fh k f6 = acc c w3 w4 x ((Memref.whole cc0_scratch0).view.read (Elt F) fh) (2 * k.val + 1) := by
      unfold trip3.sl.v223 trip3.sl.H6_1
      refine (View.readCov_full arg6.view _ _ _ _).trans ?_
      unfold trip3.sl.r trip3.sl.r_1
      have q1 : trip3.sl.v140 c w3 k = gV c w3 (2 * k.val) := by unfold trip3.sl.v140; exact ld_gS0 c w3 _ _ _ rfl
      have q2 : trip3.sl.v143 c w3 k = uV c w3 (2 * k.val) := by unfold trip3.sl.v143; exact ld_uS0 c w3 _ _ _ rfl
      have q3 : trip3.sl.v156 c w4 k = dV c w4 (2 * k.val) := by unfold trip3.sl.v156; exact ld_dS0 c w4 _ _ _ rfl
      rw [readAt_h, View.readAt_full, hf6, q1, q2, q3]
      rfl
    rw [e1, e2, e3, e4]
    rfl
  isplitl [H7]; · iexact H7
  isplitl [A9]; · iexact A9
  isplitl [A10]; · iexact A10
  isplitl [G1]; · iexists _; iexact G1
  isplitl [U1]; · iexists _; iexact U1
  isplitl [D1]; · iexists _; iexact D1
  isplitl [C9]; · iexact C9
  isplitl [C10]; · iexact C10
  isplitl [C11]; · iexact C11
  iexists _; iexact HO
end inv

end Cert.KernelFfnIdeal.Hand

end
-- ==== Proof.FfnRows.lean ====
/-
  The normalisation of the feed-forward kernel's rows: two loops, one for each half of the block, sixty-four rows a trip.
-/
module

public import proofs.«01_k».proof.Proof.FfnLoop
import Idealize.ShloMosaic.Lib.WritesUnit
public import Idealize.ShloMosaic.Lib.Pointwise

@[expose] public section

set_option maxRecDepth 16384

noncomputable section

namespace Cert.KernelFfnIdeal.Hand

open Cert.KernelFfnIdeal Cert.KernelFfnIdeal.Gen Cert.FfnShared
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Sixteen normalised rows. -/
def normRows (g : Vec F S1x4096 .f32) (t : Vec F S16x4096 .f32) : Vec F S16x4096 .bf16 := k0_pay21 g (k0_pay4 t)

/-- A block's normalised rows, sixteen at a time. -/
def normed (x : Vec F S1024x4096 .f32) (g : Vec F S1x4096 .f32) : Vec F S1024x4096 .bf16 := fun y =>
  normRows g (rowsAt x ((y 0).val / 16 * 16)) (ix2 ⟨(y 0).val % 16, Nat.mod_lt _ (by decide)⟩ (y 1))

/-- Sixteen rows from a multiple of sixteen, normalised, are those rows of the normalised block. -/
theorem norm_tile (x : Vec F S1024x4096 .f32) (g : Vec F S1x4096 .f32) (t : Vec F S16x4096 .f32) (m : ℕ) (ht : t = rowsAt x (16 * m)) (z : S16x4096.Idx)
    (y : S1024x4096.Idx) (h0 : (y 0).val = 16 * m + (z 0).val) (h1 : (y 1).val = (z 1).val) : normRows g t z = normed x g y := by
  subst ht
  have hz : (z 0).val < 16 := (z 0).isLt
  unfold normed
  rw [show (y 0).val / 16 * 16 = 16 * m by omega]
  refine congrArg _ ?_
  funext a
  match a with
  | 0 => exact Fin.ext (show (z 0).val = (y 0).val % 16 by omega)
  | 1 => exact Fin.ext h1.symm

section inv
variable (c : Dev nD)

/-- Before a trip of the loop over rows 0 to 511: those rows of the output block hold `x`'s, the rows of the scratch up to here the
    normalised ones. -/
def res1 (arg6 : Memref sig .tc .vmem S1024x4096 .f32) (x : Vec F S1024x4096 .f32) (g : Vec F S1x4096 .f32) (k : ℕ) : sProp 𝕄 :=
  iprop((∃ fx, ⌜∀ z : S512x4096.Idx, (arg6.slice (Rect.unit (s := S1024x4096) ![0, 0] S512x4096.size inb_S1024x4096_S512x4096_0_0) (fun _ => rfl)).view.read (Elt F) fx z = x (ix2 ⟨((z 0).val + 0) % 1024, Nat.mod_lt _ (by decide)⟩ (z 1))⌝
      ∗ (arg6.slice (Rect.unit (s := S1024x4096) ![0, 0] S512x4096.size inb_S1024x4096_S512x4096_0_0) (fun _ => rfl)).view.loc (c : Thread nD τ) ↦[(arg6.slice (Rect.unit (s := S1024x4096) ![0, 0] S512x4096.size inb_S1024x4096_S512x4096_0_0) (fun _ => rfl)).view.set]{fullShare} fx)
    ∗ (∃ fh, ⌜∀ y : S1024x4096.Idx, (y 0).val < 0 + 64 * k → (Memref.whole cc0_scratch0).view.read (Elt F) fh y = normed x g y⌝
      ∗ ptW c cc0_scratch0 fullShare fh))

/-- One trip over the first half: sixty-four more rows are normalised. -/
theorem trip1 (i : grid0.Coords) (arg2 : Memref sig .tc .vmem S1x4096 .f32) (harg2 : arg2.IsWhole)
    (arg5 : Memref sig .tc .vmem S1x4096 .f32) (harg5 : arg5.IsWhole) (arg6 : Memref sig .tc .vmem S1024x4096 .f32) (harg6 : arg6.IsWhole)
    (x : Vec F S1024x4096 .f32) (g : Vec F S1x4096 .f32) (arg0 : BitVec 32)
    (k : Fin k0_t1_loop.trips) :
    res1 c arg6 x g k.val
    ⊢ wp frame (wpE (defs₀ (F := F)) Variants.none (c : Thread nD τ) none) Set.univ
      (k0_t1_body i (Memref.whole main_arg0) (Memref.isWhole_whole _) arg2 harg2 (Memref.whole main_v3) (Memref.isWhole_whole _)
        (Memref.whole main_v4) (Memref.isWhole_whole _) arg5 harg5 arg6 harg6 (Memref.whole cc0_scratch0) (Memref.isWhole_whole _)
        (Memref.whole cc0_scratch1) (Memref.isWhole_whole _) (Memref.whole cc0_scratch2) (Memref.isWhole_whole _)
        (Memref.whole cc0_scratch3) (Memref.isWhole_whole _) cc0_scratch4 cc0_scratch5 arg0 g k ()) (fun _ => res1 c arg6 x g (k.val + 1)) := by
  unfold res1
  iintro ⟨⟨%fx, %hx, H6⟩, ⟨%fh, %hh, H7⟩⟩
  sl_unfold [k0_t1_body]
  sl_exec
  sl_step
  isplitl [H6]
  · iexists fx; isplitr
    · ipureintro; exact hx
    · iexact H6
  · iexists _; isplitr; swap; · iexact H7
    ipureintro
    rw [show 0 + 64 * (k.val + 1) = 64 * k.val + 16 * 3 + 16 by omega]
    refine rows_put _ _ _ (64 * k.val + 16 * 3) (64 * k.val + 16 * 3 + 16) _ _ _ _ (k0_off4_eq k ⟨3, by decide⟩) (by omega) (fun z y h0 h1 => norm_tile x g _ (4 * k.val + 3) ?_ z y (by omega) h1) ?_
    · exact (tile_read _ fx x hx _ _ _ (k0_off3_eq k ⟨3, by decide⟩)).trans (congrArg _ (by show 64 * k.val + 16 * 3 + 0 = 16 * (4 * k.val + 3); omega))
    refine rows_put _ _ _ (64 * k.val + 16 * 2) (64 * k.val + 16 * 3) _ _ _ _ (k0_off4_eq k ⟨2, by decide⟩) (by omega) (fun z y h0 h1 => norm_tile x g _ (4 * k.val + 2) ?_ z y (by omega) h1) ?_
    · exact (tile_read _ fx x hx _ _ _ (k0_off3_eq k ⟨2, by decide⟩)).trans (congrArg _ (by show 64 * k.val + 16 * 2 + 0 = 16 * (4 * k.val + 2); omega))
    refine rows_put _ _ _ (64 * k.val + 16 * 1) (64 * k.val + 16 * 2) _ _ _ _ (k0_off4_eq k ⟨1, by decide⟩) (by omega) (fun z y h0 h1 => norm_tile x g _ (4 * k.val + 1) ?_ z y (by omega) h1) ?_
    · exact (tile_read _ fx x hx _ _ _ (k0_off3_eq k ⟨1, by decide⟩)).trans (congrArg _ (by show 64 * k.val + 16 * 1 + 0 = 16 * (4 * k.val + 1); omega))
    refine rows_put _ _ _ (64 * k.val + 16 * 0) (64 * k.val + 16 * 1) _ _ _ _ (k0_off4_eq k ⟨0, by decide⟩) (by omega) (fun z y h0 h1 => norm_tile x g _ (4 * k.val + 0) ?_ z y (by omega) h1) ?_
    · exact (tile_read _ fx x hx _ _ _ (k0_off3_eq k ⟨0, by decide⟩)).trans (congrArg _ (by show 64 * k.val + 16 * 0 + 0 = 16 * (4 * k.val + 0); omega))
    · intro y hy
      exact hh y (by omega)

/-- Before a trip of the loop over rows 512 to 1023: those rows of the output block hold `x`'s, the rows of the scratch up to here the
    normalised ones. -/
def res2 (arg6 : Memref sig .tc .vmem S1024x4096 .f32) (x : Vec F S1024x4096 .f32) (g : Vec F S1x4096 .f32) (k : ℕ) : sProp 𝕄 :=
  iprop((∃ fx, ⌜∀ z : S512x4096.Idx, (arg6.slice (Rect.unit (s := S1024x4096) ![512, 0] S512x4096.size inb_S1024x4096_S512x4096_512_0) (fun _ => rfl)).view.read (Elt F) fx z = x (ix2 ⟨((z 0).val + 512) % 1024, Nat.mod_lt _ (by decide)⟩ (z 1))⌝
      ∗ (arg6.slice (Rect.unit (s := S1024x4096) ![512, 0] S512x4096.size inb_S1024x4096_S512x4096_512_0) (fun _ => rfl)).view.loc (c : Thread nD τ) ↦[(arg6.slice (Rect.unit (s := S1024x4096) ![512, 0] S512x4096.size inb_S1024x4096_S512x4096_512_0) (fun _ => rfl)).view.set]{fullShare} fx)
    ∗ (∃ fh, ⌜∀ y : S1024x4096.Idx, (y 0).val < 512 + 64 * k → (Memref.whole cc0_scratch0).view.read (Elt F) fh y = normed x g y⌝
      ∗ ptW c cc0_scratch0 fullShare fh))

/-- One trip over the second half: sixty-four more rows are normalised. -/
theorem trip2 (i : grid0.Coords) (arg2 : Memref sig .tc .vmem S1x4096 .f32) (harg2 : arg2.IsWhole)
    (arg5 : Memref sig .tc .vmem S1x4096 .f32) (harg5 : arg5.IsWhole) (arg6 : Memref sig .tc .vmem S1024x4096 .f32) (harg6 : arg6.IsWhole)
    (x : Vec F S1024x4096 .f32) (g : Vec F S1x4096 .f32) (arg0 : BitVec 32)
    (k : Fin k0_t2_loop.trips) :
    res2 c arg6 x g k.val
    ⊢ wp frame (wpE (defs₀ (F := F)) Variants.none (c : Thread nD τ) none) Set.univ
      (k0_t2_body i (Memref.whole main_arg0) (Memref.isWhole_whole _) arg2 harg2 (Memref.whole main_v3) (Memref.isWhole_whole _)
        (Memref.whole main_v4) (Memref.isWhole_whole _) arg5 harg5 arg6 harg6 (Memref.whole cc0_scratch0) (Memref.isWhole_whole _)
        (Memref.whole cc0_scratch1) (Memref.isWhole_whole _) (Memref.whole cc0_scratch2) (Memref.isWhole_whole _)
        (Memref.whole cc0_scratch3) (Memref.isWhole_whole _) cc0_scratch4 cc0_scratch5 arg0 g k ()) (fun _ => res2 c arg6 x g (k.val + 1)) := by
  unfold res2
  iintro ⟨⟨%fx, %hx, H6⟩, ⟨%fh, %hh, H7⟩⟩
  sl_unfold [k0_t2_body]
  sl_exec
  sl_step
  isplitl [H6]
  · iexists fx; isplitr
    · ipureintro; exact hx
    · iexact H6
  · iexists _; isplitr; swap; · iexact H7
    ipureintro
    rw [show 512 + 64 * (k.val + 1) = 64 * k.val + 16 * 3 + 512 + 16 by omega]
    refine rows_put _ _ _ (64 * k.val + 16 * 3 + 512) (64 * k.val + 16 * 3 + 512 + 16) _ _ _ _ (k0_off6_eq k ⟨3, by decide⟩) (by omega) (fun z y h0 h1 => norm_tile x g _ (4 * k.val + 3 + 32) ?_ z y (by omega) h1) ?_
    · exact (tile_read _ fx x hx _ _ _ (k0_off5_eq k ⟨3, by decide⟩)).trans (congrArg _ (by show 64 * k.val + 16 * 3 + 512 = 16 * (4 * k.val + 3 + 32); omega))
    refine rows_put _ _ _ (64 * k.val + 16 * 2 + 512) (64 * k.val + 16 * 3 + 512) _ _ _ _ (k0_off6_eq k ⟨2, by decide⟩) (by omega) (fun z y h0 h1 => norm_tile x g _ (4 * k.val + 2 + 32) ?_ z y (by omega) h1) ?_
    · exact (tile_read _ fx x hx _ _ _ (k0_off5_eq k ⟨2, by decide⟩)).trans (congrArg _ (by show 64 * k.val + 16 * 2 + 512 = 16 * (4 * k.val + 2 + 32); omega))
    refine rows_put _ _ _ (64 * k.val + 16 * 1 + 512) (64 * k.val + 16 * 2 + 512) _ _ _ _ (k0_off6_eq k ⟨1, by decide⟩) (by omega) (fun z y h0 h1 => norm_tile x g _ (4 * k.val + 1 + 32) ?_ z y (by omega) h1) ?_
    · exact (tile_read _ fx x hx _ _ _ (k0_off5_eq k ⟨1, by decide⟩)).trans (congrArg _ (by show 64 * k.val + 16 * 1 + 512 = 16 * (4 * k.val + 1 + 32); omega))
    refine rows_put _ _ _ (64 * k.val + 16 * 0 + 512) (64 * k.val + 16 * 1 + 512) _ _ _ _ (k0_off6_eq k ⟨0, by decide⟩) (by omega) (fun z y h0 h1 => norm_tile x g _ (4 * k.val + 0 + 32) ?_ z y (by omega) h1) ?_
    · exact (tile_read _ fx x hx _ _ _ (k0_off5_eq k ⟨0, by decide⟩)).trans (congrArg _ (by show 64 * k.val + 16 * 0 + 512 = 16 * (4 * k.val + 0 + 32); omega))
    · intro y hy
      exact hh y (by omega)

end inv

end Cert.KernelFfnIdeal.Hand
-- ==== Proof.FfnSpec.lean ====
/-
  The feed-forward layer over the extended reals: what its result holds at a row and a column, and the payloads of the kernel's
  body read at an element.
-/
module

public import proofs.«01_k».proof.Proof.FfnRows
public import Idealize.ShloMosaic.Lib.Pointwise

@[expose] public section

set_option maxRecDepth 16384

noncomputable section

namespace Cert.Ffn

open Idealize.ShloMosaic Idealize.ShloMosaic.TcCoe

/-- A row's entry, normalised by the row's root mean square, times the gain. -/
def scaled (row : Fin 4096 → EReal) (gain : Fin 4096 → EReal) (k : Fin 4096) : EReal :=
  row k * Ideal.rsqrt (Ideal.div (∑ j : Fin 4096, row j * row j) (Ideal.ofBits .f32 0x45800000#32) + Ideal.ofBits .f32 0x358637BD#32) * gain k

/-- The gated activation: `g / (1 + e⁻ᵍ) · u`. -/
def gated (g u : EReal) : EReal := Ideal.div g (1 + Ideal.exp (-g)) * u

/-- The layer's result at row `r`, column `e`: the row's entry plus the down projection of the gated activations of the normalised row. -/
def ffnAt (x : (⟨2, ![16384, 4096]⟩ : Shape).Idx → EReal) (gain : (⟨2, ![2, 4096]⟩ : Shape).Idx → EReal)
    (wgu : (⟨3, ![2, 4096, 22016]⟩ : Shape).Idx → EReal) (wd : (⟨3, ![2, 11008, 4096]⟩ : Shape).Idx → EReal)
    (r : Fin 16384) (e : Fin 4096) : EReal :=
  x (ix2 r e) + ∑ f : Fin 11008,
    gated (∑ k : Fin 4096, scaled (fun j => x (ix2 r j)) (fun j => gain (ix2 0 j)) k * wgu (ix3 0 k ⟨f, by omega⟩))
      (∑ k : Fin 4096, scaled (fun j => x (ix2 r j)) (fun j => gain (ix2 0 j)) k * wgu (ix3 0 k ⟨f + 11008, by omega⟩)) * wd (ix3 0 f e)

/-- The word 0x3F800000 is one. -/
theorem one_word : Ideal.ofBits .f32 0x3F800000#32 = 1 := by
  simp [Ideal.ofBits, Ideal.ieee, -EReal.coe_mul, ← EReal.coe_mul]
  norm_num

open Cert.KernelFfnIdeal Cert.KernelFfnIdeal.Gen Cert.KernelFfnIdeal.Hand

/-- Sixteen normalised rows at an element. -/
theorem normRows_at (g : Vec Ideal S1x4096 .f32) (t : Vec Ideal S16x4096 .f32) (p : Fin 16) (k : Fin 4096) :
    normRows (F := Ideal) g t (ix2 p k) = scaled (fun j => t (ix2 p j)) (fun j => g (ix2 0 j)) k := by
  unfold normRows k0_pay21 k0_pay4 k0_pay20 scaled
  pointwise []

/-- One chunk's update of the accumulated rows at an element. -/
theorem update_at (h : Vec Ideal S1024x4096 .bf16) (wg wu : Vec Ideal S1x4096x256 .bf16) (a : Vec Ideal S1024x4096 .f32)
    (wd : Vec Ideal S1x256x4096 .bf16) (p : Fin 1024) (e : Fin 4096) :
    k0_pay24 (F := Ideal) h wg wu a wd (ix2 p e) = a (ix2 p e) + ∑ q : Fin 256,
      gated (∑ k : Fin 4096, h (ix2 p k) * wg (ix3 0 k q)) (∑ k : Fin 4096, h (ix2 p k) * wu (ix3 0 k q)) * wd (ix3 0 q e) := by
  unfold k0_pay24
  pointwise []
  simp only [gated, zero_sub]

end Cert.Ffn

end
-- ==== Proof.FfnBody.lean ====
/-
  One grid point of the feed-forward kernel: the rows fetched and normalised, the chunks added up, the block left at the result.
-/
module

public import proofs.«01_k».proof.Proof.FfnRows
import Idealize.ShloMosaic.Lib.VecWindow

@[expose] public section

set_option maxRecDepth 16384

noncomputable section

namespace Cert.KernelFfnIdeal.Hand

open Cert.KernelFfnIdeal Cert.KernelFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section body
variable (c : Dev nD) (w0 : Buf (Elt F) ((c : Thread nD τ).loc main_arg0)) (w3 : Buf (Elt F) ((c : Thread nD τ).loc main_v3)) (w4 : Buf (Elt F) ((c : Thread nD τ).loc main_v4))

/-- Grid point `i`'s 1024 rows of the input. -/
def xblk (i : grid0.Coords) : Vec F S1024x4096 .f32 := fun y =>
  (Memref.whole main_arg0).view.read (Elt F) w0 (ix2 (n0 := 16384) ⟨(1024 * (i 0).val + (y 0).val) % 16384, Nat.mod_lt _ (by decide)⟩ (y 1))

/-- A window of the input at the grid point's rows reads as the block's rows. -/
theorem xblk_read (i : grid0.Coords) (off : ℕ) (hoff : off ≤ 512) (o : Fin 2 → ℕ) (ho) (h : o = ![1024 * (i 0).val + off, 0]) (z : S512x4096.Idx) :
    ((Memref.whole main_arg0).slice (Rect.unit (s := S16384x4096) o S512x4096.size ho) (fun _ => rfl)).view.read (Elt F) w0 z
      = xblk c w0 i (ix2 ⟨((z 0).val + off) % 1024, Nat.mod_lt _ (by decide)⟩ (z 1)) := by
  subst h
  have h0 := ho 0
  have h0 : 1024 * (i 0).val + off + 512 ≤ 16384 := ho 0
  have hz : (z 0).val < 512 := (z 0).isLt
  have hi : (i 0).val < 16 := (i 0).isLt
  refine congrArg ((Memref.whole main_arg0).view.read (Elt F) w0) ?_
  funext a
  match a with
  | 0 =>
    refine Fin.ext ?_
    show 1024 * (i 0).val + off + 1 * (z 0).val = (1024 * (i 0).val + ((z 0).val + off) % 1024) % 16384
    omega
  | 1 =>
    refine Fin.ext ?_
    show 0 + 1 * (z 1).val = (z 1).val
    omega

/-- The two halves' elements are the block's, and no others. -/
theorem halves_union (arg6 : Memref sig .tc .vmem S1024x4096 .f32) : (arg6.slice (Rect.unit (s := S1024x4096) ![0, 0] S512x4096.size inb_S1024x4096_S512x4096_0_0) (fun _ => rfl)).view.set ∪ (arg6.slice (Rect.unit (s := S1024x4096) ![512, 0] S512x4096.size inb_S1024x4096_S512x4096_512_0) (fun _ => rfl)).view.set = arg6.view.set := by
  refine Finset.Subset.antisymm (Finset.union_subset (View.set_slice_subset _ _) (View.set_slice_subset _ _)) fun e he => ?_
  obtain ⟨y, -, rfl⟩ := Finset.mem_map.mp he
  rw [Finset.mem_union]
  have hy : (y 0).val < 1024 := (y 0).isLt
  by_cases h : (y 0).val < 512
  · refine Or.inl (Finset.mem_map.mpr ⟨ix2 (n0 := 512) (n1 := 4096) ⟨(y 0).val, h⟩ (y 1), Finset.mem_univ _, congrArg arg6.view.emb ?_⟩)
    funext a
    match a with
    | 0 => exact Fin.ext (show 0 + 1 * (y 0).val = (y 0).val by omega)
    | 1 => exact Fin.ext (show 0 + 1 * (y 1).val = (y 1).val by omega)
  · refine Or.inr (Finset.mem_map.mpr ⟨ix2 (n0 := 512) (n1 := 4096) ⟨(y 0).val - 512, by omega⟩ (y 1), Finset.mem_univ _, congrArg arg6.view.emb ?_⟩)
    funext a
    match a with
    | 0 => exact Fin.ext (show 512 + 1 * ((y 0).val - 512) = (y 0).val by omega)
    | 1 => exact Fin.ext (show 0 + 1 * (y 1).val = (y 1).val by omega)

/-- The two halves have no element in common. -/
theorem halves_disjoint (arg6 : Memref sig .tc .vmem S1024x4096 .f32) : Disjoint (arg6.slice (Rect.unit (s := S1024x4096) ![0, 0] S512x4096.size inb_S1024x4096_S512x4096_0_0) (fun _ => rfl)).view.set (arg6.slice (Rect.unit (s := S1024x4096) ![512, 0] S512x4096.size inb_S1024x4096_S512x4096_512_0) (fun _ => rfl)).view.set := by
  refine Finset.disjoint_left.mpr fun e h1 h2 => ?_
  obtain ⟨y, -, rfl⟩ := Finset.mem_map.mp h1
  obtain ⟨z, -, hz⟩ := Finset.mem_map.mp h2
  have h := congrArg (fun w : S1024x4096.Idx => (w 0).val) (arg6.view.emb.injective hz)
  have h' : 512 + 1 * (z 0).val = 0 + 1 * (y 0).val := h
  have hy : (y 0).val < 512 := (y 0).isLt
  omega

/-- A block held whole, as its two halves. -/
theorem split_halves (arg6 : Memref sig .tc .vmem S1024x4096 .f32) (f) :
    (arg6.view.loc (c : Thread nD τ) ↦[arg6.view.set]{fullShare} f : sProp 𝕄)
    ⊢ iprop((∃ f, (arg6.slice (Rect.unit (s := S1024x4096) ![0, 0] S512x4096.size inb_S1024x4096_S512x4096_0_0) (fun _ => rfl)).view.loc (c : Thread nD τ) ↦[(arg6.slice (Rect.unit (s := S1024x4096) ![0, 0] S512x4096.size inb_S1024x4096_S512x4096_0_0) (fun _ => rfl)).view.set]{fullShare} f) ∗ (∃ f, (arg6.slice (Rect.unit (s := S1024x4096) ![512, 0] S512x4096.size inb_S1024x4096_S512x4096_512_0) (fun _ => rfl)).view.loc (c : Thread nD τ) ↦[(arg6.slice (Rect.unit (s := S1024x4096) ![512, 0] S512x4096.size inb_S1024x4096_S512x4096_512_0) (fun _ => rfl)).view.set]{fullShare} f)) := by
  rw [← halves_union arg6]
  refine (pointsTo_union (halves_disjoint arg6)).1.trans ?_
  iintro ⟨H1, H2⟩
  isplitl [H1]; · iexists f; iexact H1
  iexists f; iexact H2

/-- Two halves that read as the two halves of `x`, as the block held at `x`. -/
theorem join_halves (arg6 : Memref sig .tc .vmem S1024x4096 .f32) (harg6 : arg6.IsWhole) (x : Vec F S1024x4096 .f32) (fx fy)
    (hx : ∀ z : S512x4096.Idx, (arg6.slice (Rect.unit (s := S1024x4096) ![0, 0] S512x4096.size inb_S1024x4096_S512x4096_0_0) (fun _ => rfl)).view.read (Elt F) fx z = x (ix2 ⟨((z 0).val + 0) % 1024, Nat.mod_lt _ (by decide)⟩ (z 1)))
    (hy : ∀ z : S512x4096.Idx, (arg6.slice (Rect.unit (s := S1024x4096) ![512, 0] S512x4096.size inb_S1024x4096_S512x4096_512_0) (fun _ => rfl)).view.read (Elt F) fy z = x (ix2 ⟨((z 0).val + 512) % 1024, Nat.mod_lt _ (by decide)⟩ (z 1))) :
    iprop(((arg6.slice (Rect.unit (s := S1024x4096) ![0, 0] S512x4096.size inb_S1024x4096_S512x4096_0_0) (fun _ => rfl)).view.loc (c : Thread nD τ) ↦[(arg6.slice (Rect.unit (s := S1024x4096) ![0, 0] S512x4096.size inb_S1024x4096_S512x4096_0_0) (fun _ => rfl)).view.set]{fullShare} fx) ∗ ((arg6.slice (Rect.unit (s := S1024x4096) ![512, 0] S512x4096.size inb_S1024x4096_S512x4096_512_0) (fun _ => rfl)).view.loc (c : Thread nD τ) ↦[(arg6.slice (Rect.unit (s := S1024x4096) ![512, 0] S512x4096.size inb_S1024x4096_S512x4096_512_0) (fun _ => rfl)).view.set]{fullShare} fy))
    ⊢ (owns (c : Thread nD τ) arg6 fullShare x : sProp 𝕄) := by
  refine (pointsTo_join (ℓ := arg6.view.loc (c : Thread nD τ)) (halves_disjoint arg6)).trans ?_
  rw [halves_union arg6]
  unfold owns
  iintro H
  iexists _; isplitr; swap; · iexact H
  ipureintro
  funext y
  have hb : (y 0).val < 1024 := (y 0).isLt
  by_cases h : (y 0).val < 512
  · have e : (Rect.unit (s := S1024x4096) ![0, 0] S512x4096.size inb_S1024x4096_S512x4096_0_0).emb (ix2 (n0 := 512) (n1 := 4096) ⟨(y 0).val, h⟩ (y 1)) = y := by
      funext a
      match a with
      | 0 => exact Fin.ext (show 0 + 1 * (y 0).val = (y 0).val by omega)
      | 1 => exact Fin.ext (show 0 + 1 * (y 1).val = (y 1).val by omega)
    have hm : arg6.view.emb y ∈ (arg6.slice (Rect.unit (s := S1024x4096) ![0, 0] S512x4096.size inb_S1024x4096_S512x4096_0_0) (fun _ => rfl)).view.set := Finset.mem_map.mpr ⟨_, Finset.mem_univ _, congrArg arg6.view.emb e⟩
    refine (View.read_congr_at (v := arg6.view) y (Finset.piecewise_eq_of_notMem _ _ _ (Finset.disjoint_left.mp (halves_disjoint arg6) hm))).trans ?_
    refine (congrArg (arg6.view.read (Elt F) fx) e.symm).trans ((hx _).trans (congrArg x ?_))
    funext a
    match a with
    | 0 => exact Fin.ext (show ((y 0).val + 0) % 1024 = (y 0).val by omega)
    | 1 => rfl
  · have e : (Rect.unit (s := S1024x4096) ![512, 0] S512x4096.size inb_S1024x4096_S512x4096_512_0).emb (ix2 (n0 := 512) (n1 := 4096) ⟨(y 0).val - 512, by omega⟩ (y 1)) = y := by
      funext a
      match a with
      | 0 => exact Fin.ext (show 512 + 1 * ((y 0).val - 512) = (y 0).val by omega)
      | 1 => exact Fin.ext (show 0 + 1 * (y 1).val = (y 1).val by omega)
    have hm : arg6.view.emb y ∈ (arg6.slice (Rect.unit (s := S1024x4096) ![512, 0] S512x4096.size inb_S1024x4096_S512x4096_512_0) (fun _ => rfl)).view.set := Finset.mem_map.mpr ⟨_, Finset.mem_univ _, congrArg arg6.view.emb e⟩
    refine (View.read_congr_at (v := arg6.view) y (Finset.piecewise_eq_of_mem _ _ _ hm)).trans ?_
    refine (congrArg (arg6.view.read (Elt F) fy) e.symm).trans ((hy _).trans (congrArg x ?_))
    funext a
    match a with
    | 0 => exact Fin.ext (show ((y 0).val - 512 + 512) % 1024 = (y 0).val by omega)
    | 1 => rfl

/-- What one grid point finds and leaves besides its windows: the read tokens of the arrays it copies from, its scratch buffers at any
    contents, the slots of the ring buffers each by its own elements, its cells at zero. -/
def idle : sProp 𝕄 :=
  iprop(ptW c main_arg0 (Transfers.shareTokN fullShare 4) w0 ∗ ptW c main_arg0 (Transfers.shareTokN fullShare 5) w0
      ∗ ptW c main_v3 (Transfers.shareTokN fullShare 6) w3 ∗ ptW c main_v3 (Transfers.shareTokN fullShare 7) w3
      ∗ ptW c main_v3 (Transfers.shareTokN fullShare 9) w3 ∗ ptW c main_v3 (Transfers.shareTokN fullShare 10) w3
      ∗ ptW c main_v4 fullShare w4
      ∗ (∃ f, ptW c cc0_scratch0 fullShare f)
      ∗ (∃ g, slotP c gS0 g) ∗ (∃ g, slotP c uS0 g) ∗ (∃ g, slotP c dS0 g)
      ∗ (∃ g, slotP c gS1 g) ∗ (∃ g, slotP c uS1 g) ∗ (∃ g, slotP c dS1 g)
      ∗ semVal ((c : Thread nD τ), SemLoc.dma 4) 0 ∗ semVal ((c : Thread nD τ), SemLoc.dma 5) 0
      ∗ semVal ((c : Thread nD τ), SemLoc.dma 6) 0 ∗ semVal ((c : Thread nD τ), SemLoc.dma 7) 0 ∗ semVal ((c : Thread nD τ), SemLoc.dma 8) 0
      ∗ semVal ((c : Thread nD τ), SemLoc.dma 9) 0 ∗ semVal ((c : Thread nD τ), SemLoc.dma 10) 0 ∗ semVal ((c : Thread nD τ), SemLoc.dma 11) 0
      ∗ (∃ W, owes (c : Thread nD τ) 0 W))

/-- THE GRID POINT: from its windows, scratch buffers and cells at rest it ends with the result in its block and everything else as found. -/
theorem body (i : grid0.Coords) (arg2 : Memref sig .tc .vmem S1x4096 .f32) (harg2 : arg2.IsWhole)
    (arg5 : Memref sig .tc .vmem S1x4096 .f32) (harg5 : arg5.IsWhole) (arg6 : Memref sig .tc .vmem S1024x4096 .f32) (harg6 : arg6.IsWhole)
    (g : Vec F S1x4096 .f32) :
    iprop(idle c w0 w3 w4 ∗ owns (c : Thread nD τ) arg2 fullShare g
      ∗ (∃ f, (arg6.slice (Rect.unit (s := S1024x4096) ![0, 0] S512x4096.size inb_S1024x4096_S512x4096_0_0) (fun _ => rfl)).view.loc (c : Thread nD τ) ↦[(arg6.slice (Rect.unit (s := S1024x4096) ![0, 0] S512x4096.size inb_S1024x4096_S512x4096_0_0) (fun _ => rfl)).view.set]{fullShare} f)
      ∗ (∃ f, (arg6.slice (Rect.unit (s := S1024x4096) ![512, 0] S512x4096.size inb_S1024x4096_S512x4096_512_0) (fun _ => rfl)).view.loc (c : Thread nD τ) ↦[(arg6.slice (Rect.unit (s := S1024x4096) ![512, 0] S512x4096.size inb_S1024x4096_S512x4096_512_0) (fun _ => rfl)).view.set]{fullShare} f))
    ⊢ wp frame (wpE (defs₀ (F := F)) Variants.none (c : Thread nD τ) none) Set.univ
      (cc0_ffn i (Memref.whole main_arg0) (Memref.isWhole_whole _) arg2 harg2 (Memref.whole main_v3) (Memref.isWhole_whole _)
        (Memref.whole main_v4) (Memref.isWhole_whole _) arg5 harg5 arg6 harg6 (Memref.whole cc0_scratch0) (Memref.isWhole_whole _)
        (Memref.whole cc0_scratch1) (Memref.isWhole_whole _) (Memref.whole cc0_scratch2) (Memref.isWhole_whole _)
        (Memref.whole cc0_scratch3) (Memref.isWhole_whole _) cc0_scratch4 cc0_scratch5) (fun _ => iprop(idle c w0 w3 w4 ∗ owns (c : Thread nD τ) arg2 fullShare g
        ∗ owns (c : Thread nD τ) arg6 fullShare (acc c w3 w4 (xblk c w0 i) (normed (xblk c w0 i) g) 43))) := by
  unfold owns idle
  iintro ⟨⟨X4, X5, A6, A7, A9, A10, B, ⟨%fh, HH⟩, ⟨%e1, G0⟩, ⟨%e2, U0⟩, ⟨%e3, D0⟩, ⟨%e4, G1⟩, ⟨%e5, U1⟩, ⟨%e6, D1⟩, C4, C5, C6, C7, C8, C9, C10, C11, ⟨%W, HO⟩⟩, ⟨%f2, %hf2, H2⟩, ⟨%fx, HX⟩, ⟨%fy, HY⟩⟩
  sl_unfold [cc0_ffn, k0_part9, k0_part10]
  sl_exec
  have hg : arg2.view.readAt (Elt F) (Rect.unit (s := S1x4096) ![0, 0] S1x4096.size inb_S1x4096_S1x4096_0_0).toLoadRect f2 = g :=
    (View.readAt_full _ _ _).trans hf2
  rw [hg]
  iapply (Scf.wp_for_bind frame (wpE (defs₀ (F := F)) Variants.none (c : Thread nD τ) none) Set.univ _ _ _ k0_t1_ok ()
    (k0_t1_body (F := F) i (Memref.whole main_arg0) (Memref.isWhole_whole _) arg2 harg2 (Memref.whole main_v3) (Memref.isWhole_whole _)
        (Memref.whole main_v4) (Memref.isWhole_whole _) arg5 harg5 arg6 harg6 (Memref.whole cc0_scratch0) (Memref.isWhole_whole _)
        (Memref.whole cc0_scratch1) (Memref.isWhole_whole _) (Memref.whole cc0_scratch2) (Memref.isWhole_whole _)
        (Memref.whole cc0_scratch3) (Memref.isWhole_whole _) cc0_scratch4 cc0_scratch5 (BitVec.ofNat 32 (i 0).val) g)
    (fun k _ => res1 c arg6 (xblk c w0 i) g k) (fun k _ => trip1 c i arg2 harg2 arg5 harg5 arg6 harg6 (xblk c w0 i) g _ k)) $$ [HX HH]
  · unfold res1
    isplitl [HX]
    · iexists _; isplitr; swap; · iexact HX
      ipureintro
      intro z
      refine (congrFun (View.read_writes_whole (arg6.slice (Rect.unit (s := S1024x4096) ![0, 0] S512x4096.size inb_S1024x4096_S512x4096_0_0) (fun _ => rfl)).view _ (body.sl.dma0_3 c w0 i)) z).trans ?_
      unfold body.sl.dma0_3
      exact xblk_read c w0 i 0 (by decide) _ _ (k0_off2_eq i ⟨0, by decide⟩) z
    · iexists fh; isplitr; swap; · iexact HH
      ipureintro
      intro y hy
      exact absurd hy (by omega)
  iintro %u1 HI
  unfold res1
  icases HI with ⟨⟨%fx1, %hx1, HX⟩, ⟨%fh1, %hh1, HH⟩⟩
  sl_exec
  iapply (Scf.wp_for_bind frame (wpE (defs₀ (F := F)) Variants.none (c : Thread nD τ) none) Set.univ _ _ _ k0_t2_ok ()
    (k0_t2_body (F := F) i (Memref.whole main_arg0) (Memref.isWhole_whole _) arg2 harg2 (Memref.whole main_v3) (Memref.isWhole_whole _)
        (Memref.whole main_v4) (Memref.isWhole_whole _) arg5 harg5 arg6 harg6 (Memref.whole cc0_scratch0) (Memref.isWhole_whole _)
        (Memref.whole cc0_scratch1) (Memref.isWhole_whole _) (Memref.whole cc0_scratch2) (Memref.isWhole_whole _)
        (Memref.whole cc0_scratch3) (Memref.isWhole_whole _) cc0_scratch4 cc0_scratch5 (BitVec.ofNat 32 (i 0).val) g)
    (fun k _ => res2 c arg6 (xblk c w0 i) g k) (fun k _ => trip2 c i arg2 harg2 arg5 harg5 arg6 harg6 (xblk c w0 i) g _ k)) $$ [HY HH]
  · unfold res2
    isplitl [HY]
    · iexists _; isplitr; swap; · iexact HY
      ipureintro
      intro z
      refine (congrFun (View.read_writes_whole (arg6.slice (Rect.unit (s := S1024x4096) ![512, 0] S512x4096.size inb_S1024x4096_S512x4096_512_0) (fun _ => rfl)).view _ (body.sl.dma0_4 c w0 i)) z).trans ?_
      unfold body.sl.dma0_4
      exact xblk_read c w0 i 512 (by decide) _ _ (k0_off2_eq i ⟨1, by decide⟩) z
    · iexists fh1; isplitr; swap; · iexact HH
      ipureintro
      intro y hy
      exact hh1 y (lt_of_lt_of_le hy (by decide))
  iintro %u2 HI
  unfold res2
  icases HI with ⟨⟨%fy2, %hy2, HY⟩, ⟨%fh2, %hh2, HH⟩⟩
  have hfh : (Memref.whole cc0_scratch0).view.read (Elt F) fh2 = normed (xblk c w0 i) g :=
    funext fun y => hh2 y (lt_of_lt_of_le (y 0).isLt (by decide))
  ihave H6 := (join_halves c arg6 harg6 (xblk c w0 i) fx1 fy2 hx1 hy2) $$ [HX HY]
  · isplitl [HX]; · iexact HX
    iexact HY
  iapply (Scf.wp_for_bind frame (wpE (defs₀ (F := F)) Variants.none (c : Thread nD τ) none) Set.univ _ _ _ k0_t3_ok ()
    (k0_t3_body (F := F) i (Memref.whole main_arg0) (Memref.isWhole_whole _) arg2 harg2 (Memref.whole main_v3) (Memref.isWhole_whole _)
        (Memref.whole main_v4) (Memref.isWhole_whole _) arg5 harg5 arg6 harg6 (Memref.whole cc0_scratch0) (Memref.isWhole_whole _)
        (Memref.whole cc0_scratch1) (Memref.isWhole_whole _) (Memref.whole cc0_scratch2) (Memref.isWhole_whole _)
        (Memref.whole cc0_scratch3) (Memref.isWhole_whole _) cc0_scratch4 cc0_scratch5 (BitVec.ofNat 32 (i 0).val))
    (fun k _ => res3 c w3 w4 arg6 (xblk c w0 i) fh2 (2 * k)) (fun k _ => trip3 c w3 w4 i arg2 harg2 arg5 harg5 arg6 harg6 (xblk c w0 i) fh2 _ k))
    $$ [C6 A6 C7 A7 C8 B H6 HH A9 A10 G1 U1 D1 C9 C10 C11 HO]
  · unfold res3
    isplitl [C6 A6]
    · iapply (foldG c w3 0 ![0, 0, 0] _ rfl e1 [] (body.sl.dma0 c w3) (by unfold body.sl.dma0; rfl)) $$ [C6 A6]
      isplitl [C6]; · iexact C6
      iexact A6
    isplitl [C7 A7]
    · iapply (foldU c w3 0 ![0, 0, 11008] _ rfl e2 [] (body.sl.dma0_1 c w3) (by unfold body.sl.dma0_1; rfl)) $$ [C7 A7]
      isplitl [C7]; · iexact C7
      iexact A7
    isplitl [C8 B]
    · iapply (foldD c w4 0 ![0, 0, 0] _ rfl e3 [] (body.sl.dma0_2 c w4) (by unfold body.sl.dma0_2; rfl)) $$ [C8 B]
      isplitl [C8]; · iexact C8
      iexact B
    isplitl [H6]; · iexact H6
    isplitl [HH]; · iexact HH
    isplitl [A9]; · iexact A9
    isplitl [A10]; · iexact A10
    isplitl [G1]; · iexists _; iexact G1
    isplitl [U1]; · iexists _; iexact U1
    isplitl [D1]; · iexists _; iexact D1
    isplitl [C9]; · iexact C9
    isplitl [C10]; · iexact C10
    isplitl [C11]; · iexact C11
    iexists _; iexact HO
  iintro %u3 HI
  rw [show 2 * Scf.trips k0_t3_loop.lb k0_t3_loop.ub k0_t3_loop.st = 42 from by decide]
  unfold res3 owns
  icases HI with ⟨⟨%g1, C6, A6⟩, ⟨%g2, C7, A7⟩, ⟨%g3, C8, B⟩, ⟨%f6, %hf6, H6⟩, HH, A9, A10, ⟨%e1', G1⟩, ⟨%e2', U1⟩, ⟨%e3', D1⟩, C9, C10, C11, ⟨%W', HO⟩⟩
  sl_exec
  sl_step
  isplitl [X4 X5 A6 A7 A9 A10 B HH C6_dst C7_dst C8_dst G1 U1 D1 C4 C5 C6 C7 C8 C9 C10 C11 HO]
  · isplitl [X4]; · iexact X4
    isplitl [X5]; · iexact X5
    isplitl [A6]; · iexact A6
    isplitl [A7]; · iexact A7
    isplitl [A9]; · iexact A9
    isplitl [A10]; · iexact A10
    isplitl [B]; · iexact B
    isplitl [HH]; · iexists _; iexact HH
    isplitl [C6_dst]; · iexists _; iexact C6_dst
    isplitl [C7_dst]; · iexists _; iexact C7_dst
    isplitl [C8_dst]; · iexists _; iexact C8_dst
    isplitl [G1]; · iexists _; iexact G1
    isplitl [U1]; · iexists _; iexact U1
    isplitl [D1]; · iexists _; iexact D1
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    iexists _; iexact HO
  isplitl [H2]
  · iexists f2; isplitr; · ipureintro; exact hf2
    iexact H2
  iexists _; isplitr; swap; · iexact H6
  ipureintro
  refine (View.read_writes_full arg6.view f6 _ _ _).trans ?_
  have q1 : body.sl.r fh2 = normed (xblk c w0 i) g := by unfold body.sl.r; exact (readAt_h c fh2).trans hfh
  have q2 : body.sl.r_1 c w3 fh2 = k0_pay25 (normed (xblk c w0 i) g) (gV c w3 42) := by
    unfold body.sl.r_1; exact congrArg₂ k0_pay25 ((readAt_h c fh2).trans hfh) (by unfold body.sl.v72; exact ld_gS0 c w3 _ _ _ rfl)
  have q3 : body.sl.v75 c w3 = uV c w3 42 := by unfold body.sl.v75; exact ld_uS0 c w3 _ _ _ rfl
  have q4 : body.sl.v88 c w4 = dV c w4 42 := by unfold body.sl.v88; exact ld_dS0 c w4 _ _ _ rfl
  rw [q1, q2, q3, q4, View.readAt_full, hf6, hfh]
  rfl
end body

end Cert.KernelFfnIdeal.Hand
-- ==== Proof.FfnFrame.lean ====
/-
  The feed-forward kernel's run: what a grid point uses taken out of the launch's invariant and put back, the proof data of the pipeline,
  the run, and the frame.
-/
module

public import proofs.«01_k».proof.Proof.FfnBody

@[expose] public section

set_option maxRecDepth 16384

noncomputable section

namespace Cert.KernelFfnIdeal.Hand

open Cert.KernelFfnIdeal Cert.KernelFfnIdeal.Gen Cert.FfnShared
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (Pipeline.UD sig nD τ) ℕ

/-- `main_arg0` as what remains of it after 6 read tokens, and the tokens. -/
theorem toks_main_arg0 (c : Dev nD) (w : Buf (Elt F) ((c : Thread nD τ).loc main_arg0)) :
    (ptW c main_arg0 fullShare w : sProp 𝕄) ⊣⊢ iprop(ptW c main_arg0 (Transfers.shareDrop fullShare 6) w
      ∗ ptW c main_arg0 (Transfers.shareTokN fullShare 0) w ∗ ptW c main_arg0 (Transfers.shareTokN fullShare 1) w ∗ ptW c main_arg0 (Transfers.shareTokN fullShare 2) w ∗ ptW c main_arg0 (Transfers.shareTokN fullShare 3) w ∗ ptW c main_arg0 (Transfers.shareTokN fullShare 4) w ∗ ptW c main_arg0 (Transfers.shareTokN fullShare 5) w) := by
  refine (Transfers.pointsTo_toks_range fullShare 6).trans ?_
  rw [bigSep_eq_bigSepL_of_eq [0, 1, 2, 3, 4, 5] (by decide) (by decide)]
  exact .rfl

/-- `main_v3` as what remains of it after 11 read tokens, and the tokens. -/
theorem toks_main_v3 (c : Dev nD) (w : Buf (Elt F) ((c : Thread nD τ).loc main_v3)) :
    (ptW c main_v3 fullShare w : sProp 𝕄) ⊣⊢ iprop(ptW c main_v3 (Transfers.shareDrop fullShare 11) w
      ∗ ptW c main_v3 (Transfers.shareTokN fullShare 0) w ∗ ptW c main_v3 (Transfers.shareTokN fullShare 1) w ∗ ptW c main_v3 (Transfers.shareTokN fullShare 2) w ∗ ptW c main_v3 (Transfers.shareTokN fullShare 3) w ∗ ptW c main_v3 (Transfers.shareTokN fullShare 4) w ∗ ptW c main_v3 (Transfers.shareTokN fullShare 5) w ∗ ptW c main_v3 (Transfers.shareTokN fullShare 6) w ∗ ptW c main_v3 (Transfers.shareTokN fullShare 7) w ∗ ptW c main_v3 (Transfers.shareTokN fullShare 8) w ∗ ptW c main_v3 (Transfers.shareTokN fullShare 9) w ∗ ptW c main_v3 (Transfers.shareTokN fullShare 10) w) := by
  refine (Transfers.pointsTo_toks_range fullShare 11).trans ?_
  rw [bigSep_eq_bigSepL_of_eq [0, 1, 2, 3, 4, 5, 6, 7, 8, 9, 10] (by decide) (by decide)]
  exact .rfl

/-- A buffer whole at some contents is two disjoint parts that make it up, each at some contents. -/
theorem split_parts {ℓ : Loc nD τ sig} {A B : Finset (Idx ℓ)} (hd : Disjoint A B) (hu : A ∪ B = Finset.univ) :
    (iprop(∃ f : Buf (Elt F) ℓ, ℓ ↦{fullShare} f) : sProp 𝕄) ⊢ iprop((∃ g, ℓ ↦[A]{fullShare} g) ∗ (∃ g, ℓ ↦[B]{fullShare} g)) := by
  iintro ⟨%f, H⟩
  have h : (ℓ ↦{fullShare} f : sProp 𝕄) ⊢ iprop((ℓ ↦[A]{fullShare} f) ∗ (ℓ ↦[B]{fullShare} f)) := by
    refine BIBase.Entails.trans ?_ (pointsTo_union hd).1
    rw [hu]
  ihave H' := h $$ H
  icases H' with ⟨H1, H2⟩
  isplitl [H1]; · iexists f; iexact H1
  iexists f; iexact H2

/-- The same the other way. -/
theorem join_parts {ℓ : Loc nD τ sig} {A B : Finset (Idx ℓ)} (hd : Disjoint A B) (hu : A ∪ B = Finset.univ) :
    (iprop((∃ g, ℓ ↦[A]{fullShare} g) ∗ (∃ g, ℓ ↦[B]{fullShare} g)) : sProp 𝕄) ⊢ iprop(∃ f : Buf (Elt F) ℓ, ℓ ↦{fullShare} f) := by
  iintro ⟨⟨%f, H1⟩, ⟨%g, H2⟩⟩
  have h : (iprop((ℓ ↦[A]{fullShare} f) ∗ (ℓ ↦[B]{fullShare} g)) : sProp 𝕄) ⊢ ℓ ↦{fullShare} (B.piecewise g f) := by
    refine (pointsTo_join hd).trans ?_
    rw [hu]
  iexists _
  iapply h $$ [H1 H2]
  isplitl [H1]; · iexact H1
  iexact H2

/-- The gate's ring buffer is its two slots. -/
theorem union_g : gS0.view.set ∪ gS1.view.set = (Memref.whole cc0_scratch1 : Memref sig .tc .vmem _ _).view.set :=
  slots_union (n := 4096) (k := 256) (Memref.whole cc0_scratch1) inb_S2x4096x256_S1x4096x256_0_0_0 inb_S2x4096x256_S1x4096x256_1_0_0 squeezes_S1x4096x256_S4096x256

theorem disjoint_g : Disjoint gS0.view.set gS1.view.set :=
  slots_disjoint (n := 4096) (k := 256) (Memref.whole cc0_scratch1) inb_S2x4096x256_S1x4096x256_0_0_0 inb_S2x4096x256_S1x4096x256_1_0_0 squeezes_S1x4096x256_S4096x256

/-- A ring buffer whole at some contents, and its two slots each at some contents: the same. -/
theorem split_g (c : Dev nD) :
    (iprop(∃ f : Buf (Elt F) ((c : Thread nD τ).loc cc0_scratch1), ptW c cc0_scratch1 fullShare f) : sProp 𝕄)
      ⊢ iprop((∃ g, slotP c gS0 g) ∗ (∃ g, slotP c gS1 g)) :=
  split_parts disjoint_g (union_g.trans (View.set_whole _))

theorem join_g (c : Dev nD) :
    (iprop((∃ g, slotP c gS0 g) ∗ (∃ g, slotP c gS1 g)) : sProp 𝕄)
      ⊢ iprop(∃ f : Buf (Elt F) ((c : Thread nD τ).loc cc0_scratch1), ptW c cc0_scratch1 fullShare f) :=
  join_parts disjoint_g (union_g.trans (View.set_whole _))

/-- The up-projection's ring buffer is its two slots. -/
theorem union_u : uS0.view.set ∪ uS1.view.set = (Memref.whole cc0_scratch2 : Memref sig .tc .vmem _ _).view.set :=
  slots_union (n := 4096) (k := 256) (Memref.whole cc0_scratch2) inb_S2x4096x256_S1x4096x256_0_0_0 inb_S2x4096x256_S1x4096x256_1_0_0 squeezes_S1x4096x256_S4096x256

theorem disjoint_u : Disjoint uS0.view.set uS1.view.set :=
  slots_disjoint (n := 4096) (k := 256) (Memref.whole cc0_scratch2) inb_S2x4096x256_S1x4096x256_0_0_0 inb_S2x4096x256_S1x4096x256_1_0_0 squeezes_S1x4096x256_S4096x256

/-- A ring buffer whole at some contents, and its two slots each at some contents: the same. -/
theorem split_u (c : Dev nD) :
    (iprop(∃ f : Buf (Elt F) ((c : Thread nD τ).loc cc0_scratch2), ptW c cc0_scratch2 fullShare f) : sProp 𝕄)
      ⊢ iprop((∃ g, slotP c uS0 g) ∗ (∃ g, slotP c uS1 g)) :=
  split_parts disjoint_u (union_u.trans (View.set_whole _))

theorem join_u (c : Dev nD) :
    (iprop((∃ g, slotP c uS0 g) ∗ (∃ g, slotP c uS1 g)) : sProp 𝕄)
      ⊢ iprop(∃ f : Buf (Elt F) ((c : Thread nD τ).loc cc0_scratch2), ptW c cc0_scratch2 fullShare f) :=
  join_parts disjoint_u (union_u.trans (View.set_whole _))

/-- The down-projection's ring buffer is its two slots. -/
theorem union_d : dS0.view.set ∪ dS1.view.set = (Memref.whole cc0_scratch3 : Memref sig .tc .vmem _ _).view.set :=
  slots_union (n := 256) (k := 4096) (Memref.whole cc0_scratch3) inb_S2x256x4096_S1x256x4096_0_0_0 inb_S2x256x4096_S1x256x4096_1_0_0 squeezes_S1x256x4096_S256x4096

theorem disjoint_d : Disjoint dS0.view.set dS1.view.set :=
  slots_disjoint (n := 256) (k := 4096) (Memref.whole cc0_scratch3) inb_S2x256x4096_S1x256x4096_0_0_0 inb_S2x256x4096_S1x256x4096_1_0_0 squeezes_S1x256x4096_S256x4096

/-- A ring buffer whole at some contents, and its two slots each at some contents: the same. -/
theorem split_d (c : Dev nD) :
    (iprop(∃ f : Buf (Elt F) ((c : Thread nD τ).loc cc0_scratch3), ptW c cc0_scratch3 fullShare f) : sProp 𝕄)
      ⊢ iprop((∃ g, slotP c dS0 g) ∗ (∃ g, slotP c dS1 g)) :=
  split_parts disjoint_d (union_d.trans (View.set_whole _))

theorem join_d (c : Dev nD) :
    (iprop((∃ g, slotP c dS0 g) ∗ (∃ g, slotP c dS1 g)) : sProp 𝕄)
      ⊢ iprop(∃ f : Buf (Elt F) ((c : Thread nD τ).loc cc0_scratch3), ptW c cc0_scratch3 fullShare f) :=
  join_parts disjoint_d (union_d.trans (View.set_whole _))

/-! ## The invariant of the launch -/

abbrev osem0 : Fin 8 → SemLoc sig := fun j => (![SemLoc.dma 4, SemLoc.dma 5, SemLoc.dma 6, SemLoc.dma 7, SemLoc.dma 8, SemLoc.dma 9, SemLoc.dma 10, SemLoc.dma 11] : Fin 8 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) := by
  rw [Pipeline.ownSems0_eq_of_list c osem0 [0, 1, 2, 3, 4, 5, 6, 7] (by decide) (by decide)]; rfl
/-- The arrays the body copies from: the input and the two weight arrays. -/
def H0 : Finset (Ref sig .tc) := {main_arg0, main_v3, main_v4}
theorem H0_sub : H0 ⊆ Pipeline.restRefs sig spec0 := by decide
theorem arrays_eq (c : Dev nD) :
    (bigSep H0 (fun b => ((c : Thread nD τ).loc b) ↦{fullShare} V m c b) : sProp 𝕄) = iprop(ptW c main_arg0 fullShare (V m c main_arg0) ∗ ptW c main_v3 fullShare (V m c main_v3) ∗ ptW c main_v4 fullShare (V m c main_v4)) := by
  rw [BI.bigSep_eq_bigSepL_of_eq [main_arg0, main_v3, main_v4] (by decide) (by decide)]; rfl

/-- The launch's invariant, part by part. -/
theorem PhiD_eq (c : Dev nD) :
    (Pipeline.ΦD osem0 spec0 H0 (V m) c : sProp 𝕄)
      = iprop(iprop((∃ f : Buf (Elt F) ((c : Thread nD τ).loc cc0_scratch0), ptW c cc0_scratch0 fullShare f) ∗ (∃ f : Buf (Elt F) ((c : Thread nD τ).loc cc0_scratch1), ptW c cc0_scratch1 fullShare f) ∗ (∃ f : Buf (Elt F) ((c : Thread nD τ).loc cc0_scratch2), ptW c cc0_scratch2 fullShare f) ∗ (∃ f : Buf (Elt F) ((c : Thread nD τ).loc cc0_scratch3), ptW c cc0_scratch3 fullShare f)) ∗ (∃ r, prngReg c r) ∗ iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) ∗ iprop(ptW c main_arg0 fullShare (V m c main_arg0) ∗ ptW c main_v3 fullShare (V m c main_v3) ∗ ptW c main_v4 fullShare (V m c main_v4))) := by
  rw [Pipeline.ΦD_eq, scopedRest0_eq, ownSems00_eq, arrays_eq]

/-- What a grid point leaves alone of the invariant: the generator's register and the read tokens it has no use for. -/
def spare (c : Dev nD) (w0 : Buf (Elt F) ((c : Thread nD τ).loc main_arg0)) (w3 : Buf (Elt F) ((c : Thread nD τ).loc main_v3)) : sProp 𝕄 :=
  iprop((∃ r, prngReg c r) ∗ ptW c main_arg0 (Transfers.shareDrop fullShare 6) w0
    ∗ ptW c main_arg0 (Transfers.shareTokN fullShare 0) w0 ∗ ptW c main_arg0 (Transfers.shareTokN fullShare 1) w0 ∗ ptW c main_arg0 (Transfers.shareTokN fullShare 2) w0 ∗ ptW c main_arg0 (Transfers.shareTokN fullShare 3) w0
    ∗ ptW c main_v3 (Transfers.shareDrop fullShare 11) w3
    ∗ ptW c main_v3 (Transfers.shareTokN fullShare 0) w3 ∗ ptW c main_v3 (Transfers.shareTokN fullShare 1) w3 ∗ ptW c main_v3 (Transfers.shareTokN fullShare 2) w3 ∗ ptW c main_v3 (Transfers.shareTokN fullShare 3) w3 ∗ ptW c main_v3 (Transfers.shareTokN fullShare 4) w3 ∗ ptW c main_v3 (Transfers.shareTokN fullShare 5) w3 ∗ ptW c main_v3 (Transfers.shareTokN fullShare 8) w3)

/-- The invariant and the record of what is owed, as what a grid point uses and what it leaves alone. -/
theorem open_idle (c : Dev nD) :
    (iprop(Pipeline.ΦD osem0 spec0 H0 (V m) c ∗ (∃ W, owes (c : Thread nD τ) 0 W)) : sProp 𝕄)
      ⊢ iprop(idle c (V m c main_arg0) (V m c main_v3) (V m c main_v4) ∗ spare c (V m c main_arg0) (V m c main_v3)) := by
  rw [PhiD_eq]
  unfold idle spare
  iintro ⟨⟨⟨HH, G, U, D⟩, R, ⟨C4, C5, C6, C7, C8, C9, C10, C11⟩, ⟨X, A, B⟩⟩, HO⟩
  ihave X' := (toks_main_arg0 c _).1 $$ X
  icases X' with ⟨X, X0, X1, X2, X3, X4, X5⟩
  ihave A' := (toks_main_v3 c _).1 $$ A
  icases A' with ⟨A, A0, A1, A2, A3, A4, A5, A6, A7, A8, A9, A10⟩
  ihave G' := split_g c $$ G
  icases G' with ⟨G0, G1⟩
  ihave U' := split_u c $$ U
  icases U' with ⟨U0, U1⟩
  ihave D' := split_d c $$ D
  icases D' with ⟨D0, D1⟩
  isplitl [X4 X5 A6 A7 A9 A10 B HH G0 U0 D0 G1 U1 D1 C4 C5 C6 C7 C8 C9 C10 C11 HO]
  · isplitl [X4]; · iexact X4
    isplitl [X5]; · iexact X5
    isplitl [A6]; · iexact A6
    isplitl [A7]; · iexact A7
    isplitl [A9]; · iexact A9
    isplitl [A10]; · iexact A10
    isplitl [B]; · iexact B
    isplitl [HH]; · iexact HH
    isplitl [G0]; · iexact G0
    isplitl [U0]; · iexact U0
    isplitl [D0]; · iexact D0
    isplitl [G1]; · iexact G1
    isplitl [U1]; · iexact U1
    isplitl [D1]; · iexact D1
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    iexact HO
  isplitl [R]; · iexact R
  isplitl [X]; · iexact X
  isplitl [X0]; · iexact X0
  isplitl [X1]; · iexact X1
  isplitl [X2]; · iexact X2
  isplitl [X3]; · iexact X3
  isplitl [A]; · iexact A
  isplitl [A0]; · iexact A0
  isplitl [A1]; · iexact A1
  isplitl [A2]; · iexact A2
  isplitl [A3]; · iexact A3
  isplitl [A4]; · iexact A4
  isplitl [A5]; · iexact A5
  iexact A8

/-- And back. -/
theorem close_idle (c : Dev nD) :
    (iprop(idle c (V m c main_arg0) (V m c main_v3) (V m c main_v4) ∗ spare c (V m c main_arg0) (V m c main_v3)) : sProp 𝕄)
      ⊢ iprop(Pipeline.ΦD osem0 spec0 H0 (V m) c ∗ (∃ W, owes (c : Thread nD τ) 0 W)) := by
  rw [PhiD_eq]
  unfold idle spare
  iintro ⟨⟨X4, X5, A6, A7, A9, A10, B, HH, G0, U0, D0, G1, U1, D1, C4, C5, C6, C7, C8, C9, C10, C11, HO⟩, R, X, X0, X1, X2, X3, A, A0, A1, A2, A3, A4, A5, A8⟩
  isplitr [HO]; swap; · iexact HO
  isplitl [HH G0 G1 U0 U1 D0 D1]
  · isplitl [HH]; · iexact HH
    isplitl [G0 G1]
    · iapply join_g c $$ [G0 G1]
      isplitl [G0]; · iexact G0
      iexact G1
    isplitl [U0 U1]
    · iapply join_u c $$ [U0 U1]
      isplitl [U0]; · iexact U0
      iexact U1
    iapply join_d c $$ [D0 D1]
    isplitl [D0]; · iexact D0
    iexact D1
  isplitl [R]; · iexact R
  isplitl [C4 C5 C6 C7 C8 C9 C10 C11]
  · isplitl [C4]; · iexact C4
    isplitl [C5]; · iexact C5
    isplitl [C6]; · iexact C6
    isplitl [C7]; · iexact C7
    isplitl [C8]; · iexact C8
    isplitl [C9]; · iexact C9
    isplitl [C10]; · iexact C10
    iexact C11
  isplitl [X X0 X1 X2 X3 X4 X5]
  · iapply (toks_main_arg0 c _).2 $$ [X X0 X1 X2 X3 X4 X5]
    isplitl [X]; · iexact X
    isplitl [X0]; · iexact X0
    isplitl [X1]; · iexact X1
    isplitl [X2]; · iexact X2
    isplitl [X3]; · iexact X3
    isplitl [X4]; · iexact X4
    iexact X5
  isplitr [B]; swap; · iexact B
  iapply (toks_main_v3 c _).2 $$ [A A0 A1 A2 A3 A4 A5 A6 A7 A8 A9 A10]
  isplitl [A]; · iexact A
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  iexact A10

/-! ## The proof data -/

/-- @main up to the region. -/
theorem toRegion (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- What grid point `t` leaves in its block of the result. -/
def outAt (c : Dev nD) (t : Fin cfg0.N) : Vec F S1024x4096 .f32 :=
  acc c (V m c main_v3) (V m c main_v4) (xblk c (V m c main_arg0) (grid0.coords t))
    (normed (xblk c (V m c main_arg0) (grid0.coords t)) (iblk m c 0 t)) 43

/-- The proof data: the arrays as the region finds them; the inputs' blocks left in place, the result's at `outAt`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem left_0 (c : Dev nD) (t : Fin cfg0.N) : (dats m 0 c).after 0 t = iblk m c 0 t := by dsimp only [dats]
theorem left_1 (c : Dev nD) (t : Fin cfg0.N) : (dats m 0 c).after 1 t = iblk m c 1 t := by dsimp only [dats]
theorem left_2 (c : Dev nD) (t : Fin cfg0.N) : (dats m 0 c).after 2 t = outAt m c t := by dsimp only [dats]

/-- The gain's staging buffer holds its block at every point. -/
theorem found_0 (c : Dev nD) (t : Fin cfg0.N) (d) : (dats m 0 c).before 0 t d = iblk m c 0 t :=
  ((dats m 0 c).before_in_eq_fetched 0 rfl (fun _ => rfl) (fun _ _ _ => rfl) (fun t => by rw [left_0]; unfold Dat.blockOf iblk; rw [A_eq]; try rfl) t d).trans
    (by unfold Dat.fetched Dat.blockOf iblk; rw [A_eq]; try rfl)
theorem found_1 (c : Dev nD) (t : Fin cfg0.N) (d) : (dats m 0 c).before 1 t d = iblk m c 1 t :=
  ((dats m 0 c).before_in_eq_fetched 1 rfl (fun _ => rfl) (fun _ _ _ => rfl) (fun t => by rw [left_1]; unfold Dat.blockOf iblk; rw [A_eq]; try rfl) t d).trans
    (by unfold Dat.fetched Dat.blockOf iblk; rw [A_eq]; try rfl)

/-- What a grid point is given. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
/-- What a grid point leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- One grid point of the pipeline keeps the proof data. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, left_0, left_1, left_2]
  rw [show (dats m 0 c).Φ t.castSucc = Pipeline.ΦD osem0 spec0 H0 (V m) c from rfl]
  unfold Dat.owesAt Pipeline.owesWithin
  rw [show (dats m 0 c).owed t.castSucc = 0 from rfl, show (dats m 0 c).owed t.succ = 0 from rfl]
  iintro ⟨HP, ⟨%W, -, HW⟩, ⟨%d0, P0⟩, ⟨%d1, P1⟩, ⟨%d2, P2⟩⟩
  rw [found_0, found_1]
  unfold outAt
  ihave HI := open_idle m c $$ [HP HW]
  · isplitl [HP]; · iexact HP
    iexists W; iexact HW
  icases HI with ⟨HI, HS⟩
  unfold owns
  icases P2 with ⟨%f2, -, P2⟩
  ihave P2' := split_halves c (st0_2 t) f2 $$ P2
  icases P2' with ⟨PX, PY⟩
  iapply (wp_wand_r Idealize.ShloMosaic.frame (wpE (defs₀ (F := F)) Variants.none (c : Thread nD τ) none) Set.univ)
  isplitl [HI P0 PX PY]
  · iapply (body c (V m c main_arg0) (V m c main_v3) (V m c main_v4) (grid0.coords t) (st0_0 t) _ (st0_1 t) _ (st0_2 t) _ (iblk m c 0 t)) $$ [HI P0 PX PY]
    isplitl [HI]; · iexact HI
    isplitl [P0]; · unfold owns; iexact P0
    isplitl [PX]; · iexact PX
    iexact PY
  iintro %v ⟨HI, P0, P2⟩
  ihave HC := close_idle m c $$ [HI HS]
  · isplitl [HI]; · iexact HI
    iexact HS
  icases HC with ⟨HP, ⟨%W', HW'⟩⟩
  isplitl [HP]; · iexact HP
  isplitl [HW']
  · iexists W'; isplitr; · ipureintro; exact fun _ _ => Or.inl trivial
    iexact HW'
  isplitl [P0]; · unfold owns; iexact P0
  isplitl [P1]; · iexact P1
  unfold owns; iexact P2

theorem row (t : Fin cfg0.N) :
    defs₀ (F := F) .tc cfg0.body (cfg0.bodyArgs t (cfg0.slots t)) = bodyAt0 t := by
  unfold defs₀; rw [Defs.onTc_tc]

/-- Every grid point keeps the proof data. -/
theorem point_sound (c : Dev nD) : BodyObligation (dats (F := F) m 0 c) (defs₀ (F := F)) Variants.none () Set.univ := fun t => by
  rw [bigSep_W0, bigSep_W0, row]
  exact triple_restated (sound_body m c t) rfl .rfl fun _ => .rfl

/-! ## The run and the frame -/

set_option backward.isDefEq.respectTransparency.types false in
/-- Every run of the program ends, with each window's array at what the proof data leave in it, every other array as the region
    found it, and every semaphore counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (point_sound m c).loose) (hshare := fun c => (dats m 0 c).share_full fun _ => rfl)
    (howed := fun _ _ => rfl) (V := V m) (hmain := toRegion m Variants.none) (hA := A_eq m)
    (hin := fun _ => .rfl) (hout := fun _ => .rfl)

/-- The frame: every run ends with the five argument arrays as launched and every semaphore counter at zero. -/
theorem frame_holds :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.KernelFfnIdeal.Hand

end
-- ==== Proof.FfnValue.lean ====
/-
  The feed-forward kernel's result over the extended reals: a grid point's block from the arrays, the chunks' sums joined to one, and
  the blocks together.
-/
module

public import proofs.«01_k».proof.Proof.FfnSpec
public import proofs.«01_k».proof.Proof.FfnFrame
public import Idealize.ShloMosaic.Lib.Pipeline.ValueKit
public import Idealize.ShloMosaic.Lib.Pipeline.ValueKit.Tiles

@[expose] public section

set_option maxRecDepth 16384

noncomputable section

namespace Cert.Ffn

open Idealize.ShloMosaic Idealize.ShloMosaic.TcCoe Idealize.SL.Sem
open Cert.KernelFfnIdeal Cert.KernelFfnIdeal.Gen Cert.KernelFfnIdeal.Hand Cert.FfnShared

section chunks
variable (c : Dev nD) (w0 : Buf (Elt Ideal) ((c : Thread nD τ).loc main_arg0)) (w3 : Buf (Elt Ideal) ((c : Thread nD τ).loc main_v3))
  (w4 : Buf (Elt Ideal) ((c : Thread nD τ).loc main_v4))

theorem xblk_at (i : grid0.Coords) (p : Fin 1024) (e : Fin 4096) (r : Fin 16384) (hr : (r : ℕ) = 1024 * (i 0).val + p) :
    xblk (F := Ideal) c w0 i (ix2 p e) = w0 (ix2 r e) := by
  refine congrArg w0 (congrArg₂ ix2 (Fin.ext ?_) rfl)
  show (1024 * (i 0).val + p.val) % 16384 = r.val
  have := r.isLt
  omega

theorem gV_at (n : ℕ) (hn : n < 43) (k : Fin 4096) (q : Fin 256) (f : Fin 22016) (hf : (f : ℕ) = 256 * n + q) :
    gV (F := Ideal) c w3 n (ix3 0 k q) = w3 (ix3 0 k f) := by
  refine congrArg w3 ?_
  funext a
  match a with
  | 0 => exact Fin.ext rfl
  | 1 => exact Fin.ext (show 0 + 1 * k.val = k.val by omega)
  | 2 => exact Fin.ext (show 256 * (n % 43) + 1 * q.val = f.val by omega)

theorem uV_at (n : ℕ) (hn : n < 43) (k : Fin 4096) (q : Fin 256) (f : Fin 22016) (hf : (f : ℕ) = 256 * n + q + 11008) :
    uV (F := Ideal) c w3 n (ix3 0 k q) = w3 (ix3 0 k f) := by
  refine congrArg w3 ?_
  funext a
  match a with
  | 0 => exact Fin.ext rfl
  | 1 => exact Fin.ext (show 0 + 1 * k.val = k.val by omega)
  | 2 => exact Fin.ext (show 256 * (n % 43) + 11008 + 1 * q.val = f.val by omega)

theorem dV_at (n : ℕ) (hn : n < 43) (q : Fin 256) (e : Fin 4096) (f : Fin 11008) (hf : (f : ℕ) = 256 * n + q) :
    dV (F := Ideal) c w4 n (ix3 0 q e) = w4 (ix3 0 f e) := by
  refine congrArg w4 ?_
  funext a
  match a with
  | 0 => exact Fin.ext rfl
  | 1 => exact Fin.ext (show 256 * (n % 43) + 1 * q.val = f.val by omega)
  | 2 => exact Fin.ext (show 0 + 1 * e.val = e.val by omega)

/-- Hidden unit `f`'s contribution to row `p`, column `e` of a block with normalised rows `h`. -/
def unitAt (h : Vec Ideal S1024x4096 .bf16) (p : Fin 1024) (e : Fin 4096) (f : ℕ) : EReal :=
  gated (∑ k : Fin 4096, h (ix2 p k) * w3 (ix3 0 k ⟨f % 11008, by omega⟩)) (∑ k : Fin 4096, h (ix2 p k) * w3 (ix3 0 k ⟨f % 11008 + 11008, by omega⟩))
    * w4 (ix3 0 ⟨f % 11008, by omega⟩ e)

/-- After `n` chunks the block holds its rows plus the first `256 * n` hidden units' contributions. -/
theorem acc_at (x : Vec Ideal S1024x4096 .f32) (h : Vec Ideal S1024x4096 .bf16) (p : Fin 1024) (e : Fin 4096) (n : ℕ) (hn : n ≤ 43) :
    acc (F := Ideal) c w3 w4 x h n (ix2 p e) = x (ix2 p e) + ∑ f ∈ Finset.range (256 * n), unitAt c w3 w4 h p e f := by
  induction n with
  | zero => simp [acc]
  | succ n ih =>
    have hn' : n < 43 := hn
    rw [show acc (F := Ideal) c w3 w4 x h (n + 1) = k0_pay24 (F := Ideal) h (gV c w3 n) (uV c w3 n) (acc c w3 w4 x h n) (dV c w4 n) from rfl,
      update_at, ih (by omega), show 256 * (n + 1) = 256 * n + 256 from rfl, Finset.sum_range_add, ← add_assoc]
    refine congrArg₂ (fun a b : EReal => a + b) rfl ?_
    rw [Finset.sum_range]
    refine Finset.sum_congr rfl fun q _ => ?_
    have hq : (256 * n + q.val) % 11008 = 256 * n + q.val := Nat.mod_eq_of_lt (by omega)
    unfold unitAt
    rw [dV_at c w4 n hn' q e ⟨(256 * n + q.val) % 11008, by omega⟩ hq]
    refine congrArg₂ (fun a b : EReal => a * b) (congrArg₂ gated (Finset.sum_congr rfl fun k _ => ?_) (Finset.sum_congr rfl fun k _ => ?_)) rfl
    · rw [gV_at c w3 n hn' k q ⟨(256 * n + q.val) % 11008, by omega⟩ hq]
    · rw [uV_at c w3 n hn' k q ⟨(256 * n + q.val) % 11008 + 11008, by omega⟩ (by simp only [hq])]

/-- A block's normalised rows at an element. -/
theorem normed_at (x : Vec Ideal S1024x4096 .f32) (g : Vec Ideal S1x4096 .f32) (p : Fin 1024) (k : Fin 4096) :
    normed (F := Ideal) x g (ix2 p k) = scaled (fun j => x (ix2 p j)) (fun j => g (ix2 0 j)) k := by
  refine (normRows_at g (rowsAt x (p.val / 16 * 16)) ⟨p.val % 16, Nat.mod_lt _ (by decide)⟩ k).trans ?_
  refine congrArg (fun row => scaled row (fun j => g (ix2 0 j)) k) ?_
  funext j
  refine congrArg x (congrArg₂ ix2 (Fin.ext ?_) rfl)
  show (p.val / 16 * 16 + p.val % 16) % 1024 = p.val
  omega

end chunks

variable (m : (ℓ : Loc nD τ sig) → Buf (Elt Ideal) ℓ)

theorem gateup (c : Dev nD) : V m c main_v3 = m ((c : Thread nD τ).loc main_arg3) := by
  have h : V m c main_v3 = truncf (F := Ideal) .bf16 (m ((c : Thread nD τ).loc main_arg3)) bitsLt_bf16_f32 := by
    simp only [V, hostOps0, List.flatten_cons, List.flatten_nil, List.append_nil, List.cons_append, List.nil_append]
    after_results
  rw [h]; rfl

theorem down (c : Dev nD) : V m c main_v4 = m ((c : Thread nD τ).loc main_arg4) := by
  have h : V m c main_v4 = truncf (F := Ideal) .bf16 (m ((c : Thread nD τ).loc main_arg4)) bitsLt_bf16_f32 := by
    simp only [V, hostOps0, List.flatten_cons, List.flatten_nil, List.append_nil, List.cons_append, List.nil_append]
    after_results
  rw [h]; rfl

theorem index_gain : ∀ t : Fin cfg0.N, win0_0.index t = ![0, 0] := (by decide +kernel : ∀ t : Fin grid0.N, _)

/-- The gain the kernel is given is the first row of the gains. -/
theorem gain_at (c : Dev nD) (t : Fin cfg0.N) (k : Fin 4096) :
    iblk m c 0 t (ix2 0 k) = m ((c : Thread nD τ).loc main_arg1) (ix2 0 k) := by
  have h : V m c main_v2 = broadcastInDim S1x4096 ![1] bcast_S4096_S1x4096_1
      (shapeCast S4096 (extractStridedSlice S1x4096 ![0, 0] (m ((c : Thread nD τ).loc main_arg1)) slices_S2x4096_S1x4096_0_0) shapeCasts_S1x4096_S4096) := by
    simp only [V, hostOps0, List.flatten_cons, List.flatten_nil, List.append_nil, List.cons_append, List.nil_append]
    after_results
    try rfl
  blk_simp [iblk]
  refine (congrFun h _).trans ?_
  have e : (win0_0.blk t).view.emb (ix2 0 k) = ix2 (n0 := 1) (n1 := 4096) 0 k := by
    blk_ext [index_gain] <;> omega
  rw [e]
  pointwise []

theorem index_y : ∀ t : Fin cfg0.N, win0_2.index t = ![(grid0.coords t 0).val, 0] := (by decide +kernel : ∀ t : Fin grid0.N, _)

/-- What grid point `t` leaves in its block, at an element. -/
theorem block_ffn (c : Dev nD) (t : Fin cfg0.N) (p : Fin 1024) (e' : Fin 4096) (r : Fin 16384) (e : Fin 4096)
    (hr : (r : ℕ) = (grid0.coords t 0).val * 1024 + p) (he : (e : ℕ) = e') :
    outAt m c t (ix2 p e') = ffnAt (m ((c : Thread nD τ).loc main_arg0)) (m ((c : Thread nD τ).loc main_arg1))
      (m ((c : Thread nD τ).loc main_arg3)) (m ((c : Thread nD τ).loc main_arg4)) r e := by
  obtain rfl : e = e' := Fin.ext he
  have hx : ∀ j : Fin 4096, xblk (F := Ideal) c (V m c main_arg0) (grid0.coords t) (ix2 p j) = m ((c : Thread nD τ).loc main_arg0) (ix2 r j) := fun j =>
    (xblk_at c _ (grid0.coords t) p j r (by omega)).trans (congrFun (V_main_arg0 m c) _)
  unfold outAt ffnAt
  rw [acc_at _ _ _ _ _ _ _ 43 (le_refl _), hx, gateup, down]
  refine congrArg₂ (fun a b : EReal => a + b) rfl ?_
  rw [Finset.sum_range]
  refine Finset.sum_congr rfl fun f _ => ?_
  have hf : f.val % 11008 = f.val := Nat.mod_eq_of_lt f.isLt
  have hn : ∀ k : Fin 4096, normed (F := Ideal) (xblk (F := Ideal) c (V m c main_arg0) (grid0.coords t)) (iblk m c 0 t) (ix2 p k)
      = scaled (fun j => m ((c : Thread nD τ).loc main_arg0) (ix2 r j)) (fun j => m ((c : Thread nD τ).loc main_arg1) (ix2 0 j)) k := fun k => by
    rw [normed_at]
    exact congrArg₂ (fun a b => scaled a b k) (funext hx) (funext fun j => gain_at m c t j)
  unfold unitAt
  simp only [hn, hf]

/-- THE RESULT ARRAY after the run. -/
theorem array_eq (c : Dev nD) :
    (Hand.dats m 0 c).arrAt 2 cfg0.N = fun i : S16384x4096.Idx =>
      ffnAt (m ((c : Thread nD τ).loc main_arg0)) (m ((c : Thread nD τ).loc main_arg1))
        (m ((c : Thread nD τ).loc main_arg3)) (m ((c : Thread nD τ).loc main_arg4)) (i 0) (i 1) := by
  refine (Hand.dats m 0 c).arrAt_eq_of_covers 2 _ (by decide +kernel) fun t hf y => ?_
  blk_simp
  rw [left_2]
  obtain ⟨p, e, rfl⟩ : ∃ (p : Fin 1024) (e : Fin 4096), y = ix2 p e := ⟨y 0, y 1, eq_ix2 y⟩
  exact block_ffn m c t p e _ _ (by blk_simp [index_y]) (by blk_simp [index_y])

end Cert.Ffn

end
-- ==== Proof.FfnRef.lean ====
/-
  The reference of the feed-forward layer over the extended reals, read at an element.
-/
module

public import proofs.«01_k».proof.Proof.FfnSpec
public import proofs.«01_k».proof.Proof.Gen.ReferenceFfnIdeal.Read
public import Idealize.ShloMosaic.Lib.IdealHost
public import Idealize.ShloMosaic.Lib.Pointwise

@[expose] public section

set_option maxRecDepth 16384

noncomputable section

namespace Cert.Ffn

open Idealize.ShloMosaic Idealize.ShloMosaic.TcCoe
open Cert.ReferenceFfnIdeal Cert.ReferenceFfnIdeal.Read

/-- An exponential is no negative number. -/
theorem exp_nonneg (x : EReal) : 0 ≤ Ideal.exp x := by
  induction x using EReal.rec with
  | bot => rw [Ideal.exp_bot]
  | top => rw [Ideal.exp_top]; exact le_top
  | coe r => rw [Ideal.exp_coe]; exact_mod_cast (Real.exp_pos r).le

/-- The gate times the reciprocal of `1 + e⁻ᵍ` is the gate divided by it. -/
theorem silu_eq (g : EReal) : g * Ideal.div 1 (1 + Ideal.exp (-g)) = Ideal.div g (1 + Ideal.exp (-g)) := by
  refine Ideal.mul_one_div (ne_of_gt (lt_of_lt_of_le zero_lt_one ?_))
  simpa using add_le_add_right (exp_nonneg (-g)) 1

section
variable (x : (⟨S16384x4096, .f32⟩ : BufTy).Contents (Elt Ideal)) (gain : (⟨S2x4096, .f32⟩ : BufTy).Contents (Elt Ideal))
  (wgu : (⟨S2x4096x22016, .f32⟩ : BufTy).Contents (Elt Ideal)) (wd : (⟨S2x11008x4096, .f32⟩ : BufTy).Contents (Elt Ideal))

/-- The reference's normalised rows at an element. -/
theorem ref_scaled (r : Fin 16384) (k : Fin 4096) :
    val_main_v14 (F := Ideal) x gain (ix2 r k) = scaled (fun j => x (ix2 r j)) (fun j => gain (ix2 0 j)) k := by
  have hs : val_main_v1 (F := Ideal) x (ix1 r) = ∑ j : Fin 4096, x (ix2 r j) * x (ix2 r j) := by
    rw [val_main_v1_apply, val_main_cst_apply]
    refine Eq.trans ?_ (zero_add _)
    refine congrArg₂ (fun a b : EReal => a + b) (by simp [FloatOps.ofBits, Ideal.ofBits, Ideal.ieee]) (Finset.sum_congr rfl fun j _ => ?_)
    have e : idx_main_v1 (ix1 r) j = ix2 r j := by funext a; fin_cases a <;> rfl
    rw [val_main_v0_apply, e]
    rfl
  have hg : val_main_v13 (F := Ideal) gain (ix2 r k) = gain (ix2 0 k) := by
    rw [val_main_v13_apply, val_main_v12_apply, val_main_v11_apply, val_main_v10_apply]
    refine congrArg gain ?_
    funext a
    fin_cases a
    · rfl
    · exact Fin.ext (Nat.mod_eq_of_lt k.isLt)
  have hr : val_main_v8 (F := Ideal) x (ix2 r k)
      = Ideal.rsqrt (Ideal.div (∑ j : Fin 4096, x (ix2 r j) * x (ix2 r j)) (Ideal.ofBits .f32 0x45800000#32) + Ideal.ofBits .f32 0x358637BD#32) := by
    rw [val_main_v8_apply, val_main_v7_apply, val_main_v6_apply, val_main_v5_apply, val_main_cst_1_apply, val_main_v4_apply, val_main_v3_apply,
      val_main_cst_0_apply, val_main_v2_apply]
    have e : idx_main_v2 (idx_main_v8 (ix2 r k)) = ix1 r := by funext a; fin_cases a; rfl
    rw [e, hs]
    rfl
  rw [val_main_v14_apply, val_main_v9_apply, hr, hg]
  rfl

/-- The reference's gate and up projection at an element. -/
theorem ref_gateup (r : Fin 16384) (f : Fin 22016) :
    val_main_v17 (F := Ideal) x gain wgu (ix2 r f)
      = ∑ k : Fin 4096, scaled (fun j => x (ix2 r j)) (fun j => gain (ix2 0 j)) k * wgu (ix3 0 k f) := by
  rw [val_main_v17_apply]
  refine Finset.sum_congr rfl fun k _ => ?_
  have e1 : lidx_main_v17 (ix2 r f) k = ix2 r k := by funext a; fin_cases a <;> rfl
  rw [e1, ref_scaled, val_main_v16_apply, val_main_v15_apply]
  refine congrArg (fun i => scaled (fun j => x (ix2 r j)) (fun j => gain (ix2 0 j)) k * wgu i) ?_
  have hk := k.isLt
  have hf := f.isLt
  funext a
  match a with
  | 0 => rfl
  | 1 => exact Fin.ext (show (k.val * 22016 + f.val) / 22016 % 4096 = k.val by omega)
  | 2 => exact Fin.ext (show (k.val * 22016 + f.val) % 22016 = f.val by omega)

/-- The reference's gated activations at an element. -/
theorem ref_gated (r : Fin 16384) (f : Fin 11008) :
    val_main_v21 (F := Ideal) x gain wgu (ix2 r f)
      = gated (val_main_v17 (F := Ideal) x gain wgu (ix2 r ⟨f, by omega⟩)) (val_main_v17 (F := Ideal) x gain wgu (ix2 r ⟨f + 11008, by omega⟩)) := by
  have e1 : idx_main_v18 (ix2 r f) = ix2 r ⟨f, by omega⟩ := by
    funext a
    match a with
    | 0 => rfl
    | 1 => rfl
  have e2 : idx_main_v19 (ix2 r f) = ix2 r ⟨f + 11008, by omega⟩ := by
    funext a
    match a with
    | 0 => rfl
    | 1 => exact Fin.ext (show 11008 + f.val = f.val + 11008 by omega)
  rw [val_main_v21_apply, val_main_v20_apply, val_main_v19_apply, val_main_call0_v5_apply, val_main_call0_v4_apply, val_main_call0_cst_0_apply,
    val_main_call0_v3_apply, val_main_call0_v2_apply, val_main_call0_cst_apply, val_main_call0_v1_apply, val_main_call0_v0_apply, val_main_v18_apply, e1, e2]
  generalize val_main_v17 (F := Ideal) x gain wgu (ix2 r ⟨f, by omega⟩) = g
  generalize val_main_v17 (F := Ideal) x gain wgu (ix2 r ⟨f + 11008, by omega⟩) = u
  show g * Ideal.div (Ideal.ofBits .f32 0x3F800000#32) (Ideal.ofBits .f32 0x3F800000#32 + Ideal.exp (-g)) * u = gated g u
  rw [one_word, silu_eq]
  rfl

/-- THE REFERENCE'S RESULT at an element. -/
theorem ref_at (r : Fin 16384) (e : Fin 4096) :
    val_main_v25 (F := Ideal) x gain wgu wd (ix2 r e) = ffnAt x gain wgu wd r e := by
  rw [val_main_v25_apply, val_main_v24_apply]
  refine congrArg₂ (fun a b : EReal => a + b) rfl (Finset.sum_congr rfl fun f _ => ?_)
  have e1 : lidx_main_v24 (ix2 r e) f = ix2 r f := by funext a; fin_cases a <;> rfl
  have hf := f.isLt
  have he := e.isLt
  rw [e1, ref_gated, ref_gateup, ref_gateup, val_main_v23_apply, val_main_v22_apply]
  refine congrArg (fun z : EReal => _ * z) (congrArg wd ?_)
  funext a
  match a with
  | 0 => rfl
  | 1 => exact Fin.ext (show (f.val * 4096 + e.val) / 4096 % 11008 = f.val by omega)
  | 2 => exact Fin.ext (show (f.val * 4096 + e.val) % 4096 = e.val by omega)

end

end Cert.Ffn

end
-- ==== Proof.FfnClaim.lean ====
/-
  The feed-forward layer: the frames, and the equality of the results.
-/
module

public import proofs.«01_k».proof.Defs
public import proofs.«01_k».proof.Proof.Gen.KernelFfn
public import proofs.«01_k».proof.Proof.Gen.KernelFfnIdeal
public import proofs.«01_k».proof.Proof.FfnWordFrame
public import proofs.«01_k».proof.Proof.FfnValue
public import proofs.«01_k».proof.Proof.FfnRef
public import proofs.«01_k».proof.Proof.Gen.ReferenceFfnIdeal.Run
public import Idealize.ShloMosaic.Lib.Quiescent

@[expose] public section

set_option maxRecDepth 16384

noncomputable section

namespace Cert.Ffn

open Idealize.ShloMosaic Idealize.ShloMosaic.TcCoe Idealize.SL.Sem

/-- The feed-forward kernel, on machine words, runs and keeps its arguments. -/
theorem frame_word : Cert.quiescent_KernelFfn := fun m ρ _ => Cert.KernelFfn.Hand.frame_holds m ρ

/-- The same over the extended reals. -/
theorem frame_ideal : Cert.quiescent_KernelFfnIdeal := fun m ρ _ => Cert.KernelFfnIdeal.Hand.frame_holds m ρ

/-- The reference runs and keeps its arguments. -/
theorem frame_ref : Cert.quiescent_ReferenceFfnIdeal := fun m ρ _ =>
  (θ_run Cert.ReferenceFfnIdeal.defs _ _).mono
    (fun r h => ⟨fun c => (h c).2, sem_eq_zero_of_no_sems (by decide) r.2⟩) (Cert.ReferenceFfnIdeal.Value.run m ρ)

section
open Cert.KernelFfnIdeal Cert.KernelFfnIdeal.Gen

/-- Every run of the kernel ends with the layer's result in its result array, and its arguments as launched. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v6) = (fun i : S16384x4096.Idx =>
        ffnAt (m ((c : Thread nD τ).loc main_arg0)) (m ((c : Thread nD τ).loc main_arg1))
          (m ((c : Thread nD τ).loc main_arg3)) (m ((c : Thread nD τ).loc main_arg4)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 2).trans (array_eq m c),
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c)⟩) (Hand.run_main m ρ)

end

/-- THE VALUES: over the extended reals the kernel and the reference end with the same result. -/
theorem values : Cert.algebraic_KernelFfnIdeal_ReferenceFfnIdeal := fun m g m' g' hpre hagree => by
  refine ⟨_, kernel_run m g, ?_⟩
  refine (θ_run Cert.ReferenceFfnIdeal.defs _ _).mono (fun r h c => ⟨(h c).1.trans ?_, (h c).2⟩) (Cert.ReferenceFfnIdeal.Value.run m' g')
  obtain ⟨a0, a1, a2, a3, a4⟩ := hagree c
  rw [Cert.ReferenceFfnIdeal.Read.val_main_v25_eq, a0, a1, a3, a4]
  funext i
  obtain ⟨p, e, rfl⟩ : ∃ (p : Fin 16384) (e : Fin 4096), i = ix2 p e := ⟨i 0, i 1, eq_ix2 i⟩
  exact ref_at _ _ _ _ p e

end Cert.Ffn

end
-- ==== Proof.ProjClaim.lean ====
/-
  The output projection with its residual: the frames, and the equality of the results.

  Grid point `(i, j)` writes rows `1024 * i …` and columns `1024 * j …` of `x + o · w`; the blocks cover the array.
-/
module

public import proofs.«01_k».proof.Defs
public import proofs.«01_k».proof.Proof.Gen.KernelProj
public import proofs.«01_k».proof.Proof.Gen.KernelProj.Frame
public import proofs.«01_k».proof.Proof.Gen.KernelProjIdeal.Value
public import proofs.«01_k».proof.Proof.Gen.ReferenceProjIdeal.Run
public import proofs.«01_k».proof.Proof.Gen.ReferenceProjIdeal.Read
public import Idealize.ShloMosaic.Lib.Pointwise
public import Idealize.ShloMosaic.Lib.Pipeline.ValueKit
public import Idealize.ShloMosaic.Lib.Pipeline.ValueKit.Tiles
public import Idealize.ShloMosaic.Lib.Quiescent

@[expose] public section

set_option maxRecDepth 16384

noncomputable section

namespace Cert.Proj

open Idealize.ShloMosaic Idealize.ShloMosaic.TcCoe Idealize.SL.Sem

/-- The projection kernel, on machine words, runs and keeps its arguments. -/
theorem frame_word : Cert.quiescent_KernelProj := fun m ρ _ => Cert.KernelProj.Gen.frame m ρ

/-- The same over the extended reals. -/
theorem frame_ideal : Cert.quiescent_KernelProjIdeal := fun m ρ _ => Cert.KernelProjIdeal.Gen.frame m ρ

/-- The reference runs and keeps its arguments. -/
theorem frame_ref : Cert.quiescent_ReferenceProjIdeal := fun m ρ _ =>
  (θ_run Cert.ReferenceProjIdeal.defs _ _).mono
    (fun r h => ⟨fun c => (h c).2, sem_eq_zero_of_no_sems (by decide) r.2⟩) (Cert.ReferenceProjIdeal.Value.run m ρ)

open Cert.KernelProjIdeal Cert.KernelProjIdeal.Gen

variable (m : (ℓ : Loc nD τ sig) → Buf (Elt Ideal) ℓ)

theorem index_o : ∀ t : Fin cfg0.N, win0_0.index t = ![(grid0.coords t 0).val, 0] := (by decide +kernel : ∀ t : Fin grid0.N, _)
theorem index_w : ∀ t : Fin cfg0.N, win0_1.index t = ![0, (grid0.coords t 1).val] := (by decide +kernel : ∀ t : Fin grid0.N, _)
theorem index_x : ∀ t : Fin cfg0.N, win0_2.index t = ![(grid0.coords t 0).val, (grid0.coords t 1).val] :=
  (by decide +kernel : ∀ t : Fin grid0.N, _)
theorem index_y : ∀ t : Fin cfg0.N, win0_3.index t = ![(grid0.coords t 0).val, (grid0.coords t 1).val] :=
  (by decide +kernel : ∀ t : Fin grid0.N, _)

/-- The row tile and the column tile of a grid point. -/
abbrev pI (t : Fin cfg0.N) : Fin 16 := grid0.coords t 0
abbrev pJ (t : Fin cfg0.N) : Fin 4 := grid0.coords t 1

/-- The weights the kernel multiplies by are the argument's: the rounding to bf16 is the identity over the extended reals. -/
theorem weights (c : Dev nD) : V m c main_v0 = m ((c : Thread nD τ).loc main_arg1) := by
  have h : V m c main_v0 = truncf (F := Ideal) .bf16 (m ((c : Thread nD τ).loc main_arg1)) bitsLt_bf16_f32 := by
    simp only [V, hostOps0, List.flatten_cons, List.flatten_nil, List.append_nil, List.cons_append, List.nil_append]
    after_results
  rw [h]; rfl

theorem o_at (c : Dev nD) (t : Fin cfg0.N) (r : Fin 1024) (k : Fin 4096) :
    iblk m c 0 t (ix2 r k) = m ((c : Thread nD τ).loc main_arg0) (ix2 ⟨(pI t) * 1024 + r, by omega⟩ k) := by
  blk_simp [iblk]
  refine (congrFun (V_main_arg0 m c) _).trans (congrArg (m ((c : Thread nD τ).loc main_arg0)) ?_)
  blk_ext [index_o] <;> simp only [pI] <;> omega

theorem w_at (c : Dev nD) (t : Fin cfg0.N) (k : Fin 4096) (e : Fin 1024) :
    iblk m c 1 t (ix2 k e) = m ((c : Thread nD τ).loc main_arg1) (ix2 k ⟨(pJ t) * 1024 + e, by omega⟩) := by
  blk_simp [iblk]
  refine (congrFun (weights m c) _).trans (congrArg (m ((c : Thread nD τ).loc main_arg1)) ?_)
  blk_ext [index_w] <;> simp only [pJ] <;> omega

theorem x_at (c : Dev nD) (t : Fin cfg0.N) (r e : Fin 1024) :
    iblk m c 2 t (ix2 r e) = m ((c : Thread nD τ).loc main_arg2) (ix2 ⟨(pI t) * 1024 + r, by omega⟩ ⟨(pJ t) * 1024 + e, by omega⟩) := by
  blk_simp [iblk]
  refine (congrFun (V_main_arg2 m c) _).trans (congrArg (m ((c : Thread nD τ).loc main_arg2)) ?_)
  blk_ext [index_x] <;> simp only [pI, pJ] <;> omega

/-- A load of a whole rank-2 buffer from its corner is the buffer. -/
theorem ld_corner {a b : Nat} {t : EltTy} (z : (⟨2, ![a, b]⟩ : Shape).Idx → Elt Ideal t)
    (inb : ∀ i, (![0, 0] : Fin 2 → Nat) i + (⟨2, ![a, b]⟩ : Shape).size i ≤ (⟨2, ![a, b]⟩ : Shape).size i) :
    View.ld z (Rect.unit (s := ⟨2, ![a, b]⟩) ![0, 0] (⟨2, ![a, b]⟩ : Shape).size inb) = z := by
  funext x
  refine View.ld_unit_apply_of _ _ _ _ x x fun i => ?_
  fin_cases i <;> simp

theorem pay_at (x : Vec Ideal S1024x1024 .f32) (o : Vec Ideal S1024x4096 .bf16) (w : Vec Ideal S4096x1024 .bf16) (r e : Fin 1024) :
    k0_pay1 (F := Ideal) x o w (ix2 r e) = x (ix2 r e) + ∑ k : Fin 4096, o (ix2 r k) * w (ix2 k e) := by
  unfold k0_pay1
  pointwise []

theorem pay_at_of (x : Vec Ideal S1024x1024 .f32) (o : Vec Ideal S1024x4096 .bf16) (w : Vec Ideal S4096x1024 .bf16)
    (z : S1024x1024.Idx) (r e : Fin 1024) (hr : (r : Nat) = z 0) (he : (e : Nat) = z 1) :
    k0_pay1 (F := Ideal) x o w z = x (ix2 r e) + ∑ k : Fin 4096, o (ix2 r k) * w (ix2 k e) := by
  obtain ⟨a, b, rfl⟩ : ∃ (a b : Fin 1024), z = ix2 a b := ⟨z 0, z 1, eq_ix2 z⟩
  rw [show r = a from Fin.ext hr, show e = b from Fin.ext he]
  exact pay_at x o w a b

/-- The output block at row `r`, column `e`, from the staged blocks. -/
def blockAt (o : Vec Ideal S1024x4096 .bf16) (w : Vec Ideal S4096x1024 .bf16) (x : Vec Ideal S1024x1024 .f32) (r e : Fin 1024) : EReal :=
  x (ix2 r e) + ∑ k : Fin 4096, o (ix2 r k) * w (ix2 k e)

/-- THE OUTPUT BLOCK at an element. -/
theorem out_at (o : Vec Ideal S1024x4096 .bf16) (w : Vec Ideal S4096x1024 .bf16) (x : Vec Ideal S1024x1024 .f32) (y : S1024x1024.Idx) :
    out0_3 (F := Ideal) o w x y = blockAt o w x (y 0) (y 1) := by
  unfold out0_3
  rw [show View.ld x r0_0 = x from ld_corner x _, show View.ld o r0_1 = o from ld_corner o _,
    show View.ld w r0_2 = w from ld_corner w _]
  canon_tiles z h using cover0_3 (F := Ideal) _ _
  exact pay_at_of x o w z _ _ (by omega) (by omega)

/-- The result at row `r`, column `e`. -/
def projAt (o : S16384x4096.Idx → EReal) (w : S4096x4096.Idx → EReal) (x : S16384x4096.Idx → EReal) (r : Fin 16384) (e : Fin 4096) : EReal :=
  x (ix2 r e) + ∑ k : Fin 4096, o (ix2 r k) * w (ix2 k e)

/-- The block of point `t` holds the result's elements at its place in the array. -/
theorem block_proj (c : Dev nD) (t : Fin cfg0.N) (y0 y1 : Fin 1024) (r : Fin 16384) (e : Fin 4096)
    (hr : (r : Nat) = (pI t) * 1024 + y0) (he : (e : Nat) = (pJ t) * 1024 + y1) :
    blockAt (iblk m c 0 t) (iblk m c 1 t) (iblk m c 2 t) y0 y1
      = projAt (m ((c : Thread nD τ).loc main_arg0)) (m ((c : Thread nD τ).loc main_arg1)) (m ((c : Thread nD τ).loc main_arg2)) r e := by
  have er : r = ⟨(pI t) * 1024 + y0, by omega⟩ := Fin.ext hr
  have ee : e = ⟨(pJ t) * 1024 + y1, by omega⟩ := Fin.ext he
  rw [projAt, blockAt, er, ee, x_at]
  refine congrArg₂ (fun a b : EReal => a + b) rfl (Finset.sum_congr rfl fun k _ => ?_)
  rw [o_at, w_at]

/-- THE RESULT ARRAY after the run. -/
theorem array_eq (c : Dev nD) :
    (dats m 0 c).arrAt 3 cfg0.N = fun i : S16384x4096.Idx =>
      projAt (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  blk_simp
  rw [after0_3, out_at]
  exact block_proj m c t (y 0) (y 1) _ _ (by blk_simp [index_y]) (by blk_simp [index_y])

/-- The reference's result at an element. -/
theorem ref_at (o : (⟨Cert.ReferenceProjIdeal.S16384x4096, .bf16⟩ : BufTy).Contents (Elt Ideal))
    (w : (⟨Cert.ReferenceProjIdeal.S4096x4096, .f32⟩ : BufTy).Contents (Elt Ideal))
    (x : (⟨Cert.ReferenceProjIdeal.S16384x4096, .f32⟩ : BufTy).Contents (Elt Ideal)) (r : Fin 16384) (e : Fin 4096) :
    Cert.ReferenceProjIdeal.Read.val_main_v2 (F := Ideal) o w x (ix2 r e) = projAt o w x r e := by
  rw [Cert.ReferenceProjIdeal.Read.val_main_v2_apply, Cert.ReferenceProjIdeal.Read.val_main_v1_apply]
  refine congrArg₂ (fun a b : EReal => a + b) rfl (Finset.sum_congr rfl fun k _ => ?_)
  have e1 : Cert.ReferenceProjIdeal.Read.lidx_main_v1 (ix2 r e) k = ix2 r k := by funext a; fin_cases a <;> rfl
  have e2 : Cert.ReferenceProjIdeal.Read.ridx_main_v1 (ix2 r e) k = ix2 k e := by funext a; fin_cases a <;> rfl
  rw [Cert.ReferenceProjIdeal.Read.val_main_v0_apply, e1, e2]
  rfl

/-- THE VALUES: over the extended reals the kernel and the reference end with the same result. -/
theorem values : Cert.algebraic_KernelProjIdeal_ReferenceProjIdeal := fun m g m' g' hpre hagree => by
  refine ⟨_, Cert.KernelProjIdeal.Value.run_blocks m g, ?_⟩
  refine (θ_run Cert.ReferenceProjIdeal.defs _ _).mono (fun r h c => ⟨(h c).1.trans ?_, (h c).2⟩) (Cert.ReferenceProjIdeal.Value.run m' g')
  obtain ⟨a0, a1, a2⟩ := hagree c
  rw [Cert.ReferenceProjIdeal.Read.val_main_v2_eq, a0, a1, a2, array_eq]
  funext i
  obtain ⟨p, e, rfl⟩ : ∃ (p : Fin 16384) (e : Fin 4096), i = ix2 p e := ⟨i 0, i 1, eq_ix2 i⟩
  exact ref_at _ _ _ p e

end Cert.Proj

end
-- ==== Proof.QkvSpec.lean ====
/-
  The projections to queries, keys and values over the extended reals: what the result holds at a row and a column, and the law that
  turns a head's channels by two rotations along the lanes.
-/
module

public import proofs.«01_k».proof.Proof.FfnSpec

@[expose] public section

set_option maxRecDepth 16384

noncomputable section

namespace Cert.Qkv

open Idealize.ShloMosaic Idealize.ShloMosaic.TcCoe

/-- The factor of the queries: the word nearest to `128 ^ (-1/2) * log2 e`. -/
def qWord : EReal := Ideal.ofBits .f32 0x3E0293EE#32

/-- The factor is a positive number. -/
theorem qWord_real : ∃ z : ℝ, 0 ≤ z ∧ qWord = z := by
  refine ⟨8557550 / 2 ^ 26, by norm_num, ?_⟩
  simp [qWord, Ideal.ofBits, Ideal.ieee, -EReal.coe_mul, ← EReal.coe_mul]
  norm_num

/-- The word 0x00000000 is zero. -/
theorem zero_word : Ideal.ofBits .f32 0x00000000#32 = 0 := by
  simp [Ideal.ofBits, Ideal.ieee]

/-- The normalised row `r` times column `e` of the weights. -/
def projAt (x : (⟨2, ![16384, 4096]⟩ : Shape).Idx → EReal) (g : (⟨2, ![2, 4096]⟩ : Shape).Idx → EReal)
    (w : (⟨2, ![4096, 12288]⟩ : Shape).Idx → EReal) (r : Fin 16384) (e : Fin 12288) : EReal :=
  ∑ k : Fin 4096, Ffn.scaled (fun j => x (ix2 r j)) (fun j => g (ix2 0 j)) k * w (ix2 k e)

/-- A head's channels, the first thirty-two turned in pairs `(d, d + 16)` by the angles whose cosines and sines are given. -/
def turned (t : Fin 128 → EReal) (c s : Fin 16 → EReal) (d : Fin 128) : EReal :=
  if h : d.val < 16 then t d * c ⟨d, h⟩ - t ⟨d + 16, by omega⟩ * s ⟨d, h⟩
  else if h' : d.val < 32 then t d * c ⟨d - 16, by omega⟩ + t ⟨d - 16, by omega⟩ * s ⟨d - 16, by omega⟩
  else t d

/-- The result at row `r`, column `e`: the queries turned and scaled, the keys turned, the values as they are. -/
def qkvAt (ct st : (⟨2, ![4096, 16]⟩ : Shape).Idx → EReal)
    (x : (⟨2, ![16384, 4096]⟩ : Shape).Idx → EReal) (g : (⟨2, ![2, 4096]⟩ : Shape).Idx → EReal)
    (w : (⟨2, ![4096, 12288]⟩ : Shape).Idx → EReal) (r : Fin 16384) (e : Fin 12288) : EReal :=
  if e.val < 8192 then
    turned (fun d => projAt x g w r ⟨e / 128 * 128 + d, by omega⟩) (fun f => ct (ix2 ⟨r % 4096, by omega⟩ f))
      (fun f => st (ix2 ⟨r % 4096, by omega⟩ f)) ⟨e % 128, by omega⟩ * (if e.val < 4096 then qWord else 1)
  else projAt x g w r e

/-- A head's channels plus two of its rotations along the lanes, each times a table. -/
def rolled (t C A B : Fin 128 → EReal) (d : Fin 128) : EReal :=
  t d * C d + t ⟨(d + 16) % 128, by omega⟩ * A d + t ⟨(d + 112) % 128, by omega⟩ * B d

/-- The first table: cosine, cosine, one. -/
def tabC (c : Fin 16 → EReal) (d : Fin 128) : EReal :=
  if h : d.val < 16 then c ⟨d, h⟩ else if h' : d.val < 32 then c ⟨d - 16, by omega⟩ else 1

/-- The second table: minus the sine, then zero. -/
def tabA (s : Fin 16 → EReal) (d : Fin 128) : EReal := if h : d.val < 16 then -s ⟨d, h⟩ else 0

/-- The third table: zero, the sine, zero. -/
def tabB (s : Fin 16 → EReal) (d : Fin 128) : EReal :=
  if d.val < 16 then 0 else if h' : d.val < 32 then s ⟨d - 16, by omega⟩ else 0

/-- The rotations with the tables, each scaled by a positive number, are the turned channels scaled. -/
theorem rolled_eq (t : Fin 128 → EReal) (c s : Fin 16 → EReal) (z : ℝ) (hz : 0 ≤ z) (d : Fin 128) :
    rolled t (fun d => tabC c d * z) (fun d => tabA s d * z) (fun d => tabB s d * z) d = turned t c s d * z := by
  have hz' : (0 : EReal) ≤ (z : EReal) := by exact_mod_cast hz
  unfold rolled turned tabC tabA tabB
  by_cases h : d.val < 16
  · simp only [h, dite_true, if_true]
    have e : (⟨(d + 16) % 128, by omega⟩ : Fin 128) = ⟨d + 16, by omega⟩ := Fin.ext (show (d.val + 16) % 128 = d.val + 16 by omega)
    rw [e, zero_mul, mul_zero, add_zero, sub_eq_add_neg, EReal.right_distrib_of_nonneg_of_ne_top hz' (EReal.coe_ne_top z),
      ← mul_assoc, ← mul_assoc, mul_neg]
  · by_cases h' : d.val < 32
    · simp only [h, h', dite_true, dite_false, if_false]
      have e : (⟨(d + 112) % 128, by omega⟩ : Fin 128) = ⟨d - 16, by omega⟩ := Fin.ext (show (d.val + 112) % 128 = d.val - 16 by omega)
      rw [e, zero_mul, mul_zero, add_zero, EReal.right_distrib_of_nonneg_of_ne_top hz' (EReal.coe_ne_top z), ← mul_assoc, ← mul_assoc]
    · simp only [h, h', dite_false, if_false]
      rw [zero_mul, mul_zero, add_zero, mul_zero, add_zero, one_mul]

end Cert.Qkv

end
-- ==== Proof.QkvPay.lean ====
/-
  The expressions the projection kernel stores, read at an element: the normalised rows, a head turned, the plain product.
-/
module

public import proofs.«01_k».proof.Proof.QkvSpec
public import proofs.«01_k».proof.Proof.Gen.KernelQkvIdeal.Skeleton
public import Idealize.ShloMosaic.Lib.Pointwise

@[expose] public section

set_option maxRecDepth 16384

noncomputable section

namespace Cert.Qkv

open Idealize.ShloMosaic Idealize.ShloMosaic.TcCoe
open Cert.KernelQkvIdeal Cert.KernelQkvIdeal.Gen

/-- Row `p` of the normalised rows of a block. -/
def normRow {n : ℕ} (x : (⟨2, ![n, 4096]⟩ : Shape).Idx → EReal) (g : (⟨2, ![1, 4096]⟩ : Shape).Idx → EReal) (p : Fin n) (k : Fin 4096) : EReal :=
  Ffn.scaled (fun j => x (ix2 p j)) (fun j => g (ix2 0 j)) k

theorem pay12_at (g : Vec Ideal S1x4096 .f32) (x : Vec Ideal S16x4096 .f32) (p : Fin 16) (k : Fin 4096) :
    k0_pay12 (F := Ideal) (k0_pay1 (F := Ideal) g) x (ix2 p k) = normRow x g p k := by
  unfold k0_pay12 k0_pay1 normRow Ffn.scaled
  pointwise []
theorem pay2_at (g : Vec Ideal S1x4096 .f32) (x : Vec Ideal S16x4096 .f32) (p : Fin 16) (k : Fin 4096) :
    k0_pay2 (F := Ideal) g x (k0_pay13 (F := Ideal) x) (ix2 p k) = normRow x g p k := by
  unfold k0_pay2 k0_pay13 k0_pay1 normRow Ffn.scaled
  pointwise []
theorem pay3_at (g : Vec Ideal S1x4096 .f32) (x : Vec Ideal S16x4096 .f32) (p : Fin 16) (k : Fin 4096) :
    k0_pay3 (F := Ideal) g x (ix2 p k) = normRow x g p k := by
  unfold k0_pay3 k0_pay1 normRow Ffn.scaled
  pointwise []
theorem pay4_at (g : Vec Ideal S1x4096 .f32) (x : Vec Ideal S16x4096 .f32) (p : Fin 16) (k : Fin 4096) :
    k0_pay4 (F := Ideal) g x (ix2 p k) = normRow x g p k := by
  unfold k0_pay4 k0_pay1 normRow Ffn.scaled
  pointwise []

/-- Row `p` of a block times the columns of the weights. -/
def prodAt {n : ℕ} (h : (⟨2, ![512, 4096]⟩ : Shape).Idx → EReal) (w : (⟨2, ![4096, n]⟩ : Shape).Idx → EReal) (p : Fin 512) (e : Fin n) : EReal :=
  ∑ k : Fin 4096, h (ix2 p k) * w (ix2 k e)

theorem pay17_at (h : Vec Ideal S512x4096 .bf16) (w : Vec Ideal S4096x512 .bf16) (p : Fin 512) (e : Fin 512) :
    k0_pay17 (F := Ideal) h w (ix2 p e) = prodAt h w p e := by
  unfold k0_pay17 prodAt
  pointwise []

theorem pay11_at (h : Vec Ideal S512x4096 .bf16) (w : Vec Ideal S4096x1024 .bf16) (p : Fin 512) (e : Fin 1024) :
    k0_pay11 (F := Ideal) h w (ix2 p e) = prodAt h w p e := by
  unfold k0_pay11 prodAt
  pointwise []

/-- A head turned, as the kernel writes it. -/
def headPay (u C A B : FVec Ideal S512x128 .f32) : FVec Ideal S512x128 .bf16 :=
  truncf .bf16 (addf (addf (mulf u C) (mulf (dynamicRotate 1 112#32 none u rotates_S512x128_d1) A))
    (mulf (dynamicRotate 1 16#32 none u rotates_S512x128_d1) B)) bitsLt_bf16_f32

theorem headPay_at (u C A B : FVec Ideal S512x128 .f32) (p : Fin 512) (d : Fin 128) :
    headPay u C A B (ix2 p d) = rolled (fun d => u (ix2 p d)) (fun d => C (ix2 p d)) (fun d => A (ix2 p d)) (fun d => B (ix2 p d)) d := by
  unfold headPay rolled
  pointwise []
  have e1 : (⟨(d.val + 128 - 112) % 128, by omega⟩ : Fin 128) = ⟨(d.val + 16) % 128, by omega⟩ := Fin.ext (by show (d.val + 128 - 112) % 128 = (d.val + 16) % 128; omega)
  have e2 : (⟨(d.val + 128 - 16) % 128, by omega⟩ : Fin 128) = ⟨(d.val + 112) % 128, by omega⟩ := Fin.ext (by show (d.val + 128 - 16) % 128 = (d.val + 112) % 128; omega)
  rw [e1, e2]

end Cert.Qkv

end
-- ==== Proof.QkvBlock.lean ====
/-
  What one grid point of the projection kernel leaves: the normalised rows in the scratch, and the block of the result.
-/
module

public import proofs.«01_k».proof.Proof.QkvPay
public import proofs.«01_k».proof.Proof.Gen.KernelQkvIdeal.Value
public import Idealize.ShloMosaic.Lib.Pipeline.ValueKit
public import Idealize.ShloMosaic.Lib.Pipeline.CanonAppend

@[expose] public section

set_option maxRecDepth 16384

noncomputable section

namespace Cert.Qkv

open Idealize.ShloMosaic Idealize.ShloMosaic.TcCoe Idealize.ShloMosaic.Tactic
open Cert.KernelQkvIdeal Cert.KernelQkvIdeal.Gen

/-! ## The scratch -/

/-- The normalised rows of a block, as one array. -/
def normBlk (x0 : Vec Ideal S512x4096 .f32) (x1 : Vec Ideal S1x4096 .f32) : Vec Ideal S512x4096 .bf16 :=
  fun y => normRow x0 x1 (y 0) (y 1)

/-- Sixteen rows, normalised, are those rows of the normalised block. -/
theorem rows_piece (x0 : Vec Ideal S512x4096 .f32) (x1 : Vec Ideal S1x4096 .f32) (P : Vec Ideal S16x4096 .f32 → Vec Ideal S16x4096 .bf16)
    (hP : ∀ z p k, P z (ix2 p k) = normRow z x1 p k) (n : ℕ) (inb : ∀ a, (![n, 0] : Fin 2 → ℕ) a + S16x4096.size a ≤ S512x4096.size a)
    (x : S16x4096.Idx) :
    P (View.ld x0 (Rect.unit (s := S512x4096) ![n, 0] S16x4096.size inb)) x
      = normBlk x0 x1 ((Rect.unit (s := S512x4096) ![n, 0] S16x4096.size inb).emb x) := by
  obtain ⟨p, k, rfl⟩ : ∃ (p : Fin 16) (k : Fin 4096), x = ix2 p k := ⟨x 0, x 1, eq_ix2 x⟩
  have hn : n + 16 ≤ 512 := inb 0
  have e : (Rect.unit (s := S512x4096) ![n, 0] S16x4096.size inb).emb (ix2 p k) = ix2 ⟨n + p, by omega⟩ k := by
    funext a
    match a with
    | 0 => exact Fin.ext (ValueKit.rect_emb_unit_val (s := S512x4096) ![n, 0] S16x4096.size inb (ix2 p k) 0)
    | 1 => exact Fin.ext ((ValueKit.rect_emb_unit_val (s := S512x4096) ![n, 0] S16x4096.size inb (ix2 p k) 1).trans (Nat.zero_add _))
  rw [hP, e]
  show normRow (n := 16) _ x1 p k = normRow (n := 512) x0 x1 ⟨n + p, by omega⟩ k
  unfold normRow
  refine congrArg (fun f => Ffn.scaled f (fun j => x1 (ix2 0 j)) k) (funext fun j => ?_)
  refine View.ld_unit_apply_of _ _ _ _ _ _ fun a => ?_
  match a with
  | 0 => rfl
  | 1 => exact (Nat.zero_add _).symm

section
variable (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x4096 .bf16) (harg9 : arg9.IsWhole)

/-- Every piece one trip of the loop stores agrees with the normalised block. -/
theorem trip_pieces (h1 : k0_cond1 i = 1#1) (x0 : Vec Ideal S512x4096 .f32) (x1 : Vec Ideal S1x4096 .f32) (k : Fin k0_t1_loop.trips) :
    ∀ p ∈ tripL_k0_t1 (F := Ideal) Variants.none c none i arg2 harg2 arg3 harg3 arg4 harg4 arg5 harg5 arg6 harg6 arg7 harg7 arg8 harg8 arg9 harg9 h1 x1 (harg2.unread x0) k, ∀ x, p.2 x = normBlk x0 x1 (p.1.emb x) := by
  unfold tripL_k0_t1 trip_k0_t1
  dsimp only
  sl_unfold_words
  simp only [List.forall_mem_cons, View.readAt_eq_ld, Memref.IsWhole.read_unread]
  refine ⟨?_, ?_, ?_, ?_, ?_⟩
  · exact rows_piece x0 x1 (fun z => k0_pay4 (F := Ideal) x1 z) (pay4_at x1) _ _
  · exact rows_piece x0 x1 (fun z => k0_pay3 (F := Ideal) x1 z) (pay3_at x1) _ _
  · exact rows_piece x0 x1 (fun z => k0_pay2 (F := Ideal) x1 z (k0_pay13 (F := Ideal) z)) (pay2_at x1) _ _
  · exact rows_piece x0 x1 (fun z => k0_pay12 (F := Ideal) (k0_pay1 (F := Ideal) x1) z) (pay12_at x1) _ _
  · exact fun p hp => absurd hp List.not_mem_nil

/-- Every piece the loop stores agrees with the normalised block. -/
theorem loop_pieces (h1 : k0_cond1 i = 1#1) (x0 : Vec Ideal S512x4096 .f32) (x1 : Vec Ideal S1x4096 .f32) (n : ℕ) (hn : n ≤ k0_t1_loop.trips) :
    ∀ p ∈ pb_k0_t1 (F := Ideal) Variants.none c none i arg2 harg2 arg3 harg3 arg4 harg4 arg5 harg5 arg6 harg6 arg7 harg7 arg8 harg8 arg9 harg9 h1 x1 (harg2.unread x0) n, ∀ x, p.2 x = normBlk x0 x1 (p.1.emb x) := by
  induction n with
  | zero =>
    intro p hp
    rw [pb_k0_t1.eq_1] at hp
    exact absurd hp List.not_mem_nil
  | succ n ih =>
    intro p hp
    rw [show n + 1 = (⟨n, hn⟩ : Fin k0_t1_loop.trips).val + 1 from rfl, pb_k0_t1_succ, List.mem_append] at hp
    rcases hp with hp | hp
    · exact trip_pieces c i arg2 harg2 arg3 harg3 arg4 harg4 arg5 harg5 arg6 harg6 arg7 harg7 arg8 harg8 arg9 harg9 h1 x0 x1 ⟨n, hn⟩ p hp
    · exact ih (Nat.le_of_succ_le hn) p hp

/-- What the loop's stores leave is the normalised block. -/
theorem loop_canon (h1 : k0_cond1 i = 1#1) (x0 : Vec Ideal S512x4096 .f32) (x1 : Vec Ideal S1x4096 .f32) :
    View.canon (pb_k0_t1 (F := Ideal) Variants.none c none i arg2 harg2 arg3 harg3 arg4 harg4 arg5 harg5 arg6 harg6 arg7 harg7 arg8 harg8 arg9 harg9 h1 x1 (harg2.unread x0) (Scf.trips k0_t1_loop.lb k0_t1_loop.ub k0_t1_loop.st)) = normBlk x0 x1 := by
  funext y
  rw [← List.append_nil (pb_k0_t1 (F := Ideal) Variants.none c none i arg2 harg2 arg3 harg3 arg4 harg4 arg5 harg5 arg6 harg6 arg7 harg7 arg8 harg8 arg9 harg9 h1 x1 (harg2.unread x0) (Scf.trips k0_t1_loop.lb k0_t1_loop.ub k0_t1_loop.st))]
  exact View.canon_append_of_pieces (normBlk x0 x1) [] _ (loop_pieces c i arg2 harg2 arg3 harg3 arg4 harg4 arg5 harg5 arg6 harg6 arg7 harg7 arg8 harg8 arg9 harg9 h1 x0 x1 _ (Nat.le_refl _)) y
    (View.cover_of_tiledL (pb_k0_t1 (F := Ideal) Variants.none c none i arg2 harg2 arg3 harg3 arg4 harg4 arg5 harg5 arg6 harg6 arg7 harg7 arg8 harg8 arg9 harg9 h1 x1 (harg2.unread x0) (Scf.trips k0_t1_loop.lb k0_t1_loop.ub k0_t1_loop.st))
      S16x4096.size (by sl_kernel_rfl) y)

/-- THE SCRATCH after the first point of a row block. -/
theorem scratch_eq (hc0 : cond0_0 i) (hc1 : cond0_1 i) (hc2 : ¬cond0_2 i) (hc3 : ¬cond0_3 i)
    (x0 : Vec Ideal S512x4096 .f32) (x1 : Vec Ideal S1x4096 .f32) (x2 : Vec Ideal S4096x1024 .bf16) (x3 x4 x5 : Vec Ideal S512x128 .f32) :
    sout0_A_0 (F := Ideal) c i arg2 harg2 arg3 harg3 arg4 harg4 arg5 harg5 arg6 harg6 arg7 harg7 arg8 harg8 arg9 harg9 hc0 hc1 hc2 hc3 x0 x1 x2 x3 x4 x5 = normBlk x0 x1 := by
  frame_out
  exact loop_canon c i arg2 harg2 arg3 harg3 arg4 harg4 arg5 harg5 arg6 harg6 arg7 harg7 arg8 harg8 arg9 harg9 _ x0 x1

end

/-! ## The block of the result -/

/-- A turned block at an element, the tables scaled by `z`. -/
def turnBlk (h : Vec Ideal S512x4096 .bf16) (x2 : Vec Ideal S4096x1024 .bf16) (x3 x4 x5 : Vec Ideal S512x128 .f32) (z : EReal)
    (p : Fin 512) (e : Fin 1024) : EReal :=
  rolled (fun d => prodAt h x2 p ⟨e / 128 * 128 + d, by omega⟩) (fun d => x3 (ix2 p d) * z) (fun d => x4 (ix2 p d) * z)
    (fun d => x5 (ix2 p d) * z) ⟨e % 128, by omega⟩

/-- A plain block at an element. -/
def plainBlk (h : Vec Ideal S512x4096 .bf16) (x2 : Vec Ideal S4096x1024 .bf16) (p : Fin 512) (e : Fin 1024) : EReal := prodAt h x2 p e

/-- One head of a turned block. -/
theorem head_piece (h : Vec Ideal S512x4096 .bf16) (x2 : Vec Ideal S4096x1024 .bf16) (x3 x4 x5 : Vec Ideal S512x128 .f32) (z : EReal)
    (C A B : FVec Ideal S512x128 .f32) (hC : ∀ p d, C (ix2 p d) = x3 (ix2 p d) * z) (hA : ∀ p d, A (ix2 p d) = x4 (ix2 p d) * z)
    (hB : ∀ p d, B (ix2 p d) = x5 (ix2 p d) * z) (oc off j : ℕ) (hj : oc + off = j * 128) (hoc : oc + 512 ≤ 1024) (hoff : off + 128 ≤ 512)
    (inb : ∀ a, (![0, oc] : Fin 2 → ℕ) a + S4096x512.size a ≤ S4096x1024.size a) (hs : Shape.Slices S512x512 ![0, off] S512x128)
    (x : S512x128.Idx) (y : S512x1024.Idx) (h0 : (y 0).val = (x 0).val) (h1 : (y 1).val = oc + off + (x 1).val) :
    headPay (extractStridedSlice S512x128 ![0, off]
        (k0_pay17 (F := Ideal) h (View.ld x2 (Rect.unit (s := S4096x1024) ![0, oc] S4096x512.size inb))) hs) C A B x
      = turnBlk h x2 x3 x4 x5 z (y 0) (y 1) := by
  obtain ⟨p, d, rfl⟩ : ∃ (p : Fin 512) (d : Fin 128), x = ix2 p d := ⟨x 0, x 1, eq_ix2 x⟩
  obtain ⟨p', e, rfl⟩ : ∃ (p' : Fin 512) (e : Fin 1024), y = ix2 p' e := ⟨y 0, y 1, eq_ix2 y⟩
  obtain rfl : p' = p := Fin.ext h0
  have h1' : e.val = oc + off + d.val := h1
  have hd := d.isLt
  rw [headPay_at]
  show _ = turnBlk h x2 x3 x4 x5 z p' e
  unfold turnBlk
  have ed : (⟨e.val % 128, by omega⟩ : Fin 128) = d := Fin.ext (by show e.val % 128 = d.val; omega)
  have ep : ∀ q : Fin 128, extractStridedSlice S512x128 ![0, off]
        (k0_pay17 (F := Ideal) h (View.ld x2 (Rect.unit (s := S4096x1024) ![0, oc] S4096x512.size inb))) hs (ix2 p' q)
      = prodAt h x2 p' ⟨e / 128 * 128 + q, by omega⟩ := fun q => by
    have hq := q.isLt
    have es : extractStridedSlice S512x128 ![0, off]
        (k0_pay17 (F := Ideal) h (View.ld x2 (Rect.unit (s := S4096x1024) ![0, oc] S4096x512.size inb))) hs (ix2 p' q)
        = k0_pay17 (F := Ideal) h (View.ld x2 (Rect.unit (s := S4096x1024) ![0, oc] S4096x512.size inb)) (ix2 p' ⟨off + q, by omega⟩) := by
      pointwise []
    rw [es, pay17_at]
    unfold prodAt
    refine Finset.sum_congr rfl fun k _ => congrArg (fun v : EReal => h (ix2 p' k) * v) ?_
    refine View.ld_unit_apply_of _ _ _ _ _ _ fun a => ?_
    match a with
    | 0 => exact (Nat.zero_add _).symm
    | 1 => exact (show e.val / 128 * 128 + q.val = oc + (off + q.val) by omega)
  simp only [ep, hC, hA, hB, ed]

/-- The tables scaled for the queries, and for the keys. -/
theorem pay14_at (v : Vec Ideal S512x128 .f32) (p : Fin 512) (d : Fin 128) : k0_pay14 (F := Ideal) v (ix2 p d) = v (ix2 p d) * qWord := by
  unfold k0_pay14 qWord
  pointwise []
theorem pay26_at (v : Vec Ideal S512x128 .f32) (p : Fin 512) (d : Fin 128) : k0_pay26 (F := Ideal) v (ix2 p d) = v (ix2 p d) * 1 := by
  rw [← Ffn.one_word]
  unfold k0_pay26
  pointwise []

section
variable (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x4096 .bf16) (harg9 : arg9.IsWhole)

/-- The block of a point among the queries. -/
theorem block_B (hc0 : ¬cond0_0 i) (hc1 : cond0_1 i) (hc2 : ¬cond0_2 i) (hc3 : ¬cond0_3 i)
    (x0 : Vec Ideal S512x4096 .f32) (x1 : Vec Ideal S1x4096 .f32) (x2 : Vec Ideal S4096x1024 .bf16) (x3 x4 x5 : Vec Ideal S512x128 .f32)
    (xs0 : Vec Ideal S512x4096 .bf16) (y : S512x1024.Idx) :
    out0_B_6 (F := Ideal) c i arg2 harg2 arg3 harg3 arg4 harg4 arg5 harg5 arg6 harg6 arg7 harg7 arg8 harg8 arg9 harg9 hc0 hc1 hc2 hc3 x0 x1 x2 x3 x4 x5 xs0 y
      = turnBlk xs0 x2 x3 x4 x5 qWord (y 0) (y 1) := by
  frame_out
  canon_tiles x h using View.cover_of_tiledL (s := S512x1024) _ S512x128.size (by sl_kernel_rfl) y
  · exact head_piece _ x2 x3 x4 x5 _ _ _ _ (pay14_at x3) (pay14_at x4) (pay14_at x5) 512 384 7 rfl (by decide) (by decide) _ _ x _ (by omega) (by omega)
  · exact head_piece _ x2 x3 x4 x5 _ _ _ _ (pay14_at x3) (pay14_at x4) (pay14_at x5) 512 256 6 rfl (by decide) (by decide) _ _ x _ (by omega) (by omega)
  · exact head_piece _ x2 x3 x4 x5 _ _ _ _ (pay14_at x3) (pay14_at x4) (pay14_at x5) 512 128 5 rfl (by decide) (by decide) _ slices_S512x512_o0_128_S512x128 x _ (by omega) (by omega)
  · exact head_piece _ x2 x3 x4 x5 _ _ _ _ (pay14_at x3) (pay14_at x4) (pay14_at x5) 512 0 4 rfl (by decide) (by decide) _ _ x _ (by omega) (by omega)
  · exact head_piece _ x2 x3 x4 x5 _ _ _ _ (pay14_at x3) (pay14_at x4) (pay14_at x5) 0 384 3 rfl (by decide) (by decide) _ _ x _ (by omega) (by omega)
  · exact head_piece _ x2 x3 x4 x5 _ _ _ _ (pay14_at x3) (pay14_at x4) (pay14_at x5) 0 256 2 rfl (by decide) (by decide) _ _ x _ (by omega) (by omega)
  · exact head_piece _ x2 x3 x4 x5 _ _ _ _ (pay14_at x3) (pay14_at x4) (pay14_at x5) 0 128 1 rfl (by decide) (by decide) _ _ x _ (by omega) (by omega)
  · exact head_piece _ x2 x3 x4 x5 _ _ _ _ (pay14_at x3) (pay14_at x4) (pay14_at x5) 0 0 0 rfl (by decide) (by decide) _ _ x _ (by omega) (by omega)

/-- The block of a point among the keys. -/
theorem block_C (hc0 : ¬cond0_0 i) (hc1 : ¬cond0_1 i) (hc2 : cond0_2 i) (hc3 : ¬cond0_3 i)
    (x0 : Vec Ideal S512x4096 .f32) (x1 : Vec Ideal S1x4096 .f32) (x2 : Vec Ideal S4096x1024 .bf16) (x3 x4 x5 : Vec Ideal S512x128 .f32)
    (xs0 : Vec Ideal S512x4096 .bf16) (y : S512x1024.Idx) :
    out0_C_6 (F := Ideal) c i arg2 harg2 arg3 harg3 arg4 harg4 arg5 harg5 arg6 harg6 arg7 harg7 arg8 harg8 arg9 harg9 hc0 hc1 hc2 hc3 x0 x1 x2 x3 x4 x5 xs0 y
      = turnBlk xs0 x2 x3 x4 x5 1 (y 0) (y 1) := by
  frame_out
  canon_tiles x h using View.cover_of_tiledL (s := S512x1024) _ S512x128.size (by sl_kernel_rfl) y
  · exact head_piece _ x2 x3 x4 x5 _ _ _ _ (pay26_at x3) (pay26_at x4) (pay26_at x5) 512 384 7 rfl (by decide) (by decide) _ _ x _ (by omega) (by omega)
  · exact head_piece _ x2 x3 x4 x5 _ _ _ _ (pay26_at x3) (pay26_at x4) (pay26_at x5) 512 256 6 rfl (by decide) (by decide) _ _ x _ (by omega) (by omega)
  · exact head_piece _ x2 x3 x4 x5 _ _ _ _ (pay26_at x3) (pay26_at x4) (pay26_at x5) 512 128 5 rfl (by decide) (by decide) _ slices_S512x512_o0_128_S512x128 x _ (by omega) (by omega)
  · exact head_piece _ x2 x3 x4 x5 _ _ _ _ (pay26_at x3) (pay26_at x4) (pay26_at x5) 512 0 4 rfl (by decide) (by decide) _ _ x _ (by omega) (by omega)
  · exact head_piece _ x2 x3 x4 x5 _ _ _ _ (pay26_at x3) (pay26_at x4) (pay26_at x5) 0 384 3 rfl (by decide) (by decide) _ _ x _ (by omega) (by omega)
  · exact head_piece _ x2 x3 x4 x5 _ _ _ _ (pay26_at x3) (pay26_at x4) (pay26_at x5) 0 256 2 rfl (by decide) (by decide) _ _ x _ (by omega) (by omega)
  · exact head_piece _ x2 x3 x4 x5 _ _ _ _ (pay26_at x3) (pay26_at x4) (pay26_at x5) 0 128 1 rfl (by decide) (by decide) _ _ x _ (by omega) (by omega)
  · exact head_piece _ x2 x3 x4 x5 _ _ _ _ (pay26_at x3) (pay26_at x4) (pay26_at x5) 0 0 0 rfl (by decide) (by decide) _ _ x _ (by omega) (by omega)

/-- The block of the first point of a row block, which reads the scratch it has just written. -/
theorem block_A (hc0 : cond0_0 i) (hc1 : cond0_1 i) (hc2 : ¬cond0_2 i) (hc3 : ¬cond0_3 i)
    (x0 : Vec Ideal S512x4096 .f32) (x1 : Vec Ideal S1x4096 .f32) (x2 : Vec Ideal S4096x1024 .bf16) (x3 x4 x5 : Vec Ideal S512x128 .f32)
    (y : S512x1024.Idx) :
    out0_A_6 (F := Ideal) c i arg2 harg2 arg3 harg3 arg4 harg4 arg5 harg5 arg6 harg6 arg7 harg7 arg8 harg8 arg9 harg9 hc0 hc1 hc2 hc3 x0 x1 x2 x3 x4 x5 y
      = turnBlk (normBlk x0 x1) x2 x3 x4 x5 qWord (y 0) (y 1) := by
  frame_out
  have hl : ∀ (h1 : k0_cond1 i = 1#1), arg9.view.readCov (pb_k0_t1 (F := Ideal) Variants.none c none i arg2 harg2 arg3 harg3 arg4 harg4 arg5 harg5 arg6 harg6 arg7 harg7 arg8 harg8 arg9 harg9 h1 x1 (harg2.unread x0) (Scf.trips k0_t1_loop.lb k0_t1_loop.ub k0_t1_loop.st))
      (Rect.unit (s := S512x4096) ![0, 0] S512x4096.size inb_S512x4096_S512x4096_0_0).toLoadRect = normBlk x0 x1 := fun h1 => by
    rw [View.readCov_eq_canon', loop_canon]
    exact View.ld_unit_zero (funext fun a => by fin_cases a <;> rfl) _ _
  rw [hl]
  canon_tiles x h using View.cover_of_tiledL (s := S512x1024) _ S512x128.size (by sl_kernel_rfl) y
  · exact head_piece _ x2 x3 x4 x5 _ _ _ _ (pay14_at x3) (pay14_at x4) (pay14_at x5) 512 384 7 rfl (by decide) (by decide) _ _ x _ (by omega) (by omega)
  · exact head_piece _ x2 x3 x4 x5 _ _ _ _ (pay14_at x3) (pay14_at x4) (pay14_at x5) 512 256 6 rfl (by decide) (by decide) _ _ x _ (by omega) (by omega)
  · exact head_piece _ x2 x3 x4 x5 _ _ _ _ (pay14_at x3) (pay14_at x4) (pay14_at x5) 512 128 5 rfl (by decide) (by decide) _ slices_S512x512_o0_128_S512x128 x _ (by omega) (by omega)
  · exact head_piece _ x2 x3 x4 x5 _ _ _ _ (pay14_at x3) (pay14_at x4) (pay14_at x5) 512 0 4 rfl (by decide) (by decide) _ _ x _ (by omega) (by omega)
  · exact head_piece _ x2 x3 x4 x5 _ _ _ _ (pay14_at x3) (pay14_at x4) (pay14_at x5) 0 384 3 rfl (by decide) (by decide) _ _ x _ (by omega) (by omega)
  · exact head_piece _ x2 x3 x4 x5 _ _ _ _ (pay14_at x3) (pay14_at x4) (pay14_at x5) 0 256 2 rfl (by decide) (by decide) _ _ x _ (by omega) (by omega)
  · exact head_piece _ x2 x3 x4 x5 _ _ _ _ (pay14_at x3) (pay14_at x4) (pay14_at x5) 0 128 1 rfl (by decide) (by decide) _ _ x _ (by omega) (by omega)
  · exact head_piece _ x2 x3 x4 x5 _ _ _ _ (pay14_at x3) (pay14_at x4) (pay14_at x5) 0 0 0 rfl (by decide) (by decide) _ _ x _ (by omega) (by omega)

/-- The block of a point among the values. -/
theorem block_D (hc0 : ¬cond0_0 i) (hc1 : ¬cond0_1 i) (hc2 : ¬cond0_2 i) (hc3 : cond0_3 i)
    (x0 : Vec Ideal S512x4096 .f32) (x1 : Vec Ideal S1x4096 .f32) (x2 : Vec Ideal S4096x1024 .bf16) (x3 x4 x5 : Vec Ideal S512x128 .f32)
    (xs0 : Vec Ideal S512x4096 .bf16) (y : S512x1024.Idx) :
    out0_D_6 (F := Ideal) c i arg2 harg2 arg3 harg3 arg4 harg4 arg5 harg5 arg6 harg6 arg7 harg7 arg8 harg8 arg9 harg9 hc0 hc1 hc2 hc3 x0 x1 x2 x3 x4 x5 xs0 y = plainBlk xs0 x2 (y 0) (y 1) := by
  obtain ⟨p, e, rfl⟩ : ∃ (p : Fin 512) (e : Fin 1024), y = ix2 p e := ⟨y 0, y 1, eq_ix2 y⟩
  frame_out
  exact pay11_at xs0 x2 p e

end

end Cert.Qkv

end
-- ==== Proof.QkvRef.lean ====
/-
  The reference of the projections to queries, keys and values over the extended reals, read at an element.
-/
module

public import proofs.«01_k».proof.Proof.QkvSpec
public import proofs.«01_k».proof.Proof.Gen.ReferenceQkvIdeal.Read
public import Idealize.ShloMosaic.Lib.Pipeline.Value

@[expose] public section

set_option maxRecDepth 16384

noncomputable section

namespace Cert.Qkv

open Idealize.ShloMosaic Idealize.ShloMosaic.TcCoe
open Cert.ReferenceQkvIdeal Cert.ReferenceQkvIdeal.Read

/-- The cosines and the sines of the angles, at a position and a frequency. -/
abbrev cosT : S4096x16.Idx → EReal := val_main_v37 (F := Ideal)
abbrev sinT : S4096x16.Idx → EReal := val_main_v39 (F := Ideal)

section
variable (x : (⟨S16384x4096, .f32⟩ : BufTy).Contents (Elt Ideal)) (g : (⟨S2x4096, .f32⟩ : BufTy).Contents (Elt Ideal))
  (w : (⟨S4096x12288, .f32⟩ : BufTy).Contents (Elt Ideal))

/-- The reference's normalised rows at an element. -/
theorem ref_scaled (r : Fin 16384) (k : Fin 4096) :
    val_main_v14 (F := Ideal) x g (ix2 r k) = Ffn.scaled (fun j => x (ix2 r j)) (fun j => g (ix2 0 j)) k := by
  have hs : val_main_v1 (F := Ideal) x (ix1 r) = ∑ j : Fin 4096, x (ix2 r j) * x (ix2 r j) := by
    rw [val_main_v1_apply, val_main_cst_apply]
    refine Eq.trans ?_ (zero_add _)
    refine congrArg₂ (fun a b : EReal => a + b) zero_word (Finset.sum_congr rfl fun j _ => ?_)
    have e : idx_main_v1 (ix1 r) j = ix2 r j := by funext a; fin_cases a <;> rfl
    rw [val_main_v0_apply, e]
    rfl
  have hg : val_main_v13 (F := Ideal) g (ix2 r k) = g (ix2 0 k) := by
    rw [val_main_v13_apply, val_main_v12_apply, val_main_v11_apply, val_main_v10_apply]
    refine congrArg g ?_
    funext a
    fin_cases a
    · rfl
    · exact Fin.ext (Nat.mod_eq_of_lt k.isLt)
  have hr : val_main_v8 (F := Ideal) x (ix2 r k)
      = Ideal.rsqrt (Ideal.div (∑ j : Fin 4096, x (ix2 r j) * x (ix2 r j)) (Ideal.ofBits .f32 0x45800000#32) + Ideal.ofBits .f32 0x358637BD#32) := by
    rw [val_main_v8_apply, val_main_v7_apply, val_main_v6_apply, val_main_v5_apply, val_main_cst_1_apply, val_main_v4_apply, val_main_v3_apply,
      val_main_cst_0_apply, val_main_v2_apply]
    have e : idx_main_v2 (idx_main_v8 (ix2 r k)) = ix1 r := by funext a; fin_cases a; rfl
    rw [e, hs]
    rfl
  rw [val_main_v14_apply, val_main_v9_apply, hr, hg]
  rfl

/-- The reference's projection at an element. -/
theorem ref_proj (r : Fin 16384) (e : Fin 12288) : val_main_v15 (F := Ideal) x g w (ix2 r e) = projAt x g w r e := by
  rw [val_main_v15_apply]
  refine Finset.sum_congr rfl fun k _ => ?_
  have e1 : lidx_main_v15 (ix2 r e) k = ix2 r k := by funext a; fin_cases a <;> rfl
  have e2 : ridx_main_v15 (ix2 r e) k = ix2 k e := by funext a; fin_cases a <;> rfl
  rw [e1, ref_scaled, e2]

/-- A head of the queries: channel `d` of head `h` at position `s` of sequence `b`. -/
theorem ref_query (b : Fin 4) (s : Fin 4096) (h : Fin 32) (d : Fin 128) :
    val_main_v19 (F := Ideal) x g w (ix4 b s h d) = projAt x g w ⟨b * 4096 + s, by omega⟩ ⟨h * 128 + d, by omega⟩ := by
  rw [val_main_v19_apply, val_main_v16_apply, ← ref_proj]
  refine congrArg (val_main_v15 (F := Ideal) x g w) ?_
  have hs := s.isLt; have hh := h.isLt; have hd := d.isLt
  funext a
  match a with
  | 0 => exact Fin.ext (show (((b.val * 4096 + s.val) * 32 + h.val) * 128 + d.val) / 4096 = b.val * 4096 + s.val by omega)
  | 1 => exact Fin.ext (show (((b.val * 4096 + s.val) * 32 + h.val) * 128 + d.val) % 4096 = h.val * 128 + d.val by omega)

/-- A head of the keys. -/
theorem ref_key (b : Fin 4) (s : Fin 4096) (h : Fin 32) (d : Fin 128) :
    val_main_v20 (F := Ideal) x g w (ix4 b s h d) = projAt x g w ⟨b * 4096 + s, by omega⟩ ⟨4096 + (h * 128 + d), by omega⟩ := by
  rw [val_main_v20_apply, val_main_v17_apply, ← ref_proj]
  refine congrArg (val_main_v15 (F := Ideal) x g w) ?_
  have hs := s.isLt; have hh := h.isLt; have hd := d.isLt
  funext a
  match a with
  | 0 => exact Fin.ext (show (((b.val * 4096 + s.val) * 32 + h.val) * 128 + d.val) / 4096 = b.val * 4096 + s.val by omega)
  | 1 => exact Fin.ext (show 4096 + (((b.val * 4096 + s.val) * 32 + h.val) * 128 + d.val) % 4096 = 4096 + (h.val * 128 + d.val) by omega)

/-- The tables as the products read them. -/
theorem ref_tab (b : Fin 4) (s : Fin 4096) (h : Fin 32) (f : Fin 16) :
    val_main_v44 (F := Ideal) (ix4 b s h f) = cosT (ix2 s f) ∧ val_main_v51 (F := Ideal) (ix4 b s h f) = cosT (ix2 s f)
      ∧ val_main_v64 (F := Ideal) (ix4 b s h f) = cosT (ix2 s f) ∧ val_main_v71 (F := Ideal) (ix4 b s h f) = cosT (ix2 s f)
      ∧ val_main_v47 (F := Ideal) (ix4 b s h f) = sinT (ix2 s f) ∧ val_main_v54 (F := Ideal) (ix4 b s h f) = sinT (ix2 s f)
      ∧ val_main_v67 (F := Ideal) (ix4 b s h f) = sinT (ix2 s f) ∧ val_main_v74 (F := Ideal) (ix4 b s h f) = sinT (ix2 s f) := by
  refine ⟨?_, ?_, ?_, ?_, ?_, ?_, ?_, ?_⟩
  · rw [val_main_v44_apply, val_main_v43_apply, val_main_v38_apply]
    exact congrArg cosT (by funext a; fin_cases a <;> rfl)
  · rw [val_main_v51_apply, val_main_v50_apply, val_main_v38_apply]
    exact congrArg cosT (by funext a; fin_cases a <;> rfl)
  · rw [val_main_v64_apply, val_main_v63_apply, val_main_v38_apply]
    exact congrArg cosT (by funext a; fin_cases a <;> rfl)
  · rw [val_main_v71_apply, val_main_v70_apply, val_main_v38_apply]
    exact congrArg cosT (by funext a; fin_cases a <;> rfl)
  · rw [val_main_v47_apply, val_main_v46_apply, val_main_v40_apply]
    exact congrArg sinT (by funext a; fin_cases a <;> rfl)
  · rw [val_main_v54_apply, val_main_v53_apply, val_main_v40_apply]
    exact congrArg sinT (by funext a; fin_cases a <;> rfl)
  · rw [val_main_v67_apply, val_main_v66_apply, val_main_v40_apply]
    exact congrArg sinT (by funext a; fin_cases a <;> rfl)
  · rw [val_main_v74_apply, val_main_v73_apply, val_main_v40_apply]
    exact congrArg sinT (by funext a; fin_cases a <;> rfl)

/-- Three arrays joined along the channels of a head, read in each. -/
theorem join_head (u v : S4x4096x32x16.Idx → EReal) (y : S4x4096x32x96.Idx → EReal)
    (hc : Shape.Concatenates [S4x4096x32x16, S4x4096x32x16, S4x4096x32x96] S4x4096x32x128 3) (b : Fin 4) (s : Fin 4096) (h : Fin 32) (d : Fin 128) :
    concatenate S4x4096x32x128 3 [⟨S4x4096x32x16, u⟩, ⟨S4x4096x32x16, v⟩, ⟨S4x4096x32x96, y⟩] hc (ix4 b s h d)
      = if h1 : d.val < 16 then u (ix4 b s h ⟨d, h1⟩) else if h2 : d.val < 32 then v (ix4 b s h ⟨d - 16, by omega⟩)
        else y (ix4 b s h ⟨d - 32, by omega⟩) := by
  by_cases h1 : d.val < 16
  · rw [dif_pos h1]
    refine concatenate_apply_piece (t := S4x4096x32x128) (3 : Fin 4)
          [⟨S4x4096x32x16, u⟩, ⟨S4x4096x32x16, v⟩, ⟨S4x4096x32x96, y⟩] hc _ 0 (by simp) S4x4096x32x16 u rfl rfl 0 rfl _ (fun a ha => ?_) (Nat.zero_add _)
    match a with
    | 0 => rfl
    | 1 => rfl
    | 2 => rfl
    | 3 => exact absurd rfl ha
  · rw [dif_neg h1]
    by_cases h2 : d.val < 32
    · rw [dif_pos h2]
      refine concatenate_apply_piece (t := S4x4096x32x128) (3 : Fin 4)
          [⟨S4x4096x32x16, u⟩, ⟨S4x4096x32x16, v⟩, ⟨S4x4096x32x96, y⟩] hc _ 1 (by simp) S4x4096x32x16 v rfl rfl 16 rfl _ (fun a ha => ?_)
        (show 16 + (d.val - 16) = d.val by omega)
      match a with
      | 0 => rfl
      | 1 => rfl
      | 2 => rfl
      | 3 => exact absurd rfl ha
    · rw [dif_neg h2]
      refine concatenate_apply_piece (t := S4x4096x32x128) (3 : Fin 4)
          [⟨S4x4096x32x16, u⟩, ⟨S4x4096x32x16, v⟩, ⟨S4x4096x32x96, y⟩] hc _ 2 (by simp) S4x4096x32x96 y rfl rfl 32 rfl _ (fun a ha => ?_)
        (show 32 + (d.val - 32) = d.val by omega)
      match a with
      | 0 => rfl
      | 1 => rfl
      | 2 => rfl
      | 3 => exact absurd rfl ha

/-- A head of the queries turned. -/
theorem ref_turned_query (b : Fin 4) (s : Fin 4096) (h : Fin 32) (d : Fin 128) :
    val_main_v58 (F := Ideal) x g w (ix4 b s h d)
      = turned (fun d => projAt x g w ⟨b * 4096 + s, by omega⟩ ⟨h * 128 + d, by omega⟩) (fun f => cosT (ix2 s f)) (fun f => sinT (ix2 s f)) d := by
  unfold val_main_v58
  rw [join_head]
  unfold turned
  by_cases h1 : d.val < 16
  · rw [dif_pos h1, dif_pos h1, val_main_v49_apply, val_main_v45_apply, val_main_v48_apply, (ref_tab b s h _).1, (ref_tab b s h _).2.2.2.2.1,
      val_main_v41_apply, val_main_v42_apply]
    have e1 : idx_main_v41 (ix4 b s h ⟨d, h1⟩) = ix4 b s h d := by funext a; fin_cases a <;> rfl
    have e2 : idx_main_v42 (ix4 b s h ⟨d, h1⟩) = ix4 b s h ⟨d + 16, by omega⟩ := by
      funext a
      match a with
      | 0 => rfl
      | 1 => rfl
      | 2 => rfl
      | 3 => exact Fin.ext (Nat.add_comm 16 d.val)
    rw [e1, e2, ref_query, ref_query]
    rfl
  · rw [dif_neg h1, dif_neg h1]
    by_cases h2 : d.val < 32
    · rw [dif_pos h2, dif_pos h2, val_main_v56_apply, val_main_v52_apply, val_main_v55_apply, (ref_tab b s h _).2.1,
        (ref_tab b s h _).2.2.2.2.2.1, val_main_v41_apply, val_main_v42_apply]
      have e1 : idx_main_v41 (ix4 b s h ⟨d - 16, by omega⟩) = ix4 b s h ⟨d - 16, by omega⟩ := by funext a; fin_cases a <;> rfl
      have e2 : idx_main_v42 (ix4 b s h ⟨d - 16, by omega⟩) = ix4 b s h d := by
        funext a
        match a with
        | 0 => rfl
        | 1 => rfl
        | 2 => rfl
        | 3 => exact Fin.ext (show 16 + (d.val - 16) = d.val by omega)
      rw [e1, e2, ref_query, ref_query]
      rfl
    · rw [dif_neg h2, dif_neg h2, val_main_v57_apply]
      have e2 : idx_main_v57 (ix4 b s h ⟨d - 32, by omega⟩) = ix4 b s h d := by
        funext a
        match a with
        | 0 => rfl
        | 1 => rfl
        | 2 => rfl
        | 3 => exact Fin.ext (show 32 + (d.val - 32) = d.val by omega)
      rw [e2, ref_query]

/-- A head of the keys turned. -/
theorem ref_turned_key (b : Fin 4) (s : Fin 4096) (h : Fin 32) (d : Fin 128) :
    val_main_v78 (F := Ideal) x g w (ix4 b s h d)
      = turned (fun d => projAt x g w ⟨b * 4096 + s, by omega⟩ ⟨4096 + (h * 128 + d), by omega⟩) (fun f => cosT (ix2 s f)) (fun f => sinT (ix2 s f)) d := by
  unfold val_main_v78
  rw [join_head]
  unfold turned
  by_cases h1 : d.val < 16
  · rw [dif_pos h1, dif_pos h1, val_main_v69_apply, val_main_v65_apply, val_main_v68_apply, (ref_tab b s h _).2.2.1,
      (ref_tab b s h _).2.2.2.2.2.2.1, val_main_v61_apply, val_main_v62_apply]
    have e1 : idx_main_v61 (ix4 b s h ⟨d, h1⟩) = ix4 b s h d := by funext a; fin_cases a <;> rfl
    have e2 : idx_main_v62 (ix4 b s h ⟨d, h1⟩) = ix4 b s h ⟨d + 16, by omega⟩ := by
      funext a
      match a with
      | 0 => rfl
      | 1 => rfl
      | 2 => rfl
      | 3 => exact Fin.ext (Nat.add_comm 16 d.val)
    rw [e1, e2, ref_key, ref_key]
    rfl
  · rw [dif_neg h1, dif_neg h1]
    by_cases h2 : d.val < 32
    · rw [dif_pos h2, dif_pos h2, val_main_v76_apply, val_main_v72_apply, val_main_v75_apply, (ref_tab b s h _).2.2.2.1,
        (ref_tab b s h _).2.2.2.2.2.2.2, val_main_v61_apply, val_main_v62_apply]
      have e1 : idx_main_v61 (ix4 b s h ⟨d - 16, by omega⟩) = ix4 b s h ⟨d - 16, by omega⟩ := by funext a; fin_cases a <;> rfl
      have e2 : idx_main_v62 (ix4 b s h ⟨d - 16, by omega⟩) = ix4 b s h d := by
        funext a
        match a with
        | 0 => rfl
        | 1 => rfl
        | 2 => rfl
        | 3 => exact Fin.ext (show 16 + (d.val - 16) = d.val by omega)
      rw [e1, e2, ref_key, ref_key]
      rfl
    · rw [dif_neg h2, dif_neg h2, val_main_v77_apply]
      have e2 : idx_main_v77 (ix4 b s h ⟨d - 32, by omega⟩) = ix4 b s h d := by
        funext a
        match a with
        | 0 => rfl
        | 1 => rfl
        | 2 => rfl
        | 3 => exact Fin.ext (show 32 + (d.val - 32) = d.val by omega)
      rw [e2, ref_key]

/-- Three arrays joined along the columns, read in each. -/
theorem join_cols (u v y : S16384x4096.Idx → EReal)
    (hc : Shape.Concatenates [S16384x4096, S16384x4096, S16384x4096] S16384x12288 1) (r : Fin 16384) (e : Fin 12288) :
    concatenate S16384x12288 1 [⟨S16384x4096, u⟩, ⟨S16384x4096, v⟩, ⟨S16384x4096, y⟩] hc (ix2 r e)
      = if h1 : e.val < 4096 then u (ix2 r ⟨e, h1⟩) else if h2 : e.val < 8192 then v (ix2 r ⟨e - 4096, by omega⟩)
        else y (ix2 r ⟨e - 8192, by omega⟩) := by
  by_cases h1 : e.val < 4096
  · rw [dif_pos h1]
    refine concatenate_apply_piece (t := S16384x12288) (1 : Fin 2)
          [⟨S16384x4096, u⟩, ⟨S16384x4096, v⟩, ⟨S16384x4096, y⟩] hc _ 0 (by simp) S16384x4096 u rfl rfl 0 rfl _ (fun a ha => ?_) (Nat.zero_add _)
    match a with
    | 0 => rfl
    | 1 => exact absurd rfl ha
  · rw [dif_neg h1]
    by_cases h2 : e.val < 8192
    · rw [dif_pos h2]
      refine concatenate_apply_piece (t := S16384x12288) (1 : Fin 2)
          [⟨S16384x4096, u⟩, ⟨S16384x4096, v⟩, ⟨S16384x4096, y⟩] hc _ 1 (by simp) S16384x4096 v rfl rfl 4096 rfl _ (fun a ha => ?_)
        (show 4096 + (e.val - 4096) = e.val by omega)
      match a with
      | 0 => rfl
      | 1 => exact absurd rfl ha
    · rw [dif_neg h2]
      refine concatenate_apply_piece (t := S16384x12288) (1 : Fin 2)
          [⟨S16384x4096, u⟩, ⟨S16384x4096, v⟩, ⟨S16384x4096, y⟩] hc _ 2 (by simp) S16384x4096 y rfl rfl 8192 rfl _ (fun a ha => ?_)
        (show 8192 + (e.val - 8192) = e.val by omega)
      match a with
      | 0 => rfl
      | 1 => exact absurd rfl ha

/-- The place of row `r`, column `e < 4096` among the heads. -/
theorem head_place (r : Fin 16384) (e : Fin 4096) :
    idx_main_v79 (ix2 r e) = ix4 ⟨r / 4096, by omega⟩ ⟨r % 4096, by omega⟩ ⟨e / 128, by omega⟩ ⟨e % 128, by omega⟩ := by
  have hr := r.isLt; have he := e.isLt
  funext a
  match a with
  | 0 => exact Fin.ext (show (r.val * 4096 + e.val) / 16777216 = r.val / 4096 by omega)
  | 1 => exact Fin.ext (show (r.val * 4096 + e.val) / 4096 % 4096 = r.val % 4096 by omega)
  | 2 => exact Fin.ext (show (r.val * 4096 + e.val) / 128 % 32 = e.val / 128 by omega)
  | 3 => exact Fin.ext (show (r.val * 4096 + e.val) % 128 = e.val % 128 by omega)

/-- THE REFERENCE'S RESULT at an element. -/
theorem ref_at (r : Fin 16384) (e : Fin 12288) :
    val_main_v82 (F := Ideal) x g w (ix2 r e) = qkvAt cosT sinT x g w r e := by
  have hr := r.isLt; have he := e.isLt
  have er : (⟨r.val / 4096 * 4096 + r.val % 4096, by omega⟩ : Fin 16384) = r := Fin.ext (by show r.val / 4096 * 4096 + r.val % 4096 = r.val; omega)
  rw [val_main_v82_apply]
  refine Eq.trans (b := val_main_v81 (F := Ideal) x g w (ix2 r e)) rfl ?_
  unfold val_main_v81 qkvAt
  rw [join_cols]
  by_cases h1 : e.val < 4096
  · rw [dif_pos h1, if_pos (by omega), if_pos h1, val_main_v79_apply, head_place, val_main_v60_apply, ref_turned_query, val_main_v59_apply,
      val_main_cst_6_apply]
    simp only [er]
    rfl
  · rw [dif_neg h1]
    by_cases h2 : e.val < 8192
    · rw [dif_pos h2, if_pos h2, if_neg h1, mul_one, val_main_v80_apply, show idx_main_v80 (ix2 r (⟨e - 4096, by omega⟩ : Fin 4096)) = _ from head_place r ⟨e - 4096, by omega⟩,
        ref_turned_key]
      have ed : (⟨(e.val - 4096) % 128, by omega⟩ : Fin 128) = ⟨e.val % 128, by omega⟩ := Fin.ext (show (e.val - 4096) % 128 = e.val % 128 by omega)
      have ec : ∀ d : Fin 128, (⟨4096 + ((e.val - 4096) / 128 * 128 + d.val), by omega⟩ : Fin 12288) = ⟨e.val / 128 * 128 + d.val, by omega⟩ :=
        fun d => Fin.ext (show 4096 + ((e.val - 4096) / 128 * 128 + d.val) = e.val / 128 * 128 + d.val by omega)
      simp only [er, ec, ed]
    · rw [dif_neg h2, if_neg h2, val_main_v18_apply, ← ref_proj]
      refine congrArg (val_main_v15 (F := Ideal) x g w) ?_
      funext a
      match a with
      | 0 => rfl
      | 1 => exact Fin.ext (show 8192 + (e.val - 8192) = e.val by omega)

end

end Cert.Qkv

end
-- ==== Proof.QkvClaim.lean ====
/-
  The projections to queries, keys and values: the arrays the kernel stages, its result, the frames, and the equality of the results.
-/
module

public import proofs.«01_k».proof.Defs
public import proofs.«01_k».proof.Proof.Gen.KernelQkv.Frame
public import proofs.«01_k».proof.Proof.Gen.KernelQkvIdeal.Frame
public import proofs.«01_k».proof.Proof.Gen.KernelQkvIdeal.Value
public import proofs.«01_k».proof.Proof.Gen.ReferenceQkvIdeal.Run
public import proofs.«01_k».proof.Proof.QkvBlock
public import proofs.«01_k».proof.Proof.QkvRef
public import Idealize.ShloMosaic.Lib.Quiescent

@[expose] public section

set_option maxRecDepth 16384

noncomputable section

namespace Cert.Qkv

open Idealize.ShloMosaic Idealize.ShloMosaic.TcCoe Idealize.SL.Sem

/-- The projection kernel, on machine words, runs and keeps its arguments. -/
theorem frame_word : Cert.quiescent_KernelQkv := fun m ρ _ => Cert.KernelQkv.Gen.frame m ρ

/-- The same over the extended reals. -/
theorem frame_ideal : Cert.quiescent_KernelQkvIdeal := fun m ρ _ => Cert.KernelQkvIdeal.Gen.frame m ρ

/-- The reference runs and keeps its arguments. -/
theorem frame_ref : Cert.quiescent_ReferenceQkvIdeal := fun m ρ _ =>
  (θ_run Cert.ReferenceQkvIdeal.defs _ _).mono
    (fun r h => ⟨fun c => (h c).2, sem_eq_zero_of_no_sems (by decide) r.2⟩) (Cert.ReferenceQkvIdeal.Value.run m ρ)

/-! ## The tables the host prepares -/

section
open Cert.KernelQkvIdeal Cert.KernelQkvIdeal.Gen

/-- Three tables side by side. -/
theorem join_three (u v : S4096x16.Idx → EReal) (y : S4096x96.Idx → EReal)
    (hc : Shape.Concatenates [S4096x16, S4096x16, S4096x96] S4096x128 1) (s : Fin 4096) (d : Fin 128) :
    concatenate S4096x128 1 [⟨S4096x16, u⟩, ⟨S4096x16, v⟩, ⟨S4096x96, y⟩] hc (ix2 s d)
      = if h1 : d.val < 16 then u (ix2 s ⟨d, h1⟩) else if h2 : d.val < 32 then v (ix2 s ⟨d - 16, by omega⟩)
        else y (ix2 s ⟨d - 32, by omega⟩) := by
  by_cases h1 : d.val < 16
  · rw [dif_pos h1]
    refine concatenate_apply_piece (t := S4096x128) (1 : Fin 2)
          [⟨S4096x16, u⟩, ⟨S4096x16, v⟩, ⟨S4096x96, y⟩] hc _ 0 (by simp) S4096x16 u rfl rfl 0 rfl _ (fun a ha => ?_) (Nat.zero_add _)
    match a with
    | 0 => rfl
    | 1 => exact absurd rfl ha
  · rw [dif_neg h1]
    by_cases h2 : d.val < 32
    · rw [dif_pos h2]
      refine concatenate_apply_piece (t := S4096x128) (1 : Fin 2)
          [⟨S4096x16, u⟩, ⟨S4096x16, v⟩, ⟨S4096x96, y⟩] hc _ 1 (by simp) S4096x16 v rfl rfl 16 rfl _ (fun a ha => ?_)
        (show 16 + (d.val - 16) = d.val by omega)
      match a with
      | 0 => rfl
      | 1 => exact absurd rfl ha
    · rw [dif_neg h2]
      refine concatenate_apply_piece (t := S4096x128) (1 : Fin 2)
          [⟨S4096x16, u⟩, ⟨S4096x16, v⟩, ⟨S4096x96, y⟩] hc _ 2 (by simp) S4096x96 y rfl rfl 32 rfl _ (fun a ha => ?_)
        (show 32 + (d.val - 32) = d.val by omega)
      match a with
      | 0 => rfl
      | 1 => exact absurd rfl ha

/-- Two tables side by side. -/
theorem join_two (u : S4096x16.Idx → EReal) (y : S4096x112.Idx → EReal)
    (hc : Shape.Concatenates [S4096x16, S4096x112] S4096x128 1) (s : Fin 4096) (d : Fin 128) :
    concatenate S4096x128 1 [⟨S4096x16, u⟩, ⟨S4096x112, y⟩] hc (ix2 s d)
      = if h1 : d.val < 16 then u (ix2 s ⟨d, h1⟩) else y (ix2 s ⟨d - 16, by omega⟩) := by
  by_cases h1 : d.val < 16
  · rw [dif_pos h1]
    refine concatenate_apply_piece (t := S4096x128) (1 : Fin 2)
          [⟨S4096x16, u⟩, ⟨S4096x112, y⟩] hc _ 0 (by simp) S4096x16 u rfl rfl 0 rfl _ (fun a ha => ?_) (Nat.zero_add _)
    match a with
    | 0 => rfl
    | 1 => exact absurd rfl ha
  · rw [dif_neg h1]
    refine concatenate_apply_piece (t := S4096x128) (1 : Fin 2)
          [⟨S4096x16, u⟩, ⟨S4096x112, y⟩] hc _ 1 (by simp) S4096x112 y rfl rfl 16 rfl _ (fun a ha => ?_)
      (show 16 + (d.val - 16) = d.val by omega)
    match a with
    | 0 => rfl
    | 1 => exact absurd rfl ha

variable (m : (ℓ : Loc nD τ sig) → Buf (Elt Ideal) ℓ)

theorem table_C (c : Dev nD) (s : Fin 4096) (d : Fin 128) : V m c main_v23 (ix2 s d) = tabC (fun f => cosT (ix2 s f)) d := by
  have h : V m c main_v23 = concatenate S4096x128 1 [⟨S4096x16, cosT⟩, ⟨S4096x16, cosT⟩,
      ⟨S4096x96, broadcastInDim S4096x96 ![] bcast_S_S4096x96 (constant (F := Ideal) S_ .f32 0x3F800000#32)⟩]
      concatenates_S4096x16_S4096x16_S4096x96_S4096x128_d1 := by
    simp only [V, hostOps0, List.flatten_cons, List.flatten_nil, List.append_nil, List.cons_append, List.nil_append]
    after_results
    try rfl
  refine (congrFun h _).trans ?_
  rw [join_three]
  unfold tabC
  have e : (broadcastInDim S4096x96 ![] bcast_S_S4096x96 (constant (F := Ideal) S_ .f32 0x3F800000#32)) = fun _ => (1 : EReal) :=
    funext fun _ => Ffn.one_word
  rw [e]

theorem table_A (c : Dev nD) (s : Fin 4096) (d : Fin 128) : V m c main_v26 (ix2 s d) = tabA (fun f => sinT (ix2 s f)) d := by
  have h : V m c main_v26 = concatenate S4096x128 1 [⟨S4096x16, fun i => -sinT i⟩,
      ⟨S4096x112, broadcastInDim S4096x112 ![] bcast_S_S4096x112 (constant (F := Ideal) S_ .f32 0x00000000#32)⟩]
      concatenates_S4096x16_S4096x112_S4096x128_d1 := by
    simp only [V, hostOps0, List.flatten_cons, List.flatten_nil, List.append_nil, List.cons_append, List.nil_append]
    after_results
    try rfl
  refine (congrFun h _).trans ?_
  rw [join_two]
  unfold tabA
  have e : (broadcastInDim S4096x112 ![] bcast_S_S4096x112 (constant (F := Ideal) S_ .f32 0x00000000#32)) = fun _ => (0 : EReal) :=
    funext fun _ => zero_word
  rw [e]

theorem table_B (c : Dev nD) (s : Fin 4096) (d : Fin 128) : V m c main_v29 (ix2 s d) = tabB (fun f => sinT (ix2 s f)) d := by
  have h : V m c main_v29 = concatenate S4096x128 1 [
      ⟨S4096x16, broadcastInDim S4096x16 ![] bcast_S_S4096x16 (constant (F := Ideal) S_ .f32 0x00000000#32)⟩, ⟨S4096x16, sinT⟩,
      ⟨S4096x96, broadcastInDim S4096x96 ![] bcast_S_S4096x96 (constant (F := Ideal) S_ .f32 0x00000000#32)⟩]
      concatenates_S4096x16_S4096x16_S4096x96_S4096x128_d1 := by
    simp only [V, hostOps0, List.flatten_cons, List.flatten_nil, List.append_nil, List.cons_append, List.nil_append]
    after_results
    try rfl
  refine (congrFun h _).trans ?_
  rw [join_three]
  unfold tabB
  have e1 : (broadcastInDim S4096x16 ![] bcast_S_S4096x16 (constant (F := Ideal) S_ .f32 0x00000000#32)) = fun _ => (0 : EReal) :=
    funext fun _ => zero_word
  have e2 : (broadcastInDim S4096x96 ![] bcast_S_S4096x96 (constant (F := Ideal) S_ .f32 0x00000000#32)) = fun _ => (0 : EReal) :=
    funext fun _ => zero_word
  rw [e1, e2]
  rfl

theorem weights (c : Dev nD) : V m c main_v3 = m ((c : Thread nD τ).loc main_arg2) := by
  have h : V m c main_v3 = truncf (F := Ideal) .bf16 (m ((c : Thread nD τ).loc main_arg2)) bitsLt_bf16_f32 := by
    simp only [V, hostOps0, List.flatten_cons, List.flatten_nil, List.append_nil, List.cons_append, List.nil_append]
    after_results
  rw [h]; rfl

/-! ## The staged blocks -/

theorem index_x : ∀ t : Fin cfg0.N, win0_0.index t = ![t.val / 12, 0] := (by decide +kernel : ∀ t : Fin grid0.N, _)
theorem index_g : ∀ t : Fin cfg0.N, win0_1.index t = ![0, 0] := (by decide +kernel : ∀ t : Fin grid0.N, _)
theorem index_w : ∀ t : Fin cfg0.N, win0_2.index t = ![0, t.val % 12] := (by decide +kernel : ∀ t : Fin grid0.N, _)
theorem index_C : ∀ t : Fin cfg0.N, win0_3.index t = ![t.val / 12 % 8, 0] := (by decide +kernel : ∀ t : Fin grid0.N, _)
theorem index_A : ∀ t : Fin cfg0.N, win0_4.index t = ![t.val / 12 % 8, 0] := (by decide +kernel : ∀ t : Fin grid0.N, _)
theorem index_B : ∀ t : Fin cfg0.N, win0_5.index t = ![t.val / 12 % 8, 0] := (by decide +kernel : ∀ t : Fin grid0.N, _)
theorem index_y : ∀ t : Fin cfg0.N, win0_6.index t = ![t.val / 12, t.val % 12] := (by decide +kernel : ∀ t : Fin grid0.N, _)

theorem points : cfg0.N = 384 := by decide +kernel

theorem x_at (c : Dev nD) (t : Fin cfg0.N) (p : Fin 512) (k : Fin 4096) (r : Fin 16384) (hr : (r : ℕ) = t.val / 12 * 512 + p) :
    iblk m c 0 t (ix2 p k) = m ((c : Thread nD τ).loc main_arg0) (ix2 r k) := by
  blk_simp [iblk]
  refine (congrFun (V_main_arg0 m c) _).trans (congrArg (m ((c : Thread nD τ).loc main_arg0)) ?_)
  blk_ext [index_x] <;> omega

theorem g_at (c : Dev nD) (t : Fin cfg0.N) (k : Fin 4096) :
    iblk m c 1 t (ix2 0 k) = m ((c : Thread nD τ).loc main_arg1) (ix2 0 k) := by
  have h : V m c main_v2 = broadcastInDim S1x4096 ![1] bcast_S4096_S1x4096_1
      (shapeCast S4096 (extractStridedSlice S1x4096 ![0, 0] (m ((c : Thread nD τ).loc main_arg1)) slices_S2x4096_S1x4096_0_0) shapeCasts_S1x4096_S4096) := by
    simp only [V, hostOps0, List.flatten_cons, List.flatten_nil, List.append_nil, List.cons_append, List.nil_append]
    after_results
    try rfl
  blk_simp [iblk]
  refine (congrFun h _).trans ?_
  have e : (win0_1.blk t).view.emb (ix2 0 k) = ix2 (n0 := 1) (n1 := 4096) 0 k := by
    blk_ext [index_g] <;> omega
  rw [e]
  pointwise []

theorem w_at (c : Dev nD) (t : Fin cfg0.N) (k : Fin 4096) (e' : Fin 1024) (e : Fin 12288) (he : (e : ℕ) = t.val % 12 * 1024 + e') :
    iblk m c 2 t (ix2 k e') = m ((c : Thread nD τ).loc main_arg2) (ix2 k e) := by
  blk_simp [iblk]
  refine (congrFun (weights m c) _).trans (congrArg (m ((c : Thread nD τ).loc main_arg2)) ?_)
  blk_ext [index_w] <;> omega

theorem C_at (c : Dev nD) (t : Fin cfg0.N) (p : Fin 512) (d : Fin 128) (s : Fin 4096) (hs : (s : ℕ) = t.val / 12 % 8 * 512 + p) :
    iblk m c 3 t (ix2 p d) = tabC (fun f => cosT (ix2 s f)) d := by
  rw [← table_C m c]
  blk_simp [iblk]
  refine congrArg (V m c main_v23) ?_
  blk_ext [index_C] <;> omega

theorem A_at (c : Dev nD) (t : Fin cfg0.N) (p : Fin 512) (d : Fin 128) (s : Fin 4096) (hs : (s : ℕ) = t.val / 12 % 8 * 512 + p) :
    iblk m c 4 t (ix2 p d) = tabA (fun f => sinT (ix2 s f)) d := by
  rw [← table_A m c]
  blk_simp [iblk]
  refine congrArg (V m c main_v26) ?_
  blk_ext [index_A] <;> omega

theorem B_at (c : Dev nD) (t : Fin cfg0.N) (p : Fin 512) (d : Fin 128) (s : Fin 4096) (hs : (s : ℕ) = t.val / 12 % 8 * 512 + p) :
    iblk m c 5 t (ix2 p d) = tabB (fun f => sinT (ix2 s f)) d := by
  rw [← table_B m c]
  blk_simp [iblk]
  refine congrArg (V m c main_v29) ?_
  blk_ext [index_B] <;> omega

/-! ## The scratch at every point -/

/-- Row `r` of the array, normalised. -/
def rowAt (c : Dev nD) (r : Fin 16384) (k : Fin 4096) : EReal :=
  Ffn.scaled (fun j => m ((c : Thread nD τ).loc main_arg0) (ix2 r j)) (fun j => m ((c : Thread nD τ).loc main_arg1) (ix2 0 j)) k

theorem norm_at (c : Dev nD) (t : Fin cfg0.N) (p : Fin 512) (k : Fin 4096) (r : Fin 16384) (hr : (r : ℕ) = t.val / 12 * 512 + p) :
    normBlk (iblk m c 0 t) (iblk m c 1 t) (ix2 p k) = rowAt m c r k := by
  show normRow (iblk m c 0 t) (iblk m c 1 t) p k = _
  unfold normRow rowAt
  exact congrArg₂ (fun a b => Ffn.scaled a b k) (funext fun j => x_at m c t p j r hr) (funext fun j => g_at m c t j)

/-- A point that is not the first of its row block leaves the scratch as it found it. -/
theorem scratch_kept (c : Dev nD) (t : Fin cfg0.N) (h0 : ¬t.val % 12 = 0) :
    (outsAt0 m c t.val t.isLt).2 = (outsAt0 m c (t.val - 1) (Nat.lt_of_le_of_lt (Nat.sub_le _ _) t.isLt)).2 := by
  by_cases h1 : t.val % 12 ≤ 3
  · rw [outsAt0_B m c t h0 h1 (by omega) (by omega)]; rfl
  · by_cases h3 : 8 ≤ t.val % 12
    · rw [outsAt0_D m c t h0 h1 (by omega) h3]; rfl
    · rw [outsAt0_C m c t h0 h1 (by omega) h3]; rfl

/-- The first point of a row block leaves the normalised rows in the scratch. -/
theorem scratch_new (c : Dev nD) (t : Fin cfg0.N) (g0 : t.val % 12 = 0) (g1 : t.val % 12 ≤ 3) (g2 : ¬(4 ≤ t.val % 12 ∧ t.val % 12 ≤ 7)) (g3 : ¬8 ≤ t.val % 12) :
    (outsAt0 m c t.val t.isLt).2 = normBlk (iblk m c 0 t) (iblk m c 1 t) :=
  (congrArg Prod.snd (outsAt0_A m c t g0 g1 g2 g3)).trans (scratch_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      ((hcond0_0 t).mpr g0) ((hcond0_1 t).mpr g1) (fun h => g2 ((hcond0_2 t).mp h)) (fun h => g3 ((hcond0_3 t).mp h))
      (iblk m c 0 t) (iblk m c 1 t) (iblk m c 2 t) (iblk m c 3 t) (iblk m c 4 t) (iblk m c 5 t))

/-- THE SCRATCH after every point holds the normalised rows of the point's row block. -/
theorem scratch_at (c : Dev nD) (n : ℕ) (hn : n < cfg0.N) (p : Fin 512) (k : Fin 4096) (r : Fin 16384) (hr : (r : ℕ) = n / 12 * 512 + p) :
    (outsAt0 m c n hn).2 (ix2 p k) = rowAt m c r k := by
  induction n with
  | zero =>
    rw [scratch_new m c ⟨0, hn⟩ (Nat.zero_mod 12) (by show 0 % 12 ≤ 3; omega) (by show ¬(4 ≤ 0 % 12 ∧ _); omega) (by show ¬8 ≤ 0 % 12; omega)]
    exact norm_at m c ⟨0, hn⟩ p k r hr
  | succ n ih =>
    by_cases h0 : (n + 1) % 12 = 0
    · rw [scratch_new m c ⟨n + 1, hn⟩ h0 (by show (n + 1) % 12 ≤ 3; omega) (by show ¬(4 ≤ (n + 1) % 12 ∧ _); omega)
        (by show ¬8 ≤ (n + 1) % 12; omega)]
      exact norm_at m c ⟨n + 1, hn⟩ p k r hr
    · rw [scratch_kept m c ⟨n + 1, hn⟩ h0]
      exact ih (Nat.lt_of_succ_lt hn) (by omega)

/-! ## The result -/

/-- A product with the staged weights is the projection's element. -/
theorem prod_eq (c : Dev nD) (t : Fin cfg0.N) (h : Vec Ideal S512x4096 .bf16) (p : Fin 512) (r : Fin 16384)
    (hh : ∀ k, h (ix2 p k) = rowAt m c r k) (e' : Fin 1024) (e : Fin 12288) (he : (e : ℕ) = t.val % 12 * 1024 + e') :
    prodAt h (iblk m c 2 t) p e' = projAt (m ((c : Thread nD τ).loc main_arg0)) (m ((c : Thread nD τ).loc main_arg1))
      (m ((c : Thread nD τ).loc main_arg2)) r e := by
  unfold prodAt projAt
  exact Finset.sum_congr rfl fun k _ => congrArg₂ (fun a b : EReal => a * b) (hh k) (w_at m c t k e' e he)

/-- A turned block is the result's element among the queries and the keys. -/
theorem turn_eq (c : Dev nD) (t : Fin cfg0.N) (h : Vec Ideal S512x4096 .bf16) (p : Fin 512) (r : Fin 16384)
    (hr : (r : ℕ) = t.val / 12 * 512 + p) (hh : ∀ k, h (ix2 p k) = rowAt m c r k) (e' : Fin 1024) (e : Fin 12288)
    (he : (e : ℕ) = t.val % 12 * 1024 + e') (he8 : e.val < 8192) (z : EReal) (hz : z = if e.val < 4096 then qWord else 1) :
    turnBlk h (iblk m c 2 t) (iblk m c 3 t) (iblk m c 4 t) (iblk m c 5 t) z p e'
      = qkvAt cosT sinT (m ((c : Thread nD τ).loc main_arg0)) (m ((c : Thread nD τ).loc main_arg1)) (m ((c : Thread nD τ).loc main_arg2)) r e := by
  have hp := p.isLt
  have he' := e'.isLt
  obtain ⟨y, hy, hzy⟩ : ∃ y : ℝ, 0 ≤ y ∧ z = y := by
    by_cases h4 : e.val < 4096
    · rw [if_pos h4] at hz
      obtain ⟨y, hy, h⟩ := qWord_real
      exact ⟨y, hy, hz.trans h⟩
    · rw [if_neg h4] at hz
      exact ⟨1, zero_le_one, hz⟩
  have hs : (r.val % 4096 : ℕ) = t.val / 12 % 8 * 512 + p.val := by omega
  unfold turnBlk qkvAt
  rw [if_pos he8, ← hz, hzy]
  have ed : (⟨e'.val % 128, by omega⟩ : Fin 128) = ⟨e.val % 128, by omega⟩ := Fin.ext (by show e'.val % 128 = e.val % 128; omega)
  rw [ed, ← rolled_eq _ _ _ y hy]
  have e1 : ∀ d : Fin 128, prodAt h (iblk m c 2 t) p ⟨e'.val / 128 * 128 + d, by omega⟩
      = projAt (m ((c : Thread nD τ).loc main_arg0)) (m ((c : Thread nD τ).loc main_arg1)) (m ((c : Thread nD τ).loc main_arg2)) r
          ⟨e.val / 128 * 128 + d, by omega⟩ := fun d =>
    prod_eq m c t h p r hh _ _ (show e.val / 128 * 128 + d.val = t.val % 12 * 1024 + (e'.val / 128 * 128 + d.val) by omega)
  have e2 := fun d : Fin 128 => C_at m c t p d ⟨r.val % 4096, by omega⟩ hs
  have e3 := fun d : Fin 128 => A_at m c t p d ⟨r.val % 4096, by omega⟩ hs
  have e4 := fun d : Fin 128 => B_at m c t p d ⟨r.val % 4096, by omega⟩ hs
  simp only [e1, e2, e3, e4]

/-- The first point of a row block. -/
theorem point_A (c : Dev nD) (t : Fin cfg0.N) (p : Fin 512) (e' : Fin 1024) (g0 : t.val % 12 = 0) (g1 : t.val % 12 ≤ 3) (g2 : ¬(4 ≤ t.val % 12 ∧ t.val % 12 ≤ 7)) (g3 : ¬8 ≤ t.val % 12) :
    (outsAt0 m c t.val t.isLt).1 (ix2 p e')
      = turnBlk (normBlk (iblk m c 0 t) (iblk m c 1 t)) (iblk m c 2 t) (iblk m c 3 t) (iblk m c 4 t) (iblk m c 5 t) qWord p e' :=
  (congrFun (congrArg Prod.fst (outsAt0_A m c t g0 g1 g2 g3)) (ix2 p e')).trans (block_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      ((hcond0_0 t).mpr g0) ((hcond0_1 t).mpr g1) (fun h => g2 ((hcond0_2 t).mp h)) (fun h => g3 ((hcond0_3 t).mp h))
      (iblk m c 0 t) (iblk m c 1 t) (iblk m c 2 t) (iblk m c 3 t) (iblk m c 4 t) (iblk m c 5 t) (ix2 p e'))

/-- A later point among the queries. -/
theorem point_B (c : Dev nD) (t : Fin cfg0.N) (p : Fin 512) (e' : Fin 1024) (g0 : ¬t.val % 12 = 0) (g1 : t.val % 12 ≤ 3) (g2 : ¬(4 ≤ t.val % 12 ∧ t.val % 12 ≤ 7)) (g3 : ¬8 ≤ t.val % 12) :
    (outsAt0 m c t.val t.isLt).1 (ix2 p e')
      = turnBlk (outsAt0 m c (t.val - 1) (Nat.lt_of_le_of_lt (Nat.sub_le _ _) t.isLt)).2 (iblk m c 2 t) (iblk m c 3 t) (iblk m c 4 t) (iblk m c 5 t) qWord p e' :=
  (congrFun (congrArg Prod.fst (outsAt0_B m c t g0 g1 g2 g3)) (ix2 p e')).trans (block_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (fun h => g0 ((hcond0_0 t).mp h)) ((hcond0_1 t).mpr g1) (fun h => g2 ((hcond0_2 t).mp h)) (fun h => g3 ((hcond0_3 t).mp h))
      (iblk m c 0 t) (iblk m c 1 t) (iblk m c 2 t) (iblk m c 3 t) (iblk m c 4 t) (iblk m c 5 t)
      (outsAt0 m c (t.val - 1) (Nat.lt_of_le_of_lt (Nat.sub_le _ _) t.isLt)).2 (ix2 p e'))

/-- A point among the keys. -/
theorem point_C (c : Dev nD) (t : Fin cfg0.N) (p : Fin 512) (e' : Fin 1024) (g0 : ¬t.val % 12 = 0) (g1 : ¬t.val % 12 ≤ 3) (g2 : 4 ≤ t.val % 12 ∧ t.val % 12 ≤ 7) (g3 : ¬8 ≤ t.val % 12) :
    (outsAt0 m c t.val t.isLt).1 (ix2 p e')
      = turnBlk (outsAt0 m c (t.val - 1) (Nat.lt_of_le_of_lt (Nat.sub_le _ _) t.isLt)).2 (iblk m c 2 t) (iblk m c 3 t) (iblk m c 4 t) (iblk m c 5 t) 1 p e' :=
  (congrFun (congrArg Prod.fst (outsAt0_C m c t g0 g1 g2 g3)) (ix2 p e')).trans (block_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (fun h => g0 ((hcond0_0 t).mp h)) (fun h => g1 ((hcond0_1 t).mp h)) ((hcond0_2 t).mpr g2) (fun h => g3 ((hcond0_3 t).mp h))
      (iblk m c 0 t) (iblk m c 1 t) (iblk m c 2 t) (iblk m c 3 t) (iblk m c 4 t) (iblk m c 5 t)
      (outsAt0 m c (t.val - 1) (Nat.lt_of_le_of_lt (Nat.sub_le _ _) t.isLt)).2 (ix2 p e'))

/-- A point among the values. -/
theorem point_D (c : Dev nD) (t : Fin cfg0.N) (p : Fin 512) (e' : Fin 1024) (g0 : ¬t.val % 12 = 0) (g1 : ¬t.val % 12 ≤ 3) (g2 : ¬(4 ≤ t.val % 12 ∧ t.val % 12 ≤ 7)) (g3 : 8 ≤ t.val % 12) :
    (outsAt0 m c t.val t.isLt).1 (ix2 p e')
      = plainBlk (outsAt0 m c (t.val - 1) (Nat.lt_of_le_of_lt (Nat.sub_le _ _) t.isLt)).2 (iblk m c 2 t) p e' := by
  have h1 := congrFun (congrArg Prod.fst (outsAt0_D m c t g0 g1 g2 g3)) (ix2 p e')
  have h2 := block_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (fun h => g0 ((hcond0_0 t).mp h)) (fun h => g1 ((hcond0_1 t).mp h)) (fun h => g2 ((hcond0_2 t).mp h)) ((hcond0_3 t).mpr g3)
      (iblk m c 0 t) (iblk m c 1 t) (iblk m c 2 t) (iblk m c 3 t) (iblk m c 4 t) (iblk m c 5 t)
      (outsAt0 m c (t.val - 1) (Nat.lt_of_le_of_lt (Nat.sub_le _ _) t.isLt)).2 (ix2 p e')
  dsimp only at h1
  rw [h1, h2, show ix2 p e' 0 = p from rfl, show ix2 p e' 1 = e' from rfl]

/-- What a grid point leaves in its block, at an element. -/
theorem block_qkv (c : Dev nD) (t : Fin cfg0.N) (p : Fin 512) (e' : Fin 1024) (r : Fin 16384) (e : Fin 12288)
    (hr : (r : ℕ) = t.val / 12 * 512 + p) (he : (e : ℕ) = t.val % 12 * 1024 + e') :
    (outsAt0 m c t.val t.isLt).1 (ix2 p e')
      = qkvAt cosT sinT (m ((c : Thread nD τ).loc main_arg0)) (m ((c : Thread nD τ).loc main_arg1)) (m ((c : Thread nD τ).loc main_arg2)) r e := by
  have he' := e'.isLt
  by_cases h0 : t.val % 12 = 0
  · rw [point_A m c t p e' h0 (by omega) (by omega) (by omega)]
    exact turn_eq m c t _ p r hr (fun k => norm_at m c t p k r hr) e' e he (by omega) _ (if_pos (by omega)).symm
  have hh := fun k => scratch_at m c (t.val - 1) (Nat.lt_of_le_of_lt (Nat.sub_le _ _) t.isLt) p k r (by omega)
  by_cases h1 : t.val % 12 ≤ 3
  · rw [point_B m c t p e' h0 h1 (by omega) (by omega)]
    exact turn_eq m c t _ p r hr hh e' e he (by omega) _ (if_pos (by omega)).symm
  by_cases h3 : 8 ≤ t.val % 12
  · rw [point_D m c t p e' h0 h1 (by omega) h3]
    unfold qkvAt
    rw [if_neg (by omega)]
    unfold plainBlk
    exact prod_eq m c t _ p r hh e' e he
  · rw [point_C m c t p e' h0 h1 (by omega) h3]
    exact turn_eq m c t _ p r hr hh e' e he (by omega) _ (if_neg (by omega)).symm

/-- THE RESULT ARRAY after the run. -/
theorem array_eq (c : Dev nD) :
    (dats m 0 c).arrAt 6 cfg0.N = fun i : S16384x12288.Idx =>
      qkvAt cosT sinT (m ((c : Thread nD τ).loc main_arg0)) (m ((c : Thread nD τ).loc main_arg1)) (m ((c : Thread nD τ).loc main_arg2)) (i 0) (i 1) := by
  refine (dats m 0 c).arrAt_eq_of_covers 6 _ (by decide +kernel) fun t hf y => ?_
  blk_simp
  rw [after0_6]
  obtain ⟨p, e, rfl⟩ : ∃ (p : Fin 512) (e : Fin 1024), y = ix2 p e := ⟨y 0, y 1, eq_ix2 y⟩
  exact block_qkv m c t p e _ _ (by blk_simp [index_y]) (by blk_simp [index_y])

end

/-- THE VALUES: over the extended reals the kernel and the reference end with the same result. -/
theorem values : Cert.algebraic_KernelQkvIdeal_ReferenceQkvIdeal := fun m g m' g' hpre hagree => by
  refine ⟨_, Cert.KernelQkvIdeal.Value.run_blocks m g, ?_⟩
  refine (θ_run Cert.ReferenceQkvIdeal.defs _ _).mono (fun r h c => ⟨(h c).1.trans ?_, (h c).2⟩) (Cert.ReferenceQkvIdeal.Value.run m' g')
  obtain ⟨a0, a1, a2⟩ := hagree c
  rw [Cert.ReferenceQkvIdeal.Read.val_main_v82_eq, a0, a1, a2, array_eq]
  funext i
  obtain ⟨p, e, rfl⟩ : ∃ (p : Fin 16384) (e : Fin 12288), i = ix2 p e := ⟨i 0, i 1, eq_ix2 i⟩
  exact ref_at _ _ _ p e

end Cert.Qkv

end
-- ==== Proof.LastLoop.lean ====
/-
  The second layer's feed-forward kernel, its loop over pairs of weight chunks: the copies in flight, the slots they fill, the rows accumulated so far,
  and one trip of the loop.
-/
module

public import proofs.«01_k».proof.Proof.Gen.KernelLastIdeal.Launch
public import proofs.«01_k».proof.Proof.Gen.KernelLastIdeal.Skeleton
public import proofs.«01_k».proof.Proof.Gen.KernelLastIdeal.Points
public import proofs.«01_k».proof.Proof.Gen.KernelLastIdeal.Frame
public import proofs.«01_k».proof.Proof.FfnShared
public import Idealize.ShloMosaic.Lib.Pipeline.FrameBody
public import Idealize.ShloMosaic.Lib.Ring
import Idealize.ShloMosaic.Lib.VecWindow
public import Idealize.ShloMosaic.Lib.Tactic
public import Idealize.ShloMosaic.Lib.WordCmp

@[expose] public section

set_option maxRecDepth 16384

noncomputable section

namespace Cert.KernelLastIdeal.Hand

open Cert.KernelLastIdeal Cert.KernelLastIdeal.Gen Cert.FfnShared
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A buffer held whole at share `q` with contents `f`. -/
abbrev ptW (c : Dev nD) (b : Ref sig .tc) (q : PosShare TreeShare) (f : Buf (Elt F) ((c : Thread nD τ).loc b)) : sProp 𝕄 :=
  (Memref.whole b).view.loc (c : Thread nD τ) ↦{q} f

/-- The two slots of each ring buffer: the gate's, the up-projection's, the down-projection's. -/
abbrev gS0 : Memref sig .tc .vmem S4096x256 .bf16 := ((Memref.whole cc0_scratch1).slice (Rect.unit (s := S2x4096x256) ![0, 0, 0] S1x4096x256.size inb_S2x4096x256_S1x4096x256_0_0_0) (fun _ => rfl)).squeeze S4096x256 squeezes_S1x4096x256_S4096x256
abbrev gS1 : Memref sig .tc .vmem S4096x256 .bf16 := ((Memref.whole cc0_scratch1).slice (Rect.unit (s := S2x4096x256) ![1, 0, 0] S1x4096x256.size inb_S2x4096x256_S1x4096x256_1_0_0) (fun _ => rfl)).squeeze S4096x256 squeezes_S1x4096x256_S4096x256
abbrev uS0 : Memref sig .tc .vmem S4096x256 .bf16 := ((Memref.whole cc0_scratch2).slice (Rect.unit (s := S2x4096x256) ![0, 0, 0] S1x4096x256.size inb_S2x4096x256_S1x4096x256_0_0_0) (fun _ => rfl)).squeeze S4096x256 squeezes_S1x4096x256_S4096x256
abbrev uS1 : Memref sig .tc .vmem S4096x256 .bf16 := ((Memref.whole cc0_scratch2).slice (Rect.unit (s := S2x4096x256) ![1, 0, 0] S1x4096x256.size inb_S2x4096x256_S1x4096x256_1_0_0) (fun _ => rfl)).squeeze S4096x256 squeezes_S1x4096x256_S4096x256
abbrev dS0 : Memref sig .tc .vmem S256x4096 .bf16 := ((Memref.whole cc0_scratch3).slice (Rect.unit (s := S2x256x4096) ![0, 0, 0] S1x256x4096.size inb_S2x256x4096_S1x256x4096_0_0_0) (fun _ => rfl)).squeeze S256x4096 squeezes_S1x256x4096_S256x4096
abbrev dS1 : Memref sig .tc .vmem S256x4096 .bf16 := ((Memref.whole cc0_scratch3).slice (Rect.unit (s := S2x256x4096) ![1, 0, 0] S1x256x4096.size inb_S2x256x4096_S1x256x4096_1_0_0) (fun _ => rfl)).squeeze S256x4096 squeezes_S1x256x4096_S256x4096

/-- Chunk `n`'s windows of the weight arrays lie inside them: the gate's columns, the up-projection's columns, the down-projection's rows. -/
theorem inbG (n : ℕ) : ∀ a, (![1, 0, 256 * (n % 43)] : Fin 3 → ℕ) a + S1x4096x256.size a ≤ S2x4096x22016.size a := by
  have := Nat.mod_lt n (by decide : 0 < 43)
  intro a; fin_cases a <;> simp [S1x4096x256, S2x4096x22016] <;> omega
theorem inbU (n : ℕ) : ∀ a, (![1, 0, 256 * (n % 43) + 11008] : Fin 3 → ℕ) a + S1x4096x256.size a ≤ S2x4096x22016.size a := by
  have := Nat.mod_lt n (by decide : 0 < 43)
  intro a; fin_cases a <;> simp [S1x4096x256, S2x4096x22016] <;> omega
theorem inbD (n : ℕ) : ∀ a, (![1, 256 * (n % 43), 0] : Fin 3 → ℕ) a + S1x256x4096.size a ≤ S2x11008x4096.size a := by
  have := Nat.mod_lt n (by decide : 0 < 43)
  intro a; fin_cases a <;> simp [S1x256x4096, S2x11008x4096] <;> omega

/-- The windows the copies of chunk `n` read. -/
def gSrc (n : ℕ) : Memref sig .tc .hbm S4096x256 .bf16 := ((Memref.whole main_v3).slice (Rect.unit (s := S2x4096x22016) ![1, 0, 256 * (n % 43)] S1x4096x256.size (inbG n)) (fun _ => rfl)).squeeze S4096x256 squeezes_S1x4096x256_S4096x256
def uSrc (n : ℕ) : Memref sig .tc .hbm S4096x256 .bf16 := ((Memref.whole main_v3).slice (Rect.unit (s := S2x4096x22016) ![1, 0, 256 * (n % 43) + 11008] S1x4096x256.size (inbU n)) (fun _ => rfl)).squeeze S4096x256 squeezes_S1x4096x256_S4096x256
def dSrc (n : ℕ) : Memref sig .tc .hbm S256x4096 .bf16 := ((Memref.whole main_v4).slice (Rect.unit (s := S2x11008x4096) ![1, 256 * (n % 43), 0] S1x256x4096.size (inbD n)) (fun _ => rfl)).squeeze S256x4096 squeezes_S1x256x4096_S256x4096

section inv
variable (c : Dev nD) (w3 : Buf (Elt F) ((c : Thread nD τ).loc main_v3)) (w4 : Buf (Elt F) ((c : Thread nD τ).loc main_v4))

/-- The gate's columns of chunk `n`. -/
def gV (n : ℕ) : Vec F S1x4096x256 .bf16 :=
  (Memref.whole main_v3).view.readAt (Elt F) (Rect.unit (s := S2x4096x22016) ![1, 0, 256 * (n % 43)] S1x4096x256.size (inbG n)).toLoadRect w3
/-- The up-projection's columns of chunk `n`. -/
def uV (n : ℕ) : Vec F S1x4096x256 .bf16 :=
  (Memref.whole main_v3).view.readAt (Elt F) (Rect.unit (s := S2x4096x22016) ![1, 0, 256 * (n % 43) + 11008] S1x4096x256.size (inbU n)).toLoadRect w3
/-- The down-projection's rows of chunk `n`. -/
def dV (n : ℕ) : Vec F S1x256x4096 .bf16 :=
  (Memref.whole main_v4).view.readAt (Elt F) (Rect.unit (s := S2x11008x4096) ![1, 256 * (n % 43), 0] S1x256x4096.size (inbD n)).toLoadRect w4

/-- The output block after `n` chunks, from the block `x` and the normalised rows `h`. -/
def acc (x : Vec F S1024x4096 .f32) (h : Vec F S1024x4096 .bf16) : ℕ → Vec F S1024x4096 .f32
  | 0 => x
  | n + 1 => k0_pay33 h (gV c w3 n) (uV c w3 n) (acc x h n) (dV c w4 n)

/-- A slot after its copy has landed reads as the chunk copied there; one lemma for each slot. -/
theorem ld_gS0 (g) (n : ℕ) (p) (hp : p = (gSrc n).view.read (Elt F) w3) : (Memref.whole cc0_scratch1).view.readAt (Elt F) (Rect.unit (s := S2x4096x256) ![0, 0, 0] S1x4096x256.size inb_S2x4096x256_S1x4096x256_0_0_0).toLoadRect
    (gS0.view.writes (Elt F) g [⟨Rect.whole S4096x256, p⟩]) = gV c w3 n := by
  subst hp; exact read_landed (S := S1x4096x256) _ _ _ _ _
theorem ld_gS1 (g) (n : ℕ) (p) (hp : p = (gSrc n).view.read (Elt F) w3) : (Memref.whole cc0_scratch1).view.readAt (Elt F) (Rect.unit (s := S2x4096x256) ![1, 0, 0] S1x4096x256.size inb_S2x4096x256_S1x4096x256_1_0_0).toLoadRect
    (gS1.view.writes (Elt F) g [⟨Rect.whole S4096x256, p⟩]) = gV c w3 n := by
  subst hp; exact read_landed (S := S1x4096x256) _ _ _ _ _
theorem ld_uS0 (g) (n : ℕ) (p) (hp : p = (uSrc n).view.read (Elt F) w3) : (Memref.whole cc0_scratch2).view.readAt (Elt F) (Rect.unit (s := S2x4096x256) ![0, 0, 0] S1x4096x256.size inb_S2x4096x256_S1x4096x256_0_0_0).toLoadRect
    (uS0.view.writes (Elt F) g [⟨Rect.whole S4096x256, p⟩]) = uV c w3 n := by
  subst hp; exact read_landed (S := S1x4096x256) _ _ _ _ _
theorem ld_uS1 (g) (n : ℕ) (p) (hp : p = (uSrc n).view.read (Elt F) w3) : (Memref.whole cc0_scratch2).view.readAt (Elt F) (Rect.unit (s := S2x4096x256) ![1, 0, 0] S1x4096x256.size inb_S2x4096x256_S1x4096x256_1_0_0).toLoadRect
    (uS1.view.writes (Elt F) g [⟨Rect.whole S4096x256, p⟩]) = uV c w3 n := by
  subst hp; exact read_landed (S := S1x4096x256) _ _ _ _ _
theorem ld_dS0 (g) (n : ℕ) (p) (hp : p = (dSrc n).view.read (Elt F) w4) : (Memref.whole cc0_scratch3).view.readAt (Elt F) (Rect.unit (s := S2x256x4096) ![0, 0, 0] S1x256x4096.size inb_S2x256x4096_S1x256x4096_0_0_0).toLoadRect
    (dS0.view.writes (Elt F) g [⟨Rect.whole S256x4096, p⟩]) = dV c w4 n := by
  subst hp; exact read_landed (S := S1x256x4096) _ _ _ _ _
theorem ld_dS1 (g) (n : ℕ) (p) (hp : p = (dSrc n).view.read (Elt F) w4) : (Memref.whole cc0_scratch3).view.readAt (Elt F) (Rect.unit (s := S2x256x4096) ![1, 0, 0] S1x256x4096.size inb_S2x256x4096_S1x256x4096_1_0_0).toLoadRect
    (dS1.view.writes (Elt F) g [⟨Rect.whole S256x4096, p⟩]) = dV c w4 n := by
  subst hp; exact read_landed (S := S1x256x4096) _ _ _ _ _

/-- The offsets of the copies issued in one trip, in closed form. -/
theorem off10 (k : Fin k0_t3_loop.trips) : k0_off10 k = ![1, 0, 256 * ((2 * k.val + 1) % 43)] :=
  (by decide +kernel : ∀ k : Fin k0_t3_loop.trips, k0_off10 k = ![1, 0, 256 * ((2 * k.val + 1) % 43)]) k
theorem off11 (k : Fin k0_t3_loop.trips) : k0_off11 k = ![1, 0, 256 * ((2 * k.val + 1) % 43) + 11008] :=
  (by decide +kernel : ∀ k : Fin k0_t3_loop.trips, k0_off11 k = ![1, 0, 256 * ((2 * k.val + 1) % 43) + 11008]) k
theorem off12 (k : Fin k0_t3_loop.trips) : k0_off12 k = ![1, 256 * ((2 * k.val + 1) % 43), 0] :=
  (by decide +kernel : ∀ k : Fin k0_t3_loop.trips, k0_off12 k = ![1, 256 * ((2 * k.val + 1) % 43), 0]) k
theorem off13 (k : Fin k0_t3_loop.trips) : k0_off13 k = ![1, 0, 256 * ((2 * (k.val + 1)) % 43)] :=
  (by decide +kernel : ∀ k : Fin k0_t3_loop.trips, k0_off13 k = ![1, 0, 256 * ((2 * (k.val + 1)) % 43)]) k
theorem off14 (k : Fin k0_t3_loop.trips) : k0_off14 k = ![1, 0, 256 * ((2 * (k.val + 1)) % 43) + 11008] :=
  (by decide +kernel : ∀ k : Fin k0_t3_loop.trips, k0_off14 k = ![1, 0, 256 * ((2 * (k.val + 1)) % 43) + 11008]) k
theorem off15 (k : Fin k0_t3_loop.trips) : k0_off15 k = ![1, 256 * ((2 * (k.val + 1)) % 43), 0] :=
  (by decide +kernel : ∀ k : Fin k0_t3_loop.trips, k0_off15 k = ![1, 256 * ((2 * (k.val + 1)) % 43), 0]) k

/-- A slot held by its own elements. -/
abbrev slotP {S : Shape} (s : Memref sig .tc .vmem S .bf16) (f : Buf (Elt F) (s.view.loc (c : Thread nD τ))) : sProp 𝕄 :=
  s.view.loc (c : Thread nD τ) ↦[s.view.set]{fullShare} f

/-- The three copies of chunk `n` into the first slots, in flight: each pays its counter and gives back its slot, filled, and the window it read. -/
abbrev flG (n : ℕ) : sProp 𝕄 := iprop(∃ g, Transfers.Flight countersEmb (c : Thread nD τ) (SemLoc.dma 6) () 65536
    iprop(slotP c gS0 (gS0.view.writes (Elt F) g [⟨Rect.whole S4096x256, (gSrc n).view.read (Elt F) w3⟩])
      ∗ ((Memref.whole main_v3).view.loc (c : Thread nD τ) ↦[(gSrc n).view.set]{Transfers.shareTokN fullShare 6} w3))
  ∗ ((Memref.whole main_v3).view.loc (c : Thread nD τ) ↦[Finset.univ \ (gSrc n).view.set]{Transfers.shareTokN fullShare 6} w3))
abbrev flU (n : ℕ) : sProp 𝕄 := iprop(∃ g, Transfers.Flight countersEmb (c : Thread nD τ) (SemLoc.dma 7) () 65536
    iprop(slotP c uS0 (uS0.view.writes (Elt F) g [⟨Rect.whole S4096x256, (uSrc n).view.read (Elt F) w3⟩])
      ∗ ((Memref.whole main_v3).view.loc (c : Thread nD τ) ↦[(uSrc n).view.set]{Transfers.shareTokN fullShare 7} w3))
  ∗ ((Memref.whole main_v3).view.loc (c : Thread nD τ) ↦[Finset.univ \ (uSrc n).view.set]{Transfers.shareTokN fullShare 7} w3))
abbrev flD (n : ℕ) : sProp 𝕄 := iprop(∃ g, Transfers.Flight countersEmb (c : Thread nD τ) (SemLoc.dma 8) () 65536
    iprop(slotP c dS0 (dS0.view.writes (Elt F) g [⟨Rect.whole S256x4096, (dSrc n).view.read (Elt F) w4⟩])
      ∗ ((Memref.whole main_v4).view.loc (c : Thread nD τ) ↦[(dSrc n).view.set]{fullShare} w4))
  ∗ ((Memref.whole main_v4).view.loc (c : Thread nD τ) ↦[Finset.univ \ (dSrc n).view.set]{fullShare} w4))

/-- A copy just issued at an offset equal to chunk `n`'s is that chunk's copy in flight; one lemma for each of the three arrays. -/
theorem foldG (n : ℕ) (o : Fin 3 → ℕ) (ho) (h : o = ![1, 0, 256 * (n % 43)]) (g) (L) (p) (hp : p = (((Memref.whole main_v3).slice (Rect.unit (s := S2x4096x22016) o S1x4096x256.size ho) (fun _ => rfl)).squeeze S4096x256 squeezes_S1x4096x256_S4096x256).view.read (Elt F) w3) :
    iprop(Transfers.Flight countersEmb (c : Thread nD τ) (SemLoc.dma 6) () 65536
      iprop(slotP c gS0 (gS0.view.writes (Elt F) g (⟨Rect.whole S4096x256, p⟩ :: L))
        ∗ ((Memref.whole main_v3).view.loc (c : Thread nD τ) ↦[(((Memref.whole main_v3).slice (Rect.unit (s := S2x4096x22016) o S1x4096x256.size ho) (fun _ => rfl)).squeeze S4096x256 squeezes_S1x4096x256_S4096x256).view.set]{Transfers.shareTokN fullShare 6} w3))
    ∗ ((Memref.whole main_v3).view.loc (c : Thread nD τ) ↦[Finset.univ \ (((Memref.whole main_v3).slice (Rect.unit (s := S2x4096x22016) o S1x4096x256.size ho) (fun _ => rfl)).squeeze S4096x256 squeezes_S1x4096x256_S4096x256).view.set]{Transfers.shareTokN fullShare 6} w3)) ⊢ flG c w3 n := by
  subst h; subst hp; unfold flG
  iintro ⟨H1, H2⟩; iexists gS0.view.writes (Elt F) g L; isplitl [H1]; · iexact H1
  iexact H2
/-- The window at an offset equal to chunk `n`'s is that chunk's; one lemma for each of the three arrays. -/
theorem g_window (n : ℕ) (o : Fin 3 → ℕ) (ho) (h : o = ![1, 0, 256 * (n % 43)]) :
    (((Memref.whole main_v3).slice (Rect.unit (s := S2x4096x22016) o S1x4096x256.size ho) (fun _ => rfl)).squeeze S4096x256 squeezes_S1x4096x256_S4096x256).view.read (Elt F) w3 = (gSrc n).view.read (Elt F) w3 := by subst h; rfl
theorem foldU (n : ℕ) (o : Fin 3 → ℕ) (ho) (h : o = ![1, 0, 256 * (n % 43) + 11008]) (g) (L) (p) (hp : p = (((Memref.whole main_v3).slice (Rect.unit (s := S2x4096x22016) o S1x4096x256.size ho) (fun _ => rfl)).squeeze S4096x256 squeezes_S1x4096x256_S4096x256).view.read (Elt F) w3) :
    iprop(Transfers.Flight countersEmb (c : Thread nD τ) (SemLoc.dma 7) () 65536
      iprop(slotP c uS0 (uS0.view.writes (Elt F) g (⟨Rect.whole S4096x256, p⟩ :: L))
        ∗ ((Memref.whole main_v3).view.loc (c : Thread nD τ) ↦[(((Memref.whole main_v3).slice (Rect.unit (s := S2x4096x22016) o S1x4096x256.size ho) (fun _ => rfl)).squeeze S4096x256 squeezes_S1x4096x256_S4096x256).view.set]{Transfers.shareTokN fullShare 7} w3))
    ∗ ((Memref.whole main_v3).view.loc (c : Thread nD τ) ↦[Finset.univ \ (((Memref.whole main_v3).slice (Rect.unit (s := S2x4096x22016) o S1x4096x256.size ho) (fun _ => rfl)).squeeze S4096x256 squeezes_S1x4096x256_S4096x256).view.set]{Transfers.shareTokN fullShare 7} w3)) ⊢ flU c w3 n := by
  subst h; subst hp; unfold flU
  iintro ⟨H1, H2⟩; iexists uS0.view.writes (Elt F) g L; isplitl [H1]; · iexact H1
  iexact H2
theorem u_window (n : ℕ) (o : Fin 3 → ℕ) (ho) (h : o = ![1, 0, 256 * (n % 43) + 11008]) :
    (((Memref.whole main_v3).slice (Rect.unit (s := S2x4096x22016) o S1x4096x256.size ho) (fun _ => rfl)).squeeze S4096x256 squeezes_S1x4096x256_S4096x256).view.read (Elt F) w3 = (uSrc n).view.read (Elt F) w3 := by subst h; rfl
theorem foldD (n : ℕ) (o : Fin 3 → ℕ) (ho) (h : o = ![1, 256 * (n % 43), 0]) (g) (L) (p) (hp : p = (((Memref.whole main_v4).slice (Rect.unit (s := S2x11008x4096) o S1x256x4096.size ho) (fun _ => rfl)).squeeze S256x4096 squeezes_S1x256x4096_S256x4096).view.read (Elt F) w4) :
    iprop(Transfers.Flight countersEmb (c : Thread nD τ) (SemLoc.dma 8) () 65536
      iprop(slotP c dS0 (dS0.view.writes (Elt F) g (⟨Rect.whole S256x4096, p⟩ :: L))
        ∗ ((Memref.whole main_v4).view.loc (c : Thread nD τ) ↦[(((Memref.whole main_v4).slice (Rect.unit (s := S2x11008x4096) o S1x256x4096.size ho) (fun _ => rfl)).squeeze S256x4096 squeezes_S1x256x4096_S256x4096).view.set]{fullShare} w4))
    ∗ ((Memref.whole main_v4).view.loc (c : Thread nD τ) ↦[Finset.univ \ (((Memref.whole main_v4).slice (Rect.unit (s := S2x11008x4096) o S1x256x4096.size ho) (fun _ => rfl)).squeeze S256x4096 squeezes_S1x256x4096_S256x4096).view.set]{fullShare} w4)) ⊢ flD c w4 n := by
  subst h; subst hp; unfold flD
  iintro ⟨H1, H2⟩; iexists dS0.view.writes (Elt F) g L; isplitl [H1]; · iexact H1
  iexact H2
theorem d_window (n : ℕ) (o : Fin 3 → ℕ) (ho) (h : o = ![1, 256 * (n % 43), 0]) :
    (((Memref.whole main_v4).slice (Rect.unit (s := S2x11008x4096) o S1x256x4096.size ho) (fun _ => rfl)).squeeze S256x4096 squeezes_S1x256x4096_S256x4096).view.read (Elt F) w4 = (dSrc n).view.read (Elt F) w4 := by subst h; rfl

/-- Before chunk `n` (an even one): its transfers in flight into slot 0, slot 1 free, the block at what `n` chunks left. -/
def res3 (arg6 : Memref sig .tc .vmem S1024x4096 .f32) (x : Vec F S1024x4096 .f32) (fh : Buf (Elt F) ((c : Thread nD τ).loc cc0_scratch0)) (n : ℕ) : sProp 𝕄 :=
    iprop(flG c w3 n ∗ flU c w3 n ∗ flD c w4 n ∗ owns (c : Thread nD τ) arg6 fullShare (acc c w3 w4 x ((Memref.whole cc0_scratch0).view.read (Elt F) fh) n)
      ∗ ptW c cc0_scratch0 fullShare fh
      ∗ ptW c main_v3 (Transfers.shareTokN fullShare 9) w3 ∗ ptW c main_v3 (Transfers.shareTokN fullShare 10) w3
      ∗ (∃ g, slotP c gS1 g) ∗ (∃ g, slotP c uS1 g) ∗ (∃ g, slotP c dS1 g)
      ∗ semVal ((c : Thread nD τ), SemLoc.dma 9) 0 ∗ semVal ((c : Thread nD τ), SemLoc.dma 10) 0 ∗ semVal ((c : Thread nD τ), SemLoc.dma 11) 0
      ∗ (∃ W, owes (c : Thread nD τ) 0 W))

/-- The normalised rows, read whole, are the scratch buffer's contents. -/
theorem readAt_h (fh : Buf (Elt F) ((c : Thread nD τ).loc cc0_scratch0)) : (Memref.whole cc0_scratch0).view.readAt (Elt F) (Rect.unit (s := S1024x4096) ![0, 0] S1024x4096.size inb_S1024x4096_S1024x4096_0_0).toLoadRect fh = (Memref.whole cc0_scratch0).view.read (Elt F) fh :=
  View.readAt_full _ _ _

/-- One trip of the loop: two chunks are used, and the copies of the next even chunk are in flight. -/
theorem trip3 (i : grid0.Coords) (arg2 : Memref sig .tc .vmem S1x4096 .f32) (harg2 : arg2.IsWhole)
    (arg5 : Memref sig .tc .vmem S1x4096 .f32) (harg5 : arg5.IsWhole) (arg6 : Memref sig .tc .vmem S1024x4096 .f32) (harg6 : arg6.IsWhole)
    (x : Vec F S1024x4096 .f32) (fh : Buf (Elt F) ((c : Thread nD τ).loc cc0_scratch0)) (arg0 : BitVec 32)
    (k : Fin k0_t3_loop.trips) :
    res3 c w3 w4 arg6 x fh (2 * k.val)
    ⊢ wp frame (wpE (defs₀ (F := F)) Variants.none (c : Thread nD τ) none) Set.univ
      (k0_t3_body i (Memref.whole main_arg0) (Memref.isWhole_whole _) arg2 harg2 (Memref.whole main_v3) (Memref.isWhole_whole _)
        (Memref.whole main_v4) (Memref.isWhole_whole _) arg5 harg5 arg6 harg6 (Memref.whole cc0_scratch0) (Memref.isWhole_whole _)
        (Memref.whole cc0_scratch1) (Memref.isWhole_whole _) (Memref.whole cc0_scratch2) (Memref.isWhole_whole _)
        (Memref.whole cc0_scratch3) (Memref.isWhole_whole _) cc0_scratch4 cc0_scratch5 arg0 k ()) (fun _ => res3 c w3 w4 arg6 x fh (2 * (k.val + 1))) := by
  unfold res3 flG flU flD owns
  iintro ⟨⟨%g1, C6, A6⟩, ⟨%g2, C7, A7⟩, ⟨%g3, C8, B⟩, ⟨%f6, %hf6, H6⟩, H7, A9, A10, ⟨%e1, G1⟩, ⟨%e2, U1⟩, ⟨%e3, D1⟩, C9, C10, C11, ⟨%W, HO⟩⟩
  sl_unfold [k0_t3_body]
  sl_exec
  sl_step
  isplitl [C6 A6]
  · iapply (foldG c w3 (2 * (k.val + 1)) (k0_off13 k) _ (off13 k) gS0.view.junk [⟨Rect.whole S4096x256, (gSrc (2 * k.val)).view.read (Elt F) w3⟩] (trip3.sl.dma7 c w3 k) (by unfold trip3.sl.dma7; rfl)) $$ [C6 A6]
    isplitl [C6]; · iexact C6
    iexact A6
  isplitl [C7 A7]
  · iapply (foldU c w3 (2 * (k.val + 1)) (k0_off14 k) _ (off14 k) uS0.view.junk [⟨Rect.whole S4096x256, (uSrc (2 * k.val)).view.read (Elt F) w3⟩] (trip3.sl.dma7_1 c w3 k) (by unfold trip3.sl.dma7_1; rfl)) $$ [C7 A7]
    isplitl [C7]; · iexact C7
    iexact A7
  isplitl [C8 B]
  · iapply (foldD c w4 (2 * (k.val + 1)) (k0_off15 k) _ (off15 k) dS0.view.junk [⟨Rect.whole S256x4096, (dSrc (2 * k.val)).view.read (Elt F) w4⟩] (trip3.sl.dma7_2 c w4 k) (by unfold trip3.sl.dma7_2; rfl)) $$ [C8 B]
    isplitl [C8]; · iexact C8
    iexact B
  isplitl [H6]
  · iexists _; isplitr; swap; · iexact H6
    ipureintro
    refine (View.read_writes_full arg6.view f6 _ _ _).trans ?_
    rw [readAt_h]
    have e1 : trip3.sl.v212 c w3 k = gV c w3 (2 * k.val + 1) := by
      unfold trip3.sl.v212; exact ld_gS1 c w3 _ _ _ (by unfold trip3.sl.dma0; exact g_window c w3 _ _ _ (off10 k))
    have e2 : trip3.sl.v215 c w3 k = uV c w3 (2 * k.val + 1) := by
      unfold trip3.sl.v215; exact ld_uS1 c w3 _ _ _ (by unfold trip3.sl.dma0_1; exact u_window c w3 _ _ _ (off11 k))
    have e3 : trip3.sl.v228 c w4 k = dV c w4 (2 * k.val + 1) := by
      unfold trip3.sl.v228; exact ld_dS1 c w4 _ _ _ (by unfold trip3.sl.dma0_2; exact d_window c w4 _ _ _ (off12 k))
    have e4 : trip3.sl.v226 c w3 w4 arg6 fh k f6 = acc c w3 w4 x ((Memref.whole cc0_scratch0).view.read (Elt F) fh) (2 * k.val + 1) := by
      unfold trip3.sl.v226 trip3.sl.H6_1
      refine (View.readCov_full arg6.view _ _ _ _).trans ?_
      unfold trip3.sl.r trip3.sl.r_1
      have q1 : trip3.sl.v143 c w3 k = gV c w3 (2 * k.val) := by unfold trip3.sl.v143; exact ld_gS0 c w3 _ _ _ rfl
      have q2 : trip3.sl.v146 c w3 k = uV c w3 (2 * k.val) := by unfold trip3.sl.v146; exact ld_uS0 c w3 _ _ _ rfl
      have q3 : trip3.sl.v159 c w4 k = dV c w4 (2 * k.val) := by unfold trip3.sl.v159; exact ld_dS0 c w4 _ _ _ rfl
      rw [readAt_h, View.readAt_full, hf6, q1, q2, q3]
      rfl
    rw [e1, e2, e3, e4]
    rfl
  isplitl [H7]; · iexact H7
  isplitl [A9]; · iexact A9
  isplitl [A10]; · iexact A10
  isplitl [G1]; · iexists _; iexact G1
  isplitl [U1]; · iexists _; iexact U1
  isplitl [D1]; · iexists _; iexact D1
  isplitl [C9]; · iexact C9
  isplitl [C10]; · iexact C10
  isplitl [C11]; · iexact C11
  iexists _; iexact HO
end inv

end Cert.KernelLastIdeal.Hand

end
-- ==== Proof.LastRows.lean ====
/-
  The normalisations of the second layer's feed-forward kernel: of the rows before the layer in two loops, one for each half of the
  block, and of the finished block in place, sixty-four rows a trip.
-/
module

public import proofs.«01_k».proof.Proof.LastLoop
import Idealize.ShloMosaic.Lib.WritesUnit
public import Idealize.ShloMosaic.Lib.Pointwise

@[expose] public section

set_option maxRecDepth 16384

noncomputable section

namespace Cert.KernelLastIdeal.Hand

open Cert.KernelLastIdeal Cert.KernelLastIdeal.Gen Cert.FfnShared
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Sixteen normalised rows. -/
def normRows (g : Vec F S1x4096 .f32) (t : Vec F S16x4096 .f32) : Vec F S16x4096 .bf16 := k0_pay30 g (k0_pay8 t)

/-- A block's normalised rows, sixteen at a time. -/
def normed (x : Vec F S1024x4096 .f32) (g : Vec F S1x4096 .f32) : Vec F S1024x4096 .bf16 := fun y =>
  normRows g (rowsAt x ((y 0).val / 16 * 16)) (ix2 ⟨(y 0).val % 16, Nat.mod_lt _ (by decide)⟩ (y 1))

/-- Sixteen rows from a multiple of sixteen, normalised, are those rows of the normalised block. -/
theorem norm_tile (x : Vec F S1024x4096 .f32) (g : Vec F S1x4096 .f32) (t : Vec F S16x4096 .f32) (m : ℕ) (ht : t = rowsAt x (16 * m)) (z : S16x4096.Idx)
    (y : S1024x4096.Idx) (h0 : (y 0).val = 16 * m + (z 0).val) (h1 : (y 1).val = (z 1).val) : normRows g t z = normed x g y := by
  subst ht
  have hz : (z 0).val < 16 := (z 0).isLt
  unfold normed
  rw [show (y 0).val / 16 * 16 = 16 * m by omega]
  refine congrArg _ ?_
  funext a
  match a with
  | 0 => exact Fin.ext (show (z 0).val = (y 0).val % 16 by omega)
  | 1 => exact Fin.ext h1.symm

/-- Sixteen rows of the result, normalised with the last gain. -/
def lastRows (g : Vec F S1x4096 .f32) (t : Vec F S16x4096 .f32) : Vec F S16x4096 .f32 := k0_pay4 g (k0_pay25 t)

/-- The body writes a trip's first sixteen rows in the same way. -/
theorem first_rows (g : Vec F S1x4096 .f32) (t : Vec F S16x4096 .f32) : k0_pay27 (k0_pay2 g) t = lastRows g t := rfl

/-- A block's rows normalised with the last gain, sixteen at a time. -/
def finished (x : Vec F S1024x4096 .f32) (g : Vec F S1x4096 .f32) : Vec F S1024x4096 .f32 := fun y =>
  lastRows g (rowsAt x ((y 0).val / 16 * 16)) (ix2 ⟨(y 0).val % 16, Nat.mod_lt _ (by decide)⟩ (y 1))

/-- Sixteen rows from a multiple of sixteen, normalised with the last gain, are those rows of the finished block. -/
theorem last_tile (x : Vec F S1024x4096 .f32) (g : Vec F S1x4096 .f32) (t : Vec F S16x4096 .f32) (m : ℕ) (ht : t = rowsAt x (16 * m)) (z : S16x4096.Idx)
    (y : S1024x4096.Idx) (h0 : (y 0).val = 16 * m + (z 0).val) (h1 : (y 1).val = (z 1).val) : lastRows g t z = finished x g y := by
  subst ht
  have hz : (z 0).val < 16 := (z 0).isLt
  unfold finished
  rw [show (y 0).val / 16 * 16 = 16 * m by omega]
  refine congrArg _ ?_
  funext a
  match a with
  | 0 => exact Fin.ext (show (z 0).val = (y 0).val % 16 by omega)
  | 1 => exact Fin.ext h1.symm

section inv
variable (c : Dev nD)

/-- Before a trip of the loop over rows 0 to 511: those rows of the output block hold `x`'s, the rows of the scratch up to here the
    normalised ones. -/
def res1 (arg6 : Memref sig .tc .vmem S1024x4096 .f32) (x : Vec F S1024x4096 .f32) (g : Vec F S1x4096 .f32) (k : ℕ) : sProp 𝕄 :=
  iprop((∃ fx, ⌜∀ z : S512x4096.Idx, (arg6.slice (Rect.unit (s := S1024x4096) ![0, 0] S512x4096.size inb_S1024x4096_S512x4096_0_0) (fun _ => rfl)).view.read (Elt F) fx z = x (ix2 ⟨((z 0).val + 0) % 1024, Nat.mod_lt _ (by decide)⟩ (z 1))⌝
      ∗ (arg6.slice (Rect.unit (s := S1024x4096) ![0, 0] S512x4096.size inb_S1024x4096_S512x4096_0_0) (fun _ => rfl)).view.loc (c : Thread nD τ) ↦[(arg6.slice (Rect.unit (s := S1024x4096) ![0, 0] S512x4096.size inb_S1024x4096_S512x4096_0_0) (fun _ => rfl)).view.set]{fullShare} fx)
    ∗ (∃ fh, ⌜∀ y : S1024x4096.Idx, (y 0).val < 0 + 64 * k → (Memref.whole cc0_scratch0).view.read (Elt F) fh y = normed x g y⌝
      ∗ ptW c cc0_scratch0 fullShare fh))

/-- One trip over the first half: sixty-four more rows are normalised. -/
theorem trip1 (i : grid0.Coords) (arg2 : Memref sig .tc .vmem S1x4096 .f32) (harg2 : arg2.IsWhole)
    (arg5 : Memref sig .tc .vmem S1x4096 .f32) (harg5 : arg5.IsWhole) (arg6 : Memref sig .tc .vmem S1024x4096 .f32) (harg6 : arg6.IsWhole)
    (x : Vec F S1024x4096 .f32) (g : Vec F S1x4096 .f32) (arg0 : BitVec 32)
    (k : Fin k0_t1_loop.trips) :
    res1 c arg6 x g k.val
    ⊢ wp frame (wpE (defs₀ (F := F)) Variants.none (c : Thread nD τ) none) Set.univ
      (k0_t1_body i (Memref.whole main_arg0) (Memref.isWhole_whole _) arg2 harg2 (Memref.whole main_v3) (Memref.isWhole_whole _)
        (Memref.whole main_v4) (Memref.isWhole_whole _) arg5 harg5 arg6 harg6 (Memref.whole cc0_scratch0) (Memref.isWhole_whole _)
        (Memref.whole cc0_scratch1) (Memref.isWhole_whole _) (Memref.whole cc0_scratch2) (Memref.isWhole_whole _)
        (Memref.whole cc0_scratch3) (Memref.isWhole_whole _) cc0_scratch4 cc0_scratch5 arg0 g k ()) (fun _ => res1 c arg6 x g (k.val + 1)) := by
  unfold res1
  iintro ⟨⟨%fx, %hx, H6⟩, ⟨%fh, %hh, H7⟩⟩
  sl_unfold [k0_t1_body]
  sl_exec
  sl_step
  isplitl [H6]
  · iexists fx; isplitr
    · ipureintro; exact hx
    · iexact H6
  · iexists _; isplitr; swap; · iexact H7
    ipureintro
    rw [show 0 + 64 * (k.val + 1) = 64 * k.val + 16 * 3 + 16 by omega]
    refine rows_put _ _ _ (64 * k.val + 16 * 3) (64 * k.val + 16 * 3 + 16) _ _ _ _ (k0_off4_eq k ⟨3, by decide⟩) (by omega) (fun z y h0 h1 => norm_tile x g _ (4 * k.val + 3) ?_ z y (by omega) h1) ?_
    · exact (tile_read _ fx x hx _ _ _ (k0_off3_eq k ⟨3, by decide⟩)).trans (congrArg _ (by show 64 * k.val + 16 * 3 + 0 = 16 * (4 * k.val + 3); omega))
    refine rows_put _ _ _ (64 * k.val + 16 * 2) (64 * k.val + 16 * 3) _ _ _ _ (k0_off4_eq k ⟨2, by decide⟩) (by omega) (fun z y h0 h1 => norm_tile x g _ (4 * k.val + 2) ?_ z y (by omega) h1) ?_
    · exact (tile_read _ fx x hx _ _ _ (k0_off3_eq k ⟨2, by decide⟩)).trans (congrArg _ (by show 64 * k.val + 16 * 2 + 0 = 16 * (4 * k.val + 2); omega))
    refine rows_put _ _ _ (64 * k.val + 16 * 1) (64 * k.val + 16 * 2) _ _ _ _ (k0_off4_eq k ⟨1, by decide⟩) (by omega) (fun z y h0 h1 => norm_tile x g _ (4 * k.val + 1) ?_ z y (by omega) h1) ?_
    · exact (tile_read _ fx x hx _ _ _ (k0_off3_eq k ⟨1, by decide⟩)).trans (congrArg _ (by show 64 * k.val + 16 * 1 + 0 = 16 * (4 * k.val + 1); omega))
    refine rows_put _ _ _ (64 * k.val + 16 * 0) (64 * k.val + 16 * 1) _ _ _ _ (k0_off4_eq k ⟨0, by decide⟩) (by omega) (fun z y h0 h1 => norm_tile x g _ (4 * k.val + 0) ?_ z y (by omega) h1) ?_
    · exact (tile_read _ fx x hx _ _ _ (k0_off3_eq k ⟨0, by decide⟩)).trans (congrArg _ (by show 64 * k.val + 16 * 0 + 0 = 16 * (4 * k.val + 0); omega))
    · intro y hy
      exact hh y (by omega)

/-- Before a trip of the loop over rows 512 to 1023: those rows of the output block hold `x`'s, the rows of the scratch up to here the
    normalised ones. -/
def res2 (arg6 : Memref sig .tc .vmem S1024x4096 .f32) (x : Vec F S1024x4096 .f32) (g : Vec F S1x4096 .f32) (k : ℕ) : sProp 𝕄 :=
  iprop((∃ fx, ⌜∀ z : S512x4096.Idx, (arg6.slice (Rect.unit (s := S1024x4096) ![512, 0] S512x4096.size inb_S1024x4096_S512x4096_512_0) (fun _ => rfl)).view.read (Elt F) fx z = x (ix2 ⟨((z 0).val + 512) % 1024, Nat.mod_lt _ (by decide)⟩ (z 1))⌝
      ∗ (arg6.slice (Rect.unit (s := S1024x4096) ![512, 0] S512x4096.size inb_S1024x4096_S512x4096_512_0) (fun _ => rfl)).view.loc (c : Thread nD τ) ↦[(arg6.slice (Rect.unit (s := S1024x4096) ![512, 0] S512x4096.size inb_S1024x4096_S512x4096_512_0) (fun _ => rfl)).view.set]{fullShare} fx)
    ∗ (∃ fh, ⌜∀ y : S1024x4096.Idx, (y 0).val < 512 + 64 * k → (Memref.whole cc0_scratch0).view.read (Elt F) fh y = normed x g y⌝
      ∗ ptW c cc0_scratch0 fullShare fh))

/-- One trip over the second half: sixty-four more rows are normalised. -/
theorem trip2 (i : grid0.Coords) (arg2 : Memref sig .tc .vmem S1x4096 .f32) (harg2 : arg2.IsWhole)
    (arg5 : Memref sig .tc .vmem S1x4096 .f32) (harg5 : arg5.IsWhole) (arg6 : Memref sig .tc .vmem S1024x4096 .f32) (harg6 : arg6.IsWhole)
    (x : Vec F S1024x4096 .f32) (g : Vec F S1x4096 .f32) (arg0 : BitVec 32)
    (k : Fin k0_t2_loop.trips) :
    res2 c arg6 x g k.val
    ⊢ wp frame (wpE (defs₀ (F := F)) Variants.none (c : Thread nD τ) none) Set.univ
      (k0_t2_body i (Memref.whole main_arg0) (Memref.isWhole_whole _) arg2 harg2 (Memref.whole main_v3) (Memref.isWhole_whole _)
        (Memref.whole main_v4) (Memref.isWhole_whole _) arg5 harg5 arg6 harg6 (Memref.whole cc0_scratch0) (Memref.isWhole_whole _)
        (Memref.whole cc0_scratch1) (Memref.isWhole_whole _) (Memref.whole cc0_scratch2) (Memref.isWhole_whole _)
        (Memref.whole cc0_scratch3) (Memref.isWhole_whole _) cc0_scratch4 cc0_scratch5 arg0 g k ()) (fun _ => res2 c arg6 x g (k.val + 1)) := by
  unfold res2
  iintro ⟨⟨%fx, %hx, H6⟩, ⟨%fh, %hh, H7⟩⟩
  sl_unfold [k0_t2_body]
  sl_exec
  sl_step
  isplitl [H6]
  · iexists fx; isplitr
    · ipureintro; exact hx
    · iexact H6
  · iexists _; isplitr; swap; · iexact H7
    ipureintro
    rw [show 512 + 64 * (k.val + 1) = 64 * k.val + 16 * 3 + 512 + 16 by omega]
    refine rows_put _ _ _ (64 * k.val + 16 * 3 + 512) (64 * k.val + 16 * 3 + 512 + 16) _ _ _ _ (k0_off6_eq k ⟨3, by decide⟩) (by omega) (fun z y h0 h1 => norm_tile x g _ (4 * k.val + 3 + 32) ?_ z y (by omega) h1) ?_
    · exact (tile_read _ fx x hx _ _ _ (k0_off5_eq k ⟨3, by decide⟩)).trans (congrArg _ (by show 64 * k.val + 16 * 3 + 512 = 16 * (4 * k.val + 3 + 32); omega))
    refine rows_put _ _ _ (64 * k.val + 16 * 2 + 512) (64 * k.val + 16 * 3 + 512) _ _ _ _ (k0_off6_eq k ⟨2, by decide⟩) (by omega) (fun z y h0 h1 => norm_tile x g _ (4 * k.val + 2 + 32) ?_ z y (by omega) h1) ?_
    · exact (tile_read _ fx x hx _ _ _ (k0_off5_eq k ⟨2, by decide⟩)).trans (congrArg _ (by show 64 * k.val + 16 * 2 + 512 = 16 * (4 * k.val + 2 + 32); omega))
    refine rows_put _ _ _ (64 * k.val + 16 * 1 + 512) (64 * k.val + 16 * 2 + 512) _ _ _ _ (k0_off6_eq k ⟨1, by decide⟩) (by omega) (fun z y h0 h1 => norm_tile x g _ (4 * k.val + 1 + 32) ?_ z y (by omega) h1) ?_
    · exact (tile_read _ fx x hx _ _ _ (k0_off5_eq k ⟨1, by decide⟩)).trans (congrArg _ (by show 64 * k.val + 16 * 1 + 512 = 16 * (4 * k.val + 1 + 32); omega))
    refine rows_put _ _ _ (64 * k.val + 16 * 0 + 512) (64 * k.val + 16 * 1 + 512) _ _ _ _ (k0_off6_eq k ⟨0, by decide⟩) (by omega) (fun z y h0 h1 => norm_tile x g _ (4 * k.val + 0 + 32) ?_ z y (by omega) h1) ?_
    · exact (tile_read _ fx x hx _ _ _ (k0_off5_eq k ⟨0, by decide⟩)).trans (congrArg _ (by show 64 * k.val + 16 * 0 + 512 = 16 * (4 * k.val + 0 + 32); omega))
    · intro y hy
      exact hh y (by omega)

/-- Before a trip of the last loop: the block's rows up to here are finished, the others as the chunks left them. -/
def res4 (arg6 : Memref sig .tc .vmem S1024x4096 .f32) (x : Vec F S1024x4096 .f32) (g : Vec F S1x4096 .f32) (k : ℕ) : sProp 𝕄 :=
  iprop(∃ f, ⌜(∀ y : S1024x4096.Idx, (y 0).val < 64 * k → arg6.view.read (Elt F) f y = finished x g y)
      ∧ ∀ y : S1024x4096.Idx, 64 * k ≤ (y 0).val → arg6.view.read (Elt F) f y = x y⌝
    ∗ arg6.view.loc (c : Thread nD τ) ↦[arg6.view.set]{fullShare} f)

/-- One trip of the last loop: sixty-four more rows are finished. -/
theorem trip4 (i : grid0.Coords) (arg2 : Memref sig .tc .vmem S1x4096 .f32) (harg2 : arg2.IsWhole)
    (arg5 : Memref sig .tc .vmem S1x4096 .f32) (harg5 : arg5.IsWhole) (arg6 : Memref sig .tc .vmem S1024x4096 .f32) (harg6 : arg6.IsWhole)
    (x : Vec F S1024x4096 .f32) (g : Vec F S1x4096 .f32) (k : Fin k0_t4_loop.trips) :
    res4 c arg6 x g k.val
    ⊢ wp frame (wpE (defs₀ (F := F)) Variants.none (c : Thread nD τ) none) Set.univ
      (k0_t4_body i (Memref.whole main_arg0) (Memref.isWhole_whole _) arg2 harg2 (Memref.whole main_v3) (Memref.isWhole_whole _)
        (Memref.whole main_v4) (Memref.isWhole_whole _) arg5 harg5 arg6 harg6 (Memref.whole cc0_scratch0) (Memref.isWhole_whole _)
        (Memref.whole cc0_scratch1) (Memref.isWhole_whole _) (Memref.whole cc0_scratch2) (Memref.isWhole_whole _)
        (Memref.whole cc0_scratch3) (Memref.isWhole_whole _) cc0_scratch4 cc0_scratch5 g k ()) (fun _ => res4 c arg6 x g (k.val + 1)) := by
  unfold res4
  iintro ⟨%f, %hf, H6⟩
  sl_unfold [k0_t4_body]
  sl_exec
  sl_step
  iexists _; isplitr; swap; · iexact H6
  ipureintro
  obtain ⟨hlo, hhi⟩ := hf
  refine ⟨?_, ?_⟩
  · rw [show 64 * (k.val + 1) = 64 * k.val + 16 * 3 + 16 by omega]
    refine rows_put _ _ _ (64 * k.val + 16 * 3) (64 * k.val + 16 * 3 + 16) _ _ _ _ (k0_off16_eq k ⟨3, by decide⟩) (by omega) (fun z y h0 h1 => last_tile x g _ (4 * k.val + 3) ?_ z y (by omega) h1) ?_
    · exact (later_read _ f x _ hhi _ _ _ (k0_off16_eq k ⟨3, by decide⟩) (Nat.le_add_right _ _)).trans (congrArg _ (by show 64 * k.val + 16 * 3 = 16 * (4 * k.val + 3); omega))
    refine rows_put _ _ _ (64 * k.val + 16 * 2) (64 * k.val + 16 * 3) _ _ _ _ (k0_off16_eq k ⟨2, by decide⟩) (by omega) (fun z y h0 h1 => last_tile x g _ (4 * k.val + 2) ?_ z y (by omega) h1) ?_
    · exact (later_read _ f x _ hhi _ _ _ (k0_off16_eq k ⟨2, by decide⟩) (Nat.le_add_right _ _)).trans (congrArg _ (by show 64 * k.val + 16 * 2 = 16 * (4 * k.val + 2); omega))
    refine rows_put _ _ _ (64 * k.val + 16 * 1) (64 * k.val + 16 * 2) _ _ _ _ (k0_off16_eq k ⟨1, by decide⟩) (by omega) (fun z y h0 h1 => last_tile x g _ (4 * k.val + 1) ?_ z y (by omega) h1) ?_
    · exact (later_read _ f x _ hhi _ _ _ (k0_off16_eq k ⟨1, by decide⟩) (Nat.le_add_right _ _)).trans (congrArg _ (by show 64 * k.val + 16 * 1 = 16 * (4 * k.val + 1); omega))
    refine rows_put _ _ _ (64 * k.val + 16 * 0) (64 * k.val + 16 * 1) _ _ _ _ (k0_off16_eq k ⟨0, by decide⟩) (by omega) (fun z y h0 h1 => (congrFun (first_rows g _) z).trans (last_tile x g _ (4 * k.val + 0) ?_ z y (by omega) h1)) ?_
    · exact (later_read _ f x _ hhi _ _ _ (k0_off16_eq k ⟨0, by decide⟩) (Nat.le_add_right _ _)).trans (congrArg _ (by show 64 * k.val + 16 * 0 = 16 * (4 * k.val + 0); omega))
    · intro y hy
      exact hlo y (by omega)
  · refine rows_keep _ _ x (64 * k.val + 16 * 3) _ _ _ _ _ (k0_off16_eq k ⟨3, by decide⟩) (by omega) ?_
    refine rows_keep _ _ x (64 * k.val + 16 * 2) _ _ _ _ _ (k0_off16_eq k ⟨2, by decide⟩) (by omega) ?_
    refine rows_keep _ _ x (64 * k.val + 16 * 1) _ _ _ _ _ (k0_off16_eq k ⟨1, by decide⟩) (by omega) ?_
    refine rows_keep _ _ x (64 * k.val + 16 * 0) _ _ _ _ _ (k0_off16_eq k ⟨0, by decide⟩) (by omega) ?_
    intro y hy
    exact hhi y (by omega)

end inv

end Cert.KernelLastIdeal.Hand
-- ==== Proof.LastSpec.lean ====
/-
  The second layer's feed-forward call over the extended reals: what its result holds at a row and a column, and the payloads of the
  kernel's body read at an element.
-/
module

public import proofs.«01_k».proof.Proof.LastRows
public import proofs.«01_k».proof.Proof.FfnSpec

@[expose] public section

set_option maxRecDepth 16384

noncomputable section

namespace Cert.Last

open Idealize.ShloMosaic Idealize.ShloMosaic.TcCoe
open Cert.Ffn (scaled gated)

/-- The layer's sum at row `r`, column `e`, with the second layer's gain and weights: the row's entry plus the down projection of the
    gated activations of the normalised row. -/
def sumAt (x : (⟨2, ![16384, 4096]⟩ : Shape).Idx → EReal) (gain : (⟨2, ![2, 4096]⟩ : Shape).Idx → EReal)
    (wgu : (⟨3, ![2, 4096, 22016]⟩ : Shape).Idx → EReal) (wd : (⟨3, ![2, 11008, 4096]⟩ : Shape).Idx → EReal)
    (r : Fin 16384) (e : Fin 4096) : EReal :=
  x (ix2 r e) + ∑ f : Fin 11008,
    gated (∑ k : Fin 4096, scaled (fun j => x (ix2 r j)) (fun j => gain (ix2 1 j)) k * wgu (ix3 1 k ⟨f, by omega⟩))
      (∑ k : Fin 4096, scaled (fun j => x (ix2 r j)) (fun j => gain (ix2 1 j)) k * wgu (ix3 1 k ⟨f + 11008, by omega⟩)) * wd (ix3 1 f e)

/-- The call's result at row `r`, column `e`: the row of sums normalised by its root mean square, times the last gain. -/
def lastAt (x : (⟨2, ![16384, 4096]⟩ : Shape).Idx → EReal) (gain : (⟨2, ![2, 4096]⟩ : Shape).Idx → EReal)
    (final : (⟨1, ![4096]⟩ : Shape).Idx → EReal) (wgu : (⟨3, ![2, 4096, 22016]⟩ : Shape).Idx → EReal)
    (wd : (⟨3, ![2, 11008, 4096]⟩ : Shape).Idx → EReal) (r : Fin 16384) (e : Fin 4096) : EReal :=
  scaled (fun j => sumAt x gain wgu wd r j) (fun j => final (ix1 j)) e

open Cert.KernelLastIdeal Cert.KernelLastIdeal.Gen Cert.KernelLastIdeal.Hand

/-- Sixteen normalised rows at an element. -/
theorem normRows_at (g : Vec Ideal S1x4096 .f32) (t : Vec Ideal S16x4096 .f32) (p : Fin 16) (k : Fin 4096) :
    normRows (F := Ideal) g t (ix2 p k) = scaled (fun j => t (ix2 p j)) (fun j => g (ix2 0 j)) k := by
  unfold normRows k0_pay30 k0_pay8 k0_pay29 scaled
  pointwise []

/-- Sixteen rows normalised with the last gain at an element. -/
theorem lastRows_at (g : Vec Ideal S1x4096 .f32) (t : Vec Ideal S16x4096 .f32) (p : Fin 16) (k : Fin 4096) :
    lastRows (F := Ideal) g t (ix2 p k) = scaled (fun j => t (ix2 p j)) (fun j => g (ix2 0 j)) k := by
  unfold lastRows k0_pay4 k0_pay25 k0_pay2 scaled
  pointwise []

/-- One chunk's update of the accumulated rows at an element. -/
theorem update_at (h : Vec Ideal S1024x4096 .bf16) (wg wu : Vec Ideal S1x4096x256 .bf16) (a : Vec Ideal S1024x4096 .f32)
    (wd : Vec Ideal S1x256x4096 .bf16) (p : Fin 1024) (e : Fin 4096) :
    k0_pay33 (F := Ideal) h wg wu a wd (ix2 p e) = a (ix2 p e) + ∑ q : Fin 256,
      gated (∑ k : Fin 4096, h (ix2 p k) * wg (ix3 0 k q)) (∑ k : Fin 4096, h (ix2 p k) * wu (ix3 0 k q)) * wd (ix3 0 q e) := by
  unfold k0_pay33
  pointwise []
  simp only [gated, zero_sub]

end Cert.Last

end
-- ==== Proof.LastBody.lean ====
/-
  One grid point of the second layer's feed-forward kernel: the rows fetched and normalised, the chunks added up, the sums
  normalised in place, the block left at the result.
-/
module

public import proofs.«01_k».proof.Proof.LastRows
import Idealize.ShloMosaic.Lib.VecWindow

@[expose] public section

set_option maxRecDepth 16384

noncomputable section

namespace Cert.KernelLastIdeal.Hand

open Cert.KernelLastIdeal Cert.KernelLastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section body
variable (c : Dev nD) (w0 : Buf (Elt F) ((c : Thread nD τ).loc main_arg0)) (w3 : Buf (Elt F) ((c : Thread nD τ).loc main_v3)) (w4 : Buf (Elt F) ((c : Thread nD τ).loc main_v4))

/-- Grid point `i`'s 1024 rows of the input. -/
def xblk (i : grid0.Coords) : Vec F S1024x4096 .f32 := fun y =>
  (Memref.whole main_arg0).view.read (Elt F) w0 (ix2 (n0 := 16384) ⟨(1024 * (i 0).val + (y 0).val) % 16384, Nat.mod_lt _ (by decide)⟩ (y 1))

/-- A window of the input at the grid point's rows reads as the block's rows. -/
theorem xblk_read (i : grid0.Coords) (off : ℕ) (hoff : off ≤ 512) (o : Fin 2 → ℕ) (ho) (h : o = ![1024 * (i 0).val + off, 0]) (z : S512x4096.Idx) :
    ((Memref.whole main_arg0).slice (Rect.unit (s := S16384x4096) o S512x4096.size ho) (fun _ => rfl)).view.read (Elt F) w0 z
      = xblk c w0 i (ix2 ⟨((z 0).val + off) % 1024, Nat.mod_lt _ (by decide)⟩ (z 1)) := by
  subst h
  have h0 := ho 0
  have h0 : 1024 * (i 0).val + off + 512 ≤ 16384 := ho 0
  have hz : (z 0).val < 512 := (z 0).isLt
  have hi : (i 0).val < 16 := (i 0).isLt
  refine congrArg ((Memref.whole main_arg0).view.read (Elt F) w0) ?_
  funext a
  match a with
  | 0 =>
    refine Fin.ext ?_
    show 1024 * (i 0).val + off + 1 * (z 0).val = (1024 * (i 0).val + ((z 0).val + off) % 1024) % 16384
    omega
  | 1 =>
    refine Fin.ext ?_
    show 0 + 1 * (z 1).val = (z 1).val
    omega

/-- The two halves' elements are the block's, and no others. -/
theorem halves_union (arg6 : Memref sig .tc .vmem S1024x4096 .f32) : (arg6.slice (Rect.unit (s := S1024x4096) ![0, 0] S512x4096.size inb_S1024x4096_S512x4096_0_0) (fun _ => rfl)).view.set ∪ (arg6.slice (Rect.unit (s := S1024x4096) ![512, 0] S512x4096.size inb_S1024x4096_S512x4096_512_0) (fun _ => rfl)).view.set = arg6.view.set := by
  refine Finset.Subset.antisymm (Finset.union_subset (View.set_slice_subset _ _) (View.set_slice_subset _ _)) fun e he => ?_
  obtain ⟨y, -, rfl⟩ := Finset.mem_map.mp he
  rw [Finset.mem_union]
  have hy : (y 0).val < 1024 := (y 0).isLt
  by_cases h : (y 0).val < 512
  · refine Or.inl (Finset.mem_map.mpr ⟨ix2 (n0 := 512) (n1 := 4096) ⟨(y 0).val, h⟩ (y 1), Finset.mem_univ _, congrArg arg6.view.emb ?_⟩)
    funext a
    match a with
    | 0 => exact Fin.ext (show 0 + 1 * (y 0).val = (y 0).val by omega)
    | 1 => exact Fin.ext (show 0 + 1 * (y 1).val = (y 1).val by omega)
  · refine Or.inr (Finset.mem_map.mpr ⟨ix2 (n0 := 512) (n1 := 4096) ⟨(y 0).val - 512, by omega⟩ (y 1), Finset.mem_univ _, congrArg arg6.view.emb ?_⟩)
    funext a
    match a with
    | 0 => exact Fin.ext (show 512 + 1 * ((y 0).val - 512) = (y 0).val by omega)
    | 1 => exact Fin.ext (show 0 + 1 * (y 1).val = (y 1).val by omega)

/-- The two halves have no element in common. -/
theorem halves_disjoint (arg6 : Memref sig .tc .vmem S1024x4096 .f32) : Disjoint (arg6.slice (Rect.unit (s := S1024x4096) ![0, 0] S512x4096.size inb_S1024x4096_S512x4096_0_0) (fun _ => rfl)).view.set (arg6.slice (Rect.unit (s := S1024x4096) ![512, 0] S512x4096.size inb_S1024x4096_S512x4096_512_0) (fun _ => rfl)).view.set := by
  refine Finset.disjoint_left.mpr fun e h1 h2 => ?_
  obtain ⟨y, -, rfl⟩ := Finset.mem_map.mp h1
  obtain ⟨z, -, hz⟩ := Finset.mem_map.mp h2
  have h := congrArg (fun w : S1024x4096.Idx => (w 0).val) (arg6.view.emb.injective hz)
  have h' : 512 + 1 * (z 0).val = 0 + 1 * (y 0).val := h
  have hy : (y 0).val < 512 := (y 0).isLt
  omega

/-- A block held whole, as its two halves. -/
theorem split_halves (arg6 : Memref sig .tc .vmem S1024x4096 .f32) (f) :
    (arg6.view.loc (c : Thread nD τ) ↦[arg6.view.set]{fullShare} f : sProp 𝕄)
    ⊢ iprop((∃ f, (arg6.slice (Rect.unit (s := S1024x4096) ![0, 0] S512x4096.size inb_S1024x4096_S512x4096_0_0) (fun _ => rfl)).view.loc (c : Thread nD τ) ↦[(arg6.slice (Rect.unit (s := S1024x4096) ![0, 0] S512x4096.size inb_S1024x4096_S512x4096_0_0) (fun _ => rfl)).view.set]{fullShare} f) ∗ (∃ f, (arg6.slice (Rect.unit (s := S1024x4096) ![512, 0] S512x4096.size inb_S1024x4096_S512x4096_512_0) (fun _ => rfl)).view.loc (c : Thread nD τ) ↦[(arg6.slice (Rect.unit (s := S1024x4096) ![512, 0] S512x4096.size inb_S1024x4096_S512x4096_512_0) (fun _ => rfl)).view.set]{fullShare} f)) := by
  rw [← halves_union arg6]
  refine (pointsTo_union (halves_disjoint arg6)).1.trans ?_
  iintro ⟨H1, H2⟩
  isplitl [H1]; · iexists f; iexact H1
  iexists f; iexact H2

/-- Two halves that read as the two halves of `x`, as the block held at `x`. -/
theorem join_halves (arg6 : Memref sig .tc .vmem S1024x4096 .f32) (harg6 : arg6.IsWhole) (x : Vec F S1024x4096 .f32) (fx fy)
    (hx : ∀ z : S512x4096.Idx, (arg6.slice (Rect.unit (s := S1024x4096) ![0, 0] S512x4096.size inb_S1024x4096_S512x4096_0_0) (fun _ => rfl)).view.read (Elt F) fx z = x (ix2 ⟨((z 0).val + 0) % 1024, Nat.mod_lt _ (by decide)⟩ (z 1)))
    (hy : ∀ z : S512x4096.Idx, (arg6.slice (Rect.unit (s := S1024x4096) ![512, 0] S512x4096.size inb_S1024x4096_S512x4096_512_0) (fun _ => rfl)).view.read (Elt F) fy z = x (ix2 ⟨((z 0).val + 512) % 1024, Nat.mod_lt _ (by decide)⟩ (z 1))) :
    iprop(((arg6.slice (Rect.unit (s := S1024x4096) ![0, 0] S512x4096.size inb_S1024x4096_S512x4096_0_0) (fun _ => rfl)).view.loc (c : Thread nD τ) ↦[(arg6.slice (Rect.unit (s := S1024x4096) ![0, 0] S512x4096.size inb_S1024x4096_S512x4096_0_0) (fun _ => rfl)).view.set]{fullShare} fx) ∗ ((arg6.slice (Rect.unit (s := S1024x4096) ![512, 0] S512x4096.size inb_S1024x4096_S512x4096_512_0) (fun _ => rfl)).view.loc (c : Thread nD τ) ↦[(arg6.slice (Rect.unit (s := S1024x4096) ![512, 0] S512x4096.size inb_S1024x4096_S512x4096_512_0) (fun _ => rfl)).view.set]{fullShare} fy))
    ⊢ (owns (c : Thread nD τ) arg6 fullShare x : sProp 𝕄) := by
  refine (pointsTo_join (ℓ := arg6.view.loc (c : Thread nD τ)) (halves_disjoint arg6)).trans ?_
  rw [halves_union arg6]
  unfold owns
  iintro H
  iexists _; isplitr; swap; · iexact H
  ipureintro
  funext y
  have hb : (y 0).val < 1024 := (y 0).isLt
  by_cases h : (y 0).val < 512
  · have e : (Rect.unit (s := S1024x4096) ![0, 0] S512x4096.size inb_S1024x4096_S512x4096_0_0).emb (ix2 (n0 := 512) (n1 := 4096) ⟨(y 0).val, h⟩ (y 1)) = y := by
      funext a
      match a with
      | 0 => exact Fin.ext (show 0 + 1 * (y 0).val = (y 0).val by omega)
      | 1 => exact Fin.ext (show 0 + 1 * (y 1).val = (y 1).val by omega)
    have hm : arg6.view.emb y ∈ (arg6.slice (Rect.unit (s := S1024x4096) ![0, 0] S512x4096.size inb_S1024x4096_S512x4096_0_0) (fun _ => rfl)).view.set := Finset.mem_map.mpr ⟨_, Finset.mem_univ _, congrArg arg6.view.emb e⟩
    refine (View.read_congr_at (v := arg6.view) y (Finset.piecewise_eq_of_notMem _ _ _ (Finset.disjoint_left.mp (halves_disjoint arg6) hm))).trans ?_
    refine (congrArg (arg6.view.read (Elt F) fx) e.symm).trans ((hx _).trans (congrArg x ?_))
    funext a
    match a with
    | 0 => exact Fin.ext (show ((y 0).val + 0) % 1024 = (y 0).val by omega)
    | 1 => rfl
  · have e : (Rect.unit (s := S1024x4096) ![512, 0] S512x4096.size inb_S1024x4096_S512x4096_512_0).emb (ix2 (n0 := 512) (n1 := 4096) ⟨(y 0).val - 512, by omega⟩ (y 1)) = y := by
      funext a
      match a with
      | 0 => exact Fin.ext (show 512 + 1 * ((y 0).val - 512) = (y 0).val by omega)
      | 1 => exact Fin.ext (show 0 + 1 * (y 1).val = (y 1).val by omega)
    have hm : arg6.view.emb y ∈ (arg6.slice (Rect.unit (s := S1024x4096) ![512, 0] S512x4096.size inb_S1024x4096_S512x4096_512_0) (fun _ => rfl)).view.set := Finset.mem_map.mpr ⟨_, Finset.mem_univ _, congrArg arg6.view.emb e⟩
    refine (View.read_congr_at (v := arg6.view) y (Finset.piecewise_eq_of_mem _ _ _ hm)).trans ?_
    refine (congrArg (arg6.view.read (Elt F) fy) e.symm).trans ((hy _).trans (congrArg x ?_))
    funext a
    match a with
    | 0 => exact Fin.ext (show ((y 0).val - 512 + 512) % 1024 = (y 0).val by omega)
    | 1 => rfl

/-- What one grid point finds and leaves besides its windows: the read tokens of the arrays it copies from, its scratch buffers at any
    contents, the slots of the ring buffers each by its own elements, its cells at zero. -/
def idle : sProp 𝕄 :=
  iprop(ptW c main_arg0 (Transfers.shareTokN fullShare 4) w0 ∗ ptW c main_arg0 (Transfers.shareTokN fullShare 5) w0
      ∗ ptW c main_v3 (Transfers.shareTokN fullShare 6) w3 ∗ ptW c main_v3 (Transfers.shareTokN fullShare 7) w3
      ∗ ptW c main_v3 (Transfers.shareTokN fullShare 9) w3 ∗ ptW c main_v3 (Transfers.shareTokN fullShare 10) w3
      ∗ ptW c main_v4 fullShare w4
      ∗ (∃ f, ptW c cc0_scratch0 fullShare f)
      ∗ (∃ g, slotP c gS0 g) ∗ (∃ g, slotP c uS0 g) ∗ (∃ g, slotP c dS0 g)
      ∗ (∃ g, slotP c gS1 g) ∗ (∃ g, slotP c uS1 g) ∗ (∃ g, slotP c dS1 g)
      ∗ semVal ((c : Thread nD τ), SemLoc.dma 4) 0 ∗ semVal ((c : Thread nD τ), SemLoc.dma 5) 0
      ∗ semVal ((c : Thread nD τ), SemLoc.dma 6) 0 ∗ semVal ((c : Thread nD τ), SemLoc.dma 7) 0 ∗ semVal ((c : Thread nD τ), SemLoc.dma 8) 0
      ∗ semVal ((c : Thread nD τ), SemLoc.dma 9) 0 ∗ semVal ((c : Thread nD τ), SemLoc.dma 10) 0 ∗ semVal ((c : Thread nD τ), SemLoc.dma 11) 0
      ∗ (∃ W, owes (c : Thread nD τ) 0 W))

/-- THE GRID POINT: from its windows, scratch buffers and cells at rest it ends with the result in its block and everything else as found. -/
theorem body (i : grid0.Coords) (arg2 : Memref sig .tc .vmem S1x4096 .f32) (harg2 : arg2.IsWhole)
    (arg5 : Memref sig .tc .vmem S1x4096 .f32) (harg5 : arg5.IsWhole) (arg6 : Memref sig .tc .vmem S1024x4096 .f32) (harg6 : arg6.IsWhole)
    (g gf : Vec F S1x4096 .f32) :
    iprop(idle c w0 w3 w4 ∗ owns (c : Thread nD τ) arg2 fullShare g ∗ owns (c : Thread nD τ) arg5 fullShare gf
      ∗ (∃ f, (arg6.slice (Rect.unit (s := S1024x4096) ![0, 0] S512x4096.size inb_S1024x4096_S512x4096_0_0) (fun _ => rfl)).view.loc (c : Thread nD τ) ↦[(arg6.slice (Rect.unit (s := S1024x4096) ![0, 0] S512x4096.size inb_S1024x4096_S512x4096_0_0) (fun _ => rfl)).view.set]{fullShare} f)
      ∗ (∃ f, (arg6.slice (Rect.unit (s := S1024x4096) ![512, 0] S512x4096.size inb_S1024x4096_S512x4096_512_0) (fun _ => rfl)).view.loc (c : Thread nD τ) ↦[(arg6.slice (Rect.unit (s := S1024x4096) ![512, 0] S512x4096.size inb_S1024x4096_S512x4096_512_0) (fun _ => rfl)).view.set]{fullShare} f))
    ⊢ wp frame (wpE (defs₀ (F := F)) Variants.none (c : Thread nD τ) none) Set.univ
      (cc0_ffn i (Memref.whole main_arg0) (Memref.isWhole_whole _) arg2 harg2 (Memref.whole main_v3) (Memref.isWhole_whole _)
        (Memref.whole main_v4) (Memref.isWhole_whole _) arg5 harg5 arg6 harg6 (Memref.whole cc0_scratch0) (Memref.isWhole_whole _)
        (Memref.whole cc0_scratch1) (Memref.isWhole_whole _) (Memref.whole cc0_scratch2) (Memref.isWhole_whole _)
        (Memref.whole cc0_scratch3) (Memref.isWhole_whole _) cc0_scratch4 cc0_scratch5) (fun _ => iprop(idle c w0 w3 w4 ∗ owns (c : Thread nD τ) arg2 fullShare g ∗ owns (c : Thread nD τ) arg5 fullShare gf
        ∗ owns (c : Thread nD τ) arg6 fullShare (finished (acc c w3 w4 (xblk c w0 i) (normed (xblk c w0 i) g) 43) gf))) := by
  unfold owns idle
  iintro ⟨⟨X4, X5, A6, A7, A9, A10, B, ⟨%fh, HH⟩, ⟨%e1, G0⟩, ⟨%e2, U0⟩, ⟨%e3, D0⟩, ⟨%e4, G1⟩, ⟨%e5, U1⟩, ⟨%e6, D1⟩, C4, C5, C6, C7, C8, C9, C10, C11, ⟨%W, HO⟩⟩, ⟨%f2, %hf2, H2⟩, ⟨%f5, %hf5, H5⟩, ⟨%fx, HX⟩, ⟨%fy, HY⟩⟩
  sl_unfold [cc0_ffn, k0_part10, k0_part11]
  sl_exec
  have hg : arg2.view.readAt (Elt F) (Rect.unit (s := S1x4096) ![0, 0] S1x4096.size inb_S1x4096_S1x4096_0_0).toLoadRect f2 = g :=
    (View.readAt_full _ _ _).trans hf2
  rw [hg]
  iapply (Scf.wp_for_bind frame (wpE (defs₀ (F := F)) Variants.none (c : Thread nD τ) none) Set.univ _ _ _ k0_t1_ok ()
    (k0_t1_body (F := F) i (Memref.whole main_arg0) (Memref.isWhole_whole _) arg2 harg2 (Memref.whole main_v3) (Memref.isWhole_whole _)
        (Memref.whole main_v4) (Memref.isWhole_whole _) arg5 harg5 arg6 harg6 (Memref.whole cc0_scratch0) (Memref.isWhole_whole _)
        (Memref.whole cc0_scratch1) (Memref.isWhole_whole _) (Memref.whole cc0_scratch2) (Memref.isWhole_whole _)
        (Memref.whole cc0_scratch3) (Memref.isWhole_whole _) cc0_scratch4 cc0_scratch5 (BitVec.ofNat 32 (i 0).val) g)
    (fun k _ => res1 c arg6 (xblk c w0 i) g k) (fun k _ => trip1 c i arg2 harg2 arg5 harg5 arg6 harg6 (xblk c w0 i) g _ k)) $$ [HX HH]
  · unfold res1
    isplitl [HX]
    · iexists _; isplitr; swap; · iexact HX
      ipureintro
      intro z
      refine (congrFun (View.read_writes_whole (arg6.slice (Rect.unit (s := S1024x4096) ![0, 0] S512x4096.size inb_S1024x4096_S512x4096_0_0) (fun _ => rfl)).view _ (body.sl.dma0_3 c w0 i)) z).trans ?_
      unfold body.sl.dma0_3
      exact xblk_read c w0 i 0 (by decide) _ _ (k0_off2_eq i ⟨0, by decide⟩) z
    · iexists fh; isplitr; swap; · iexact HH
      ipureintro
      intro y hy
      exact absurd hy (by omega)
  iintro %u1 HI
  unfold res1
  icases HI with ⟨⟨%fx1, %hx1, HX⟩, ⟨%fh1, %hh1, HH⟩⟩
  sl_exec
  iapply (Scf.wp_for_bind frame (wpE (defs₀ (F := F)) Variants.none (c : Thread nD τ) none) Set.univ _ _ _ k0_t2_ok ()
    (k0_t2_body (F := F) i (Memref.whole main_arg0) (Memref.isWhole_whole _) arg2 harg2 (Memref.whole main_v3) (Memref.isWhole_whole _)
        (Memref.whole main_v4) (Memref.isWhole_whole _) arg5 harg5 arg6 harg6 (Memref.whole cc0_scratch0) (Memref.isWhole_whole _)
        (Memref.whole cc0_scratch1) (Memref.isWhole_whole _) (Memref.whole cc0_scratch2) (Memref.isWhole_whole _)
        (Memref.whole cc0_scratch3) (Memref.isWhole_whole _) cc0_scratch4 cc0_scratch5 (BitVec.ofNat 32 (i 0).val) g)
    (fun k _ => res2 c arg6 (xblk c w0 i) g k) (fun k _ => trip2 c i arg2 harg2 arg5 harg5 arg6 harg6 (xblk c w0 i) g _ k)) $$ [HY HH]
  · unfold res2
    isplitl [HY]
    · iexists _; isplitr; swap; · iexact HY
      ipureintro
      intro z
      refine (congrFun (View.read_writes_whole (arg6.slice (Rect.unit (s := S1024x4096) ![512, 0] S512x4096.size inb_S1024x4096_S512x4096_512_0) (fun _ => rfl)).view _ (body.sl.dma0_4 c w0 i)) z).trans ?_
      unfold body.sl.dma0_4
      exact xblk_read c w0 i 512 (by decide) _ _ (k0_off2_eq i ⟨1, by decide⟩) z
    · iexists fh1; isplitr; swap; · iexact HH
      ipureintro
      intro y hy
      exact hh1 y (lt_of_lt_of_le hy (by decide))
  iintro %u2 HI
  unfold res2
  icases HI with ⟨⟨%fy2, %hy2, HY⟩, ⟨%fh2, %hh2, HH⟩⟩
  have hfh : (Memref.whole cc0_scratch0).view.read (Elt F) fh2 = normed (xblk c w0 i) g :=
    funext fun y => hh2 y (lt_of_lt_of_le (y 0).isLt (by decide))
  ihave H6 := (join_halves c arg6 harg6 (xblk c w0 i) fx1 fy2 hx1 hy2) $$ [HX HY]
  · isplitl [HX]; · iexact HX
    iexact HY
  iapply (Scf.wp_for_bind frame (wpE (defs₀ (F := F)) Variants.none (c : Thread nD τ) none) Set.univ _ _ _ k0_t3_ok ()
    (k0_t3_body (F := F) i (Memref.whole main_arg0) (Memref.isWhole_whole _) arg2 harg2 (Memref.whole main_v3) (Memref.isWhole_whole _)
        (Memref.whole main_v4) (Memref.isWhole_whole _) arg5 harg5 arg6 harg6 (Memref.whole cc0_scratch0) (Memref.isWhole_whole _)
        (Memref.whole cc0_scratch1) (Memref.isWhole_whole _) (Memref.whole cc0_scratch2) (Memref.isWhole_whole _)
        (Memref.whole cc0_scratch3) (Memref.isWhole_whole _) cc0_scratch4 cc0_scratch5 (BitVec.ofNat 32 (i 0).val))
    (fun k _ => res3 c w3 w4 arg6 (xblk c w0 i) fh2 (2 * k)) (fun k _ => trip3 c w3 w4 i arg2 harg2 arg5 harg5 arg6 harg6 (xblk c w0 i) fh2 _ k))
    $$ [C6 A6 C7 A7 C8 B H6 HH A9 A10 G1 U1 D1 C9 C10 C11 HO]
  · unfold res3
    isplitl [C6 A6]
    · iapply (foldG c w3 0 ![1, 0, 0] _ rfl e1 [] (body.sl.dma0 c w3) (by unfold body.sl.dma0; rfl)) $$ [C6 A6]
      isplitl [C6]; · iexact C6
      iexact A6
    isplitl [C7 A7]
    · iapply (foldU c w3 0 ![1, 0, 11008] _ rfl e2 [] (body.sl.dma0_1 c w3) (by unfold body.sl.dma0_1; rfl)) $$ [C7 A7]
      isplitl [C7]; · iexact C7
      iexact A7
    isplitl [C8 B]
    · iapply (foldD c w4 0 ![1, 0, 0] _ rfl e3 [] (body.sl.dma0_2 c w4) (by unfold body.sl.dma0_2; rfl)) $$ [C8 B]
      isplitl [C8]; · iexact C8
      iexact B
    isplitl [H6]; · iexact H6
    isplitl [HH]; · iexact HH
    isplitl [A9]; · iexact A9
    isplitl [A10]; · iexact A10
    isplitl [G1]; · iexists _; iexact G1
    isplitl [U1]; · iexists _; iexact U1
    isplitl [D1]; · iexists _; iexact D1
    isplitl [C9]; · iexact C9
    isplitl [C10]; · iexact C10
    isplitl [C11]; · iexact C11
    iexists _; iexact HO
  iintro %u3 HI
  rw [show 2 * Scf.trips k0_t3_loop.lb k0_t3_loop.ub k0_t3_loop.st = 42 from by decide]
  unfold res3 owns
  icases HI with ⟨⟨%g1, C6, A6⟩, ⟨%g2, C7, A7⟩, ⟨%g3, C8, B⟩, ⟨%f6, %hf6, H6⟩, HH, A9, A10, ⟨%e1', G1⟩, ⟨%e2', U1⟩, ⟨%e3', D1⟩, C9, C10, C11, ⟨%W', HO⟩⟩
  sl_exec
  have hgf : arg5.view.readAt (Elt F) (Rect.unit (s := S1x4096) ![0, 0] S1x4096.size inb_S1x4096_S1x4096_0_0).toLoadRect f5 = gf :=
    (View.readAt_full _ _ _).trans hf5
  rw [hgf]
  iapply (Scf.wp_for_bind frame (wpE (defs₀ (F := F)) Variants.none (c : Thread nD τ) none) Set.univ _ _ _ k0_t4_ok ()
    (k0_t4_body (F := F) i (Memref.whole main_arg0) (Memref.isWhole_whole _) arg2 harg2 (Memref.whole main_v3) (Memref.isWhole_whole _)
        (Memref.whole main_v4) (Memref.isWhole_whole _) arg5 harg5 arg6 harg6 (Memref.whole cc0_scratch0) (Memref.isWhole_whole _)
        (Memref.whole cc0_scratch1) (Memref.isWhole_whole _) (Memref.whole cc0_scratch2) (Memref.isWhole_whole _)
        (Memref.whole cc0_scratch3) (Memref.isWhole_whole _) cc0_scratch4 cc0_scratch5 gf)
    (fun k _ => res4 c arg6 (acc c w3 w4 (xblk c w0 i) (normed (xblk c w0 i) g) 43) gf k)
    (fun k _ => trip4 c i arg2 harg2 arg5 harg5 arg6 harg6 (acc c w3 w4 (xblk c w0 i) (normed (xblk c w0 i) g) 43) gf k)) $$ [H6]
  · unfold res4
    iexists _; isplitr; swap; · iexact H6
    ipureintro
    suffices he : arg6.view.read (Elt F) (arg6.view.writes (Elt F) arg6.view.junk (body.sl.H6_1 c w3 w4 arg6 fh2 f6)) = acc c w3 w4 (xblk c w0 i) (normed (xblk c w0 i) g) 43 from
      ⟨fun y hy => absurd hy (by omega), fun y _ => congrFun he y⟩
    unfold body.sl.H6_1
    refine (View.read_writes_full arg6.view arg6.view.junk _ _ _).trans ?_
    have q1 : body.sl.r fh2 = normed (xblk c w0 i) g := by unfold body.sl.r; exact (readAt_h c fh2).trans hfh
    have q2 : body.sl.r_1 c w3 fh2 = k0_pay34 (normed (xblk c w0 i) g) (gV c w3 42) := by
      unfold body.sl.r_1; exact congrArg₂ k0_pay34 ((readAt_h c fh2).trans hfh) (by unfold body.sl.v72; exact ld_gS0 c w3 _ _ _ rfl)
    have q3 : body.sl.v75 c w3 = uV c w3 42 := by unfold body.sl.v75; exact ld_uS0 c w3 _ _ _ rfl
    have q4 : body.sl.v88 c w4 = dV c w4 42 := by unfold body.sl.v88; exact ld_dS0 c w4 _ _ _ rfl
    rw [q1, q2, q3, q4, View.readAt_full, hf6, hfh]
    rfl
  iintro %u4 HI
  unfold res4
  icases HI with ⟨%f6', %hf6', H6⟩
  sl_step
  isplitl [X4 X5 A6 A7 A9 A10 B HH C6_dst C7_dst C8_dst G1 U1 D1 C4 C5 C6 C7 C8 C9 C10 C11 HO]
  · isplitl [X4]; · iexact X4
    isplitl [X5]; · iexact X5
    isplitl [A6]; · iexact A6
    isplitl [A7]; · iexact A7
    isplitl [A9]; · iexact A9
    isplitl [A10]; · iexact A10
    isplitl [B]; · iexact B
    isplitl [HH]; · iexists _; iexact HH
    isplitl [C6_dst]; · iexists _; iexact C6_dst
    isplitl [C7_dst]; · iexists _; iexact C7_dst
    isplitl [C8_dst]; · iexists _; iexact C8_dst
    isplitl [G1]; · iexists _; iexact G1
    isplitl [U1]; · iexists _; iexact U1
    isplitl [D1]; · iexists _; iexact D1
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    iexists _; iexact HO
  isplitl [H2]
  · iexists f2; isplitr; · ipureintro; exact hf2
    iexact H2
  isplitl [H5]
  · iexists f5; isplitr; · ipureintro; exact hf5
    iexact H5
  iexists f6'; isplitr; swap; · iexact H6
  ipureintro
  exact funext fun y => hf6'.1 y (lt_of_lt_of_le (y 0).isLt (by decide))
end body

end Cert.KernelLastIdeal.Hand
-- ==== Proof.LastFrame.lean ====
/-
  The run of the second layer's feed-forward kernel: what a grid point uses taken out of the launch's invariant and put back, the proof data of the pipeline,
  the run, and the frame.
-/
module

public import proofs.«01_k».proof.Proof.LastBody

@[expose] public section

set_option maxRecDepth 16384

noncomputable section

namespace Cert.KernelLastIdeal.Hand

open Cert.KernelLastIdeal Cert.KernelLastIdeal.Gen Cert.FfnShared
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (Pipeline.UD sig nD τ) ℕ

/-- `main_arg0` as what remains of it after 6 read tokens, and the tokens. -/
theorem toks_main_arg0 (c : Dev nD) (w : Buf (Elt F) ((c : Thread nD τ).loc main_arg0)) :
    (ptW c main_arg0 fullShare w : sProp 𝕄) ⊣⊢ iprop(ptW c main_arg0 (Transfers.shareDrop fullShare 6) w
      ∗ ptW c main_arg0 (Transfers.shareTokN fullShare 0) w ∗ ptW c main_arg0 (Transfers.shareTokN fullShare 1) w ∗ ptW c main_arg0 (Transfers.shareTokN fullShare 2) w ∗ ptW c main_arg0 (Transfers.shareTokN fullShare 3) w ∗ ptW c main_arg0 (Transfers.shareTokN fullShare 4) w ∗ ptW c main_arg0 (Transfers.shareTokN fullShare 5) w) := by
  refine (Transfers.pointsTo_toks_range fullShare 6).trans ?_
  rw [bigSep_eq_bigSepL_of_eq [0, 1, 2, 3, 4, 5] (by decide) (by decide)]
  exact .rfl

/-- `main_v3` as what remains of it after 11 read tokens, and the tokens. -/
theorem toks_main_v3 (c : Dev nD) (w : Buf (Elt F) ((c : Thread nD τ).loc main_v3)) :
    (ptW c main_v3 fullShare w : sProp 𝕄) ⊣⊢ iprop(ptW c main_v3 (Transfers.shareDrop fullShare 11) w
      ∗ ptW c main_v3 (Transfers.shareTokN fullShare 0) w ∗ ptW c main_v3 (Transfers.shareTokN fullShare 1) w ∗ ptW c main_v3 (Transfers.shareTokN fullShare 2) w ∗ ptW c main_v3 (Transfers.shareTokN fullShare 3) w ∗ ptW c main_v3 (Transfers.shareTokN fullShare 4) w ∗ ptW c main_v3 (Transfers.shareTokN fullShare 5) w ∗ ptW c main_v3 (Transfers.shareTokN fullShare 6) w ∗ ptW c main_v3 (Transfers.shareTokN fullShare 7) w ∗ ptW c main_v3 (Transfers.shareTokN fullShare 8) w ∗ ptW c main_v3 (Transfers.shareTokN fullShare 9) w ∗ ptW c main_v3 (Transfers.shareTokN fullShare 10) w) := by
  refine (Transfers.pointsTo_toks_range fullShare 11).trans ?_
  rw [bigSep_eq_bigSepL_of_eq [0, 1, 2, 3, 4, 5, 6, 7, 8, 9, 10] (by decide) (by decide)]
  exact .rfl

/-- A buffer whole at some contents is two disjoint parts that make it up, each at some contents. -/
theorem split_parts {ℓ : Loc nD τ sig} {A B : Finset (Idx ℓ)} (hd : Disjoint A B) (hu : A ∪ B = Finset.univ) :
    (iprop(∃ f : Buf (Elt F) ℓ, ℓ ↦{fullShare} f) : sProp 𝕄) ⊢ iprop((∃ g, ℓ ↦[A]{fullShare} g) ∗ (∃ g, ℓ ↦[B]{fullShare} g)) := by
  iintro ⟨%f, H⟩
  have h : (ℓ ↦{fullShare} f : sProp 𝕄) ⊢ iprop((ℓ ↦[A]{fullShare} f) ∗ (ℓ ↦[B]{fullShare} f)) := by
    refine BIBase.Entails.trans ?_ (pointsTo_union hd).1
    rw [hu]
  ihave H' := h $$ H
  icases H' with ⟨H1, H2⟩
  isplitl [H1]; · iexists f; iexact H1
  iexists f; iexact H2

/-- The same the other way. -/
theorem join_parts {ℓ : Loc nD τ sig} {A B : Finset (Idx ℓ)} (hd : Disjoint A B) (hu : A ∪ B = Finset.univ) :
    (iprop((∃ g, ℓ ↦[A]{fullShare} g) ∗ (∃ g, ℓ ↦[B]{fullShare} g)) : sProp 𝕄) ⊢ iprop(∃ f : Buf (Elt F) ℓ, ℓ ↦{fullShare} f) := by
  iintro ⟨⟨%f, H1⟩, ⟨%g, H2⟩⟩
  have h : (iprop((ℓ ↦[A]{fullShare} f) ∗ (ℓ ↦[B]{fullShare} g)) : sProp 𝕄) ⊢ ℓ ↦{fullShare} (B.piecewise g f) := by
    refine (pointsTo_join hd).trans ?_
    rw [hu]
  iexists _
  iapply h $$ [H1 H2]
  isplitl [H1]; · iexact H1
  iexact H2

/-- The gate's ring buffer is its two slots. -/
theorem union_g : gS0.view.set ∪ gS1.view.set = (Memref.whole cc0_scratch1 : Memref sig .tc .vmem _ _).view.set :=
  slots_union (n := 4096) (k := 256) (Memref.whole cc0_scratch1) inb_S2x4096x256_S1x4096x256_0_0_0 inb_S2x4096x256_S1x4096x256_1_0_0 squeezes_S1x4096x256_S4096x256

theorem disjoint_g : Disjoint gS0.view.set gS1.view.set :=
  slots_disjoint (n := 4096) (k := 256) (Memref.whole cc0_scratch1) inb_S2x4096x256_S1x4096x256_0_0_0 inb_S2x4096x256_S1x4096x256_1_0_0 squeezes_S1x4096x256_S4096x256

/-- A ring buffer whole at some contents, and its two slots each at some contents: the same. -/
theorem split_g (c : Dev nD) :
    (iprop(∃ f : Buf (Elt F) ((c : Thread nD τ).loc cc0_scratch1), ptW c cc0_scratch1 fullShare f) : sProp 𝕄)
      ⊢ iprop((∃ g, slotP c gS0 g) ∗ (∃ g, slotP c gS1 g)) :=
  split_parts disjoint_g (union_g.trans (View.set_whole _))

theorem join_g (c : Dev nD) :
    (iprop((∃ g, slotP c gS0 g) ∗ (∃ g, slotP c gS1 g)) : sProp 𝕄)
      ⊢ iprop(∃ f : Buf (Elt F) ((c : Thread nD τ).loc cc0_scratch1), ptW c cc0_scratch1 fullShare f) :=
  join_parts disjoint_g (union_g.trans (View.set_whole _))

/-- The up-projection's ring buffer is its two slots. -/
theorem union_u : uS0.view.set ∪ uS1.view.set = (Memref.whole cc0_scratch2 : Memref sig .tc .vmem _ _).view.set :=
  slots_union (n := 4096) (k := 256) (Memref.whole cc0_scratch2) inb_S2x4096x256_S1x4096x256_0_0_0 inb_S2x4096x256_S1x4096x256_1_0_0 squeezes_S1x4096x256_S4096x256

theorem disjoint_u : Disjoint uS0.view.set uS1.view.set :=
  slots_disjoint (n := 4096) (k := 256) (Memref.whole cc0_scratch2) inb_S2x4096x256_S1x4096x256_0_0_0 inb_S2x4096x256_S1x4096x256_1_0_0 squeezes_S1x4096x256_S4096x256

/-- A ring buffer whole at some contents, and its two slots each at some contents: the same. -/
theorem split_u (c : Dev nD) :
    (iprop(∃ f : Buf (Elt F) ((c : Thread nD τ).loc cc0_scratch2), ptW c cc0_scratch2 fullShare f) : sProp 𝕄)
      ⊢ iprop((∃ g, slotP c uS0 g) ∗ (∃ g, slotP c uS1 g)) :=
  split_parts disjoint_u (union_u.trans (View.set_whole _))

theorem join_u (c : Dev nD) :
    (iprop((∃ g, slotP c uS0 g) ∗ (∃ g, slotP c uS1 g)) : sProp 𝕄)
      ⊢ iprop(∃ f : Buf (Elt F) ((c : Thread nD τ).loc cc0_scratch2), ptW c cc0_scratch2 fullShare f) :=
  join_parts disjoint_u (union_u.trans (View.set_whole _))

/-- The down-projection's ring buffer is its two slots. -/
theorem union_d : dS0.view.set ∪ dS1.view.set = (Memref.whole cc0_scratch3 : Memref sig .tc .vmem _ _).view.set :=
  slots_union (n := 256) (k := 4096) (Memref.whole cc0_scratch3) inb_S2x256x4096_S1x256x4096_0_0_0 inb_S2x256x4096_S1x256x4096_1_0_0 squeezes_S1x256x4096_S256x4096

theorem disjoint_d : Disjoint dS0.view.set dS1.view.set :=
  slots_disjoint (n := 256) (k := 4096) (Memref.whole cc0_scratch3) inb_S2x256x4096_S1x256x4096_0_0_0 inb_S2x256x4096_S1x256x4096_1_0_0 squeezes_S1x256x4096_S256x4096

/-- A ring buffer whole at some contents, and its two slots each at some contents: the same. -/
theorem split_d (c : Dev nD) :
    (iprop(∃ f : Buf (Elt F) ((c : Thread nD τ).loc cc0_scratch3), ptW c cc0_scratch3 fullShare f) : sProp 𝕄)
      ⊢ iprop((∃ g, slotP c dS0 g) ∗ (∃ g, slotP c dS1 g)) :=
  split_parts disjoint_d (union_d.trans (View.set_whole _))

theorem join_d (c : Dev nD) :
    (iprop((∃ g, slotP c dS0 g) ∗ (∃ g, slotP c dS1 g)) : sProp 𝕄)
      ⊢ iprop(∃ f : Buf (Elt F) ((c : Thread nD τ).loc cc0_scratch3), ptW c cc0_scratch3 fullShare f) :=
  join_parts disjoint_d (union_d.trans (View.set_whole _))

/-! ## The invariant of the launch -/

abbrev osem0 : Fin 8 → SemLoc sig := fun j => (![SemLoc.dma 4, SemLoc.dma 5, SemLoc.dma 6, SemLoc.dma 7, SemLoc.dma 8, SemLoc.dma 9, SemLoc.dma 10, SemLoc.dma 11] : Fin 8 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) := by
  rw [Pipeline.ownSems0_eq_of_list c osem0 [0, 1, 2, 3, 4, 5, 6, 7] (by decide) (by decide)]; rfl
/-- The arrays the body copies from: the input and the two weight arrays. -/
def H0 : Finset (Ref sig .tc) := {main_arg0, main_v3, main_v4}
theorem H0_sub : H0 ⊆ Pipeline.restRefs sig spec0 := by decide
theorem arrays_eq (c : Dev nD) :
    (bigSep H0 (fun b => ((c : Thread nD τ).loc b) ↦{fullShare} V m c b) : sProp 𝕄) = iprop(ptW c main_arg0 fullShare (V m c main_arg0) ∗ ptW c main_v3 fullShare (V m c main_v3) ∗ ptW c main_v4 fullShare (V m c main_v4)) := by
  rw [BI.bigSep_eq_bigSepL_of_eq [main_arg0, main_v3, main_v4] (by decide) (by decide)]; rfl

/-- The launch's invariant, part by part. -/
theorem PhiD_eq (c : Dev nD) :
    (Pipeline.ΦD osem0 spec0 H0 (V m) c : sProp 𝕄)
      = iprop(iprop((∃ f : Buf (Elt F) ((c : Thread nD τ).loc cc0_scratch0), ptW c cc0_scratch0 fullShare f) ∗ (∃ f : Buf (Elt F) ((c : Thread nD τ).loc cc0_scratch1), ptW c cc0_scratch1 fullShare f) ∗ (∃ f : Buf (Elt F) ((c : Thread nD τ).loc cc0_scratch2), ptW c cc0_scratch2 fullShare f) ∗ (∃ f : Buf (Elt F) ((c : Thread nD τ).loc cc0_scratch3), ptW c cc0_scratch3 fullShare f)) ∗ (∃ r, prngReg c r) ∗ iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) ∗ iprop(ptW c main_arg0 fullShare (V m c main_arg0) ∗ ptW c main_v3 fullShare (V m c main_v3) ∗ ptW c main_v4 fullShare (V m c main_v4))) := by
  rw [Pipeline.ΦD_eq, scopedRest0_eq, ownSems00_eq, arrays_eq]

/-- What a grid point leaves alone of the invariant: the generator's register and the read tokens it has no use for. -/
def spare (c : Dev nD) (w0 : Buf (Elt F) ((c : Thread nD τ).loc main_arg0)) (w3 : Buf (Elt F) ((c : Thread nD τ).loc main_v3)) : sProp 𝕄 :=
  iprop((∃ r, prngReg c r) ∗ ptW c main_arg0 (Transfers.shareDrop fullShare 6) w0
    ∗ ptW c main_arg0 (Transfers.shareTokN fullShare 0) w0 ∗ ptW c main_arg0 (Transfers.shareTokN fullShare 1) w0 ∗ ptW c main_arg0 (Transfers.shareTokN fullShare 2) w0 ∗ ptW c main_arg0 (Transfers.shareTokN fullShare 3) w0
    ∗ ptW c main_v3 (Transfers.shareDrop fullShare 11) w3
    ∗ ptW c main_v3 (Transfers.shareTokN fullShare 0) w3 ∗ ptW c main_v3 (Transfers.shareTokN fullShare 1) w3 ∗ ptW c main_v3 (Transfers.shareTokN fullShare 2) w3 ∗ ptW c main_v3 (Transfers.shareTokN fullShare 3) w3 ∗ ptW c main_v3 (Transfers.shareTokN fullShare 4) w3 ∗ ptW c main_v3 (Transfers.shareTokN fullShare 5) w3 ∗ ptW c main_v3 (Transfers.shareTokN fullShare 8) w3)

/-- The invariant and the record of what is owed, as what a grid point uses and what it leaves alone. -/
theorem open_idle (c : Dev nD) :
    (iprop(Pipeline.ΦD osem0 spec0 H0 (V m) c ∗ (∃ W, owes (c : Thread nD τ) 0 W)) : sProp 𝕄)
      ⊢ iprop(idle c (V m c main_arg0) (V m c main_v3) (V m c main_v4) ∗ spare c (V m c main_arg0) (V m c main_v3)) := by
  rw [PhiD_eq]
  unfold idle spare
  iintro ⟨⟨⟨HH, G, U, D⟩, R, ⟨C4, C5, C6, C7, C8, C9, C10, C11⟩, ⟨X, A, B⟩⟩, HO⟩
  ihave X' := (toks_main_arg0 c _).1 $$ X
  icases X' with ⟨X, X0, X1, X2, X3, X4, X5⟩
  ihave A' := (toks_main_v3 c _).1 $$ A
  icases A' with ⟨A, A0, A1, A2, A3, A4, A5, A6, A7, A8, A9, A10⟩
  ihave G' := split_g c $$ G
  icases G' with ⟨G0, G1⟩
  ihave U' := split_u c $$ U
  icases U' with ⟨U0, U1⟩
  ihave D' := split_d c $$ D
  icases D' with ⟨D0, D1⟩
  isplitl [X4 X5 A6 A7 A9 A10 B HH G0 U0 D0 G1 U1 D1 C4 C5 C6 C7 C8 C9 C10 C11 HO]
  · isplitl [X4]; · iexact X4
    isplitl [X5]; · iexact X5
    isplitl [A6]; · iexact A6
    isplitl [A7]; · iexact A7
    isplitl [A9]; · iexact A9
    isplitl [A10]; · iexact A10
    isplitl [B]; · iexact B
    isplitl [HH]; · iexact HH
    isplitl [G0]; · iexact G0
    isplitl [U0]; · iexact U0
    isplitl [D0]; · iexact D0
    isplitl [G1]; · iexact G1
    isplitl [U1]; · iexact U1
    isplitl [D1]; · iexact D1
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    iexact HO
  isplitl [R]; · iexact R
  isplitl [X]; · iexact X
  isplitl [X0]; · iexact X0
  isplitl [X1]; · iexact X1
  isplitl [X2]; · iexact X2
  isplitl [X3]; · iexact X3
  isplitl [A]; · iexact A
  isplitl [A0]; · iexact A0
  isplitl [A1]; · iexact A1
  isplitl [A2]; · iexact A2
  isplitl [A3]; · iexact A3
  isplitl [A4]; · iexact A4
  isplitl [A5]; · iexact A5
  iexact A8

/-- And back. -/
theorem close_idle (c : Dev nD) :
    (iprop(idle c (V m c main_arg0) (V m c main_v3) (V m c main_v4) ∗ spare c (V m c main_arg0) (V m c main_v3)) : sProp 𝕄)
      ⊢ iprop(Pipeline.ΦD osem0 spec0 H0 (V m) c ∗ (∃ W, owes (c : Thread nD τ) 0 W)) := by
  rw [PhiD_eq]
  unfold idle spare
  iintro ⟨⟨X4, X5, A6, A7, A9, A10, B, HH, G0, U0, D0, G1, U1, D1, C4, C5, C6, C7, C8, C9, C10, C11, HO⟩, R, X, X0, X1, X2, X3, A, A0, A1, A2, A3, A4, A5, A8⟩
  isplitr [HO]; swap; · iexact HO
  isplitl [HH G0 G1 U0 U1 D0 D1]
  · isplitl [HH]; · iexact HH
    isplitl [G0 G1]
    · iapply join_g c $$ [G0 G1]
      isplitl [G0]; · iexact G0
      iexact G1
    isplitl [U0 U1]
    · iapply join_u c $$ [U0 U1]
      isplitl [U0]; · iexact U0
      iexact U1
    iapply join_d c $$ [D0 D1]
    isplitl [D0]; · iexact D0
    iexact D1
  isplitl [R]; · iexact R
  isplitl [C4 C5 C6 C7 C8 C9 C10 C11]
  · isplitl [C4]; · iexact C4
    isplitl [C5]; · iexact C5
    isplitl [C6]; · iexact C6
    isplitl [C7]; · iexact C7
    isplitl [C8]; · iexact C8
    isplitl [C9]; · iexact C9
    isplitl [C10]; · iexact C10
    iexact C11
  isplitl [X X0 X1 X2 X3 X4 X5]
  · iapply (toks_main_arg0 c _).2 $$ [X X0 X1 X2 X3 X4 X5]
    isplitl [X]; · iexact X
    isplitl [X0]; · iexact X0
    isplitl [X1]; · iexact X1
    isplitl [X2]; · iexact X2
    isplitl [X3]; · iexact X3
    isplitl [X4]; · iexact X4
    iexact X5
  isplitr [B]; swap; · iexact B
  iapply (toks_main_v3 c _).2 $$ [A A0 A1 A2 A3 A4 A5 A6 A7 A8 A9 A10]
  isplitl [A]; · iexact A
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  iexact A10

/-! ## The proof data -/

/-- @main up to the region. -/
theorem toRegion (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- What grid point `t` leaves in its block of the result. -/
def outAt (c : Dev nD) (t : Fin cfg0.N) : Vec F S1024x4096 .f32 :=
  finished (acc c (V m c main_v3) (V m c main_v4) (xblk c (V m c main_arg0) (grid0.coords t))
    (normed (xblk c (V m c main_arg0) (grid0.coords t)) (iblk m c 0 t)) 43) (iblk m c 1 t)

/-- The proof data: the arrays as the region finds them; the inputs' blocks left in place, the result's at `outAt`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem left_0 (c : Dev nD) (t : Fin cfg0.N) : (dats m 0 c).after 0 t = iblk m c 0 t := by dsimp only [dats]
theorem left_1 (c : Dev nD) (t : Fin cfg0.N) : (dats m 0 c).after 1 t = iblk m c 1 t := by dsimp only [dats]
theorem left_2 (c : Dev nD) (t : Fin cfg0.N) : (dats m 0 c).after 2 t = outAt m c t := by dsimp only [dats]

/-- The gain's staging buffer holds its block at every point. -/
theorem found_0 (c : Dev nD) (t : Fin cfg0.N) (d) : (dats m 0 c).before 0 t d = iblk m c 0 t :=
  ((dats m 0 c).before_in_eq_fetched 0 rfl (fun _ => rfl) (fun _ _ _ => rfl) (fun t => by rw [left_0]; unfold Dat.blockOf iblk; rw [A_eq]; try rfl) t d).trans
    (by unfold Dat.fetched Dat.blockOf iblk; rw [A_eq]; try rfl)
theorem found_1 (c : Dev nD) (t : Fin cfg0.N) (d) : (dats m 0 c).before 1 t d = iblk m c 1 t :=
  ((dats m 0 c).before_in_eq_fetched 1 rfl (fun _ => rfl) (fun _ _ _ => rfl) (fun t => by rw [left_1]; unfold Dat.blockOf iblk; rw [A_eq]; try rfl) t d).trans
    (by unfold Dat.fetched Dat.blockOf iblk; rw [A_eq]; try rfl)

/-- What a grid point is given. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
/-- What a grid point leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- One grid point of the pipeline keeps the proof data. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, left_0, left_1, left_2]
  rw [show (dats m 0 c).Φ t.castSucc = Pipeline.ΦD osem0 spec0 H0 (V m) c from rfl]
  unfold Dat.owesAt Pipeline.owesWithin
  rw [show (dats m 0 c).owed t.castSucc = 0 from rfl, show (dats m 0 c).owed t.succ = 0 from rfl]
  iintro ⟨HP, ⟨%W, -, HW⟩, ⟨%d0, P0⟩, ⟨%d1, P1⟩, ⟨%d2, P2⟩⟩
  rw [found_0, found_1]
  unfold outAt
  ihave HI := open_idle m c $$ [HP HW]
  · isplitl [HP]; · iexact HP
    iexists W; iexact HW
  icases HI with ⟨HI, HS⟩
  unfold owns
  icases P2 with ⟨%f2, -, P2⟩
  ihave P2' := split_halves c (st0_2 t) f2 $$ P2
  icases P2' with ⟨PX, PY⟩
  iapply (wp_wand_r Idealize.ShloMosaic.frame (wpE (defs₀ (F := F)) Variants.none (c : Thread nD τ) none) Set.univ)
  isplitl [HI P0 P1 PX PY]
  · iapply (body c (V m c main_arg0) (V m c main_v3) (V m c main_v4) (grid0.coords t) (st0_0 t) _ (st0_1 t) _ (st0_2 t) _ (iblk m c 0 t) (iblk m c 1 t)) $$ [HI P0 P1 PX PY]
    isplitl [HI]; · iexact HI
    isplitl [P0]; · unfold owns; iexact P0
    isplitl [P1]; · unfold owns; iexact P1
    isplitl [PX]; · iexact PX
    iexact PY
  iintro %v ⟨HI, P0, P1, P2⟩
  ihave HC := close_idle m c $$ [HI HS]
  · isplitl [HI]; · iexact HI
    iexact HS
  icases HC with ⟨HP, ⟨%W', HW'⟩⟩
  isplitl [HP]; · iexact HP
  isplitl [HW']
  · iexists W'; isplitr; · ipureintro; exact fun _ _ => Or.inl trivial
    iexact HW'
  isplitl [P0]; · unfold owns; iexact P0
  isplitl [P1]; · unfold owns; iexact P1
  unfold owns; iexact P2

theorem row (t : Fin cfg0.N) :
    defs₀ (F := F) .tc cfg0.body (cfg0.bodyArgs t (cfg0.slots t)) = bodyAt0 t := by
  unfold defs₀; rw [Defs.onTc_tc]

/-- Every grid point keeps the proof data. -/
theorem point_sound (c : Dev nD) : BodyObligation (dats (F := F) m 0 c) (defs₀ (F := F)) Variants.none () Set.univ := fun t => by
  rw [bigSep_W0, bigSep_W0, row]
  exact triple_restated (sound_body m c t) rfl .rfl fun _ => .rfl

/-! ## The run and the frame -/

set_option backward.isDefEq.respectTransparency.types false in
/-- Every run of the program ends, with each window's array at what the proof data leave in it, every other array as the region
    found it, and every semaphore counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (point_sound m c).loose) (hshare := fun c => (dats m 0 c).share_full fun _ => rfl)
    (howed := fun _ _ => rfl) (V := V m) (hmain := toRegion m Variants.none) (hA := A_eq m)
    (hin := fun _ => .rfl) (hout := fun _ => .rfl)

/-- The frame: every run ends with the five argument arrays as launched and every semaphore counter at zero. -/
theorem frame_holds :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.KernelLastIdeal.Hand

end
-- ==== Proof.LastValue.lean ====
/-
  The result of the second layer's feed-forward kernel over the extended reals: a grid point's block from the arrays, the chunks' sums joined to one, and
  the blocks together.
-/
module

public import proofs.«01_k».proof.Proof.LastSpec
public import proofs.«01_k».proof.Proof.LastFrame
public import Idealize.ShloMosaic.Lib.Pipeline.ValueKit
public import Idealize.ShloMosaic.Lib.Pipeline.ValueKit.Tiles

@[expose] public section

set_option maxRecDepth 16384

noncomputable section

namespace Cert.Last

open Idealize.ShloMosaic Idealize.ShloMosaic.TcCoe Idealize.SL.Sem
open Cert.Ffn (scaled gated)
open Cert.KernelLastIdeal Cert.KernelLastIdeal.Gen Cert.KernelLastIdeal.Hand Cert.FfnShared

section chunks
variable (c : Dev nD) (w0 : Buf (Elt Ideal) ((c : Thread nD τ).loc main_arg0)) (w3 : Buf (Elt Ideal) ((c : Thread nD τ).loc main_v3))
  (w4 : Buf (Elt Ideal) ((c : Thread nD τ).loc main_v4))

theorem xblk_at (i : grid0.Coords) (p : Fin 1024) (e : Fin 4096) (r : Fin 16384) (hr : (r : ℕ) = 1024 * (i 0).val + p) :
    xblk (F := Ideal) c w0 i (ix2 p e) = w0 (ix2 r e) := by
  refine congrArg w0 (congrArg₂ ix2 (Fin.ext ?_) rfl)
  show (1024 * (i 0).val + p.val) % 16384 = r.val
  have := r.isLt
  omega

theorem gV_at (n : ℕ) (hn : n < 43) (k : Fin 4096) (q : Fin 256) (f : Fin 22016) (hf : (f : ℕ) = 256 * n + q) :
    gV (F := Ideal) c w3 n (ix3 0 k q) = w3 (ix3 1 k f) := by
  refine congrArg w3 ?_
  funext a
  match a with
  | 0 => exact Fin.ext (show 1 + 1 * 0 = 1 by omega)
  | 1 => exact Fin.ext (show 0 + 1 * k.val = k.val by omega)
  | 2 => exact Fin.ext (show 256 * (n % 43) + 1 * q.val = f.val by omega)

theorem uV_at (n : ℕ) (hn : n < 43) (k : Fin 4096) (q : Fin 256) (f : Fin 22016) (hf : (f : ℕ) = 256 * n + q + 11008) :
    uV (F := Ideal) c w3 n (ix3 0 k q) = w3 (ix3 1 k f) := by
  refine congrArg w3 ?_
  funext a
  match a with
  | 0 => exact Fin.ext (show 1 + 1 * 0 = 1 by omega)
  | 1 => exact Fin.ext (show 0 + 1 * k.val = k.val by omega)
  | 2 => exact Fin.ext (show 256 * (n % 43) + 11008 + 1 * q.val = f.val by omega)

theorem dV_at (n : ℕ) (hn : n < 43) (q : Fin 256) (e : Fin 4096) (f : Fin 11008) (hf : (f : ℕ) = 256 * n + q) :
    dV (F := Ideal) c w4 n (ix3 0 q e) = w4 (ix3 1 f e) := by
  refine congrArg w4 ?_
  funext a
  match a with
  | 0 => exact Fin.ext (show 1 + 1 * 0 = 1 by omega)
  | 1 => exact Fin.ext (show 256 * (n % 43) + 1 * q.val = f.val by omega)
  | 2 => exact Fin.ext (show 0 + 1 * e.val = e.val by omega)

/-- Hidden unit `f`'s contribution to row `p`, column `e` of a block with normalised rows `h`. -/
def unitAt (h : Vec Ideal S1024x4096 .bf16) (p : Fin 1024) (e : Fin 4096) (f : ℕ) : EReal :=
  gated (∑ k : Fin 4096, h (ix2 p k) * w3 (ix3 1 k ⟨f % 11008, by omega⟩)) (∑ k : Fin 4096, h (ix2 p k) * w3 (ix3 1 k ⟨f % 11008 + 11008, by omega⟩))
    * w4 (ix3 1 ⟨f % 11008, by omega⟩ e)

/-- After `n` chunks the block holds its rows plus the first `256 * n` hidden units' contributions. -/
theorem acc_at (x : Vec Ideal S1024x4096 .f32) (h : Vec Ideal S1024x4096 .bf16) (p : Fin 1024) (e : Fin 4096) (n : ℕ) (hn : n ≤ 43) :
    acc (F := Ideal) c w3 w4 x h n (ix2 p e) = x (ix2 p e) + ∑ f ∈ Finset.range (256 * n), unitAt c w3 w4 h p e f := by
  induction n with
  | zero => simp [acc]
  | succ n ih =>
    have hn' : n < 43 := hn
    rw [show acc (F := Ideal) c w3 w4 x h (n + 1) = k0_pay33 (F := Ideal) h (gV c w3 n) (uV c w3 n) (acc c w3 w4 x h n) (dV c w4 n) from rfl,
      update_at, ih (by omega), show 256 * (n + 1) = 256 * n + 256 from rfl, Finset.sum_range_add, ← add_assoc]
    refine congrArg₂ (fun a b : EReal => a + b) rfl ?_
    rw [Finset.sum_range]
    refine Finset.sum_congr rfl fun q _ => ?_
    have hq : (256 * n + q.val) % 11008 = 256 * n + q.val := Nat.mod_eq_of_lt (by omega)
    unfold unitAt
    rw [dV_at c w4 n hn' q e ⟨(256 * n + q.val) % 11008, by omega⟩ hq]
    refine congrArg₂ (fun a b : EReal => a * b) (congrArg₂ gated (Finset.sum_congr rfl fun k _ => ?_) (Finset.sum_congr rfl fun k _ => ?_)) rfl
    · rw [gV_at c w3 n hn' k q ⟨(256 * n + q.val) % 11008, by omega⟩ hq]
    · rw [uV_at c w3 n hn' k q ⟨(256 * n + q.val) % 11008 + 11008, by omega⟩ (by simp only [hq])]

/-- A block's normalised rows at an element. -/
theorem normed_at (x : Vec Ideal S1024x4096 .f32) (g : Vec Ideal S1x4096 .f32) (p : Fin 1024) (k : Fin 4096) :
    normed (F := Ideal) x g (ix2 p k) = scaled (fun j => x (ix2 p j)) (fun j => g (ix2 0 j)) k := by
  refine (normRows_at g (rowsAt x (p.val / 16 * 16)) ⟨p.val % 16, Nat.mod_lt _ (by decide)⟩ k).trans ?_
  refine congrArg (fun row => scaled row (fun j => g (ix2 0 j)) k) ?_
  funext j
  refine congrArg x (congrArg₂ ix2 (Fin.ext ?_) rfl)
  show (p.val / 16 * 16 + p.val % 16) % 1024 = p.val
  omega

/-- A finished block at an element. -/
theorem finished_at (x : Vec Ideal S1024x4096 .f32) (g : Vec Ideal S1x4096 .f32) (p : Fin 1024) (k : Fin 4096) :
    finished (F := Ideal) x g (ix2 p k) = scaled (fun j => x (ix2 p j)) (fun j => g (ix2 0 j)) k := by
  refine (lastRows_at g (rowsAt x (p.val / 16 * 16)) ⟨p.val % 16, Nat.mod_lt _ (by decide)⟩ k).trans ?_
  refine congrArg (fun row => scaled row (fun j => g (ix2 0 j)) k) ?_
  funext j
  refine congrArg x (congrArg₂ ix2 (Fin.ext ?_) rfl)
  show (p.val / 16 * 16 + p.val % 16) % 1024 = p.val
  omega

end chunks

variable (m : (ℓ : Loc nD τ sig) → Buf (Elt Ideal) ℓ)

theorem gateup (c : Dev nD) : V m c main_v3 = m ((c : Thread nD τ).loc main_arg3) := by
  have h : V m c main_v3 = truncf (F := Ideal) .bf16 (m ((c : Thread nD τ).loc main_arg3)) bitsLt_bf16_f32 := by
    simp only [V, hostOps0, List.flatten_cons, List.flatten_nil, List.append_nil, List.cons_append, List.nil_append]
    after_results
  rw [h]; rfl

theorem down (c : Dev nD) : V m c main_v4 = m ((c : Thread nD τ).loc main_arg4) := by
  have h : V m c main_v4 = truncf (F := Ideal) .bf16 (m ((c : Thread nD τ).loc main_arg4)) bitsLt_bf16_f32 := by
    simp only [V, hostOps0, List.flatten_cons, List.flatten_nil, List.append_nil, List.cons_append, List.nil_append]
    after_results
  rw [h]; rfl

theorem index_gain : ∀ t : Fin cfg0.N, win0_0.index t = ![0, 0] := (by decide +kernel : ∀ t : Fin grid0.N, _)

/-- The gain the kernel is given is the second row of the gains. -/
theorem gain_at (c : Dev nD) (t : Fin cfg0.N) (k : Fin 4096) :
    iblk m c 0 t (ix2 0 k) = m ((c : Thread nD τ).loc main_arg1) (ix2 1 k) := by
  have h : V m c main_v2 = broadcastInDim S1x4096 ![1] bcast_S4096_S1x4096_1
      (shapeCast S4096 (extractStridedSlice S1x4096 ![1, 0] (m ((c : Thread nD τ).loc main_arg1)) slices_S2x4096_S1x4096_1_0) shapeCasts_S1x4096_S4096) := by
    simp only [V, hostOps0, List.flatten_cons, List.flatten_nil, List.append_nil, List.cons_append, List.nil_append]
    after_results
    try rfl
  blk_simp [iblk]
  refine (congrFun h _).trans ?_
  have e : (win0_0.blk t).view.emb (ix2 0 k) = ix2 (n0 := 1) (n1 := 4096) 0 k := by
    blk_ext [index_gain] <;> omega
  rw [e]
  pointwise []

theorem index_final : ∀ t : Fin cfg0.N, win0_1.index t = ![0, 0] := (by decide +kernel : ∀ t : Fin grid0.N, _)

/-- The last gain as the kernel is given it. -/
theorem final_at (c : Dev nD) (t : Fin cfg0.N) (k : Fin 4096) :
    iblk m c 1 t (ix2 0 k) = m ((c : Thread nD τ).loc main_arg2) (ix1 k) := by
  have h : V m c main_v5 = broadcastInDim S1x4096 ![1] bcast_S4096_S1x4096_1 (m ((c : Thread nD τ).loc main_arg2)) := by
    simp only [V, hostOps0, List.flatten_cons, List.flatten_nil, List.append_nil, List.cons_append, List.nil_append]
    after_results
    try rfl
  blk_simp [iblk]
  refine (congrFun h _).trans ?_
  have e : (win0_1.blk t).view.emb (ix2 0 k) = ix2 (n0 := 1) (n1 := 4096) 0 k := by
    blk_ext [index_final] <;> omega
  rw [e]
  pointwise []

theorem index_y : ∀ t : Fin cfg0.N, win0_2.index t = ![(grid0.coords t 0).val, 0] := (by decide +kernel : ∀ t : Fin grid0.N, _)

/-- The layer's sums in grid point `t`'s block, before the last normalisation. -/
theorem block_sum (c : Dev nD) (t : Fin cfg0.N) (p : Fin 1024) (e' : Fin 4096) (r : Fin 16384) (e : Fin 4096)
    (hr : (r : ℕ) = (grid0.coords t 0).val * 1024 + p) (he : (e : ℕ) = e') :
    acc (F := Ideal) c (V m c main_v3) (V m c main_v4) (xblk c (V m c main_arg0) (grid0.coords t))
      (normed (xblk c (V m c main_arg0) (grid0.coords t)) (iblk m c 0 t)) 43 (ix2 p e') = sumAt (m ((c : Thread nD τ).loc main_arg0)) (m ((c : Thread nD τ).loc main_arg1))
      (m ((c : Thread nD τ).loc main_arg3)) (m ((c : Thread nD τ).loc main_arg4)) r e := by
  obtain rfl : e = e' := Fin.ext he
  have hx : ∀ j : Fin 4096, xblk (F := Ideal) c (V m c main_arg0) (grid0.coords t) (ix2 p j) = m ((c : Thread nD τ).loc main_arg0) (ix2 r j) := fun j =>
    (xblk_at c _ (grid0.coords t) p j r (by omega)).trans (congrFun (V_main_arg0 m c) _)
  unfold sumAt
  rw [acc_at _ _ _ _ _ _ _ 43 (le_refl _), hx, gateup, down]
  refine congrArg₂ (fun a b : EReal => a + b) rfl ?_
  rw [Finset.sum_range]
  refine Finset.sum_congr rfl fun f _ => ?_
  have hf : f.val % 11008 = f.val := Nat.mod_eq_of_lt f.isLt
  have hn : ∀ k : Fin 4096, normed (F := Ideal) (xblk (F := Ideal) c (V m c main_arg0) (grid0.coords t)) (iblk m c 0 t) (ix2 p k)
      = scaled (fun j => m ((c : Thread nD τ).loc main_arg0) (ix2 r j)) (fun j => m ((c : Thread nD τ).loc main_arg1) (ix2 1 j)) k := fun k => by
    rw [normed_at]
    exact congrArg₂ (fun a b => scaled a b k) (funext hx) (funext fun j => gain_at m c t j)
  unfold unitAt
  simp only [hn, hf]

/-- What grid point `t` leaves in its block, at an element. -/
theorem block_last (c : Dev nD) (t : Fin cfg0.N) (p : Fin 1024) (e' : Fin 4096) (r : Fin 16384) (e : Fin 4096)
    (hr : (r : ℕ) = (grid0.coords t 0).val * 1024 + p) (he : (e : ℕ) = e') :
    outAt m c t (ix2 p e') = lastAt (m ((c : Thread nD τ).loc main_arg0)) (m ((c : Thread nD τ).loc main_arg1))
      (m ((c : Thread nD τ).loc main_arg2)) (m ((c : Thread nD τ).loc main_arg3)) (m ((c : Thread nD τ).loc main_arg4)) r e := by
  obtain rfl : e = e' := Fin.ext he
  unfold outAt lastAt
  rw [finished_at]
  exact congrArg₂ (fun a b => scaled a b e) (funext fun j => block_sum m c t p j r j hr rfl) (funext fun j => final_at m c t j)

/-- THE RESULT ARRAY after the run. -/
theorem array_eq (c : Dev nD) :
    (Hand.dats m 0 c).arrAt 2 cfg0.N = fun i : S16384x4096.Idx =>
      lastAt (m ((c : Thread nD τ).loc main_arg0)) (m ((c : Thread nD τ).loc main_arg1)) (m ((c : Thread nD τ).loc main_arg2))
        (m ((c : Thread nD τ).loc main_arg3)) (m ((c : Thread nD τ).loc main_arg4)) (i 0) (i 1) := by
  refine (Hand.dats m 0 c).arrAt_eq_of_covers 2 _ (by decide +kernel) fun t hf y => ?_
  blk_simp
  rw [left_2]
  obtain ⟨p, e, rfl⟩ : ∃ (p : Fin 1024) (e : Fin 4096), y = ix2 p e := ⟨y 0, y 1, eq_ix2 y⟩
  exact block_last m c t p e _ _ (by blk_simp [index_y]) (by blk_simp [index_y])

end Cert.Last

end
-- ==== Proof.LastRef.lean ====
/-
  The reference of the second layer's feed-forward call over the extended reals, read at an element.
-/
module

public import proofs.«01_k».proof.Proof.LastSpec
public import proofs.«01_k».proof.Proof.FfnRef
public import proofs.«01_k».proof.Proof.Gen.ReferenceLastIdeal.Read
public import Idealize.ShloMosaic.Lib.IdealHost
public import Idealize.ShloMosaic.Lib.Pointwise

@[expose] public section

set_option maxRecDepth 16384

noncomputable section

namespace Cert.Last

open Idealize.ShloMosaic Idealize.ShloMosaic.TcCoe
open Cert.Ffn (scaled gated one_word silu_eq)
open Cert.ReferenceLastIdeal Cert.ReferenceLastIdeal.Read

section
variable (x : (⟨S16384x4096, .f32⟩ : BufTy).Contents (Elt Ideal)) (gain : (⟨S2x4096, .f32⟩ : BufTy).Contents (Elt Ideal))
  (wgu : (⟨S2x4096x22016, .f32⟩ : BufTy).Contents (Elt Ideal)) (wd : (⟨S2x11008x4096, .f32⟩ : BufTy).Contents (Elt Ideal))

/-- The reference's normalised rows at an element. -/
theorem ref_scaled (r : Fin 16384) (k : Fin 4096) :
    val_main_v14 (F := Ideal) x gain (ix2 r k) = scaled (fun j => x (ix2 r j)) (fun j => gain (ix2 1 j)) k := by
  have hs : val_main_v1 (F := Ideal) x (ix1 r) = ∑ j : Fin 4096, x (ix2 r j) * x (ix2 r j) := by
    rw [val_main_v1_apply, val_main_cst_apply]
    refine Eq.trans ?_ (zero_add _)
    refine congrArg₂ (fun a b : EReal => a + b) (by simp [FloatOps.ofBits, Ideal.ofBits, Ideal.ieee]) (Finset.sum_congr rfl fun j _ => ?_)
    have e : idx_main_v1 (ix1 r) j = ix2 r j := by funext a; fin_cases a <;> rfl
    rw [val_main_v0_apply, e]
    rfl
  have hg : val_main_v13 (F := Ideal) gain (ix2 r k) = gain (ix2 1 k) := by
    rw [val_main_v13_apply, val_main_v12_apply, val_main_v11_apply, val_main_v10_apply]
    refine congrArg gain ?_
    funext a
    fin_cases a
    · rfl
    · exact Fin.ext (Nat.mod_eq_of_lt k.isLt)
  have hr : val_main_v8 (F := Ideal) x (ix2 r k)
      = Ideal.rsqrt (Ideal.div (∑ j : Fin 4096, x (ix2 r j) * x (ix2 r j)) (Ideal.ofBits .f32 0x45800000#32) + Ideal.ofBits .f32 0x358637BD#32) := by
    rw [val_main_v8_apply, val_main_v7_apply, val_main_v6_apply, val_main_v5_apply, val_main_cst_1_apply, val_main_v4_apply, val_main_v3_apply,
      val_main_cst_0_apply, val_main_v2_apply]
    have e : idx_main_v2 (idx_main_v8 (ix2 r k)) = ix1 r := by funext a; fin_cases a; rfl
    rw [e, hs]
    rfl
  rw [val_main_v14_apply, val_main_v9_apply, hr, hg]
  rfl

/-- The reference's gate and up projection at an element. -/
theorem ref_gateup (r : Fin 16384) (f : Fin 22016) :
    val_main_v17 (F := Ideal) x gain wgu (ix2 r f)
      = ∑ k : Fin 4096, scaled (fun j => x (ix2 r j)) (fun j => gain (ix2 1 j)) k * wgu (ix3 1 k f) := by
  rw [val_main_v17_apply]
  refine Finset.sum_congr rfl fun k _ => ?_
  have e1 : lidx_main_v17 (ix2 r f) k = ix2 r k := by funext a; fin_cases a <;> rfl
  rw [e1, ref_scaled, val_main_v16_apply, val_main_v15_apply]
  refine congrArg (fun i => scaled (fun j => x (ix2 r j)) (fun j => gain (ix2 1 j)) k * wgu i) ?_
  have hk := k.isLt
  have hf := f.isLt
  funext a
  match a with
  | 0 => rfl
  | 1 => exact Fin.ext (show (k.val * 22016 + f.val) / 22016 % 4096 = k.val by omega)
  | 2 => exact Fin.ext (show (k.val * 22016 + f.val) % 22016 = f.val by omega)

/-- The reference's gated activations at an element. -/
theorem ref_gated (r : Fin 16384) (f : Fin 11008) :
    val_main_v21 (F := Ideal) x gain wgu (ix2 r f)
      = gated (val_main_v17 (F := Ideal) x gain wgu (ix2 r ⟨f, by omega⟩)) (val_main_v17 (F := Ideal) x gain wgu (ix2 r ⟨f + 11008, by omega⟩)) := by
  have e1 : idx_main_v18 (ix2 r f) = ix2 r ⟨f, by omega⟩ := by
    funext a
    match a with
    | 0 => rfl
    | 1 => rfl
  have e2 : idx_main_v19 (ix2 r f) = ix2 r ⟨f + 11008, by omega⟩ := by
    funext a
    match a with
    | 0 => rfl
    | 1 => exact Fin.ext (show 11008 + f.val = f.val + 11008 by omega)
  rw [val_main_v21_apply, val_main_v20_apply, val_main_v19_apply, val_main_call0_v5_apply, val_main_call0_v4_apply, val_main_call0_cst_0_apply,
    val_main_call0_v3_apply, val_main_call0_v2_apply, val_main_call0_cst_apply, val_main_call0_v1_apply, val_main_call0_v0_apply, val_main_v18_apply, e1, e2]
  generalize val_main_v17 (F := Ideal) x gain wgu (ix2 r ⟨f, by omega⟩) = g
  generalize val_main_v17 (F := Ideal) x gain wgu (ix2 r ⟨f + 11008, by omega⟩) = u
  show g * Ideal.div (Ideal.ofBits .f32 0x3F800000#32) (Ideal.ofBits .f32 0x3F800000#32 + Ideal.exp (-g)) * u = gated g u
  rw [one_word, silu_eq]
  rfl

/-- The reference's sums at an element. -/
theorem ref_sum (r : Fin 16384) (e : Fin 4096) :
    val_main_v25 (F := Ideal) x gain wgu wd (ix2 r e) = sumAt x gain wgu wd r e := by
  rw [val_main_v25_apply, val_main_v24_apply]
  refine congrArg₂ (fun a b : EReal => a + b) rfl (Finset.sum_congr rfl fun f _ => ?_)
  have e1 : lidx_main_v24 (ix2 r e) f = ix2 r f := by funext a; fin_cases a <;> rfl
  have hf := f.isLt
  have he := e.isLt
  rw [e1, ref_gated, ref_gateup, ref_gateup, val_main_v23_apply, val_main_v22_apply]
  refine congrArg (fun z : EReal => _ * z) (congrArg wd ?_)
  funext a
  match a with
  | 0 => rfl
  | 1 => exact Fin.ext (show (f.val * 4096 + e.val) / 4096 % 11008 = f.val by omega)
  | 2 => exact Fin.ext (show (f.val * 4096 + e.val) % 4096 = e.val by omega)

/-- THE REFERENCE'S RESULT at an element. -/
theorem ref_at (final : (⟨S4096, .f32⟩ : BufTy).Contents (Elt Ideal)) (r : Fin 16384) (e : Fin 4096) :
    val_main_v38 (F := Ideal) x gain final wgu wd (ix2 r e) = lastAt x gain final wgu wd r e := by
  have hs : val_main_v27 (F := Ideal) x gain wgu wd (ix1 r) = ∑ j : Fin 4096, sumAt x gain wgu wd r j * sumAt x gain wgu wd r j := by
    rw [val_main_v27_apply, val_main_cst_2_apply]
    refine Eq.trans ?_ (zero_add _)
    refine congrArg₂ (fun a b : EReal => a + b) (by simp [FloatOps.ofBits, Ideal.ofBits, Ideal.ieee]) (Finset.sum_congr rfl fun j _ => ?_)
    have e : idx_main_v27 (ix1 r) j = ix2 r j := by funext a; fin_cases a <;> rfl
    rw [val_main_v26_apply, e, ref_sum]
    rfl
  have hg : val_main_v37 (F := Ideal) final (ix2 r e) = final (ix1 e) := by
    rw [val_main_v37_apply, val_main_v36_apply]
    refine congrArg final ?_
    funext a
    fin_cases a
    rfl
  have hr : val_main_v34 (F := Ideal) x gain wgu wd (ix2 r e)
      = Ideal.rsqrt (Ideal.div (∑ j : Fin 4096, sumAt x gain wgu wd r j * sumAt x gain wgu wd r j) (Ideal.ofBits .f32 0x45800000#32) + Ideal.ofBits .f32 0x358637BD#32) := by
    rw [val_main_v34_apply, val_main_v33_apply, val_main_v32_apply, val_main_v31_apply, val_main_cst_4_apply, val_main_v30_apply, val_main_v29_apply,
      val_main_cst_3_apply, val_main_v28_apply]
    have e : idx_main_v28 (idx_main_v34 (ix2 r e)) = ix1 r := by funext a; fin_cases a; rfl
    rw [e, hs]
    rfl
  rw [val_main_v38_apply, val_main_v35_apply, hr, hg, ref_sum]
  rfl

end

end Cert.Last

end
-- ==== Proof.LastClaim.lean ====
/-
  The second layer's feed-forward call: the frames, and the equality of the results.
-/
module

public import proofs.«01_k».proof.Defs
public import proofs.«01_k».proof.Proof.Gen.KernelLast
public import proofs.«01_k».proof.Proof.Gen.KernelLastIdeal
public import proofs.«01_k».proof.Proof.LastWordFrame
public import proofs.«01_k».proof.Proof.LastValue
public import proofs.«01_k».proof.Proof.LastRef
public import proofs.«01_k».proof.Proof.Gen.ReferenceLastIdeal.Run
public import Idealize.ShloMosaic.Lib.Quiescent

@[expose] public section

set_option maxRecDepth 16384

noncomputable section

namespace Cert.Last

open Idealize.ShloMosaic Idealize.ShloMosaic.TcCoe Idealize.SL.Sem

/-- The feed-forward kernel, on machine words, runs and keeps its arguments. -/
theorem frame_word : Cert.quiescent_KernelLast := fun m ρ _ => Cert.KernelLast.Hand.frame_holds m ρ

/-- The same over the extended reals. -/
theorem frame_ideal : Cert.quiescent_KernelLastIdeal := fun m ρ _ => Cert.KernelLastIdeal.Hand.frame_holds m ρ

/-- The reference runs and keeps its arguments. -/
theorem frame_ref : Cert.quiescent_ReferenceLastIdeal := fun m ρ _ =>
  (θ_run Cert.ReferenceLastIdeal.defs _ _).mono
    (fun r h => ⟨fun c => (h c).2, sem_eq_zero_of_no_sems (by decide) r.2⟩) (Cert.ReferenceLastIdeal.Value.run m ρ)

section
open Cert.KernelLastIdeal Cert.KernelLastIdeal.Gen

/-- Every run of the kernel ends with the normalised sums in its result array, and its arguments as launched. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v6) = (fun i : S16384x4096.Idx =>
        lastAt (m ((c : Thread nD τ).loc main_arg0)) (m ((c : Thread nD τ).loc main_arg1)) (m ((c : Thread nD τ).loc main_arg2))
          (m ((c : Thread nD τ).loc main_arg3)) (m ((c : Thread nD τ).loc main_arg4)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 2).trans (array_eq m c),
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c)⟩) (Hand.run_main m ρ)

end

/-- THE VALUES: over the extended reals the kernel and the reference end with the same result. -/
theorem values : Cert.algebraic_KernelLastIdeal_ReferenceLastIdeal := fun m g m' g' hpre hagree => by
  refine ⟨_, kernel_run m g, ?_⟩
  refine (θ_run Cert.ReferenceLastIdeal.defs _ _).mono (fun r h c => ⟨(h c).1.trans ?_, (h c).2⟩) (Cert.ReferenceLastIdeal.Value.run m' g')
  obtain ⟨a0, a1, a2, a3, a4⟩ := hagree c
  rw [Cert.ReferenceLastIdeal.Read.val_main_v38_eq, a0, a1, a2, a3, a4]
  funext i
  obtain ⟨p, e, rfl⟩ : ∃ (p : Fin 16384) (e : Fin 4096), i = ix2 p e := ⟨i 0, i 1, eq_ix2 i⟩
  exact ref_at _ _ _ _ _ p e

end Cert.Last

end
-- ==== Proof.PosBlock.lean ====
/-
  What one grid point of the transform over positions leaves.

  The point multiplies four residues of the sequence by the cosine and the sine matrix, and interleaves the four products
  row by row in a scratch: product `rho` goes to the rows `rho, rho + 4, …`, in four chunks of 128 columns.  The block is
  then read back chunk by chunk.
-/
module

public import proofs.«01_k».proof.Proof.Gen.KernelPosIdeal.Value
public import Idealize.ShloMosaic.Lib.Pointwise
public import Idealize.ShloMosaic.Lib.Pipeline.ValueKit
public import Idealize.ShloMosaic.Lib.Pipeline.ValueKit.Tiles

@[expose] public section

set_option maxRecDepth 16384

noncomputable section

namespace Cert.Pos

open Idealize.ShloMosaic Idealize.ShloMosaic.TcCoe Idealize.ShloMosaic.Tactic
open Cert.KernelPosIdeal Cert.KernelPosIdeal.Gen

/-- Row `k`, column `d` of the transform of residue `rho`. -/
def residueAt (x0 x1 : Vec Ideal S1024x1024 .bf16) (x2 x3 : Vec Ideal S4x1024x512 .bf16) (rho : Fin 4) (k : Fin 1024) (d : Fin 512) : EReal :=
  (∑ n : Fin 1024, x0 (ix2 k n) * x2 (ix3 rho n d)) + ∑ n : Fin 1024, x1 (ix2 k n) * x3 (ix3 rho n d)

/-- The product of one residue, as the kernel computes it. -/
theorem product_at (x0 x1 : Vec Ideal S1024x1024 .bf16) (z w : Vec Ideal S1x1024x512 .bf16) (k : Fin 1024) (d : Fin 512) :
    k0_pay7 (F := Ideal) x0 x1 z w (ix2 k d)
      = (∑ n : Fin 1024, x0 (ix2 k n) * z (ix3 0 n d)) + ∑ n : Fin 1024, x1 (ix2 k n) * w (ix3 0 n d) := by
  unfold k0_pay7
  pointwise []

/-- A residue loaded from the block of four. -/
theorem residue_ld (z : Vec Ideal S4x1024x512 .bf16) (rho : Fin 4) (inb : ∀ a, (![(rho : ℕ), 0, 0] : Fin 3 → ℕ) a + S1x1024x512.size a ≤ S4x1024x512.size a)
    (n : Fin 1024) (d : Fin 512) :
    View.ld z (Rect.unit (s := S4x1024x512) ![(rho : ℕ), 0, 0] S1x1024x512.size inb) (ix3 0 n d) = z (ix3 rho n d) := by
  refine View.ld_unit_apply_of _ _ _ _ _ _ fun a => ?_
  match a with
  | 0 => rfl
  | 1 => exact (Nat.zero_add _).symm
  | 2 => exact (Nat.zero_add _).symm

/-- The scratch: chunk `c`, row `r`, lane `l` holds row `r / 4`, column `128 * c + l` of the transform of residue `r % 4`. -/
def interleaved (x0 x1 : Vec Ideal S1024x1024 .bf16) (x2 x3 : Vec Ideal S4x1024x512 .bf16) : Vec Ideal S4x4096x128 .f32 :=
  fun y =>
    have h0 : (y 0).val < 4 := (y 0).isLt
    have h1 : (y 1).val < 4096 := (y 1).isLt
    have h2 : (y 2).val < 128 := (y 2).isLt
    residueAt x0 x1 x2 x3 ⟨(y 1).val % 4, by omega⟩ ⟨(y 1).val / 4, by omega⟩ ⟨128 * (y 0).val + (y 2).val, by omega⟩

/-- Columns `128 * c …` of the product of residue `rho`, stored at every fourth row of chunk `c`, are the scratch's. -/
theorem chunk_piece (x0 x1 : Vec Ideal S1024x1024 .bf16) (x2 x3 : Vec Ideal S4x1024x512 .bf16) (c rho : Fin 4)
    (inb2 : ∀ a, (![(rho : ℕ), 0, 0] : Fin 3 → ℕ) a + S1x1024x512.size a ≤ S4x1024x512.size a)
    (off : ℕ) (hoff : off = 128 * c) (hs : S1024x512.Slices ![0, off] S1024x128)
    (inb : ∀ a, (![1, 1024, 128] : Fin 3 → ℕ) a = 0 ∨ (![(c : ℕ), (rho : ℕ), 0] : Fin 3 → ℕ) a + (![1, 4, 1] : Fin 3 → ℕ) a * ((![1, 1024, 128] : Fin 3 → ℕ) a - 1) < S4x4096x128.size a)
    (pos : ∀ a, 0 < (![1, 4, 1] : Fin 3 → ℕ) a) (x : S1x1024x128.Idx) :
    shapeCast S1x1024x128 (extractStridedSlice S1024x128 ![0, off]
        (k0_pay7 (F := Ideal) x0 x1 (View.ld x2 (Rect.unit (s := S4x1024x512) ![(rho : ℕ), 0, 0] S1x1024x512.size inb2))
          (View.ld x3 (Rect.unit (s := S4x1024x512) ![(rho : ℕ), 0, 0] S1x1024x512.size inb2))) hs) shapeCasts_S1024x128_S1x1024x128 x
      = interleaved x0 x1 x2 x3
          ((⟨⟨![(c : ℕ), (rho : ℕ), 0], ![1, 1024, 128], ![1, 4, 1], inb⟩, pos⟩ : Rect S4x4096x128).emb x) := by
  obtain ⟨u, p, l, rfl⟩ : ∃ (u : Fin 1) (p : Fin 1024) (l : Fin 128), x = ix3 u p l := ⟨x 0, x 1, x 2, eq_ix3 x⟩
  have hu : (u : ℕ) = 0 := by omega
  have hcol : 128 * (c : ℕ) + l < 512 := by omega
  refine (shapeCast_apply _ shapeCasts_S1024x128_S1x1024x128 (ix3 u p l) (ix2 p l) ?_).trans ?_
  · rewrite [Shape.rowMajor_val_two, Shape.rowMajor_val_three]
    show (p : ℕ) * 128 + l = ((u : ℕ) * 1024 + p) * 128 + l
    omega
  refine (extractStridedSlice_apply _ _ hs (ix2 p l) (ix2 p ⟨128 * (c : ℕ) + l, hcol⟩) fun a => ?_).trans ?_
  · match a with
    | 0 => exact (Nat.zero_add _).symm
    | 1 => exact congrArg (· + (l : ℕ)) hoff.symm
  rw [product_at]
  refine Eq.trans ?_ (show residueAt x0 x1 x2 x3 rho p ⟨128 * (c : ℕ) + l, hcol⟩ = _ from ?_)
  · exact congrArg₂ (fun a b : EReal => a + b)
      (Finset.sum_congr rfl fun n _ => congrArg (fun b : EReal => x0 (ix2 p n) * b) (residue_ld x2 rho inb2 n _))
      (Finset.sum_congr rfl fun n _ => congrArg (fun b : EReal => x1 (ix2 p n) * b) (residue_ld x3 rho inb2 n _))
  unfold interleaved
  have e0 : rho.val = ((rho : ℕ) + 4 * p) % 4 := by omega
  have e1 : p.val = ((rho : ℕ) + 4 * p) / 4 := by omega
  have e2 : 128 * (c : ℕ) + l = 128 * ((c : ℕ) + 1 * u) + (0 + 1 * l) := by omega
  exact congr (congr (congrArg (residueAt x0 x1 x2 x3) (Fin.ext e0)) (Fin.ext e1)) (Fin.ext e2)

/-- Chunk `c` and residue `rho` of the scratch are the piece stored there. -/
theorem mem_chunk (c rho : ℕ)
    (inb : ∀ a, (![1, 1024, 128] : Fin 3 → ℕ) a = 0 ∨ (![c, rho, 0] : Fin 3 → ℕ) a + (![1, 4, 1] : Fin 3 → ℕ) a * ((![1, 1024, 128] : Fin 3 → ℕ) a - 1) < S4x4096x128.size a)
    (pos : ∀ a, 0 < (![1, 4, 1] : Fin 3 → ℕ) a) (y : S4x4096x128.Idx) (h0 : (y 0).val = c) (h1 : (y 1).val % 4 = rho) :
    y ∈ (⟨⟨![c, rho, 0], ![1, 1024, 128], ![1, 4, 1], inb⟩, pos⟩ : Rect S4x4096x128).set := by
  have hy1 : (y 1).val < 4096 := (y 1).isLt
  have hy2 : (y 2).val < 128 := (y 2).isLt
  refine (LoadRect.mem_set _).mpr fun a => ?_
  match a with
  | 0 => exact ⟨0, Nat.one_pos, h0⟩
  | 1 => exact ⟨(y 1).val / 4, (by omega : (y 1).val / 4 < 1024), (by omega : (y 1).val = rho + 4 * ((y 1).val / 4))⟩
  | 2 => exact ⟨(y 2).val, hy2, (by omega : (y 2).val = 0 + 1 * (y 2).val)⟩

/-! ## The block -/

/-- The output block: row `r`, column `d` holds row `r / 4`, column `d` of the transform of residue `r % 4`. -/
def blockAt (x0 x1 : Vec Ideal S1024x1024 .bf16) (x2 x3 : Vec Ideal S4x1024x512 .bf16) : Vec Ideal S4096x512 .bf16 :=
  fun y =>
    have h0 : (y 0).val < 4096 := (y 0).isLt
    residueAt x0 x1 x2 x3 ⟨(y 0).val % 4, by omega⟩ ⟨(y 0).val / 4, by omega⟩ (y 1)

/-- A chunk read back from the scratch is its columns of the block. -/
theorem chunk_read (x0 x1 : Vec Ideal S1024x1024 .bf16) (x2 x3 : Vec Ideal S4x1024x512 .bf16) (v : View sig .tc .vmem S4x4096x128 .f32)
    (L : List (View.Piece (Elt Ideal) S4x4096x128 .f32)) (hL : ∀ p ∈ L, ∀ x, p.2 x = interleaved x0 x1 x2 x3 (p.1.emb x))
    (hc : ∀ y, ∃ p ∈ L, y ∈ p.1.set) (c : ℕ) (hc4 : c < 4) (inb : ∀ a, (![c, 0, 0] : Fin 3 → ℕ) a + S1x4096x128.size a ≤ S4x4096x128.size a)
    (off : ℕ) (hoff : off = 128 * c) (inb' : ∀ a, (![0, off] : Fin 2 → ℕ) a + S4096x128.size a ≤ S4096x512.size a) (x : S4096x128.Idx) :
    truncf (F := Ideal) .bf16 (shapeCast S4096x128 (v.readCov L (Rect.unit (s := S4x4096x128) ![c, 0, 0] S1x4096x128.size inb).toLoadRect)
        shapeCasts_S1x4096x128_S4096x128) bitsLt_bf16_f32 x
      = blockAt x0 x1 x2 x3 ((Rect.unit (s := S4096x512) ![0, off] S4096x128.size inb').emb x) := by
  obtain ⟨r, l, rfl⟩ : ∃ (r : Fin 4096) (l : Fin 128), x = ix2 r l := ⟨x 0, x 1, eq_ix2 x⟩
  show shapeCast S4096x128 (v.readCov L (Rect.unit (s := S4x4096x128) ![c, 0, 0] S1x4096x128.size inb).toLoadRect)
    shapeCasts_S1x4096x128_S4096x128 (ix2 r l) = _
  refine (shapeCast_apply _ shapeCasts_S1x4096x128_S4096x128 (ix2 r l) (ix3 0 r l) ?_).trans ?_
  · rewrite [Shape.rowMajor_val_two, Shape.rowMajor_val_three]
    show (0 * 4096 + (r : ℕ)) * 128 + l = (r : ℕ) * 128 + l
    omega
  rw [View.readCov_eq_canon']
  refine (View.canon_apply_of_pieces (interleaved x0 x1 x2 x3) L hL _ (hc _)).trans ?_
  unfold interleaved blockAt
  have hcol : 128 * c + (l : ℕ) < 512 := by omega
  have e0 : (0 + 1 * (r : ℕ)) = r := by omega
  have e2 : 128 * (c + 1 * 0) + (0 + 1 * (l : ℕ)) = off + 1 * l := by omega
  exact congrArg (residueAt x0 x1 x2 x3 _ _) (Fin.ext e2)

/-- The four chunks, read back and stored side by side, are the block. -/
theorem block_of (x0 x1 : Vec Ideal S1024x1024 .bf16) (x2 x3 : Vec Ideal S4x1024x512 .bf16) (v : View sig .tc .vmem S4x4096x128 .f32)
    (L : List (View.Piece (Elt Ideal) S4x4096x128 .f32)) (hL : ∀ p ∈ L, ∀ x, p.2 x = interleaved x0 x1 x2 x3 (p.1.emb x))
    (hc : ∀ y, ∃ p ∈ L, y ∈ p.1.set) (y : S4096x512.Idx) :
    View.canon
        [(⟨Rect.unit (s := S4096x512) ![0, 384] S4096x128.size inb_S4096x512_S4096x128_0_384,
            k0_pay6 (F := Ideal) (v.readCov L (Rect.unit (s := S4x4096x128) ![3, 0, 0] S1x4096x128.size inb_S4x4096x128_S1x4096x128_3_0_0).toLoadRect)⟩ : View.Piece (Elt Ideal) S4096x512 .bf16),
          ⟨Rect.unit (s := S4096x512) ![0, 256] S4096x128.size inb_S4096x512_S4096x128_0_256,
            k0_pay5 (F := Ideal) (v.readCov L (Rect.unit (s := S4x4096x128) ![2, 0, 0] S1x4096x128.size inb_S4x4096x128_S1x4096x128_2_0_0).toLoadRect)⟩,
          ⟨Rect.unit (s := S4096x512) ![0, 128] S4096x128.size inb_S4096x512_S4096x128_0_128,
            k0_pay4 (F := Ideal) (v.readCov L (Rect.unit (s := S4x4096x128) ![1, 0, 0] S1x4096x128.size inb_S4x4096x128_S1x4096x128_1_0_0).toLoadRect)⟩,
          ⟨Rect.unit (s := S4096x512) ![0, 0] S4096x128.size inb_S4096x512_S4096x128_0_0,
            k0_pay3 (F := Ideal) (v.readCov L (Rect.unit (s := S4x4096x128) ![0, 0, 0] S1x4096x128.size inb_S4x4096x128_S1x4096x128_0_0_0).toLoadRect)⟩]
        y = blockAt x0 x1 x2 x3 y := by
  refine View.canon_apply_of_pieces (blockAt x0 x1 x2 x3) _ ?_ y ?_
  · simp only [List.forall_mem_cons]
    refine ⟨?_, ?_, ?_, ?_, fun p hp => absurd hp List.not_mem_nil⟩
    · exact chunk_read x0 x1 x2 x3 v L hL hc 3 (by omega) _ 384 rfl _
    · exact chunk_read x0 x1 x2 x3 v L hL hc 2 (by omega) _ 256 rfl _
    · exact chunk_read x0 x1 x2 x3 v L hL hc 1 (by omega) _ 128 rfl _
    · exact chunk_read x0 x1 x2 x3 v L hL hc 0 (by omega) _ 0 rfl _
  · have hy0 : (y 0).val < 4096 := (y 0).isLt
    have hy1 : (y 1).val < 512 := (y 1).isLt
    have mem : ∀ (off : ℕ) (inb : ∀ a, (![0, off] : Fin 2 → ℕ) a + S4096x128.size a ≤ S4096x512.size a), off ≤ (y 1).val → (y 1).val < off + 128 →
        y ∈ (Rect.unit (s := S4096x512) ![0, off] S4096x128.size inb).set := fun off inb h h' => by
      refine (LoadRect.mem_set _).mpr fun a => ?_
      match a with
      | 0 => exact ⟨(y 0).val, hy0, (by omega : (y 0).val = 0 + 1 * (y 0).val)⟩
      | 1 => exact ⟨(y 1).val - off, (by omega : (y 1).val - off < 128), (by omega : (y 1).val = off + 1 * ((y 1).val - off))⟩
    simp only [List.exists_mem_cons_iff]
    by_cases h3 : 384 ≤ (y 1).val
    · exact .inl (mem _ _ h3 (by omega))
    by_cases h2 : 256 ≤ (y 1).val
    · exact .inr (.inl (mem _ _ h2 (by omega)))
    by_cases h1 : 128 ≤ (y 1).val
    · exact .inr (.inr (.inl (mem _ _ h1 (by omega))))
    · exact .inr (.inr (.inr (.inl (mem _ _ (Nat.zero_le _) (by omega)))))

section
variable (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S4x1024x512 .bf16) (harg4 : arg4.IsWhole) (arg5 : Memref sig .tc .vmem S4x1024x512 .bf16) (harg5 : arg5.IsWhole) (arg6 : Memref sig .tc .vmem S4096x512 .bf16) (harg6 : arg6.IsWhole) (arg7 : Memref sig .tc .vmem S4x4096x128 .f32) (harg7 : arg7.IsWhole)

/-- THE OUTPUT BLOCK of a grid point, from the staged blocks. -/
theorem out_at (x0 x1 : Vec Ideal S1024x1024 .bf16) (x2 x3 : Vec Ideal S4x1024x512 .bf16) (y : S4096x512.Idx) :
    out0_A_4 (F := Ideal) c i arg2 harg2 arg3 harg3 arg4 harg4 arg5 harg5 arg6 harg6 arg7 harg7 x0 x1 x2 x3 y = blockAt x0 x1 x2 x3 y := by
  frame_out
  refine block_of x0 x1 x2 x3 _ _ ?_ (fun z => ?_) y
  · simp only [List.forall_mem_cons]
    refine ⟨?_, ?_, ?_, ?_, ?_, ?_, ?_, ?_, ?_, ?_, ?_, ?_, ?_, ?_, ?_, ?_, fun p hp => absurd hp List.not_mem_nil⟩
    · exact chunk_piece x0 x1 x2 x3 3 3 _ 384 rfl slices_S1024x512_o0_384_S1024x128 _ spos_1_4_1
    · exact chunk_piece x0 x1 x2 x3 2 3 _ 256 rfl slices_S1024x512_o0_256_S1024x128 _ spos_1_4_1
    · exact chunk_piece x0 x1 x2 x3 1 3 _ 128 rfl slices_S1024x512_o0_128_S1024x128 _ spos_1_4_1
    · exact chunk_piece x0 x1 x2 x3 0 3 _ 0 rfl slices_S1024x512_o0_0_S1024x128 _ spos_1_4_1
    · exact chunk_piece x0 x1 x2 x3 3 2 _ 384 rfl slices_S1024x512_o0_384_S1024x128 _ spos_1_4_1
    · exact chunk_piece x0 x1 x2 x3 2 2 _ 256 rfl slices_S1024x512_o0_256_S1024x128 _ spos_1_4_1
    · exact chunk_piece x0 x1 x2 x3 1 2 _ 128 rfl slices_S1024x512_o0_128_S1024x128 _ spos_1_4_1
    · exact chunk_piece x0 x1 x2 x3 0 2 _ 0 rfl slices_S1024x512_o0_0_S1024x128 _ spos_1_4_1
    · exact chunk_piece x0 x1 x2 x3 3 1 _ 384 rfl slices_S1024x512_o0_384_S1024x128 _ spos_1_4_1
    · exact chunk_piece x0 x1 x2 x3 2 1 _ 256 rfl slices_S1024x512_o0_256_S1024x128 _ spos_1_4_1
    · exact chunk_piece x0 x1 x2 x3 1 1 _ 128 rfl slices_S1024x512_o0_128_S1024x128 _ spos_1_4_1
    · exact chunk_piece x0 x1 x2 x3 0 1 _ 0 rfl slices_S1024x512_o0_0_S1024x128 _ spos_1_4_1
    · exact chunk_piece x0 x1 x2 x3 3 0 _ 384 rfl slices_S1024x512_o0_384_S1024x128 _ spos_1_4_1
    · exact chunk_piece x0 x1 x2 x3 2 0 _ 256 rfl slices_S1024x512_o0_256_S1024x128 _ spos_1_4_1
    · exact chunk_piece x0 x1 x2 x3 1 0 _ 128 rfl slices_S1024x512_o0_128_S1024x128 _ spos_1_4_1
    · exact chunk_piece x0 x1 x2 x3 0 0 _ 0 rfl slices_S1024x512_o0_0_S1024x128 _ spos_1_4_1
  · have h0 : (z 0).val < 4 := (z 0).isLt
    simp only [List.exists_mem_cons_iff]
    rcases (by omega : (z 0).val = 0 ∨ (z 0).val = 1 ∨ (z 0).val = 2 ∨ (z 0).val = 3) with h | h | h | h <;>
      rcases (by omega : (z 1).val % 4 = 0 ∨ (z 1).val % 4 = 1 ∨ (z 1).val % 4 = 2 ∨ (z 1).val % 4 = 3) with k | k | k | k <;>
      repeat (first | exact Or.inl (mem_chunk _ _ _ spos_1_4_1 z h k) | refine Or.inr ?_)

end

end Cert.Pos

end
-- ==== Proof.PosClaim.lean ====
/-
  The transform over positions: the frames, and the equality of the results.

  Grid point `(b, j)` writes the rows of sequence `b` and columns `512 * j …`; the blocks cover the array.
-/
module

public import proofs.«01_k».proof.Defs
public import proofs.«01_k».proof.Proof.PosBlock
public import proofs.«01_k».proof.Proof.Gen.KernelPos
public import proofs.«01_k».proof.Proof.Gen.KernelPos.Frame
public import proofs.«01_k».proof.Proof.Gen.KernelPosIdeal
public import proofs.«01_k».proof.Proof.Gen.ReferencePosIdeal.Run
public import proofs.«01_k».proof.Proof.Gen.ReferencePosIdeal.Read
public import Idealize.ShloMosaic.Lib.Quiescent

@[expose] public section

set_option maxRecDepth 16384

noncomputable section

namespace Cert.Pos

open Idealize.ShloMosaic Idealize.ShloMosaic.TcCoe Idealize.SL.Sem

/-- The transform's kernel, on machine words, runs and keeps its arguments. -/
theorem frame_word : Cert.quiescent_KernelPos := fun m ρ _ => Cert.KernelPos.Gen.frame m ρ

/-- The same over the extended reals. -/
theorem frame_ideal : Cert.quiescent_KernelPosIdeal := fun m ρ _ => Cert.KernelPosIdeal.Gen.frame m ρ

/-- The reference runs and keeps its arguments. -/
theorem frame_ref : Cert.quiescent_ReferencePosIdeal := fun m ρ _ =>
  (θ_run Cert.ReferencePosIdeal.defs _ _).mono
    (fun r h => ⟨fun c => (h c).2, sem_eq_zero_of_no_sems (by decide) r.2⟩) (Cert.ReferencePosIdeal.Value.run m ρ)

/-- The result at row `r` (position `r % 4096` of sequence `r / 4096`), channel `e`: the cosine matrix's row times the real part of
    the residue `r % 4` plus the sine matrix's row times its imaginary part. -/
def posAt (cm sm : (⟨2, ![1024, 1024]⟩ : Shape).Idx → EReal) (zr zi : (⟨3, ![4, 4096, 4096]⟩ : Shape).Idx → EReal) (r : Fin 16384) (e : Fin 4096) : EReal :=
  (∑ n : Fin 1024, cm (ix2 ⟨r % 4096 / 4, by omega⟩ n) * zr (ix3 ⟨r % 4, by omega⟩ ⟨r / 4096 * 1024 + n, by omega⟩ e))
    + ∑ n : Fin 1024, sm (ix2 ⟨r % 4096 / 4, by omega⟩ n) * zi (ix3 ⟨r % 4, by omega⟩ ⟨r / 4096 * 1024 + n, by omega⟩ e)

section
open Cert.KernelPosIdeal Cert.KernelPosIdeal.Gen

variable (m : (ℓ : Loc nD τ sig) → Buf (Elt Ideal) ℓ)

theorem index_c : ∀ t : Fin cfg0.N, win0_0.index t = ![0, 0] := (by decide +kernel : ∀ t : Fin grid0.N, _)
theorem index_s : ∀ t : Fin cfg0.N, win0_1.index t = ![0, 0] := (by decide +kernel : ∀ t : Fin grid0.N, _)
theorem index_zr : ∀ t : Fin cfg0.N, win0_2.index t = ![0, (grid0.coords t 0).val, (grid0.coords t 1).val] :=
  (by decide +kernel : ∀ t : Fin grid0.N, _)
theorem index_zi : ∀ t : Fin cfg0.N, win0_3.index t = ![0, (grid0.coords t 0).val, (grid0.coords t 1).val] :=
  (by decide +kernel : ∀ t : Fin grid0.N, _)
theorem index_y : ∀ t : Fin cfg0.N, win0_4.index t = ![(grid0.coords t 0).val, (grid0.coords t 1).val] :=
  (by decide +kernel : ∀ t : Fin grid0.N, _)

/-- The sequence and the column tile of a grid point. -/
abbrev pB (t : Fin cfg0.N) : Fin 4 := grid0.coords t 0
abbrev pJ (t : Fin cfg0.N) : Fin 8 := grid0.coords t 1

theorem c_at (c : Dev nD) (t : Fin cfg0.N) (k n : Fin 1024) :
    iblk m c 0 t (ix2 k n) = m ((c : Thread nD τ).loc main_arg0) (ix2 k n) := by
  blk_simp [iblk]
  refine (congrFun (V_main_arg0 m c) _).trans (congrArg (m ((c : Thread nD τ).loc main_arg0)) ?_)
  blk_ext [index_c]

theorem s_at (c : Dev nD) (t : Fin cfg0.N) (k n : Fin 1024) :
    iblk m c 1 t (ix2 k n) = m ((c : Thread nD τ).loc main_arg1) (ix2 k n) := by
  blk_simp [iblk]
  refine (congrFun (V_main_arg1 m c) _).trans (congrArg (m ((c : Thread nD τ).loc main_arg1)) ?_)
  blk_ext [index_s]

theorem zr_at (c : Dev nD) (t : Fin cfg0.N) (rho : Fin 4) (n : Fin 1024) (d : Fin 512) :
    iblk m c 2 t (ix3 rho n d)
      = m ((c : Thread nD τ).loc main_arg2) (ix3 rho ⟨(pB t) * 1024 + n, by omega⟩ ⟨(pJ t) * 512 + d, by omega⟩) := by
  blk_simp [iblk]
  refine (congrFun (V_main_arg2 m c) _).trans (congrArg (m ((c : Thread nD τ).loc main_arg2)) ?_)
  blk_ext [index_zr] <;> simp only [pB, pJ] <;> omega

theorem zi_at (c : Dev nD) (t : Fin cfg0.N) (rho : Fin 4) (n : Fin 1024) (d : Fin 512) :
    iblk m c 3 t (ix3 rho n d)
      = m ((c : Thread nD τ).loc main_arg3) (ix3 rho ⟨(pB t) * 1024 + n, by omega⟩ ⟨(pJ t) * 512 + d, by omega⟩) := by
  blk_simp [iblk]
  refine (congrFun (V_main_arg3 m c) _).trans (congrArg (m ((c : Thread nD τ).loc main_arg3)) ?_)
  blk_ext [index_zi] <;> simp only [pB, pJ] <;> omega

/-- The block of point `t` holds the result's elements at its place in the array. -/
theorem block_pos (c : Dev nD) (t : Fin cfg0.N) (y : S4096x512.Idx) (r : Fin 16384) (e : Fin 4096)
    (hr : (r : ℕ) = (pB t) * 4096 + (y 0).val) (he : (e : ℕ) = (pJ t) * 512 + (y 1).val) :
    blockAt (iblk m c 0 t) (iblk m c 1 t) (iblk m c 2 t) (iblk m c 3 t) y
      = posAt (m ((c : Thread nD τ).loc main_arg0)) (m ((c : Thread nD τ).loc main_arg1)) (m ((c : Thread nD τ).loc main_arg2))
          (m ((c : Thread nD τ).loc main_arg3)) r e := by
  have hy0 : (y 0).val < 4096 := (y 0).isLt
  have hy1 : (y 1).val < 512 := (y 1).isLt
  have hb : (pB t).val < 4 := (pB t).isLt
  have hj : (pJ t).val < 8 := (pJ t).isLt
  unfold blockAt residueAt posAt
  have e1 : ∀ n : Fin 1024, (pB t).val * 1024 + (n : ℕ) = r / 4096 * 1024 + n := fun n => by omega
  have e2 : (pJ t).val * 512 + (y 1).val = e := by omega
  have e3 : (y 0).val / 4 = r % 4096 / 4 := by omega
  have e4 : (y 0).val % 4 = r % 4 := by omega
  refine congrArg₂ (fun a b : EReal => a + b) (Finset.sum_congr rfl fun n _ => ?_) (Finset.sum_congr rfl fun n _ => ?_)
  · rw [c_at]
    refine congrArg₂ (fun a b : EReal => a * b) (congrArg (m ((c : Thread nD τ).loc main_arg0)) (congrArg (fun k => ix2 k n) (Fin.ext e3)))
      ((zr_at m c t _ n (y 1)).trans (congrArg (m ((c : Thread nD τ).loc main_arg2)) ?_))
    exact congr (congr (congrArg ix3 (Fin.ext e4)) (Fin.ext (e1 n))) (Fin.ext e2)
  · rw [s_at]
    refine congrArg₂ (fun a b : EReal => a * b) (congrArg (m ((c : Thread nD τ).loc main_arg1)) (congrArg (fun k => ix2 k n) (Fin.ext e3)))
      ((zi_at m c t _ n (y 1)).trans (congrArg (m ((c : Thread nD τ).loc main_arg3)) ?_))
    exact congr (congr (congrArg ix3 (Fin.ext e4)) (Fin.ext (e1 n))) (Fin.ext e2)

/-- THE RESULT ARRAY after the run. -/
theorem array_eq (c : Dev nD) :
    (dats m 0 c).arrAt 4 cfg0.N = fun i : S16384x4096.Idx =>
      posAt (m ((c : Thread nD τ).loc main_arg0)) (m ((c : Thread nD τ).loc main_arg1)) (m ((c : Thread nD τ).loc main_arg2))
        (m ((c : Thread nD τ).loc main_arg3)) (i 0) (i 1) := by
  refine (dats m 0 c).arrAt_eq_of_covers 4 _ (by decide +kernel) fun t hf y => ?_
  blk_simp
  rw [after0_4, outsAt0, out_at]
  exact block_pos m c t y _ _ (by blk_simp [index_y]) (by blk_simp [index_y])

end

section
open Cert.ReferencePosIdeal Cert.ReferencePosIdeal.Read

variable (cm sm : (⟨S1024x1024, .bf16⟩ : BufTy).Contents (Elt Ideal)) (zr zi : (⟨S4x4096x4096, .bf16⟩ : BufTy).Contents (Elt Ideal))

/-- The product with the cosine matrix, before the rows are put in order. -/
theorem real_at (r : Fin 16384) (e : Fin 4096) (i : S4x4x4096x1024.Idx) (h0 : (i 0).val = r % 4) (h1 : (i 1).val = r / 4096)
    (h2 : (i 2).val = e) (h3 : (i 3).val = r % 4096 / 4) :
    val_main_v5 (F := Ideal) cm zr i
      = ∑ n : Fin 1024, cm (ix2 ⟨r % 4096 / 4, by omega⟩ n) * zr (ix3 ⟨r % 4, by omega⟩ ⟨r / 4096 * 1024 + n, by omega⟩ e) := by
  rw [val_main_v5_apply]
  refine Finset.sum_congr rfl fun n _ => ?_
  rw [mul_comm, val_main_v4_apply, val_main_v1_apply, val_main_v0_apply]
  have hr : (r : ℕ) < 16384 := r.isLt
  have he : (e : ℕ) < 4096 := e.isLt
  refine congrArg₂ (fun a b : EReal => a * b) (congrArg cm (funext fun a => ?_)) (congrArg zr (funext fun a => ?_))
  · match a with
    | 0 => exact Fin.ext h3
    | 1 => rfl
  · have hlin : (((i 0).val * 4 + (i 1).val) * 1024 + (n : ℕ)) * 4096 + (i 2).val = ((r % 4 * 4 + r / 4096) * 1024 + (n : ℕ)) * 4096 + e := by
      rw [h0, h1, h2]
    match a with
    | 0 => exact Fin.ext ((congrArg (· / 16777216) hlin).trans (by omega : _ = (r : ℕ) % 4))
    | 1 => exact Fin.ext ((congrArg (· / 4096 % 4096) hlin).trans (by omega : _ = (r : ℕ) / 4096 * 1024 + n))
    | 2 => exact Fin.ext ((congrArg (· % 4096) hlin).trans (by omega : _ = (e : ℕ)))

/-- The product with the sine matrix, before the rows are put in order. -/
theorem imag_at (r : Fin 16384) (e : Fin 4096) (i : S4x4x4096x1024.Idx) (h0 : (i 0).val = r % 4) (h1 : (i 1).val = r / 4096)
    (h2 : (i 2).val = e) (h3 : (i 3).val = r % 4096 / 4) :
    val_main_v8 (F := Ideal) sm zi i
      = ∑ n : Fin 1024, sm (ix2 ⟨r % 4096 / 4, by omega⟩ n) * zi (ix3 ⟨r % 4, by omega⟩ ⟨r / 4096 * 1024 + n, by omega⟩ e) :=
  real_at sm zi r e i h0 h1 h2 h3

/-- The reference's result at an element. -/
theorem ref_at (r : Fin 16384) (e : Fin 4096) :
    val_main_v12 (F := Ideal) cm sm zr zi (ix2 r e) = posAt cm sm zr zi r e := by
  have hr : (r : ℕ) < 16384 := r.isLt
  have he : (e : ℕ) < 4096 := e.isLt
  rw [val_main_v12_apply, val_main_v11_apply, val_main_v10_apply, val_main_v6_apply, val_main_v9_apply]
  have g0 : ((r : ℕ) * 4096 + e) / 4096 % 4 = r % 4 := by omega
  have g1 : ((r : ℕ) * 4096 + e) / 16777216 = r / 4096 := by omega
  have g2 : ((r : ℕ) * 4096 + e) % 4096 = e := by omega
  have g3 : ((r : ℕ) * 4096 + e) / 16384 % 1024 = r % 4096 / 4 := by omega
  exact congrArg₂ (fun a b : EReal => a + b) (real_at cm zr r e _ g0 g1 g2 g3) (imag_at sm zi r e _ g0 g1 g2 g3)

end

/-- THE VALUES: over the extended reals the kernel and the reference end with the same result. -/
theorem values : Cert.algebraic_KernelPosIdeal_ReferencePosIdeal := fun m g m' g' hpre hagree => by
  refine ⟨_, Cert.KernelPosIdeal.Value.run_blocks m g, ?_⟩
  refine (θ_run Cert.ReferencePosIdeal.defs _ _).mono (fun r h c => ⟨(h c).1.trans ?_, (h c).2⟩) (Cert.ReferencePosIdeal.Value.run m' g')
  obtain ⟨a0, a1, a2, a3⟩ := hagree c
  rw [Cert.ReferencePosIdeal.Read.val_main_v12_eq, a0, a1, a2, a3, array_eq]
  funext i
  obtain ⟨p, e, rfl⟩ : ∃ (p : Fin 16384) (e : Fin 4096), i = ix2 p e := ⟨i 0, i 1, eq_ix2 i⟩
  exact ref_at _ _ _ _ p e

end Cert.Pos

end
-- ==== Proof.ChanPay.lean ====
/-
  The transform over channels: what the kernel stores, read at an element.

  Four quarters of a sequence are normalised and combined (their sum, their alternating sum, and two differences); each
  combination is multiplied by the table of cosines and sines, and the products are put together into the four residues.
-/
module

public import proofs.«01_k».proof.Proof.QkvSpec
public import proofs.«01_k».proof.Proof.Gen.KernelChanIdeal.Skeleton
public import Idealize.ShloMosaic.Lib.Pointwise

@[expose] public section

set_option maxRecDepth 16384

noncomputable section

namespace Cert.Chan

open Idealize.ShloMosaic Idealize.ShloMosaic.TcCoe

/-- Entry `k` of row `p` of some rows, normalised. -/
def normAt {n : ℕ} (x : (⟨2, ![n, 4096]⟩ : Shape).Idx → EReal) (g : (⟨2, ![1, 4096]⟩ : Shape).Idx → EReal) (p : Fin n) (k : Fin 4096) : EReal :=
  Ffn.scaled (fun j => x (ix2 p j)) (fun j => g (ix2 0 j)) k

/-- Entries of a group of 512 channels times column `j` of the table. -/
def colAt (z : Fin 512 → EReal) (cs : (⟨2, ![512, 1024]⟩ : Shape).Idx → EReal) (j : Fin 1024) : EReal := ∑ k : Fin 512, z k * cs (ix2 k j)

/-- The cosine and the sine column of a frequency. -/
abbrev cosCol (f : Fin 512) : Fin 1024 := ⟨f, by omega⟩
abbrev sinCol (f : Fin 512) : Fin 1024 := ⟨512 + f, by omega⟩

/-- The real parts before the twiddles, from the products of the sum, the alternating sum and the two differences. -/
def mixRe (s a c d : Fin 1024 → EReal) (rho : Fin 4) (f : Fin 512) : EReal :=
  ![s (cosCol f), c (cosCol f) - d (sinCol f), a (cosCol f), c (cosCol f) + d (sinCol f)] rho

/-- The imaginary parts. -/
def mixIm (s a c d : Fin 1024 → EReal) (rho : Fin 4) (f : Fin 512) : EReal :=
  ![0 - s (sinCol f), 0 - (c (sinCol f) + d (cosCol f)), 0 - a (sinCol f), d (cosCol f) - c (sinCol f)] rho

/-- The twiddled real part: residue 0 as it is, the others turned by their cosine and sine. -/
def turnRe (u v : Fin 4 → EReal) (t : Fin 8 → EReal) (rho : Fin 4) : EReal :=
  ![u 0, u 1 * t 0 + v 1 * t 1, u 2 * t 2 + v 2 * t 3, u 3 * t 4 + v 3 * t 5] rho

/-- The twiddled imaginary part. -/
def turnIm (u v : Fin 4 → EReal) (t : Fin 8 → EReal) (rho : Fin 4) : EReal :=
  ![v 0, v 1 * t 0 - u 1 * t 1, v 2 * t 2 - u 2 * t 3, v 3 * t 4 - u 3 * t 5] rho

open Cert.KernelChanIdeal Cert.KernelChanIdeal.Gen

/-! ## The four combinations of sixteen rows -/

section
variable (g : Vec Ideal S1x4096 .f32) (z0 z1 z2 z3 : Vec Ideal S16x4096 .f32) (p : Fin 16) (k : Fin 4096)

theorem pay6_at : k0_pay6 (F := Ideal) g z0 (ix2 p k) = normAt z0 g p k := by
  unfold k0_pay6 normAt Ffn.scaled
  pointwise []
theorem pay7_at : k0_pay7 (F := Ideal) g z0 (ix2 p k) = normAt z0 g p k := pay6_at g z0 p k
theorem pay8_at : k0_pay8 (F := Ideal) g z0 (ix2 p k) = normAt z0 g p k := pay6_at g z0 p k
theorem pay9_at : k0_pay9 (F := Ideal) g z0 (ix2 p k) = normAt z0 g p k := pay6_at g z0 p k

theorem sum_at : k0_pay12 (F := Ideal) g (k0_pay6 (F := Ideal) g z0) (k0_pay7 (F := Ideal) g z1) (k0_pay8 (F := Ideal) g z2) z3 (ix2 p k)
    = (normAt z0 g p k + normAt z2 g p k) + (normAt z1 g p k + normAt z3 g p k) := by
  rw [← pay6_at g z0, ← pay7_at g z1, ← pay8_at g z2, ← pay9_at g z3]
  unfold k0_pay12 k0_pay11 k0_pay10
  pointwise []
theorem alt_at : k0_pay13 (F := Ideal) g (k0_pay6 (F := Ideal) g z0) (k0_pay7 (F := Ideal) g z1) (k0_pay8 (F := Ideal) g z2) z3 (ix2 p k)
    = (normAt z0 g p k + normAt z2 g p k) - (normAt z1 g p k + normAt z3 g p k) := by
  rw [← pay6_at g z0, ← pay7_at g z1, ← pay8_at g z2, ← pay9_at g z3]
  unfold k0_pay13 k0_pay11 k0_pay10
  pointwise []
theorem even_at : k0_pay14 (F := Ideal) (k0_pay6 (F := Ideal) g z0) (k0_pay8 (F := Ideal) g z2) (ix2 p k) = normAt z0 g p k - normAt z2 g p k := by
  rw [← pay6_at g z0, ← pay8_at g z2]
  unfold k0_pay14
  pointwise []
theorem odd_at : k0_pay15 (F := Ideal) g (k0_pay7 (F := Ideal) g z1) z3 (ix2 p k) = normAt z1 g p k - normAt z3 g p k := by
  rw [← pay7_at g z1, ← pay9_at g z3]
  unfold k0_pay15
  pointwise []

end

/-! ## The eight blocks of a group of channels -/

/-- A combination times the table. -/
theorem pay16_at (cs : Vec Ideal S512x1024 .bf16) (v : Vec Ideal S128x512 .bf16) (p : Fin 128) (j : Fin 1024) :
    k0_pay16 (F := Ideal) cs v (ix2 p j) = colAt (fun k => v (ix2 p k)) cs j := by
  unfold k0_pay16 colAt
  pointwise []

/-- The halves of a product: the cosine columns and the sine columns. -/
def lo (P : FVec Ideal S128x1024 .f32) : FVec Ideal S128x512 .f32 := extractStridedSlice S128x512 ![0, 0] P slices_S128x1024_o0_0_S128x512
def hi (P : FVec Ideal S128x1024 .f32) : FVec Ideal S128x512 .f32 := extractStridedSlice S128x512 ![0, 512] P slices_S128x1024_o0_512_S128x512
/-- Zero minus a block. -/
def opp (v : FVec Ideal S128x512 .f32) : FVec Ideal S128x512 .f32 := subf (broadcast S128x512 (Scalar.ofBits .f32 0x00000000#32)) v
/-- A column of the twiddles along the rows. -/
def col (tw : Vec Ideal S128x8 .f32) (o : ℕ) (hs : Shape.Slices S128x8 ![0, o] S128x1) : FVec Ideal S128x512 .f32 :=
  broadcastTo S128x512 (extractStridedSlice S128x1 ![0, o] tw hs) broadcasts_S128x1_S128x512
/-- A block as it is stored. -/
def stored (v : FVec Ideal S128x512 .f32) : FVec Ideal S1x128x512 .bf16 :=
  shapeCast S1x128x512 (truncf .bf16 v bitsLt_bf16_f32) shapeCasts_S128x512_S1x128x512

theorem lo_at (P : FVec Ideal S128x1024 .f32) (p : Fin 128) (f : Fin 512) : lo P (ix2 p f) = P (ix2 p (cosCol f)) := by
  refine extractStridedSlice_apply _ _ slices_S128x1024_o0_0_S128x512 (ix2 p f) (ix2 p (cosCol f)) fun a => ?_
  match a with
  | 0 => exact (Nat.zero_add _).symm
  | 1 => exact (Nat.zero_add _).symm
theorem hi_at (P : FVec Ideal S128x1024 .f32) (p : Fin 128) (f : Fin 512) : hi P (ix2 p f) = P (ix2 p (sinCol f)) := by
  refine extractStridedSlice_apply _ _ slices_S128x1024_o0_512_S128x512 (ix2 p f) (ix2 p (sinCol f)) fun a => ?_
  match a with
  | 0 => exact (Nat.zero_add _).symm
  | 1 => rfl
theorem opp_at (v : FVec Ideal S128x512 .f32) (p : Fin 128) (f : Fin 512) : opp v (ix2 p f) = 0 - v (ix2 p f) := by
  unfold opp
  pointwise []
theorem col_at (tw : Vec Ideal S128x8 .f32) (o : Fin 8) (hs : Shape.Slices S128x8 ![0, (o : ℕ)] S128x1) (p : Fin 128) (f : Fin 512) :
    col tw o hs (ix2 p f) = tw (ix2 p o) := by
  unfold col
  refine Eq.trans (by pointwise []) (extractStridedSlice_apply _ _ hs (ix2 p 0) (ix2 p o) fun a => ?_)
  match a with
  | 0 => exact (Nat.zero_add _).symm
  | 1 => rfl
theorem stored_at (v : FVec Ideal S128x512 .f32) (u : Fin 1) (p : Fin 128) (f : Fin 512) : stored v (ix3 u p f) = v (ix2 p f) := by
  unfold stored
  refine (shapeCast_apply _ shapeCasts_S128x512_S1x128x512 (ix3 u p f) (ix2 p f) ?_).trans rfl
  rewrite [Shape.rowMajor_val_two, Shape.rowMajor_val_three]
  have hu : (u : ℕ) = 0 := by omega
  show (p : ℕ) * 512 + f = ((u : ℕ) * 128 + p) * 512 + f
  omega

section
variable (cs : Vec Ideal S512x1024 .bf16) (tw : Vec Ideal S128x8 .f32) (s a c d : Vec Ideal S128x512 .bf16)

/-- The real and the imaginary parts before the twiddles, as blocks. -/
def preRe : Fin 4 → FVec Ideal S128x512 .f32 :=
  ![lo (k0_pay16 cs s), subf (lo (k0_pay16 cs c)) (hi (k0_pay16 cs d)), lo (k0_pay16 cs a), addf (lo (k0_pay16 cs c)) (hi (k0_pay16 cs d))]
def preIm : Fin 4 → FVec Ideal S128x512 .f32 :=
  ![opp (hi (k0_pay16 cs s)), opp (addf (hi (k0_pay16 cs c)) (lo (k0_pay16 cs d))), opp (hi (k0_pay16 cs a)),
    subf (lo (k0_pay16 cs d)) (hi (k0_pay16 cs c))]

/-- The stored blocks of a group of channels. -/
def blkRe (u v : Fin 4 → FVec Ideal S128x512 .f32) : Fin 4 → FVec Ideal S1x128x512 .bf16 :=
  ![stored (u 0),
    stored (addf (mulf (u 1) (col tw 0 slices_S128x8_o0_0_S128x1)) (mulf (v 1) (col tw 1 slices_S128x8_o0_1_S128x1))),
    stored (addf (mulf (u 2) (col tw 2 slices_S128x8_o0_2_S128x1)) (mulf (v 2) (col tw 3 slices_S128x8_o0_3_S128x1))),
    stored (addf (mulf (u 3) (col tw 4 slices_S128x8_o0_4_S128x1)) (mulf (v 3) (col tw 5 slices_S128x8_o0_5_S128x1)))]
def blkIm (u v : Fin 4 → FVec Ideal S128x512 .f32) : Fin 4 → FVec Ideal S1x128x512 .bf16 :=
  ![stored (v 0),
    stored (subf (mulf (v 1) (col tw 0 slices_S128x8_o0_0_S128x1)) (mulf (u 1) (col tw 1 slices_S128x8_o0_1_S128x1))),
    stored (subf (mulf (v 2) (col tw 2 slices_S128x8_o0_2_S128x1)) (mulf (u 2) (col tw 3 slices_S128x8_o0_3_S128x1))),
    stored (subf (mulf (v 3) (col tw 4 slices_S128x8_o0_4_S128x1)) (mulf (u 3) (col tw 5 slices_S128x8_o0_5_S128x1)))]

/-- A combination's products along one row. -/
abbrev cols (v : Vec Ideal S128x512 .bf16) (p : Fin 128) : Fin 1024 → EReal := colAt (fun k => v (ix2 p k)) cs

theorem preRe_at (rho : Fin 4) (p : Fin 128) (f : Fin 512) :
    preRe cs s a c d rho (ix2 p f) = mixRe (cols cs s p) (cols cs a p) (cols cs c p) (cols cs d p) rho f := by
  fin_cases rho
  · exact (lo_at _ p f).trans (pay16_at cs s p _)
  · exact congrArg₂ (fun x y : EReal => x - y) ((lo_at _ p f).trans (pay16_at cs c p _)) ((hi_at _ p f).trans (pay16_at cs d p _))
  · exact (lo_at _ p f).trans (pay16_at cs a p _)
  · exact congrArg₂ (fun x y : EReal => x + y) ((lo_at _ p f).trans (pay16_at cs c p _)) ((hi_at _ p f).trans (pay16_at cs d p _))

theorem preIm_at (rho : Fin 4) (p : Fin 128) (f : Fin 512) :
    preIm cs s a c d rho (ix2 p f) = mixIm (cols cs s p) (cols cs a p) (cols cs c p) (cols cs d p) rho f := by
  fin_cases rho
  · exact (opp_at _ p f).trans (congrArg (fun x : EReal => 0 - x) ((hi_at _ p f).trans (pay16_at cs s p _)))
  · exact (opp_at _ p f).trans (congrArg (fun x : EReal => 0 - x)
      (congrArg₂ (fun x y : EReal => x + y) ((hi_at _ p f).trans (pay16_at cs c p _)) ((lo_at _ p f).trans (pay16_at cs d p _))))
  · exact (opp_at _ p f).trans (congrArg (fun x : EReal => 0 - x) ((hi_at _ p f).trans (pay16_at cs a p _)))
  · exact congrArg₂ (fun x y : EReal => x - y) ((lo_at _ p f).trans (pay16_at cs d p _)) ((hi_at _ p f).trans (pay16_at cs c p _))

theorem blkRe_at (u v : Fin 4 → FVec Ideal S128x512 .f32) (rho : Fin 4) (z : Fin 1) (p : Fin 128) (f : Fin 512) :
    blkRe tw u v rho (ix3 z p f) = turnRe (fun r => u r (ix2 p f)) (fun r => v r (ix2 p f)) (fun j => tw (ix2 p j)) rho := by
  fin_cases rho
  · exact stored_at _ z p f
  · exact (stored_at _ z p f).trans (congrArg₂ (fun x y : EReal => u 1 (ix2 p f) * x + v 1 (ix2 p f) * y)
      (col_at tw 0 slices_S128x8_o0_0_S128x1 p f) (col_at tw 1 slices_S128x8_o0_1_S128x1 p f))
  · exact (stored_at _ z p f).trans (congrArg₂ (fun x y : EReal => u 2 (ix2 p f) * x + v 2 (ix2 p f) * y)
      (col_at tw 2 slices_S128x8_o0_2_S128x1 p f) (col_at tw 3 slices_S128x8_o0_3_S128x1 p f))
  · exact (stored_at _ z p f).trans (congrArg₂ (fun x y : EReal => u 3 (ix2 p f) * x + v 3 (ix2 p f) * y)
      (col_at tw 4 slices_S128x8_o0_4_S128x1 p f) (col_at tw 5 slices_S128x8_o0_5_S128x1 p f))

theorem blkIm_at (u v : Fin 4 → FVec Ideal S128x512 .f32) (rho : Fin 4) (z : Fin 1) (p : Fin 128) (f : Fin 512) :
    blkIm tw u v rho (ix3 z p f) = turnIm (fun r => u r (ix2 p f)) (fun r => v r (ix2 p f)) (fun j => tw (ix2 p j)) rho := by
  fin_cases rho
  · exact stored_at _ z p f
  · exact (stored_at _ z p f).trans (congrArg₂ (fun x y : EReal => v 1 (ix2 p f) * x - u 1 (ix2 p f) * y)
      (col_at tw 0 slices_S128x8_o0_0_S128x1 p f) (col_at tw 1 slices_S128x8_o0_1_S128x1 p f))
  · exact (stored_at _ z p f).trans (congrArg₂ (fun x y : EReal => v 2 (ix2 p f) * x - u 2 (ix2 p f) * y)
      (col_at tw 2 slices_S128x8_o0_2_S128x1 p f) (col_at tw 3 slices_S128x8_o0_3_S128x1 p f))
  · exact (stored_at _ z p f).trans (congrArg₂ (fun x y : EReal => v 3 (ix2 p f) * x - u 3 (ix2 p f) * y)
      (col_at tw 4 slices_S128x8_o0_4_S128x1 p f) (col_at tw 5 slices_S128x8_o0_5_S128x1 p f))

end

end Cert.Chan

end
-- ==== Proof.ChanBlock.lean ====
/-
  The transform over channels: what one grid point leaves.

  A loop over the rows, sixteen at a time, normalises the four quarters and stores their combinations in four scratches; the
  scratches are then read back in groups of 512 channels, and each group's eight blocks are stored.
-/
module

public import proofs.«01_k».proof.Proof.ChanPay
public import proofs.«01_k».proof.Proof.Gen.KernelChanIdeal.Value
public import Idealize.ShloMosaic.Lib.Pipeline.ValueKit
public import Idealize.ShloMosaic.Lib.Pipeline.CanonAppend

@[expose] public section

set_option maxRecDepth 16384

noncomputable section

namespace Cert.Chan

open Idealize.ShloMosaic Idealize.ShloMosaic.TcCoe Idealize.ShloMosaic.Tactic
open Cert.KernelChanIdeal Cert.KernelChanIdeal.Gen

/-! ## The scratches -/

/-- The four combinations of the quarters' entries. -/
def fSum (a b c d : EReal) : EReal := (a + c) + (b + d)
def fAlt (a b c d : EReal) : EReal := (a + c) - (b + d)
def fEven (a _b c _d : EReal) : EReal := a - c
def fOdd (_a b _c d : EReal) : EReal := b - d

/-- A combination of the normalised quarters, as one array. -/
def comb (f : EReal → EReal → EReal → EReal → EReal) (x0 x1 x2 x3 : Vec Ideal S128x4096 .f32) (g : Vec Ideal S1x4096 .f32) : Vec Ideal S128x4096 .bf16 :=
  fun y => f (normAt x0 g (y 0) (y 1)) (normAt x1 g (y 0) (y 1)) (normAt x2 g (y 0) (y 1)) (normAt x3 g (y 0) (y 1))

/-- Sixteen rows of a quarter, normalised, are those rows of the normalised quarter. -/
theorem norm_ld (x : Vec Ideal S128x4096 .f32) (g : Vec Ideal S1x4096 .f32) (n : ℕ) (inb : ∀ a, (![n, 0] : Fin 2 → ℕ) a + S16x4096.size a ≤ S128x4096.size a)
    (p : Fin 16) (k : Fin 4096) (q : Fin 128) (hq : (q : ℕ) = n + p) :
    normAt (n := 16) (View.ld x (Rect.unit (s := S128x4096) ![n, 0] S16x4096.size inb)) g p k = normAt (n := 128) x g q k := by
  unfold normAt
  refine congrArg (fun f => Ffn.scaled f (fun j => g (ix2 0 j)) k) (funext fun j => ?_)
  refine View.ld_unit_apply_of _ _ _ _ _ _ fun a => ?_
  match a with
  | 0 => exact hq
  | 1 => exact (Nat.zero_add _).symm

/-- Sixteen rows of a combination are those rows of the combined array. -/
theorem comb_piece (f : EReal → EReal → EReal → EReal → EReal) (x0 x1 x2 x3 : Vec Ideal S128x4096 .f32) (g : Vec Ideal S1x4096 .f32)
    (n : ℕ) (inb : ∀ a, (![n, 0] : Fin 2 → ℕ) a + S16x4096.size a ≤ S128x4096.size a) (P : Vec Ideal S16x4096 .bf16)
    (hP : ∀ (p : Fin 16) (k : Fin 4096), P (ix2 p k) = f (normAt (n := 16) (View.ld x0 (Rect.unit (s := S128x4096) ![n, 0] S16x4096.size inb)) g p k)
      (normAt (n := 16) (View.ld x1 (Rect.unit (s := S128x4096) ![n, 0] S16x4096.size inb)) g p k)
      (normAt (n := 16) (View.ld x2 (Rect.unit (s := S128x4096) ![n, 0] S16x4096.size inb)) g p k)
      (normAt (n := 16) (View.ld x3 (Rect.unit (s := S128x4096) ![n, 0] S16x4096.size inb)) g p k)) (x : S16x4096.Idx) :
    P x = comb f x0 x1 x2 x3 g ((Rect.unit (s := S128x4096) ![n, 0] S16x4096.size inb).emb x) := by
  obtain ⟨p, k, rfl⟩ : ∃ (p : Fin 16) (k : Fin 4096), x = ix2 p k := ⟨x 0, x 1, eq_ix2 x⟩
  have hn : n + 16 ≤ 128 := inb 0
  have e : (Rect.unit (s := S128x4096) ![n, 0] S16x4096.size inb).emb (ix2 p k) = ix2 ⟨n + p, by omega⟩ k := by
    funext a
    match a with
    | 0 => exact Fin.ext (ValueKit.rect_emb_unit_val (s := S128x4096) ![n, 0] S16x4096.size inb (ix2 p k) 0)
    | 1 => exact Fin.ext ((ValueKit.rect_emb_unit_val (s := S128x4096) ![n, 0] S16x4096.size inb (ix2 p k) 1).trans (Nat.zero_add _))
  rw [hP, e]
  unfold comb
  rw [norm_ld x0 g n inb p k ⟨n + p, by omega⟩ rfl, norm_ld x1 g n inb p k ⟨n + p, by omega⟩ rfl,
    norm_ld x2 g n inb p k ⟨n + p, by omega⟩ rfl, norm_ld x3 g n inb p k ⟨n + p, by omega⟩ rfl]
  rfl

/-- Every piece of a list agrees with an array. -/
def Agrees (L : List (View.Piece (Elt Ideal) S128x4096 .bf16)) (G : Vec Ideal S128x4096 .bf16) : Prop := ∀ p ∈ L, ∀ x, p.2 x = G (p.1.emb x)

theorem Agrees.append {L L' : List (View.Piece (Elt Ideal) S128x4096 .bf16)} {G : Vec Ideal S128x4096 .bf16} (h : Agrees L G) (h' : Agrees L' G) :
    Agrees (L ++ L') G := fun p hp => (List.mem_append.mp hp).elim (h p) (h' p)

/-- A group of 512 channels read back from pieces that agree with an array and cover it. -/
def Reads (v : View sig .tc .vmem S128x4096 .bf16) (L : List (View.Piece (Elt Ideal) S128x4096 .bf16)) (G : Vec Ideal S128x4096 .bf16) : Prop :=
  ∀ (o : ℕ) (inb : ∀ a, (![0, o] : Fin 2 → ℕ) a + S128x512.size a ≤ S128x4096.size a) (p : Fin 128) (k : Fin 512) (e : Fin 4096), (e : ℕ) = o + k →
    v.readCov L (Rect.unit (s := S128x4096) ![0, o] S128x512.size inb).toLoadRect (ix2 p k) = G (ix2 p e)

theorem reads_of (v : View sig .tc .vmem S128x4096 .bf16) (L : List (View.Piece (Elt Ideal) S128x4096 .bf16)) (G : Vec Ideal S128x4096 .bf16)
    (h : Agrees L G) (hc : ∀ y, ∃ p ∈ L, y ∈ p.1.set) : Reads v L G := fun o inb p k e he => by
  rw [View.readCov_eq_canon']
  refine (View.canon_apply_of_pieces G L h _ (hc _)).trans (congrArg G (funext fun a => ?_))
  match a with
  | 0 => exact Fin.ext ((ValueKit.rect_emb_unit_val (s := S128x4096) ![0, o] S128x512.size inb (ix2 p k) 0).trans (Nat.zero_add _))
  | 1 => exact Fin.ext ((ValueKit.rect_emb_unit_val (s := S128x4096) ![0, o] S128x512.size inb (ix2 p k) 1).trans he.symm)

section
variable (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S512x1024 .bf16) (harg7 : arg7.IsWhole) (arg8 : Memref sig .tc .vmem S128x8 .f32) (harg8 : arg8.IsWhole) (arg9 : Memref sig .tc .vmem S4x128x4096 .bf16) (harg9 : arg9.IsWhole) (arg10 : Memref sig .tc .vmem S4x128x4096 .bf16) (harg10 : arg10.IsWhole) (arg11 : Memref sig .tc .vmem S128x4096 .bf16) (harg11 : arg11.IsWhole) (arg12 : Memref sig .tc .vmem S128x4096 .bf16) (harg12 : arg12.IsWhole) (arg13 : Memref sig .tc .vmem S128x4096 .bf16) (harg13 : arg13.IsWhole) (arg14 : Memref sig .tc .vmem S128x4096 .bf16) (harg14 : arg14.IsWhole)

/-- Every piece one trip of the loop stores agrees with its combination. -/
theorem trip_pieces (x0 x1 x2 x3 : Vec Ideal S128x4096 .f32) (x4 : Vec Ideal S1x4096 .f32) (k : Fin k0_t1_loop.trips) :
    Agrees (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 x4 (harg2.unread x0) (harg3.unread x1) (harg4.unread x2) (harg5.unread x3) k).1 (comb fSum x0 x1 x2 x3 x4)
    ∧ Agrees (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 x4 (harg2.unread x0) (harg3.unread x1) (harg4.unread x2) (harg5.unread x3) k).2.1 (comb fAlt x0 x1 x2 x3 x4)
    ∧ Agrees (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 x4 (harg2.unread x0) (harg3.unread x1) (harg4.unread x2) (harg5.unread x3) k).2.2.1 (comb fEven x0 x1 x2 x3 x4)
    ∧ Agrees (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 x4 (harg2.unread x0) (harg3.unread x1) (harg4.unread x2) (harg5.unread x3) k).2.2.2 (comb fOdd x0 x1 x2 x3 x4) := by
  unfold Agrees tripL_k0_t1 trip_k0_t1
  dsimp only
  sl_unfold_words
  simp only [List.forall_mem_cons, View.readAt_eq_ld, Memref.IsWhole.read_unread]
  refine ⟨⟨?_, fun p hp => absurd hp List.not_mem_nil⟩, ⟨?_, fun p hp => absurd hp List.not_mem_nil⟩,
    ⟨?_, fun p hp => absurd hp List.not_mem_nil⟩, ⟨?_, fun p hp => absurd hp List.not_mem_nil⟩⟩
  · exact comb_piece fSum x0 x1 x2 x3 x4 _ _ _ fun p k => sum_at x4 _ _ _ _ p k
  · exact comb_piece fAlt x0 x1 x2 x3 x4 _ _ _ fun p k => alt_at x4 _ _ _ _ p k
  · exact comb_piece fEven x0 x1 x2 x3 x4 _ _ _ fun p k => even_at x4 _ _ p k
  · exact comb_piece fOdd x0 x1 x2 x3 x4 _ _ _ fun p k => odd_at x4 _ _ p k

/-- Every piece the loop stores agrees with its combination. -/
theorem loop_pieces (x0 x1 x2 x3 : Vec Ideal S128x4096 .f32) (x4 : Vec Ideal S1x4096 .f32) (n : ℕ) (hn : n ≤ k0_t1_loop.trips) :
    Agrees (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 x4 (harg2.unread x0) (harg3.unread x1) (harg4.unread x2) (harg5.unread x3) n).1 (comb fSum x0 x1 x2 x3 x4)
    ∧ Agrees (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 x4 (harg2.unread x0) (harg3.unread x1) (harg4.unread x2) (harg5.unread x3) n).2.1 (comb fAlt x0 x1 x2 x3 x4)
    ∧ Agrees (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 x4 (harg2.unread x0) (harg3.unread x1) (harg4.unread x2) (harg5.unread x3) n).2.2.1 (comb fEven x0 x1 x2 x3 x4)
    ∧ Agrees (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 x4 (harg2.unread x0) (harg3.unread x1) (harg4.unread x2) (harg5.unread x3) n).2.2.2 (comb fOdd x0 x1 x2 x3 x4) := by
  induction n with
  | zero =>
    rw [pb_k0_t1.eq_1]
    exact ⟨fun p hp => absurd hp List.not_mem_nil, fun p hp => absurd hp List.not_mem_nil, fun p hp => absurd hp List.not_mem_nil,
      fun p hp => absurd hp List.not_mem_nil⟩
  | succ n ih =>
    rw [show n + 1 = (⟨n, hn⟩ : Fin k0_t1_loop.trips).val + 1 from rfl, pb_k0_t1_succ]
    have t := trip_pieces c i arg2 harg2 arg3 harg3 arg4 harg4 arg5 harg5 arg6 harg6 arg7 harg7 arg8 harg8 arg9 harg9 arg10 harg10 arg11 harg11 arg12 harg12 arg13 harg13 arg14 harg14 x0 x1 x2 x3 x4 ⟨n, hn⟩
    have r := ih (Nat.le_of_succ_le hn)
    exact ⟨t.1.append r.1, t.2.1.append r.2.1, t.2.2.1.append r.2.2.1, t.2.2.2.append r.2.2.2⟩

/-- What the scratches hold after the loop. -/
theorem loop_reads (x0 x1 x2 x3 : Vec Ideal S128x4096 .f32) (x4 : Vec Ideal S1x4096 .f32) :
    Reads arg11.view (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 x4 (harg2.unread x0) (harg3.unread x1) (harg4.unread x2) (harg5.unread x3) (Scf.trips k0_t1_loop.lb k0_t1_loop.ub k0_t1_loop.st)).1 (comb fSum x0 x1 x2 x3 x4)
    ∧ Reads arg12.view (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 x4 (harg2.unread x0) (harg3.unread x1) (harg4.unread x2) (harg5.unread x3) (Scf.trips k0_t1_loop.lb k0_t1_loop.ub k0_t1_loop.st)).2.1 (comb fAlt x0 x1 x2 x3 x4)
    ∧ Reads arg13.view (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 x4 (harg2.unread x0) (harg3.unread x1) (harg4.unread x2) (harg5.unread x3) (Scf.trips k0_t1_loop.lb k0_t1_loop.ub k0_t1_loop.st)).2.2.1 (comb fEven x0 x1 x2 x3 x4)
    ∧ Reads arg14.view (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 x4 (harg2.unread x0) (harg3.unread x1) (harg4.unread x2) (harg5.unread x3) (Scf.trips k0_t1_loop.lb k0_t1_loop.ub k0_t1_loop.st)).2.2.2 (comb fOdd x0 x1 x2 x3 x4) := by
  have h := loop_pieces c i arg2 harg2 arg3 harg3 arg4 harg4 arg5 harg5 arg6 harg6 arg7 harg7 arg8 harg8 arg9 harg9 arg10 harg10 arg11 harg11 arg12 harg12 arg13 harg13 arg14 harg14 x0 x1 x2 x3 x4 (Scf.trips k0_t1_loop.lb k0_t1_loop.ub k0_t1_loop.st) (Nat.le_refl _)
  exact ⟨reads_of _ _ _ h.1 fun y => View.cover_of_tiledL (s := S128x4096) _ S16x4096.size (by sl_kernel_rfl) y,
    reads_of _ _ _ h.2.1 fun y => View.cover_of_tiledL (s := S128x4096) _ S16x4096.size (by sl_kernel_rfl) y,
    reads_of _ _ _ h.2.2.1 fun y => View.cover_of_tiledL (s := S128x4096) _ S16x4096.size (by sl_kernel_rfl) y,
    reads_of _ _ _ h.2.2.2 fun y => View.cover_of_tiledL (s := S128x4096) _ S16x4096.size (by sl_kernel_rfl) y⟩

end

/-! ## The blocks of the results -/

/-- Row `p` of a combination, the group of channel `e`, times the table. -/
def grp (z : Vec Ideal S128x4096 .bf16) (cs : Vec Ideal S512x1024 .bf16) (p : Fin 128) (e : Fin 4096) : Fin 1024 → EReal :=
  colAt (fun k => z (ix2 p ⟨e / 512 * 512 + k, by omega⟩)) cs

/-- The parts before the twiddles, at a row and a channel. -/
def partRe (s a c d : Vec Ideal S128x4096 .bf16) (cs : Vec Ideal S512x1024 .bf16) (p : Fin 128) (e : Fin 4096) (rho : Fin 4) : EReal :=
  mixRe (grp s cs p e) (grp a cs p e) (grp c cs p e) (grp d cs p e) rho ⟨e % 512, by omega⟩
def partIm (s a c d : Vec Ideal S128x4096 .bf16) (cs : Vec Ideal S512x1024 .bf16) (p : Fin 128) (e : Fin 4096) (rho : Fin 4) : EReal :=
  mixIm (grp s cs p e) (grp a cs p e) (grp c cs p e) (grp d cs p e) rho ⟨e % 512, by omega⟩

/-- The blocks of the results. -/
def blockRe (s a c d : Vec Ideal S128x4096 .bf16) (cs : Vec Ideal S512x1024 .bf16) (tw : Vec Ideal S128x8 .f32) : Vec Ideal S4x128x4096 .bf16 :=
  fun y => turnRe (partRe s a c d cs (y 1) (y 2)) (partIm s a c d cs (y 1) (y 2)) (fun j => tw (ix2 (y 1) j)) (y 0)
def blockIm (s a c d : Vec Ideal S128x4096 .bf16) (cs : Vec Ideal S512x1024 .bf16) (tw : Vec Ideal S128x8 .f32) : Vec Ideal S4x128x4096 .bf16 :=
  fun y => turnIm (partRe s a c d cs (y 1) (y 2)) (partIm s a c d cs (y 1) (y 2)) (fun j => tw (ix2 (y 1) j)) (y 0)

section
variable (cs : Vec Ideal S512x1024 .bf16) (tw : Vec Ideal S128x8 .f32) (s a c d : Vec Ideal S128x4096 .bf16)
  {v1 v2 v3 v4 : View sig .tc .vmem S128x4096 .bf16} {L1 L2 L3 L4 : List (View.Piece (Elt Ideal) S128x4096 .bf16)}
  (h1 : Reads v1 L1 s) (h2 : Reads v2 L2 a) (h3 : Reads v3 L3 c) (h4 : Reads v4 L4 d)
  (rho : Fin 4) (o : ℕ) (ho : o % 512 = 0)
  (inb : ∀ a, (![0, o] : Fin 2 → ℕ) a + S128x512.size a ≤ S128x4096.size a)
  (inb' : ∀ a, (![(rho : ℕ), 0, o] : Fin 3 → ℕ) a + S1x128x512.size a ≤ S4x128x4096.size a)
/-- A group's products are those of the whole rows. -/
theorem cols_eq {v : View sig .tc .vmem S128x4096 .bf16} {L : List (View.Piece (Elt Ideal) S128x4096 .bf16)} {z : Vec Ideal S128x4096 .bf16}
    (h : Reads v L z) (p : Fin 128) (e : Fin 4096) (he : e / 512 * 512 = o) :
    cols cs (v.readCov L (Rect.unit (s := S128x4096) ![0, o] S128x512.size inb).toLoadRect) p = grp z cs p e := by
  unfold cols grp
  refine congrArg (fun f => colAt f cs) (funext fun k => ?_)
  exact h o inb p k _ (congrArg (· + (k : ℕ)) he)

include h1 h2 h3 h4 ho

/-- A stored block of the real parts is its place in the block of the result. -/
theorem pieceRe (x : S1x128x512.Idx) :
    blkRe tw
        (preRe cs (v1.readCov L1 (Rect.unit (s := S128x4096) ![0, o] S128x512.size inb).toLoadRect)
          (v2.readCov L2 (Rect.unit (s := S128x4096) ![0, o] S128x512.size inb).toLoadRect)
          (v3.readCov L3 (Rect.unit (s := S128x4096) ![0, o] S128x512.size inb).toLoadRect)
          (v4.readCov L4 (Rect.unit (s := S128x4096) ![0, o] S128x512.size inb).toLoadRect))
        (preIm cs (v1.readCov L1 (Rect.unit (s := S128x4096) ![0, o] S128x512.size inb).toLoadRect)
          (v2.readCov L2 (Rect.unit (s := S128x4096) ![0, o] S128x512.size inb).toLoadRect)
          (v3.readCov L3 (Rect.unit (s := S128x4096) ![0, o] S128x512.size inb).toLoadRect)
          (v4.readCov L4 (Rect.unit (s := S128x4096) ![0, o] S128x512.size inb).toLoadRect)) rho x
      = blockRe s a c d cs tw ((Rect.unit (s := S4x128x4096) ![(rho : ℕ), 0, o] S1x128x512.size inb').emb x) := by
  obtain ⟨u, p, f, rfl⟩ : ∃ (u : Fin 1) (p : Fin 128) (f : Fin 512), x = ix3 u p f := ⟨x 0, x 1, x 2, eq_ix3 x⟩
  have hf := f.isLt
  have hn : o + 512 ≤ 4096 := inb 1
  have hu : (u : ℕ) = 0 := by omega
  have e : (Rect.unit (s := S4x128x4096) ![(rho : ℕ), 0, o] S1x128x512.size inb').emb (ix3 u p f) = ix3 rho p ⟨o + f, by omega⟩ := by
    funext a
    match a with
    | 0 => exact Fin.ext ((ValueKit.rect_emb_unit_val (s := S4x128x4096) ![(rho : ℕ), 0, o] S1x128x512.size inb' (ix3 u p f) 0).trans (congrArg ((rho : ℕ) + ·) hu))
    | 1 => exact Fin.ext ((ValueKit.rect_emb_unit_val (s := S4x128x4096) ![(rho : ℕ), 0, o] S1x128x512.size inb' (ix3 u p f) 1).trans (Nat.zero_add _))
    | 2 => exact Fin.ext (ValueKit.rect_emb_unit_val (s := S4x128x4096) ![(rho : ℕ), 0, o] S1x128x512.size inb' (ix3 u p f) 2)
  have hg : (⟨o + f, by omega⟩ : Fin 4096).val / 512 * 512 = o := by show (o + (f : ℕ)) / 512 * 512 = o; omega
  have ef : (⟨(⟨o + f, by omega⟩ : Fin 4096).val % 512, by omega⟩ : Fin 512) = f := Fin.ext (by show (o + (f : ℕ)) % 512 = f; omega)
  rw [blkRe_at, e]
  show _ = turnRe (partRe s a c d cs p ⟨o + f, by omega⟩) (partIm s a c d cs p ⟨o + f, by omega⟩) (fun j => tw (ix2 p j)) rho
  refine congrArg₂ (fun u v => turnRe u v (fun j => tw (ix2 p j)) rho) (funext fun r => ?_) (funext fun r => ?_)
  · rw [preRe_at, cols_eq cs o inb h1 p _ hg, cols_eq cs o inb h2 p _ hg, cols_eq cs o inb h3 p _ hg, cols_eq cs o inb h4 p _ hg]
    unfold partRe
    rw [ef]
  · rw [preIm_at, cols_eq cs o inb h1 p _ hg, cols_eq cs o inb h2 p _ hg, cols_eq cs o inb h3 p _ hg, cols_eq cs o inb h4 p _ hg]
    unfold partIm
    rw [ef]

/-- A stored block of the imaginary parts is its place in the block of the result. -/
theorem pieceIm (x : S1x128x512.Idx) :
    blkIm tw
        (preRe cs (v1.readCov L1 (Rect.unit (s := S128x4096) ![0, o] S128x512.size inb).toLoadRect)
          (v2.readCov L2 (Rect.unit (s := S128x4096) ![0, o] S128x512.size inb).toLoadRect)
          (v3.readCov L3 (Rect.unit (s := S128x4096) ![0, o] S128x512.size inb).toLoadRect)
          (v4.readCov L4 (Rect.unit (s := S128x4096) ![0, o] S128x512.size inb).toLoadRect))
        (preIm cs (v1.readCov L1 (Rect.unit (s := S128x4096) ![0, o] S128x512.size inb).toLoadRect)
          (v2.readCov L2 (Rect.unit (s := S128x4096) ![0, o] S128x512.size inb).toLoadRect)
          (v3.readCov L3 (Rect.unit (s := S128x4096) ![0, o] S128x512.size inb).toLoadRect)
          (v4.readCov L4 (Rect.unit (s := S128x4096) ![0, o] S128x512.size inb).toLoadRect)) rho x
      = blockIm s a c d cs tw ((Rect.unit (s := S4x128x4096) ![(rho : ℕ), 0, o] S1x128x512.size inb').emb x) := by
  obtain ⟨u, p, f, rfl⟩ : ∃ (u : Fin 1) (p : Fin 128) (f : Fin 512), x = ix3 u p f := ⟨x 0, x 1, x 2, eq_ix3 x⟩
  have hf := f.isLt
  have hn : o + 512 ≤ 4096 := inb 1
  have hu : (u : ℕ) = 0 := by omega
  have e : (Rect.unit (s := S4x128x4096) ![(rho : ℕ), 0, o] S1x128x512.size inb').emb (ix3 u p f) = ix3 rho p ⟨o + f, by omega⟩ := by
    funext a
    match a with
    | 0 => exact Fin.ext ((ValueKit.rect_emb_unit_val (s := S4x128x4096) ![(rho : ℕ), 0, o] S1x128x512.size inb' (ix3 u p f) 0).trans (congrArg ((rho : ℕ) + ·) hu))
    | 1 => exact Fin.ext ((ValueKit.rect_emb_unit_val (s := S4x128x4096) ![(rho : ℕ), 0, o] S1x128x512.size inb' (ix3 u p f) 1).trans (Nat.zero_add _))
    | 2 => exact Fin.ext (ValueKit.rect_emb_unit_val (s := S4x128x4096) ![(rho : ℕ), 0, o] S1x128x512.size inb' (ix3 u p f) 2)
  have hg : (⟨o + f, by omega⟩ : Fin 4096).val / 512 * 512 = o := by show (o + (f : ℕ)) / 512 * 512 = o; omega
  have ef : (⟨(⟨o + f, by omega⟩ : Fin 4096).val % 512, by omega⟩ : Fin 512) = f := Fin.ext (by show (o + (f : ℕ)) % 512 = f; omega)
  rw [blkIm_at, e]
  show _ = turnIm (partRe s a c d cs p ⟨o + f, by omega⟩) (partIm s a c d cs p ⟨o + f, by omega⟩) (fun j => tw (ix2 p j)) rho
  refine congrArg₂ (fun u v => turnIm u v (fun j => tw (ix2 p j)) rho) (funext fun r => ?_) (funext fun r => ?_)
  · rw [preRe_at, cols_eq cs o inb h1 p _ hg, cols_eq cs o inb h2 p _ hg, cols_eq cs o inb h3 p _ hg, cols_eq cs o inb h4 p _ hg]
    unfold partRe
    rw [ef]
  · rw [preIm_at, cols_eq cs o inb h1 p _ hg, cols_eq cs o inb h2 p _ hg, cols_eq cs o inb h3 p _ hg, cols_eq cs o inb h4 p _ hg]
    unfold partIm
    rw [ef]

end

section
variable (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S512x1024 .bf16) (harg7 : arg7.IsWhole) (arg8 : Memref sig .tc .vmem S128x8 .f32) (harg8 : arg8.IsWhole) (arg9 : Memref sig .tc .vmem S4x128x4096 .bf16) (harg9 : arg9.IsWhole) (arg10 : Memref sig .tc .vmem S4x128x4096 .bf16) (harg10 : arg10.IsWhole) (arg11 : Memref sig .tc .vmem S128x4096 .bf16) (harg11 : arg11.IsWhole) (arg12 : Memref sig .tc .vmem S128x4096 .bf16) (harg12 : arg12.IsWhole) (arg13 : Memref sig .tc .vmem S128x4096 .bf16) (harg13 : arg13.IsWhole) (arg14 : Memref sig .tc .vmem S128x4096 .bf16) (harg14 : arg14.IsWhole)

/-- THE REAL PARTS a grid point leaves, from the staged blocks. -/
theorem outRe_at (x0 x1 x2 x3 : Vec Ideal S128x4096 .f32) (x4 : Vec Ideal S1x4096 .f32) (x5 : Vec Ideal S512x1024 .bf16) (x6 : Vec Ideal S128x8 .f32) (y : S4x128x4096.Idx) :
    out0_A_7 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y
      = blockRe (comb fSum x0 x1 x2 x3 x4) (comb fAlt x0 x1 x2 x3 x4) (comb fEven x0 x1 x2 x3 x4) (comb fOdd x0 x1 x2 x3 x4) x5 x6 y := by
  have h := loop_reads c i arg2 harg2 arg3 harg3 arg4 harg4 arg5 harg5 arg6 harg6 arg7 harg7 arg8 harg8 arg9 harg9 arg10 harg10 arg11 harg11 arg12 harg12 arg13 harg13 arg14 harg14 x0 x1 x2 x3 x4
  obtain ⟨h1, h2, h3, h4⟩ := h
  frame_out
  refine View.canon_apply_of_pieces (blockRe (comb fSum x0 x1 x2 x3 x4) (comb fAlt x0 x1 x2 x3 x4) (comb fEven x0 x1 x2 x3 x4) (comb fOdd x0 x1 x2 x3 x4) x5 x6) _ ?_ y
    (View.cover_of_tiledL (s := S4x128x4096) _ S1x128x512.size (by sl_kernel_rfl) y)
  · simp only [List.forall_mem_cons]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun p hp => absurd hp List.not_mem_nil⟩
    · exact pieceRe x5 x6 _ _ _ _ h1 h2 h3 h4 3 3584 (by decide) _ _
    · exact pieceRe x5 x6 _ _ _ _ h1 h2 h3 h4 2 3584 (by decide) _ _
    · exact pieceRe x5 x6 _ _ _ _ h1 h2 h3 h4 1 3584 (by decide) _ _
    · exact pieceRe x5 x6 _ _ _ _ h1 h2 h3 h4 0 3584 (by decide) _ _
    · exact pieceRe x5 x6 _ _ _ _ h1 h2 h3 h4 3 3072 (by decide) _ _
    · exact pieceRe x5 x6 _ _ _ _ h1 h2 h3 h4 2 3072 (by decide) _ _
    · exact pieceRe x5 x6 _ _ _ _ h1 h2 h3 h4 1 3072 (by decide) _ _
    · exact pieceRe x5 x6 _ _ _ _ h1 h2 h3 h4 0 3072 (by decide) _ _
    · exact pieceRe x5 x6 _ _ _ _ h1 h2 h3 h4 3 2560 (by decide) _ _
    · exact pieceRe x5 x6 _ _ _ _ h1 h2 h3 h4 2 2560 (by decide) _ _
    · exact pieceRe x5 x6 _ _ _ _ h1 h2 h3 h4 1 2560 (by decide) _ _
    · exact pieceRe x5 x6 _ _ _ _ h1 h2 h3 h4 0 2560 (by decide) _ _
    · exact pieceRe x5 x6 _ _ _ _ h1 h2 h3 h4 3 2048 (by decide) _ _
    · exact pieceRe x5 x6 _ _ _ _ h1 h2 h3 h4 2 2048 (by decide) _ _
    · exact pieceRe x5 x6 _ _ _ _ h1 h2 h3 h4 1 2048 (by decide) _ _
    · exact pieceRe x5 x6 _ _ _ _ h1 h2 h3 h4 0 2048 (by decide) _ _
    · exact pieceRe x5 x6 _ _ _ _ h1 h2 h3 h4 3 1536 (by decide) _ _
    · exact pieceRe x5 x6 _ _ _ _ h1 h2 h3 h4 2 1536 (by decide) _ _
    · exact pieceRe x5 x6 _ _ _ _ h1 h2 h3 h4 1 1536 (by decide) _ _
    · exact pieceRe x5 x6 _ _ _ _ h1 h2 h3 h4 0 1536 (by decide) _ _
    · exact pieceRe x5 x6 _ _ _ _ h1 h2 h3 h4 3 1024 (by decide) _ _
    · exact pieceRe x5 x6 _ _ _ _ h1 h2 h3 h4 2 1024 (by decide) _ _
    · exact pieceRe x5 x6 _ _ _ _ h1 h2 h3 h4 1 1024 (by decide) _ _
    · exact pieceRe x5 x6 _ _ _ _ h1 h2 h3 h4 0 1024 (by decide) _ _
    · exact pieceRe x5 x6 _ _ _ _ h1 h2 h3 h4 3 512 (by decide) _ _
    · exact pieceRe x5 x6 _ _ _ _ h1 h2 h3 h4 2 512 (by decide) _ _
    · exact pieceRe x5 x6 _ _ _ _ h1 h2 h3 h4 1 512 (by decide) _ _
    · exact pieceRe x5 x6 _ _ _ _ h1 h2 h3 h4 0 512 (by decide) _ _
    · exact pieceRe x5 x6 _ _ _ _ h1 h2 h3 h4 3 0 (by decide) _ _
    · exact pieceRe x5 x6 _ _ _ _ h1 h2 h3 h4 2 0 (by decide) _ _
    · exact pieceRe x5 x6 _ _ _ _ h1 h2 h3 h4 1 0 (by decide) _ _
    · exact pieceRe x5 x6 _ _ _ _ h1 h2 h3 h4 0 0 (by decide) _ _

/-- THE IMAGINARY PARTS a grid point leaves, from the staged blocks. -/
theorem outIm_at (x0 x1 x2 x3 : Vec Ideal S128x4096 .f32) (x4 : Vec Ideal S1x4096 .f32) (x5 : Vec Ideal S512x1024 .bf16) (x6 : Vec Ideal S128x8 .f32) (y : S4x128x4096.Idx) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y
      = blockIm (comb fSum x0 x1 x2 x3 x4) (comb fAlt x0 x1 x2 x3 x4) (comb fEven x0 x1 x2 x3 x4) (comb fOdd x0 x1 x2 x3 x4) x5 x6 y := by
  have h := loop_reads c i arg2 harg2 arg3 harg3 arg4 harg4 arg5 harg5 arg6 harg6 arg7 harg7 arg8 harg8 arg9 harg9 arg10 harg10 arg11 harg11 arg12 harg12 arg13 harg13 arg14 harg14 x0 x1 x2 x3 x4
  obtain ⟨h1, h2, h3, h4⟩ := h
  frame_out
  refine View.canon_apply_of_pieces (blockIm (comb fSum x0 x1 x2 x3 x4) (comb fAlt x0 x1 x2 x3 x4) (comb fEven x0 x1 x2 x3 x4) (comb fOdd x0 x1 x2 x3 x4) x5 x6) _ ?_ y
    (View.cover_of_tiledL (s := S4x128x4096) _ S1x128x512.size (by sl_kernel_rfl) y)
  · simp only [List.forall_mem_cons]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun p hp => absurd hp List.not_mem_nil⟩
    · exact pieceIm x5 x6 _ _ _ _ h1 h2 h3 h4 3 3584 (by decide) _ _
    · exact pieceIm x5 x6 _ _ _ _ h1 h2 h3 h4 2 3584 (by decide) _ _
    · exact pieceIm x5 x6 _ _ _ _ h1 h2 h3 h4 1 3584 (by decide) _ _
    · exact pieceIm x5 x6 _ _ _ _ h1 h2 h3 h4 0 3584 (by decide) _ _
    · exact pieceIm x5 x6 _ _ _ _ h1 h2 h3 h4 3 3072 (by decide) _ _
    · exact pieceIm x5 x6 _ _ _ _ h1 h2 h3 h4 2 3072 (by decide) _ _
    · exact pieceIm x5 x6 _ _ _ _ h1 h2 h3 h4 1 3072 (by decide) _ _
    · exact pieceIm x5 x6 _ _ _ _ h1 h2 h3 h4 0 3072 (by decide) _ _
    · exact pieceIm x5 x6 _ _ _ _ h1 h2 h3 h4 3 2560 (by decide) _ _
    · exact pieceIm x5 x6 _ _ _ _ h1 h2 h3 h4 2 2560 (by decide) _ _
    · exact pieceIm x5 x6 _ _ _ _ h1 h2 h3 h4 1 2560 (by decide) _ _
    · exact pieceIm x5 x6 _ _ _ _ h1 h2 h3 h4 0 2560 (by decide) _ _
    · exact pieceIm x5 x6 _ _ _ _ h1 h2 h3 h4 3 2048 (by decide) _ _
    · exact pieceIm x5 x6 _ _ _ _ h1 h2 h3 h4 2 2048 (by decide) _ _
    · exact pieceIm x5 x6 _ _ _ _ h1 h2 h3 h4 1 2048 (by decide) _ _
    · exact pieceIm x5 x6 _ _ _ _ h1 h2 h3 h4 0 2048 (by decide) _ _
    · exact pieceIm x5 x6 _ _ _ _ h1 h2 h3 h4 3 1536 (by decide) _ _
    · exact pieceIm x5 x6 _ _ _ _ h1 h2 h3 h4 2 1536 (by decide) _ _
    · exact pieceIm x5 x6 _ _ _ _ h1 h2 h3 h4 1 1536 (by decide) _ _
    · exact pieceIm x5 x6 _ _ _ _ h1 h2 h3 h4 0 1536 (by decide) _ _
    · exact pieceIm x5 x6 _ _ _ _ h1 h2 h3 h4 3 1024 (by decide) _ _
    · exact pieceIm x5 x6 _ _ _ _ h1 h2 h3 h4 2 1024 (by decide) _ _
    · exact pieceIm x5 x6 _ _ _ _ h1 h2 h3 h4 1 1024 (by decide) _ _
    · exact pieceIm x5 x6 _ _ _ _ h1 h2 h3 h4 0 1024 (by decide) _ _
    · exact pieceIm x5 x6 _ _ _ _ h1 h2 h3 h4 3 512 (by decide) _ _
    · exact pieceIm x5 x6 _ _ _ _ h1 h2 h3 h4 2 512 (by decide) _ _
    · exact pieceIm x5 x6 _ _ _ _ h1 h2 h3 h4 1 512 (by decide) _ _
    · exact pieceIm x5 x6 _ _ _ _ h1 h2 h3 h4 0 512 (by decide) _ _
    · exact pieceIm x5 x6 _ _ _ _ h1 h2 h3 h4 3 0 (by decide) _ _
    · exact pieceIm x5 x6 _ _ _ _ h1 h2 h3 h4 2 0 (by decide) _ _
    · exact pieceIm x5 x6 _ _ _ _ h1 h2 h3 h4 1 0 (by decide) _ _
    · exact pieceIm x5 x6 _ _ _ _ h1 h2 h3 h4 0 0 (by decide) _ _

end

end Cert.Chan

end
-- ==== Proof.ChanSpec.lean ====
/-
  The transform over channels: the radix-4 combination before the products and after them.

  The kernel combines the four quarters first and multiplies the combinations by the table; the reference multiplies every quarter
  and combines the products. The two agree where the normalised rows and the table are real numbers. A normalised row is real
  whatever the row holds, as long as the gain is: a row with an infinite entry has an infinite mean square, whose reciprocal
  square root is zero.
-/
module

public import proofs.«01_k».proof.Proof.ChanBlock
public import proofs.«01_k».proof.Proof.AttnEq

@[expose] public section

noncomputable section

namespace Cert.Chan

open Idealize.ShloMosaic Idealize.ShloMosaic.TcCoe

/-! ## Normalised rows are real -/

theorem word_4096 : Ideal.ofBits .f32 0x45800000#32 = ((4096 : ℝ) : EReal) := by
  simp [Ideal.ofBits, Ideal.ieee, -EReal.coe_mul, ← EReal.coe_mul]
  norm_num

theorem word_eps : ∃ e : ℝ, 0 < e ∧ Ideal.ofBits .f32 0x358637BD#32 = (e : EReal) := by
  refine ⟨8796093 / 8796093022208, by norm_num, ?_⟩
  simp [Ideal.ofBits, Ideal.ieee, -EReal.coe_mul, ← EReal.coe_mul]
  norm_num

theorem square_nonneg (x : EReal) : 0 ≤ x * x := by
  induction x with
  | bot => simp
  | top => simp
  | coe r => rw [← EReal.coe_mul]; exact EReal.coe_nonneg.mpr (mul_self_nonneg r)

theorem square_top (x : EReal) (h : ¬(x ≠ ⊥ ∧ x ≠ ⊤)) : x * x = ⊤ := by
  induction x with
  | bot => simp
  | top => simp
  | coe r => exact absurd ⟨EReal.coe_ne_bot r, EReal.coe_ne_top r⟩ h

/-- A normalised entry is a real number where its gain is one, whatever the row holds. -/
theorem scaled_real (row gain : Fin 4096 → EReal) (k : Fin 4096) (hg : gain k ≠ ⊥ ∧ gain k ≠ ⊤) : ∃ r : ℝ, Ffn.scaled row gain k = (r : EReal) := by
  obtain ⟨e, he, hw⟩ := word_eps
  unfold Ffn.scaled
  rw [hw, word_4096]
  by_cases h : ∀ j, row j ≠ ⊥ ∧ row j ≠ ⊤
  · obtain ⟨y, rfl⟩ := Attn.reals row h
    have hs : ∑ j : Fin 4096, (y j : EReal) * (y j : EReal) = ((∑ j : Fin 4096, y j * y j : ℝ) : EReal) := by
      rw [Attn.coe_sum]
      exact Finset.sum_congr rfl fun j _ => (EReal.coe_mul _ _).symm
    have hp : 0 < (∑ j : Fin 4096, y j * y j) / 4096 + e :=
      add_pos_of_nonneg_of_pos (div_nonneg (Finset.sum_nonneg fun j _ => mul_self_nonneg _) (by norm_num)) he
    rw [hs, Attn.div_real _ (by norm_num), ← EReal.coe_add, Ideal.rsqrt_coe, if_neg (not_lt.mpr hp.le), if_neg hp.ne',
      ← EReal.coe_toReal hg.2 hg.1, ← EReal.coe_mul, ← EReal.coe_mul]
    exact ⟨_, rfl⟩
  · obtain ⟨j, hj⟩ := not_forall.mp h
    have hs : ∑ j : Fin 4096, row j * row j = ⊤ := by
      refine top_le_iff.mp ?_
      rw [← square_top (row j) hj]
      exact Finset.single_le_sum (f := fun j => row j * row j) (fun i _ => square_nonneg (row i)) (Finset.mem_univ j)
    have hd : Ideal.div ⊤ ((4096 : ℝ) : EReal) = ⊤ := by
      rw [Ideal.div_coe (by norm_num)]
      exact EReal.top_mul_coe_of_pos (by norm_num)
    rw [hs, hd, EReal.top_add_coe, Ideal.rsqrt_top, mul_zero, zero_mul]
    exact ⟨0, rfl⟩

/-! ## Combining before and after the products -/

/-- The reference's parts before the twiddles, from the products of the four quarters. -/
def refRe (A : Fin 4 → Fin 1024 → EReal) (rho : Fin 4) (f : Fin 512) : EReal :=
  ![A 0 (cosCol f) + A 1 (cosCol f) + A 2 (cosCol f) + A 3 (cosCol f),
    A 0 (cosCol f) + -A 1 (sinCol f) - A 2 (cosCol f) - -A 3 (sinCol f),
    A 0 (cosCol f) - A 1 (cosCol f) + A 2 (cosCol f) - A 3 (cosCol f),
    A 0 (cosCol f) - -A 1 (sinCol f) - A 2 (cosCol f) + -A 3 (sinCol f)] rho
def refIm (A : Fin 4 → Fin 1024 → EReal) (rho : Fin 4) (f : Fin 512) : EReal :=
  ![-A 0 (sinCol f) + -A 1 (sinCol f) + -A 2 (sinCol f) + -A 3 (sinCol f),
    -A 0 (sinCol f) - A 1 (cosCol f) - -A 2 (sinCol f) + A 3 (cosCol f),
    -A 0 (sinCol f) - -A 1 (sinCol f) + -A 2 (sinCol f) - -A 3 (sinCol f),
    -A 0 (sinCol f) + A 1 (cosCol f) - -A 2 (sinCol f) - A 3 (cosCol f)] rho

/-- A real product of a group with a column. -/
def realCol (z : Fin 512 → ℝ) (t : (⟨2, ![512, 1024]⟩ : Shape).Idx → ℝ) (j : Fin 1024) : ℝ := ∑ k : Fin 512, z k * t (ix2 k j)

theorem colAt_coe (z : Fin 512 → ℝ) (t : (⟨2, ![512, 1024]⟩ : Shape).Idx → ℝ) (j : Fin 1024) :
    colAt (fun k => (z k : EReal)) (fun i => (t i : EReal)) j = (realCol z t j : EReal) := by
  unfold colAt realCol
  rw [Attn.coe_sum]
  exact Finset.sum_congr rfl fun k _ => (EReal.coe_mul _ _).symm

theorem realCol_add (z w : Fin 512 → ℝ) (t : (⟨2, ![512, 1024]⟩ : Shape).Idx → ℝ) (j : Fin 1024) :
    realCol (fun k => z k + w k) t j = realCol z t j + realCol w t j := by
  unfold realCol
  rw [← Finset.sum_add_distrib]
  exact Finset.sum_congr rfl fun k _ => add_mul _ _ _

theorem realCol_sub (z w : Fin 512 → ℝ) (t : (⟨2, ![512, 1024]⟩ : Shape).Idx → ℝ) (j : Fin 1024) :
    realCol (fun k => z k - w k) t j = realCol z t j - realCol w t j := by
  unfold realCol
  rw [← Finset.sum_sub_distrib]
  exact Finset.sum_congr rfl fun k _ => sub_mul _ _ _

/-- A combination of the quarters' groups, multiplied by the table. -/
abbrev mixed (F : EReal → EReal → EReal → EReal → EReal) (H : Fin 4 → Fin 512 → EReal) (cs : (⟨2, ![512, 1024]⟩ : Shape).Idx → EReal) : Fin 1024 → EReal :=
  colAt (fun k => F (H 0 k) (H 1 k) (H 2 k) (H 3 k)) cs

section
variable (h : Fin 4 → Fin 512 → ℝ) (t : (⟨2, ![512, 1024]⟩ : Shape).Idx → ℝ) (j : Fin 1024)

theorem mixed_sum : mixed fSum (fun q k => (h q k : EReal)) (fun i => (t i : EReal)) j
    = ((realCol (h 0) t j + realCol (h 2) t j + (realCol (h 1) t j + realCol (h 3) t j) : ℝ) : EReal) := by
  have e : (fun k => fSum (h 0 k : EReal) (h 1 k) (h 2 k) (h 3 k)) = fun k => (((h 0 k + h 2 k) + (h 1 k + h 3 k) : ℝ) : EReal) := by
    funext k; simp only [fSum, EReal.coe_add]
  unfold mixed
  rw [e, colAt_coe, realCol_add, realCol_add, realCol_add]

theorem mixed_alt : mixed fAlt (fun q k => (h q k : EReal)) (fun i => (t i : EReal)) j
    = ((realCol (h 0) t j + realCol (h 2) t j - (realCol (h 1) t j + realCol (h 3) t j) : ℝ) : EReal) := by
  have e : (fun k => fAlt (h 0 k : EReal) (h 1 k) (h 2 k) (h 3 k)) = fun k => (((h 0 k + h 2 k) - (h 1 k + h 3 k) : ℝ) : EReal) := by
    funext k; simp only [fAlt, EReal.coe_add, EReal.coe_sub]
  unfold mixed
  rw [e, colAt_coe, realCol_sub, realCol_add, realCol_add]

theorem mixed_even : mixed fEven (fun q k => (h q k : EReal)) (fun i => (t i : EReal)) j
    = ((realCol (h 0) t j - realCol (h 2) t j : ℝ) : EReal) := by
  have e : (fun k => fEven (h 0 k : EReal) (h 1 k) (h 2 k) (h 3 k)) = fun k => ((h 0 k - h 2 k : ℝ) : EReal) := by
    funext k; simp only [fEven, EReal.coe_sub]
  unfold mixed
  rw [e, colAt_coe, realCol_sub]

theorem mixed_odd : mixed fOdd (fun q k => (h q k : EReal)) (fun i => (t i : EReal)) j
    = ((realCol (h 1) t j - realCol (h 3) t j : ℝ) : EReal) := by
  have e : (fun k => fOdd (h 0 k : EReal) (h 1 k) (h 2 k) (h 3 k)) = fun k => ((h 1 k - h 3 k : ℝ) : EReal) := by
    funext k; simp only [fOdd, EReal.coe_sub]
  unfold mixed
  rw [e, colAt_coe, realCol_sub]
end

/-- The kernel's parts are the reference's, for real groups and a real table. -/
theorem mix_real (h : Fin 4 → Fin 512 → ℝ) (t : (⟨2, ![512, 1024]⟩ : Shape).Idx → ℝ) (rho : Fin 4) (f : Fin 512) :
    (mixRe (mixed fSum (fun q k => (h q k : EReal)) (fun i => (t i : EReal))) (mixed fAlt (fun q k => (h q k : EReal)) (fun i => (t i : EReal)))
        (mixed fEven (fun q k => (h q k : EReal)) (fun i => (t i : EReal))) (mixed fOdd (fun q k => (h q k : EReal)) (fun i => (t i : EReal))) rho f
      = refRe (fun q => colAt (fun k => (h q k : EReal)) (fun i => (t i : EReal))) rho f) ∧
    (mixIm (mixed fSum (fun q k => (h q k : EReal)) (fun i => (t i : EReal))) (mixed fAlt (fun q k => (h q k : EReal)) (fun i => (t i : EReal)))
        (mixed fEven (fun q k => (h q k : EReal)) (fun i => (t i : EReal))) (mixed fOdd (fun q k => (h q k : EReal)) (fun i => (t i : EReal))) rho f
      = refIm (fun q => colAt (fun k => (h q k : EReal)) (fun i => (t i : EReal))) rho f) := by
  unfold mixRe mixIm refRe refIm
  simp only [mixed_sum, mixed_alt, mixed_even, mixed_odd, colAt_coe, ← EReal.coe_zero, ← EReal.coe_add, ← EReal.coe_sub, ← EReal.coe_neg]
  match rho with
  | 0 => exact ⟨congrArg Real.toEReal (by ring), congrArg Real.toEReal (by ring)⟩
  | 1 => exact ⟨congrArg Real.toEReal (by ring), congrArg Real.toEReal (by ring)⟩
  | 2 => exact ⟨congrArg Real.toEReal (by ring), congrArg Real.toEReal (by ring)⟩
  | 3 => exact ⟨congrArg Real.toEReal (by ring), congrArg Real.toEReal (by ring)⟩

/-- The kernel's parts are the reference's, for groups and a table without an infinity. -/
theorem mix_eq (H : Fin 4 → Fin 512 → EReal) (cs : (⟨2, ![512, 1024]⟩ : Shape).Idx → EReal) (hH : ∀ q k, ∃ r : ℝ, H q k = (r : EReal))
    (hc : ∀ i, cs i ≠ ⊥ ∧ cs i ≠ ⊤) (rho : Fin 4) (f : Fin 512) :
    mixRe (mixed fSum H cs) (mixed fAlt H cs) (mixed fEven H cs) (mixed fOdd H cs) rho f = refRe (fun q => colAt (H q) cs) rho f ∧
    mixIm (mixed fSum H cs) (mixed fAlt H cs) (mixed fEven H cs) (mixed fOdd H cs) rho f = refIm (fun q => colAt (H q) cs) rho f := by
  obtain ⟨t, rfl⟩ := Attn.reals cs hc
  choose h hh using hH
  obtain rfl : H = fun q k => (h q k : EReal) := funext fun q => funext fun k => hh q k
  exact mix_real h t rho f

/-! ## The call's result -/

section
variable (x : (⟨2, ![16384, 4096]⟩ : Shape).Idx → EReal) (g : (⟨2, ![1, 4096]⟩ : Shape).Idx → EReal)
  (cs : (⟨2, ![512, 1024]⟩ : Shape).Idx → EReal) (tw : (⟨2, ![1024, 8]⟩ : Shape).Idx → EReal)

/-- The group of channels of `e` in row `n` of quarter `q` of sequence `b`, normalised. -/
def quarter (b : Fin 4) (n : Fin 1024) (c : Fin 8) (q : Fin 4) (k : Fin 512) : EReal :=
  normAt x g (⟨b * 4096 + q * 1024 + n, by omega⟩ : Fin 16384) ⟨c * 512 + k, by omega⟩

/-- The parts before the twiddles at sequence `b`, row `n`, group `c` and frequency `f`, for every residue. -/
def stepRe (b : Fin 4) (n : Fin 1024) (c : Fin 8) (f : Fin 512) (rho : Fin 4) : EReal := refRe (fun q => colAt (quarter x g b n c q) cs) rho f
def stepIm (b : Fin 4) (n : Fin 1024) (c : Fin 8) (f : Fin 512) (rho : Fin 4) : EReal := refIm (fun q => colAt (quarter x g b n c q) cs) rho f

/-- The results. -/
def resRe (b : Fin 4) (n : Fin 1024) (c : Fin 8) (f : Fin 512) (rho : Fin 4) : EReal :=
  turnRe (stepRe x g cs b n c f) (stepIm x g cs b n c f) (fun j => tw (ix2 n j)) rho
def resIm (b : Fin 4) (n : Fin 1024) (c : Fin 8) (f : Fin 512) (rho : Fin 4) : EReal :=
  turnIm (stepRe x g cs b n c f) (stepIm x g cs b n c f) (fun j => tw (ix2 n j)) rho

/-- The results at residue `rho`, row `r` (row `r % 1024` of sequence `r / 1024`) and channel `e`. -/
def chanRe (rho : Fin 4) (r e : Fin 4096) : EReal :=
  resRe x g cs tw ⟨r / 1024, by omega⟩ ⟨r % 1024, by omega⟩ ⟨e / 512, by omega⟩ ⟨e % 512, by omega⟩ rho
def chanIm (rho : Fin 4) (r e : Fin 4096) : EReal :=
  resIm x g cs tw ⟨r / 1024, by omega⟩ ⟨r % 1024, by omega⟩ ⟨e / 512, by omega⟩ ⟨e % 512, by omega⟩ rho

/-- A normalised group is real where the gain is. -/
theorem quarter_real (hg : ∀ i, g i ≠ ⊥ ∧ g i ≠ ⊤) (b : Fin 4) (n : Fin 1024) (c : Fin 8) (q : Fin 4) (k : Fin 512) :
    ∃ r : ℝ, quarter x g b n c q k = (r : EReal) := by
  unfold quarter normAt
  exact scaled_real _ _ _ (hg _)
end

end Cert.Chan
-- ==== Proof.ChanRef.lean ====
/-
  The reference of the transform over channels over the extended reals, read at an element.

  Each quarter of the normalised rows times the table, by groups of 512 channels, then the radix-4 step and its twiddles, then the
  four residues stacked.
-/
module

public import proofs.«01_k».proof.Proof.ChanSpec
public import proofs.«01_k».proof.Proof.QkvSpec
public import proofs.«01_k».proof.Proof.Gen.ReferenceChanIdeal.Read
public import Idealize.ShloMosaic.Lib.Pipeline.Value

@[expose] public section

set_option maxRecDepth 16384

noncomputable section

namespace Cert.Chan

open Idealize.ShloMosaic Idealize.ShloMosaic.TcCoe
open Cert.ReferenceChanIdeal Cert.ReferenceChanIdeal.Read

section
variable (x : (⟨S16384x4096, .f32⟩ : BufTy).Contents (Elt Ideal)) (g : (⟨S1x4096, .f32⟩ : BufTy).Contents (Elt Ideal))
  (cs : (⟨S512x1024, .bf16⟩ : BufTy).Contents (Elt Ideal)) (tw : (⟨S1024x8, .f32⟩ : BufTy).Contents (Elt Ideal))

/-! ## The products -/

/-- The normalised rows at an element. -/
theorem ref_norm (r : Fin 16384) (k : Fin 4096) : val_main_v11 (F := Ideal) x g (ix2 r k) = normAt x g r k := by
  have hs : val_main_v1 (F := Ideal) x (ix1 r) = ∑ j : Fin 4096, x (ix2 r j) * x (ix2 r j) := by
    rw [val_main_v1_apply, val_main_cst_apply]
    refine Eq.trans ?_ (zero_add _)
    refine congrArg₂ (fun a b : EReal => a + b) Qkv.zero_word (Finset.sum_congr rfl fun j _ => ?_)
    have e : idx_main_v1 (ix1 r) j = ix2 r j := by funext a; fin_cases a <;> rfl
    rw [val_main_v0_apply, e]
    rfl
  have hg : val_main_v10 (F := Ideal) g (ix2 r k) = g (ix2 0 k) := by
    rw [val_main_v10_apply]
    exact congrArg g (by funext a; fin_cases a <;> rfl)
  have hr : val_main_v8 (F := Ideal) x (ix2 r k)
      = Ideal.rsqrt (Ideal.div (∑ j : Fin 4096, x (ix2 r j) * x (ix2 r j)) (Ideal.ofBits .f32 0x45800000#32) + Ideal.ofBits .f32 0x358637BD#32) := by
    rw [val_main_v8_apply, val_main_v7_apply, val_main_v6_apply, val_main_v5_apply, val_main_cst_1_apply, val_main_v4_apply, val_main_v3_apply,
      val_main_cst_0_apply, val_main_v2_apply]
    have e : idx_main_v2 (idx_main_v8 (ix2 r k)) = ix1 r := by funext a; fin_cases a; rfl
    rw [e, hs]
    rfl
  rw [val_main_v11_apply, val_main_v9_apply, hr, hg]
  rfl

/-- The rows of the quarters, by groups of channels. -/
theorem ref_rows (b : Fin 4) (q : Fin 4) (n : Fin 1024) (c : Fin 8) (k : Fin 512) (i : S4x4x1024x8x512.Idx) (h0 : (i 0).val = b)
    (h1 : (i 1).val = q) (h2 : (i 2).val = n) (h3 : (i 3).val = c) (h4 : (i 4).val = k) :
    val_main_v12 (F := Ideal) x g i = quarter x g b n c q k := by
  rw [val_main_v12_apply]
  have e : idx_main_v12 i = ix2 (⟨b * 4096 + q * 1024 + n, by omega⟩ : Fin 16384) (⟨c * 512 + k, by omega⟩ : Fin 4096) := by
    have hlin : ((((i 0).val * 4 + (i 1).val) * 1024 + (i 2).val) * 8 + (i 3).val) * 512 + (i 4).val
        = (((b * 4 + q) * 1024 + n) * 8 + c) * 512 + (k : ℕ) := by rw [h0, h1, h2, h3, h4]
    funext a
    match a with
    | 0 => exact Fin.ext ((congrArg (· / 4096) hlin).trans (by omega : _ = (b : ℕ) * 4096 + q * 1024 + n))
    | 1 => exact Fin.ext ((congrArg (· % 4096) hlin).trans (by omega : _ = (c : ℕ) * 512 + k))
  rw [e, ref_norm]
  rfl

/-- The products with the cosines. -/
theorem ref_cos (b : Fin 4) (q : Fin 4) (n : Fin 1024) (c : Fin 8) (f : Fin 512) (i : S4x4x1024x8x512.Idx) (h0 : (i 0).val = b)
    (h1 : (i 1).val = q) (h2 : (i 2).val = n) (h3 : (i 3).val = c) (h4 : (i 4).val = f) :
    val_main_v15 (F := Ideal) x g cs i = colAt (quarter x g b n c q) cs (cosCol f) := by
  rw [val_main_v15_apply]
  refine Finset.sum_congr rfl fun k _ => ?_
  rw [ref_rows x g b q n c k (lidx_main_v15 i k) h0 h1 h2 h3 rfl, val_main_v14_apply, val_main_v13_apply]
  refine congrArg (fun a : EReal => quarter x g b n c q k * a) (congrArg cs (funext fun a => ?_))
  match a with
  | 0 => rfl
  | 1 => exact Fin.ext h4

/-- The products with the sines, with their sign. -/
theorem ref_sin (b : Fin 4) (q : Fin 4) (n : Fin 1024) (c : Fin 8) (f : Fin 512) (i : S4x4x1024x8x512.Idx) (h0 : (i 0).val = b)
    (h1 : (i 1).val = q) (h2 : (i 2).val = n) (h3 : (i 3).val = c) (h4 : (i 4).val = f) :
    val_main_v18 (F := Ideal) x g cs i = -colAt (quarter x g b n c q) cs (sinCol f) := by
  rw [val_main_v18_apply, val_main_v17_apply]
  refine congrArg (fun a : EReal => -a) (Finset.sum_congr rfl fun k _ => ?_)
  rw [ref_rows x g b q n c k (lidx_main_v17 i k) h0 h1 h2 h3 rfl, val_main_v16_apply, val_main_v13_apply]
  refine congrArg (fun a : EReal => quarter x g b n c q k * a) (congrArg cs (funext fun a => ?_))
  match a with
  | 0 => rfl
  | 1 => exact Fin.ext (congrArg (512 + ·) h4)
end

/-! ## The radix-4 step -/

section
variable (x : (⟨S16384x4096, .f32⟩ : BufTy).Contents (Elt Ideal)) (g : (⟨S1x4096, .f32⟩ : BufTy).Contents (Elt Ideal))
  (cs : (⟨S512x1024, .bf16⟩ : BufTy).Contents (Elt Ideal)) (tw : (⟨S1024x8, .f32⟩ : BufTy).Contents (Elt Ideal))
  (b : Fin 4) (n : Fin 1024) (c : Fin 8) (f : Fin 512)

theorem cos_0 : val_main_v20 (F := Ideal) x g cs (ix4 b n c f) = colAt (quarter x g b n c 0) cs (cosCol f) := by
  rw [val_main_v20_apply, val_main_v19_apply]
  exact ref_cos x g cs b 0 n c f _ (show ((((b : ℕ) * 1024 + n) * 8 + c) * 512 + f) / 4194304 = b by omega) rfl
    (show ((((b : ℕ) * 1024 + n) * 8 + c) * 512 + f) / 4096 % 1024 = n by omega)
    (show ((((b : ℕ) * 1024 + n) * 8 + c) * 512 + f) / 512 % 8 = c by omega)
    (show ((((b : ℕ) * 1024 + n) * 8 + c) * 512 + f) % 512 = f by omega)
theorem sin_0 : val_main_v28 (F := Ideal) x g cs (ix4 b n c f) = -colAt (quarter x g b n c 0) cs (sinCol f) := by
  rw [val_main_v28_apply, val_main_v27_apply]
  exact ref_sin x g cs b 0 n c f _ (show ((((b : ℕ) * 1024 + n) * 8 + c) * 512 + f) / 4194304 = b by omega) rfl
    (show ((((b : ℕ) * 1024 + n) * 8 + c) * 512 + f) / 4096 % 1024 = n by omega)
    (show ((((b : ℕ) * 1024 + n) * 8 + c) * 512 + f) / 512 % 8 = c by omega)
    (show ((((b : ℕ) * 1024 + n) * 8 + c) * 512 + f) % 512 = f by omega)
theorem cos_1 : val_main_v22 (F := Ideal) x g cs (ix4 b n c f) = colAt (quarter x g b n c 1) cs (cosCol f) := by
  rw [val_main_v22_apply, val_main_v21_apply]
  exact ref_cos x g cs b 1 n c f _ (show ((((b : ℕ) * 1024 + n) * 8 + c) * 512 + f) / 4194304 = b by omega) rfl
    (show ((((b : ℕ) * 1024 + n) * 8 + c) * 512 + f) / 4096 % 1024 = n by omega)
    (show ((((b : ℕ) * 1024 + n) * 8 + c) * 512 + f) / 512 % 8 = c by omega)
    (show ((((b : ℕ) * 1024 + n) * 8 + c) * 512 + f) % 512 = f by omega)
theorem sin_1 : val_main_v30 (F := Ideal) x g cs (ix4 b n c f) = -colAt (quarter x g b n c 1) cs (sinCol f) := by
  rw [val_main_v30_apply, val_main_v29_apply]
  exact ref_sin x g cs b 1 n c f _ (show ((((b : ℕ) * 1024 + n) * 8 + c) * 512 + f) / 4194304 = b by omega) rfl
    (show ((((b : ℕ) * 1024 + n) * 8 + c) * 512 + f) / 4096 % 1024 = n by omega)
    (show ((((b : ℕ) * 1024 + n) * 8 + c) * 512 + f) / 512 % 8 = c by omega)
    (show ((((b : ℕ) * 1024 + n) * 8 + c) * 512 + f) % 512 = f by omega)
theorem cos_2 : val_main_v24 (F := Ideal) x g cs (ix4 b n c f) = colAt (quarter x g b n c 2) cs (cosCol f) := by
  rw [val_main_v24_apply, val_main_v23_apply]
  exact ref_cos x g cs b 2 n c f _ (show ((((b : ℕ) * 1024 + n) * 8 + c) * 512 + f) / 4194304 = b by omega) rfl
    (show ((((b : ℕ) * 1024 + n) * 8 + c) * 512 + f) / 4096 % 1024 = n by omega)
    (show ((((b : ℕ) * 1024 + n) * 8 + c) * 512 + f) / 512 % 8 = c by omega)
    (show ((((b : ℕ) * 1024 + n) * 8 + c) * 512 + f) % 512 = f by omega)
theorem sin_2 : val_main_v32 (F := Ideal) x g cs (ix4 b n c f) = -colAt (quarter x g b n c 2) cs (sinCol f) := by
  rw [val_main_v32_apply, val_main_v31_apply]
  exact ref_sin x g cs b 2 n c f _ (show ((((b : ℕ) * 1024 + n) * 8 + c) * 512 + f) / 4194304 = b by omega) rfl
    (show ((((b : ℕ) * 1024 + n) * 8 + c) * 512 + f) / 4096 % 1024 = n by omega)
    (show ((((b : ℕ) * 1024 + n) * 8 + c) * 512 + f) / 512 % 8 = c by omega)
    (show ((((b : ℕ) * 1024 + n) * 8 + c) * 512 + f) % 512 = f by omega)
theorem cos_3 : val_main_v26 (F := Ideal) x g cs (ix4 b n c f) = colAt (quarter x g b n c 3) cs (cosCol f) := by
  rw [val_main_v26_apply, val_main_v25_apply]
  exact ref_cos x g cs b 3 n c f _ (show ((((b : ℕ) * 1024 + n) * 8 + c) * 512 + f) / 4194304 = b by omega) rfl
    (show ((((b : ℕ) * 1024 + n) * 8 + c) * 512 + f) / 4096 % 1024 = n by omega)
    (show ((((b : ℕ) * 1024 + n) * 8 + c) * 512 + f) / 512 % 8 = c by omega)
    (show ((((b : ℕ) * 1024 + n) * 8 + c) * 512 + f) % 512 = f by omega)
theorem sin_3 : val_main_v34 (F := Ideal) x g cs (ix4 b n c f) = -colAt (quarter x g b n c 3) cs (sinCol f) := by
  rw [val_main_v34_apply, val_main_v33_apply]
  exact ref_sin x g cs b 3 n c f _ (show ((((b : ℕ) * 1024 + n) * 8 + c) * 512 + f) / 4194304 = b by omega) rfl
    (show ((((b : ℕ) * 1024 + n) * 8 + c) * 512 + f) / 4096 % 1024 = n by omega)
    (show ((((b : ℕ) * 1024 + n) * 8 + c) * 512 + f) / 512 % 8 = c by omega)
    (show ((((b : ℕ) * 1024 + n) * 8 + c) * 512 + f) % 512 = f by omega)

/-- The parts before the twiddles. -/
theorem partRe_0 : val_main_v37 (F := Ideal) x g cs (ix4 b n c f) = stepRe x g cs b n c f 0 := by
  rw [val_main_v37_apply, val_main_v36_apply, val_main_v35_apply, cos_0, cos_1, cos_2, cos_3]
  rfl
theorem partRe_1 : val_main_v40 (F := Ideal) x g cs (ix4 b n c f) = stepRe x g cs b n c f 1 := by
  rw [val_main_v40_apply, val_main_v39_apply, val_main_v38_apply, cos_0, sin_1, cos_2, sin_3]
  rfl
theorem partRe_2 : val_main_v43 (F := Ideal) x g cs (ix4 b n c f) = stepRe x g cs b n c f 2 := by
  rw [val_main_v43_apply, val_main_v42_apply, val_main_v41_apply, cos_0, cos_1, cos_2, cos_3]
  rfl
theorem partRe_3 : val_main_v46 (F := Ideal) x g cs (ix4 b n c f) = stepRe x g cs b n c f 3 := by
  rw [val_main_v46_apply, val_main_v45_apply, val_main_v44_apply, cos_0, sin_1, cos_2, sin_3]
  rfl
theorem partIm_0 : val_main_v49 (F := Ideal) x g cs (ix4 b n c f) = stepIm x g cs b n c f 0 := by
  rw [val_main_v49_apply, val_main_v48_apply, val_main_v47_apply, sin_0, sin_1, sin_2, sin_3]
  rfl
theorem partIm_1 : val_main_v52 (F := Ideal) x g cs (ix4 b n c f) = stepIm x g cs b n c f 1 := by
  rw [val_main_v52_apply, val_main_v51_apply, val_main_v50_apply, sin_0, cos_1, sin_2, cos_3]
  rfl
theorem partIm_2 : val_main_v55 (F := Ideal) x g cs (ix4 b n c f) = stepIm x g cs b n c f 2 := by
  rw [val_main_v55_apply, val_main_v54_apply, val_main_v53_apply, sin_0, sin_1, sin_2, sin_3]
  rfl
theorem partIm_3 : val_main_v58 (F := Ideal) x g cs (ix4 b n c f) = stepIm x g cs b n c f 3 := by
  rw [val_main_v58_apply, val_main_v57_apply, val_main_v56_apply, sin_0, cos_1, sin_2, cos_3]
  rfl

/-- A column of the twiddles over the channels. -/
theorem twiddle_0 : val_main_v65 (F := Ideal) tw (ix4 b n c f) = tw (ix2 n 0) := by
  rw [val_main_v65_apply, val_main_v61_apply, val_main_v60_apply, val_main_v59_apply]
  refine congrArg tw (funext fun a => ?_)
  match a with
  | 0 => exact Fin.ext (by simp)
  | 1 => rfl
theorem twiddle_1 : val_main_v67 (F := Ideal) tw (ix4 b n c f) = tw (ix2 n 1) := by
  rw [val_main_v67_apply, val_main_v64_apply, val_main_v63_apply, val_main_v62_apply]
  refine congrArg tw (funext fun a => ?_)
  match a with
  | 0 => exact Fin.ext (by simp)
  | 1 => rfl
theorem twiddle_2 : val_main_v81 (F := Ideal) tw (ix4 b n c f) = tw (ix2 n 2) := by
  rw [val_main_v81_apply, val_main_v77_apply, val_main_v76_apply, val_main_v75_apply]
  refine congrArg tw (funext fun a => ?_)
  match a with
  | 0 => exact Fin.ext (by simp)
  | 1 => rfl
theorem twiddle_3 : val_main_v83 (F := Ideal) tw (ix4 b n c f) = tw (ix2 n 3) := by
  rw [val_main_v83_apply, val_main_v80_apply, val_main_v79_apply, val_main_v78_apply]
  refine congrArg tw (funext fun a => ?_)
  match a with
  | 0 => exact Fin.ext (by simp)
  | 1 => rfl
theorem twiddle_4 : val_main_v97 (F := Ideal) tw (ix4 b n c f) = tw (ix2 n 4) := by
  rw [val_main_v97_apply, val_main_v93_apply, val_main_v92_apply, val_main_v91_apply]
  refine congrArg tw (funext fun a => ?_)
  match a with
  | 0 => exact Fin.ext (by simp)
  | 1 => rfl
theorem twiddle_5 : val_main_v99 (F := Ideal) tw (ix4 b n c f) = tw (ix2 n 5) := by
  rw [val_main_v99_apply, val_main_v96_apply, val_main_v95_apply, val_main_v94_apply]
  refine congrArg tw (funext fun a => ?_)
  match a with
  | 0 => exact Fin.ext (by simp)
  | 1 => rfl

/-- The parts after the twiddles. -/
theorem turnedRe_1 : val_main_v69 (F := Ideal) x g cs tw (ix4 b n c f) = resRe x g cs tw b n c f 1 := by
  rw [val_main_v69_apply, val_main_v66_apply, val_main_v68_apply, partRe_1, partIm_1, twiddle_0, twiddle_1]
  rfl
theorem turnedIm_1 : val_main_v74 (F := Ideal) x g cs tw (ix4 b n c f) = resIm x g cs tw b n c f 1 := by
  rw [val_main_v74_apply, val_main_v71_apply, val_main_v73_apply, partRe_1, partIm_1,
    show val_main_v70 (F := Ideal) tw (ix4 b n c f) = tw (ix2 n 0) from twiddle_0 tw b n c f,
    show val_main_v72 (F := Ideal) tw (ix4 b n c f) = tw (ix2 n 1) from twiddle_1 tw b n c f]
  rfl
theorem turnedRe_2 : val_main_v85 (F := Ideal) x g cs tw (ix4 b n c f) = resRe x g cs tw b n c f 2 := by
  rw [val_main_v85_apply, val_main_v82_apply, val_main_v84_apply, partRe_2, partIm_2, twiddle_2, twiddle_3]
  rfl
theorem turnedIm_2 : val_main_v90 (F := Ideal) x g cs tw (ix4 b n c f) = resIm x g cs tw b n c f 2 := by
  rw [val_main_v90_apply, val_main_v87_apply, val_main_v89_apply, partRe_2, partIm_2,
    show val_main_v86 (F := Ideal) tw (ix4 b n c f) = tw (ix2 n 2) from twiddle_2 tw b n c f,
    show val_main_v88 (F := Ideal) tw (ix4 b n c f) = tw (ix2 n 3) from twiddle_3 tw b n c f]
  rfl
theorem turnedRe_3 : val_main_v101 (F := Ideal) x g cs tw (ix4 b n c f) = resRe x g cs tw b n c f 3 := by
  rw [val_main_v101_apply, val_main_v98_apply, val_main_v100_apply, partRe_3, partIm_3, twiddle_4, twiddle_5]
  rfl
theorem turnedIm_3 : val_main_v106 (F := Ideal) x g cs tw (ix4 b n c f) = resIm x g cs tw b n c f 3 := by
  rw [val_main_v106_apply, val_main_v103_apply, val_main_v105_apply, partRe_3, partIm_3,
    show val_main_v102 (F := Ideal) tw (ix4 b n c f) = tw (ix2 n 4) from twiddle_4 tw b n c f,
    show val_main_v104 (F := Ideal) tw (ix4 b n c f) = tw (ix2 n 5) from twiddle_5 tw b n c f]
  rfl
end

/-! ## The residues stacked -/

/-- Four arrays stacked, read in each. -/
theorem stack_at (u : Fin 4 → S1x4x1024x8x512.Idx → EReal)
    (hc : Shape.Concatenates [S1x4x1024x8x512, S1x4x1024x8x512, S1x4x1024x8x512, S1x4x1024x8x512] S4x4x1024x8x512 0)
    (rho b : Fin 4) (n : Fin 1024) (c : Fin 8) (f : Fin 512) (i : S4x4x1024x8x512.Idx) (h0 : (i 0).val = rho) (h1 : (i 1).val = b) (h2 : (i 2).val = n)
    (h3 : (i 3).val = c) (h4 : (i 4).val = f) :
    concatenate S4x4x1024x8x512 0
        [⟨S1x4x1024x8x512, u 0⟩, ⟨S1x4x1024x8x512, u 1⟩, ⟨S1x4x1024x8x512, u 2⟩, ⟨S1x4x1024x8x512, u 3⟩] hc i
      = u rho (ix5 0 b n c f) := by
  have ho : ∀ a : Fin 5, a ≠ 0 → ((ix5 0 b n c f : S1x4x1024x8x512.Idx) a).val = (i a).val := fun a ha =>
    match a with
    | 0 => absurd rfl ha
    | 1 => h1.symm
    | 2 => h2.symm
    | 3 => h3.symm
    | 4 => h4.symm
  match rho, h0 with
  | 0, h0 =>
    exact concatenate_apply_piece (t := S4x4x1024x8x512) (0 : Fin 5)
      [⟨S1x4x1024x8x512, u 0⟩, ⟨S1x4x1024x8x512, u 1⟩, ⟨S1x4x1024x8x512, u 2⟩, ⟨S1x4x1024x8x512, u 3⟩] hc i 0 (by simp)
      S1x4x1024x8x512 (u 0) rfl rfl 0 rfl _ ho h0.symm
  | 1, h0 =>
    exact concatenate_apply_piece (t := S4x4x1024x8x512) (0 : Fin 5)
      [⟨S1x4x1024x8x512, u 0⟩, ⟨S1x4x1024x8x512, u 1⟩, ⟨S1x4x1024x8x512, u 2⟩, ⟨S1x4x1024x8x512, u 3⟩] hc i 1 (by simp)
      S1x4x1024x8x512 (u 1) rfl rfl 1 rfl _ ho h0.symm
  | 2, h0 =>
    exact concatenate_apply_piece (t := S4x4x1024x8x512) (0 : Fin 5)
      [⟨S1x4x1024x8x512, u 0⟩, ⟨S1x4x1024x8x512, u 1⟩, ⟨S1x4x1024x8x512, u 2⟩, ⟨S1x4x1024x8x512, u 3⟩] hc i 2 (by simp)
      S1x4x1024x8x512 (u 2) rfl rfl 2 rfl _ ho h0.symm
  | 3, h0 =>
    exact concatenate_apply_piece (t := S4x4x1024x8x512) (0 : Fin 5)
      [⟨S1x4x1024x8x512, u 0⟩, ⟨S1x4x1024x8x512, u 1⟩, ⟨S1x4x1024x8x512, u 2⟩, ⟨S1x4x1024x8x512, u 3⟩] hc i 3 (by simp)
      S1x4x1024x8x512 (u 3) rfl rfl 3 rfl _ ho h0.symm

section
variable (x : (⟨S16384x4096, .f32⟩ : BufTy).Contents (Elt Ideal)) (g : (⟨S1x4096, .f32⟩ : BufTy).Contents (Elt Ideal))
  (cs : (⟨S512x1024, .bf16⟩ : BufTy).Contents (Elt Ideal)) (tw : (⟨S1024x8, .f32⟩ : BufTy).Contents (Elt Ideal))

/-- The stacked arrays of the real parts. -/
theorem stackRe (rho b : Fin 4) (n : Fin 1024) (c : Fin 8) (f : Fin 512) :
    (![val_main_v107 (F := Ideal) x g cs, val_main_v108 (F := Ideal) x g cs tw, val_main_v109 (F := Ideal) x g cs tw, val_main_v110 (F := Ideal) x g cs tw] :
      Fin 4 → S1x4x1024x8x512.Idx → EReal) rho (ix5 0 b n c f) = resRe x g cs tw b n c f rho := by
  match rho with
  | 0 =>
    exact (val_main_v107_apply (F := Ideal) x g cs (ix5 0 b n c f)).trans
      ((congrArg _ (by funext a; fin_cases a <;> rfl : idx_main_v107 (ix5 0 b n c f) = ix4 b n c f)).trans (partRe_0 x g cs b n c f))
  | 1 =>
    exact (val_main_v108_apply (F := Ideal) x g cs tw (ix5 0 b n c f)).trans
      ((congrArg _ (by funext a; fin_cases a <;> rfl : idx_main_v108 (ix5 0 b n c f) = ix4 b n c f)).trans (turnedRe_1 x g cs tw b n c f))
  | 2 =>
    exact (val_main_v109_apply (F := Ideal) x g cs tw (ix5 0 b n c f)).trans
      ((congrArg _ (by funext a; fin_cases a <;> rfl : idx_main_v109 (ix5 0 b n c f) = ix4 b n c f)).trans (turnedRe_2 x g cs tw b n c f))
  | 3 =>
    exact (val_main_v110_apply (F := Ideal) x g cs tw (ix5 0 b n c f)).trans
      ((congrArg _ (by funext a; fin_cases a <;> rfl : idx_main_v110 (ix5 0 b n c f) = ix4 b n c f)).trans (turnedRe_3 x g cs tw b n c f))

/-- The reference's real result at an element. -/
theorem refRe_at (rho : Fin 4) (r e : Fin 4096) : val_main_v113 (F := Ideal) x g cs tw (ix3 rho r e) = chanRe x g cs tw rho r e := by
  have hr := r.isLt; have he := e.isLt; have hh := rho.isLt
  rw [val_main_v113_apply, val_main_v112_apply]
  exact (stack_at ![val_main_v107 (F := Ideal) x g cs, val_main_v108 (F := Ideal) x g cs tw, val_main_v109 (F := Ideal) x g cs tw, val_main_v110 (F := Ideal) x g cs tw]
      Gen.concatenates_S1x4x1024x8x512_S1x4x1024x8x512_S1x4x1024x8x512_S1x4x1024x8x512_S4x4x1024x8x512_d0 rho
      ⟨r / 1024, by omega⟩ ⟨r % 1024, by omega⟩ ⟨e / 512, by omega⟩ ⟨e % 512, by omega⟩ (idx_main_v112 (ix3 rho r e))
      (show (((rho : ℕ) * 4096 + r) * 4096 + e) / 16777216 = rho by omega)
      (show (((rho : ℕ) * 4096 + r) * 4096 + e) / 4194304 % 4 = r / 1024 by omega)
      (show (((rho : ℕ) * 4096 + r) * 4096 + e) / 4096 % 1024 = r % 1024 by omega)
      (show (((rho : ℕ) * 4096 + r) * 4096 + e) / 512 % 8 = e / 512 by omega)
      (show (((rho : ℕ) * 4096 + r) * 4096 + e) % 512 = e % 512 by omega)).trans (stackRe x g cs tw rho _ _ _ _)

/-- The stacked arrays of the imaginary parts. -/
theorem stackIm (rho b : Fin 4) (n : Fin 1024) (c : Fin 8) (f : Fin 512) :
    (![val_main_v114 (F := Ideal) x g cs, val_main_v115 (F := Ideal) x g cs tw, val_main_v116 (F := Ideal) x g cs tw, val_main_v117 (F := Ideal) x g cs tw] :
      Fin 4 → S1x4x1024x8x512.Idx → EReal) rho (ix5 0 b n c f) = resIm x g cs tw b n c f rho := by
  match rho with
  | 0 =>
    exact (val_main_v114_apply (F := Ideal) x g cs (ix5 0 b n c f)).trans
      ((congrArg _ (by funext a; fin_cases a <;> rfl : idx_main_v114 (ix5 0 b n c f) = ix4 b n c f)).trans (partIm_0 x g cs b n c f))
  | 1 =>
    exact (val_main_v115_apply (F := Ideal) x g cs tw (ix5 0 b n c f)).trans
      ((congrArg _ (by funext a; fin_cases a <;> rfl : idx_main_v115 (ix5 0 b n c f) = ix4 b n c f)).trans (turnedIm_1 x g cs tw b n c f))
  | 2 =>
    exact (val_main_v116_apply (F := Ideal) x g cs tw (ix5 0 b n c f)).trans
      ((congrArg _ (by funext a; fin_cases a <;> rfl : idx_main_v116 (ix5 0 b n c f) = ix4 b n c f)).trans (turnedIm_2 x g cs tw b n c f))
  | 3 =>
    exact (val_main_v117_apply (F := Ideal) x g cs tw (ix5 0 b n c f)).trans
      ((congrArg _ (by funext a; fin_cases a <;> rfl : idx_main_v117 (ix5 0 b n c f) = ix4 b n c f)).trans (turnedIm_3 x g cs tw b n c f))

/-- The reference's imaginary result at an element. -/
theorem refIm_at (rho : Fin 4) (r e : Fin 4096) : val_main_v120 (F := Ideal) x g cs tw (ix3 rho r e) = chanIm x g cs tw rho r e := by
  have hr := r.isLt; have he := e.isLt; have hh := rho.isLt
  rw [val_main_v120_apply, val_main_v119_apply]
  exact (stack_at ![val_main_v114 (F := Ideal) x g cs, val_main_v115 (F := Ideal) x g cs tw, val_main_v116 (F := Ideal) x g cs tw, val_main_v117 (F := Ideal) x g cs tw]
      Gen.concatenates_S1x4x1024x8x512_S1x4x1024x8x512_S1x4x1024x8x512_S1x4x1024x8x512_S4x4x1024x8x512_d0 rho
      ⟨r / 1024, by omega⟩ ⟨r % 1024, by omega⟩ ⟨e / 512, by omega⟩ ⟨e % 512, by omega⟩ (idx_main_v119 (ix3 rho r e))
      (show (((rho : ℕ) * 4096 + r) * 4096 + e) / 16777216 = rho by omega)
      (show (((rho : ℕ) * 4096 + r) * 4096 + e) / 4194304 % 4 = r / 1024 by omega)
      (show (((rho : ℕ) * 4096 + r) * 4096 + e) / 4096 % 1024 = r % 1024 by omega)
      (show (((rho : ℕ) * 4096 + r) * 4096 + e) / 512 % 8 = e / 512 by omega)
      (show (((rho : ℕ) * 4096 + r) * 4096 + e) % 512 = e % 512 by omega)).trans (stackIm x g cs tw rho _ _ _ _)

end

end Cert.Chan
-- ==== Proof.ChanClaim.lean ====
/-
  The transform over channels: the frames, and the equality of the results.

  Grid point `(b, i)` reads 128 rows of each quarter of sequence `b`, from row `128 * i` of the quarter, and writes the same 128 rows of
  every residue; the blocks cover the arrays.
-/
module

public import proofs.«01_k».proof.Defs
public import proofs.«01_k».proof.Proof.ChanRef
public import proofs.«01_k».proof.Proof.Gen.KernelChan
public import proofs.«01_k».proof.Proof.Gen.KernelChan.Frame
public import proofs.«01_k».proof.Proof.Gen.KernelChanIdeal
public import proofs.«01_k».proof.Proof.Gen.ReferenceChanIdeal.Run
public import proofs.«01_k».proof.Proof.Gen.ReferenceChanIdeal.Read
public import proofs.«01_k».proof.Proof.Gen.Pre_finite_tables
public import Idealize.ShloMosaic.Lib.Quiescent

@[expose] public section

set_option maxRecDepth 16384

noncomputable section

namespace Cert.Chan

open Idealize.ShloMosaic Idealize.ShloMosaic.TcCoe Idealize.SL.Sem

/-- The transform's kernel, on machine words, runs and keeps its arguments. -/
theorem frame_word : Cert.quiescent_KernelChan := fun m ρ _ => Cert.KernelChan.Gen.frame m ρ

/-- The same over the extended reals. -/
theorem frame_ideal : Cert.quiescent_KernelChanIdeal := fun m ρ _ => Cert.KernelChanIdeal.Gen.frame m ρ

theorem frame_ideal_pre : Cert.quiescent_KernelChanIdeal_pre_finite_tables := fun m ρ _ => Cert.KernelChanIdeal.Gen.frame m ρ

/-- The reference runs and keeps its arguments. -/
theorem frame_ref : Cert.quiescent_ReferenceChanIdeal := fun m ρ _ =>
  (θ_run Cert.ReferenceChanIdeal.defs _ _).mono
    (fun r h => ⟨fun c => (h c).2.2, sem_eq_zero_of_no_sems (by decide) r.2⟩) (Cert.ReferenceChanIdeal.Value.run m ρ)

theorem frame_ref_pre : Cert.quiescent_ReferenceChanIdeal_pre_finite_tables := fun m ρ _ => frame_ref m ρ trivial

section
open Cert.KernelChanIdeal Cert.KernelChanIdeal.Gen

variable (m : (ℓ : Loc nD τ sig) → Buf (Elt Ideal) ℓ)

theorem index_x0 : ∀ t : Fin cfg0.N, win0_0.index t = ![(grid0.coords t 0).val * 32 + (grid0.coords t 1).val, 0] :=
  (by decide +kernel : ∀ t : Fin grid0.N, _)
theorem index_x1 : ∀ t : Fin cfg0.N, win0_1.index t = ![(grid0.coords t 0).val * 32 + 8 + (grid0.coords t 1).val, 0] :=
  (by decide +kernel : ∀ t : Fin grid0.N, _)
theorem index_x2 : ∀ t : Fin cfg0.N, win0_2.index t = ![(grid0.coords t 0).val * 32 + 16 + (grid0.coords t 1).val, 0] :=
  (by decide +kernel : ∀ t : Fin grid0.N, _)
theorem index_x3 : ∀ t : Fin cfg0.N, win0_3.index t = ![(grid0.coords t 0).val * 32 + 24 + (grid0.coords t 1).val, 0] :=
  (by decide +kernel : ∀ t : Fin grid0.N, _)
theorem index_g : ∀ t : Fin cfg0.N, win0_4.index t = ![0, 0] := (by decide +kernel : ∀ t : Fin grid0.N, _)
theorem index_cs : ∀ t : Fin cfg0.N, win0_5.index t = ![0, 0] := (by decide +kernel : ∀ t : Fin grid0.N, _)
theorem index_tw : ∀ t : Fin cfg0.N, win0_6.index t = ![(grid0.coords t 1).val, 0] := (by decide +kernel : ∀ t : Fin grid0.N, _)
theorem index_re : ∀ t : Fin cfg0.N, win0_7.index t = ![0, (grid0.coords t 0).val * 8 + (grid0.coords t 1).val, 0] :=
  (by decide +kernel : ∀ t : Fin grid0.N, _)
theorem index_im : ∀ t : Fin cfg0.N, win0_8.index t = ![0, (grid0.coords t 0).val * 8 + (grid0.coords t 1).val, 0] :=
  (by decide +kernel : ∀ t : Fin grid0.N, _)

/-- The sequence and the row tile of a grid point. -/
abbrev pB (t : Fin cfg0.N) : Fin 4 := grid0.coords t 0
abbrev pI (t : Fin cfg0.N) : Fin 8 := grid0.coords t 1

theorem x0_at (c : Dev nD) (t : Fin cfg0.N) (p : Fin 128) (k : Fin 4096) (r : Fin 16384) (hr : (r : ℕ) = (pB t) * 4096 + (pI t) * 128 + p) :
    iblk m c 0 t (ix2 p k) = m ((c : Thread nD τ).loc main_arg0) (ix2 r k) := by
  blk_simp [iblk]
  refine (congrFun (V_main_arg0 m c) _).trans (congrArg (m ((c : Thread nD τ).loc main_arg0)) ?_)
  blk_ext [index_x0] <;> simp only [pB, pI] at * <;> omega

theorem x1_at (c : Dev nD) (t : Fin cfg0.N) (p : Fin 128) (k : Fin 4096) (r : Fin 16384) (hr : (r : ℕ) = (pB t) * 4096 + 1024 + (pI t) * 128 + p) :
    iblk m c 1 t (ix2 p k) = m ((c : Thread nD τ).loc main_arg0) (ix2 r k) := by
  blk_simp [iblk]
  refine (congrFun (V_main_arg0 m c) _).trans (congrArg (m ((c : Thread nD τ).loc main_arg0)) ?_)
  blk_ext [index_x1] <;> simp only [pB, pI] at * <;> omega

theorem x2_at (c : Dev nD) (t : Fin cfg0.N) (p : Fin 128) (k : Fin 4096) (r : Fin 16384) (hr : (r : ℕ) = (pB t) * 4096 + 2048 + (pI t) * 128 + p) :
    iblk m c 2 t (ix2 p k) = m ((c : Thread nD τ).loc main_arg0) (ix2 r k) := by
  blk_simp [iblk]
  refine (congrFun (V_main_arg0 m c) _).trans (congrArg (m ((c : Thread nD τ).loc main_arg0)) ?_)
  blk_ext [index_x2] <;> simp only [pB, pI] at * <;> omega

theorem x3_at (c : Dev nD) (t : Fin cfg0.N) (p : Fin 128) (k : Fin 4096) (r : Fin 16384) (hr : (r : ℕ) = (pB t) * 4096 + 3072 + (pI t) * 128 + p) :
    iblk m c 3 t (ix2 p k) = m ((c : Thread nD τ).loc main_arg0) (ix2 r k) := by
  blk_simp [iblk]
  refine (congrFun (V_main_arg0 m c) _).trans (congrArg (m ((c : Thread nD τ).loc main_arg0)) ?_)
  blk_ext [index_x3] <;> simp only [pB, pI] at * <;> omega

theorem g_at (c : Dev nD) (t : Fin cfg0.N) (k : Fin 4096) : iblk m c 4 t (ix2 0 k) = m ((c : Thread nD τ).loc main_arg1) (ix2 0 k) := by
  blk_simp [iblk]
  refine (congrFun (V_main_arg1 m c) _).trans (congrArg (m ((c : Thread nD τ).loc main_arg1)) ?_)
  blk_ext [index_g]

theorem cs_at (c : Dev nD) (t : Fin cfg0.N) (k : Fin 512) (j : Fin 1024) : iblk m c 5 t (ix2 k j) = m ((c : Thread nD τ).loc main_arg2) (ix2 k j) := by
  blk_simp [iblk]
  refine (congrFun (V_main_arg2 m c) _).trans (congrArg (m ((c : Thread nD τ).loc main_arg2)) ?_)
  blk_ext [index_cs]

theorem tw_at (c : Dev nD) (t : Fin cfg0.N) (p : Fin 128) (j : Fin 8) (n : Fin 1024) (hn : (n : ℕ) = (pI t) * 128 + p) :
    iblk m c 6 t (ix2 p j) = m ((c : Thread nD τ).loc main_arg3) (ix2 n j) := by
  blk_simp [iblk]
  refine (congrFun (V_main_arg3 m c) _).trans (congrArg (m ((c : Thread nD τ).loc main_arg3)) ?_)
  blk_ext [index_tw] <;> simp only [pI] at * <;> omega

/-- A quarter's rows in a grid point, normalised. -/
theorem norm_at (x : (⟨2, ![128, 4096]⟩ : Shape).Idx → EReal) (X : (⟨2, ![16384, 4096]⟩ : Shape).Idx → EReal)
    (g G : (⟨2, ![1, 4096]⟩ : Shape).Idx → EReal) (p : Fin 128) (r : Fin 16384) (k k' : Fin 4096) (hk : k = k')
    (hx : ∀ j, x (ix2 p j) = X (ix2 r j)) (hg : ∀ j, g (ix2 0 j) = G (ix2 0 j)) : normAt x g p k = normAt X G r k' := by
  subst hk
  unfold normAt
  rw [funext hx, funext hg]

section
variable (c : Dev nD) (t : Fin cfg0.N)
  (hg : ∀ i, m ((c : Thread nD τ).loc main_arg1) i ≠ (⊥ : EReal) ∧ m ((c : Thread nD τ).loc main_arg1) i ≠ (⊤ : EReal))
  (hc : ∀ i, m ((c : Thread nD τ).loc main_arg2) i ≠ (⊥ : EReal) ∧ m ((c : Thread nD τ).loc main_arg2) i ≠ (⊤ : EReal))
  (p : Fin 128) (e : Fin 4096) (b : Fin 4) (n : Fin 1024) (u : Fin 8) (f : Fin 512)
  (hb : (b : ℕ) = pB t) (hn : (n : ℕ) = (pI t) * 128 + p) (hu : (u : ℕ) = e / 512)

include hb hn hu in
/-- A group of a combination's block, multiplied by the table. -/
theorem grp_at (F : EReal → EReal → EReal → EReal → EReal) :
    grp (comb F (iblk m c 0 t) (iblk m c 1 t) (iblk m c 2 t) (iblk m c 3 t) (iblk m c 4 t)) (iblk m c 5 t) p e
      = mixed F (quarter (m ((c : Thread nD τ).loc main_arg0)) (m ((c : Thread nD τ).loc main_arg1)) b n u) (m ((c : Thread nD τ).loc main_arg2)) := by
  funext j
  unfold grp colAt
  refine Finset.sum_congr rfl fun k _ => ?_
  refine congrArg₂ (fun a b : EReal => a * b) ?_ (cs_at m c t k j)
  have hk : (⟨e / 512 * 512 + k, by omega⟩ : Fin 4096) = ⟨u * 512 + k, by omega⟩ := Fin.ext (congrArg (fun z : ℕ => z * 512 + k) hu.symm)
  have q0 := norm_at (iblk m c 0 t) (m ((c : Thread nD τ).loc main_arg0)) (iblk m c 4 t) (m ((c : Thread nD τ).loc main_arg1)) p
    ⟨b * 4096 + (0 : Fin 4) * 1024 + n, by omega⟩ _ _ hk
    (fun i => x0_at m c t p i _ (by show (b : ℕ) * 4096 + 0 * 1024 + n = _; omega)) (g_at m c t)
  have q1 := norm_at (iblk m c 1 t) (m ((c : Thread nD τ).loc main_arg0)) (iblk m c 4 t) (m ((c : Thread nD τ).loc main_arg1)) p
    ⟨b * 4096 + (1 : Fin 4) * 1024 + n, by omega⟩ _ _ hk
    (fun i => x1_at m c t p i _ (by show (b : ℕ) * 4096 + 1 * 1024 + n = _; omega)) (g_at m c t)
  have q2 := norm_at (iblk m c 2 t) (m ((c : Thread nD τ).loc main_arg0)) (iblk m c 4 t) (m ((c : Thread nD τ).loc main_arg1)) p
    ⟨b * 4096 + (2 : Fin 4) * 1024 + n, by omega⟩ _ _ hk
    (fun i => x2_at m c t p i _ (by show (b : ℕ) * 4096 + 2 * 1024 + n = _; omega)) (g_at m c t)
  have q3 := norm_at (iblk m c 3 t) (m ((c : Thread nD τ).loc main_arg0)) (iblk m c 4 t) (m ((c : Thread nD τ).loc main_arg1)) p
    ⟨b * 4096 + (3 : Fin 4) * 1024 + n, by omega⟩ _ _ hk
    (fun i => x3_at m c t p i _ (by show (b : ℕ) * 4096 + 3 * 1024 + n = _; omega)) (g_at m c t)
  exact congr (congr (congr (congrArg F q0) q1) q2) q3

include hg hc hb hn hu in
/-- The parts before the twiddles of a grid point. -/
theorem part_at (hf : (f : ℕ) = e % 512) :
    partRe (comb fSum (iblk m c 0 t) (iblk m c 1 t) (iblk m c 2 t) (iblk m c 3 t) (iblk m c 4 t))
        (comb fAlt (iblk m c 0 t) (iblk m c 1 t) (iblk m c 2 t) (iblk m c 3 t) (iblk m c 4 t))
        (comb fEven (iblk m c 0 t) (iblk m c 1 t) (iblk m c 2 t) (iblk m c 3 t) (iblk m c 4 t))
        (comb fOdd (iblk m c 0 t) (iblk m c 1 t) (iblk m c 2 t) (iblk m c 3 t) (iblk m c 4 t)) (iblk m c 5 t) p e
      = stepRe (m ((c : Thread nD τ).loc main_arg0)) (m ((c : Thread nD τ).loc main_arg1)) (m ((c : Thread nD τ).loc main_arg2)) b n u f ∧
    partIm (comb fSum (iblk m c 0 t) (iblk m c 1 t) (iblk m c 2 t) (iblk m c 3 t) (iblk m c 4 t))
        (comb fAlt (iblk m c 0 t) (iblk m c 1 t) (iblk m c 2 t) (iblk m c 3 t) (iblk m c 4 t))
        (comb fEven (iblk m c 0 t) (iblk m c 1 t) (iblk m c 2 t) (iblk m c 3 t) (iblk m c 4 t))
        (comb fOdd (iblk m c 0 t) (iblk m c 1 t) (iblk m c 2 t) (iblk m c 3 t) (iblk m c 4 t)) (iblk m c 5 t) p e
      = stepIm (m ((c : Thread nD τ).loc main_arg0)) (m ((c : Thread nD τ).loc main_arg1)) (m ((c : Thread nD τ).loc main_arg2)) b n u f := by
  have hf' : (⟨e % 512, by omega⟩ : Fin 512) = f := Fin.ext hf.symm
  have hm := fun rho => mix_eq (quarter (m ((c : Thread nD τ).loc main_arg0)) (m ((c : Thread nD τ).loc main_arg1)) b n u)
    (m ((c : Thread nD τ).loc main_arg2)) (fun q k => quarter_real _ _ hg b n u q k) hc rho f
  have e1 := grp_at m c t p e b n u hb hn hu fSum
  have e2 := grp_at m c t p e b n u hb hn hu fAlt
  have e3 := grp_at m c t p e b n u hb hn hu fEven
  have e4 := grp_at m c t p e b n u hb hn hu fOdd
  constructor
  · funext rho
    unfold partRe
    rw [e1, e2, e3, e4, hf']
    exact (hm rho).1
  · funext rho
    unfold partIm
    rw [e1, e2, e3, e4, hf']
    exact (hm rho).2
end

/-- What point `t` leaves of the real parts. -/
theorem leftRe (c : Dev nD) (t : Fin cfg0.N) : (outsAt0 m c t).1 = blockRe (comb fSum (iblk m c 0 t) (iblk m c 1 t) (iblk m c 2 t) (iblk m c 3 t) (iblk m c 4 t))
        (comb fAlt (iblk m c 0 t) (iblk m c 1 t) (iblk m c 2 t) (iblk m c 3 t) (iblk m c 4 t))
        (comb fEven (iblk m c 0 t) (iblk m c 1 t) (iblk m c 2 t) (iblk m c 3 t) (iblk m c 4 t))
        (comb fOdd (iblk m c 0 t) (iblk m c 1 t) (iblk m c 2 t) (iblk m c 3 t) (iblk m c 4 t)) (iblk m c 5 t) (iblk m c 6 t) := by
  unfold outsAt0
  dsimp only
  exact funext fun y => outRe_at ..

/-- What point `t` leaves of the imaginary parts. -/
theorem leftIm (c : Dev nD) (t : Fin cfg0.N) : (outsAt0 m c t).2 = blockIm (comb fSum (iblk m c 0 t) (iblk m c 1 t) (iblk m c 2 t) (iblk m c 3 t) (iblk m c 4 t))
        (comb fAlt (iblk m c 0 t) (iblk m c 1 t) (iblk m c 2 t) (iblk m c 3 t) (iblk m c 4 t))
        (comb fEven (iblk m c 0 t) (iblk m c 1 t) (iblk m c 2 t) (iblk m c 3 t) (iblk m c 4 t))
        (comb fOdd (iblk m c 0 t) (iblk m c 1 t) (iblk m c 2 t) (iblk m c 3 t) (iblk m c 4 t)) (iblk m c 5 t) (iblk m c 6 t) := by
  unfold outsAt0
  dsimp only
  exact funext fun y => outIm_at ..

section
variable (c : Dev nD)
  (hg : ∀ i, m ((c : Thread nD τ).loc main_arg1) i ≠ (⊥ : EReal) ∧ m ((c : Thread nD τ).loc main_arg1) i ≠ (⊤ : EReal))
  (hc : ∀ i, m ((c : Thread nD τ).loc main_arg2) i ≠ (⊥ : EReal) ∧ m ((c : Thread nD τ).loc main_arg2) i ≠ (⊤ : EReal))

include hg hc

/-- The block of point `t` holds the real parts at its place in the array. -/
theorem block_re (t : Fin cfg0.N) (y : S4x128x4096.Idx) (rho : Fin 4) (r e : Fin 4096) (h0 : (rho : ℕ) = (y 0).val)
    (hr : (r : ℕ) = ((pB t) * 8 + (pI t)) * 128 + (y 1).val) (he : (e : ℕ) = (y 2).val) :
    blockRe (comb fSum (iblk m c 0 t) (iblk m c 1 t) (iblk m c 2 t) (iblk m c 3 t) (iblk m c 4 t))
        (comb fAlt (iblk m c 0 t) (iblk m c 1 t) (iblk m c 2 t) (iblk m c 3 t) (iblk m c 4 t))
        (comb fEven (iblk m c 0 t) (iblk m c 1 t) (iblk m c 2 t) (iblk m c 3 t) (iblk m c 4 t))
        (comb fOdd (iblk m c 0 t) (iblk m c 1 t) (iblk m c 2 t) (iblk m c 3 t) (iblk m c 4 t)) (iblk m c 5 t) (iblk m c 6 t) y
      = chanRe (m ((c : Thread nD τ).loc main_arg0)) (m ((c : Thread nD τ).loc main_arg1)) (m ((c : Thread nD τ).loc main_arg2))
          (m ((c : Thread nD τ).loc main_arg3)) rho r e := by
  obtain ⟨z, p, d, rfl⟩ : ∃ (z : Fin 4) (p : Fin 128) (d : Fin 4096), y = ix3 z p d := ⟨y 0, y 1, y 2, eq_ix3 y⟩
  obtain rfl : rho = z := Fin.ext h0
  obtain rfl : e = d := Fin.ext he
  have hr' : (r : ℕ) = ((pB t) * 8 + (pI t)) * 128 + p := hr
  have hi : (pI t).val < 8 := (pI t).isLt
  have hp := p.isLt
  obtain ⟨e1, e2⟩ := part_at m c t hg hc p e ⟨r / 1024, by omega⟩ ⟨r % 1024, by omega⟩ ⟨e / 512, by omega⟩ ⟨e % 512, by omega⟩
    (show (r : ℕ) / 1024 = pB t by omega) (show (r : ℕ) % 1024 = (pI t) * 128 + p by omega) rfl rfl
  have e3 := funext fun j => tw_at m c t p j ⟨r % 1024, by omega⟩ (show (r : ℕ) % 1024 = (pI t) * 128 + p by omega)
  exact congr (congr (congr (congrArg turnRe e1) e2) e3) rfl

/-- The block of point `t` holds the imaginary parts at its place in the array. -/
theorem block_im (t : Fin cfg0.N) (y : S4x128x4096.Idx) (rho : Fin 4) (r e : Fin 4096) (h0 : (rho : ℕ) = (y 0).val)
    (hr : (r : ℕ) = ((pB t) * 8 + (pI t)) * 128 + (y 1).val) (he : (e : ℕ) = (y 2).val) :
    blockIm (comb fSum (iblk m c 0 t) (iblk m c 1 t) (iblk m c 2 t) (iblk m c 3 t) (iblk m c 4 t))
        (comb fAlt (iblk m c 0 t) (iblk m c 1 t) (iblk m c 2 t) (iblk m c 3 t) (iblk m c 4 t))
        (comb fEven (iblk m c 0 t) (iblk m c 1 t) (iblk m c 2 t) (iblk m c 3 t) (iblk m c 4 t))
        (comb fOdd (iblk m c 0 t) (iblk m c 1 t) (iblk m c 2 t) (iblk m c 3 t) (iblk m c 4 t)) (iblk m c 5 t) (iblk m c 6 t) y
      = chanIm (m ((c : Thread nD τ).loc main_arg0)) (m ((c : Thread nD τ).loc main_arg1)) (m ((c : Thread nD τ).loc main_arg2))
          (m ((c : Thread nD τ).loc main_arg3)) rho r e := by
  obtain ⟨z, p, d, rfl⟩ : ∃ (z : Fin 4) (p : Fin 128) (d : Fin 4096), y = ix3 z p d := ⟨y 0, y 1, y 2, eq_ix3 y⟩
  obtain rfl : rho = z := Fin.ext h0
  obtain rfl : e = d := Fin.ext he
  have hr' : (r : ℕ) = ((pB t) * 8 + (pI t)) * 128 + p := hr
  have hi : (pI t).val < 8 := (pI t).isLt
  have hp := p.isLt
  obtain ⟨e1, e2⟩ := part_at m c t hg hc p e ⟨r / 1024, by omega⟩ ⟨r % 1024, by omega⟩ ⟨e / 512, by omega⟩ ⟨e % 512, by omega⟩
    (show (r : ℕ) / 1024 = pB t by omega) (show (r : ℕ) % 1024 = (pI t) * 128 + p by omega) rfl rfl
  have e3 := funext fun j => tw_at m c t p j ⟨r % 1024, by omega⟩ (show (r : ℕ) % 1024 = (pI t) * 128 + p by omega)
  exact congr (congr (congr (congrArg turnIm e1) e2) e3) rfl

/-- THE RESULT ARRAYS after the run: the real parts. -/
theorem array_re :
    (dats m 0 c).arrAt 7 cfg0.N = fun i : S4x4096x4096.Idx =>
      chanRe (m ((c : Thread nD τ).loc main_arg0)) (m ((c : Thread nD τ).loc main_arg1)) (m ((c : Thread nD τ).loc main_arg2))
        (m ((c : Thread nD τ).loc main_arg3)) (i 0) (i 1) (i 2) := by
  refine (dats m 0 c).arrAt_eq_of_covers 7 _ (by decide +kernel) fun t hf y => ?_
  blk_simp
  rw [after0_7, leftRe]
  exact block_re m c hg hc t y _ _ _ (by blk_simp [index_re]) (by blk_simp [index_re]) (by blk_simp [index_re])

/-- The imaginary parts. -/
theorem array_im :
    (dats m 0 c).arrAt 8 cfg0.N = fun i : S4x4096x4096.Idx =>
      chanIm (m ((c : Thread nD τ).loc main_arg0)) (m ((c : Thread nD τ).loc main_arg1)) (m ((c : Thread nD τ).loc main_arg2))
        (m ((c : Thread nD τ).loc main_arg3)) (i 0) (i 1) (i 2) := by
  refine (dats m 0 c).arrAt_eq_of_covers 8 _ (by decide +kernel) fun t hf y => ?_
  blk_simp
  rw [after0_8, leftIm]
  exact block_im m c hg hc t y _ _ _ (by blk_simp [index_im]) (by blk_simp [index_im]) (by blk_simp [index_im])
end

end

/-- The precondition says of the gain and of the table that no element is infinite. -/
theorem finite_tables_args (m : (ℓ : Loc Cert.KernelChanIdeal.nD Cert.KernelChanIdeal.τ Cert.KernelChanIdeal.sig) → Buf (Elt Ideal) ℓ)
    (h : Cert.Pre_KernelChanIdeal_finite_tables m) (c : Dev Cert.KernelChanIdeal.nD) :
    (∀ i, m ((c.tc : Thread Cert.KernelChanIdeal.nD Cert.KernelChanIdeal.τ).loc Cert.KernelChanIdeal.main_arg1) i ≠ (⊥ : EReal)
        ∧ m ((c.tc : Thread Cert.KernelChanIdeal.nD Cert.KernelChanIdeal.τ).loc Cert.KernelChanIdeal.main_arg1) i ≠ (⊤ : EReal))
    ∧ (∀ i, m ((c.tc : Thread Cert.KernelChanIdeal.nD Cert.KernelChanIdeal.τ).loc Cert.KernelChanIdeal.main_arg2) i ≠ (⊥ : EReal)
        ∧ m ((c.tc : Thread Cert.KernelChanIdeal.nD Cert.KernelChanIdeal.τ).loc Cert.KernelChanIdeal.main_arg2) i ≠ (⊤ : EReal)) := by
  obtain ⟨h0, h1⟩ := h c
  exact ⟨fun i => Attn.finite_of_cmp _ (congrFun h0 i), fun i => Attn.finite_of_cmp _ (congrFun h1 i)⟩

/-- THE VALUES: over the extended reals the kernel and the reference end with the same results, on a finite gain and table. -/
theorem values : Cert.algebraic_KernelChanIdeal_ReferenceChanIdeal_pre_finite_tables := fun m g m' g' hpre hagree => by
  refine ⟨_, _, Cert.KernelChanIdeal.Value.run_blocks m g, ?_⟩
  refine (θ_run Cert.ReferenceChanIdeal.defs _ _).mono (fun r h c => ⟨(h c).1.trans ?_, (h c).2.1.trans ?_, (h c).2.2⟩)
    (Cert.ReferenceChanIdeal.Value.run m' g')
  · obtain ⟨a0, a1, a2, a3⟩ := hagree c
    obtain ⟨f0, f1⟩ := finite_tables_args m hpre c
    rw [Cert.ReferenceChanIdeal.Read.val_main_v113_eq, a0, a1, a2, a3, array_re m c f0 f1]
    funext i
    obtain ⟨z, p, e, rfl⟩ : ∃ (z : Fin 4) (p e : Fin 4096), i = ix3 z p e := ⟨i 0, i 1, i 2, eq_ix3 i⟩
    exact refRe_at _ _ _ _ z p e
  · obtain ⟨a0, a1, a2, a3⟩ := hagree c
    obtain ⟨f0, f1⟩ := finite_tables_args m hpre c
    rw [Cert.ReferenceChanIdeal.Read.val_main_v120_eq, a0, a1, a2, a3, array_im m c f0 f1]
    funext i
    obtain ⟨z, p, e, rfl⟩ : ∃ (z : Fin 4) (p e : Fin 4096), i = ix3 z p e := ⟨i 0, i 1, i 2, eq_ix3 i⟩
    exact refIm_at _ _ _ _ z p e

end Cert.Chan

end
-- ==== Proof.lean ====
/-
  The certificate: the claims about the layer's calls, each proved in its own module and put together here.
-/
module

public import proofs.«01_k».proof.Defs
public import proofs.«01_k».proof.Proof.AttnClaim
public import proofs.«01_k».proof.Proof.FfnClaim
public import proofs.«01_k».proof.Proof.ProjClaim
public import proofs.«01_k».proof.Proof.QkvClaim
public import proofs.«01_k».proof.Proof.LastClaim
public import proofs.«01_k».proof.Proof.PosClaim
public import proofs.«01_k».proof.Proof.ChanClaim

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelFfn.Gen.facts, Cert.KernelFfnIdeal.Gen.facts, Cert.ReferenceFfnIdeal.Gen.facts,
  Cert.KernelProj.Gen.facts, Cert.KernelProjIdeal.Gen.facts, Cert.ReferenceProjIdeal.Gen.facts,
  Cert.KernelQkv.Gen.facts, Cert.KernelQkvIdeal.Gen.facts, Cert.ReferenceQkvIdeal.Gen.facts,
  Cert.KernelLast.Gen.facts, Cert.KernelLastIdeal.Gen.facts, Cert.ReferenceLastIdeal.Gen.facts,
  Cert.KernelPos.Gen.facts, Cert.KernelPosIdeal.Gen.facts, Cert.ReferencePosIdeal.Gen.facts,
  Cert.KernelChan.Gen.facts, Cert.KernelChanIdeal.Gen.facts, Cert.ReferenceChanIdeal.Gen.facts, Cert.Pre_finite.Gen.facts, Cert.Pre_finite_tables.Gen.facts,
  Cert.Attn.frame_word, Cert.Attn.frame_ideal, Cert.Attn.frame_ideal_pre, Cert.Attn.frame_ref, Cert.Attn.frame_ref_pre,
  Cert.Ffn.frame_word, Cert.Ffn.frame_ideal, Cert.Ffn.frame_ref,
  Cert.Proj.frame_word, Cert.Proj.frame_ideal, Cert.Proj.frame_ref,
  Cert.Qkv.frame_word, Cert.Qkv.frame_ideal, Cert.Qkv.frame_ref,
  Cert.Last.frame_word, Cert.Last.frame_ideal, Cert.Last.frame_ref,
  Cert.Pos.frame_word, Cert.Pos.frame_ideal, Cert.Pos.frame_ref,
  Cert.Chan.frame_word, Cert.Chan.frame_ideal, Cert.Chan.frame_ideal_pre, Cert.Chan.frame_ref, Cert.Chan.frame_ref_pre,
  trivial, Cert.Attn.values, trivial, Cert.Ffn.values, trivial, Cert.Proj.values,
  trivial, Cert.Qkv.values, trivial, Cert.Last.values, trivial, Cert.Pos.values,
  trivial, Cert.Chan.values⟩

end Cert.Proof

end
